-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite [hPre_finite : Cert.Pre_finite.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite.fn (F := Ideal) (m ((c.tc : Thread Cert.Kernel9Ideal.nD Cert.Kernel9Ideal.τ).loc Cert.Kernel9Ideal.main_arg0))) = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite [hPre_finite : Cert.Pre_finite.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite.fn (F := Ideal) (m ((c.tc : Thread Cert.Reference9Ideal.nD Cert.Reference9Ideal.τ).loc Cert.Reference9Ideal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0))
      ∧ r.2.sem = fun _ => 0)

def quiescent_Kernel9Ideal_pre_finite [hKernel9Ideal : Cert.Kernel9Ideal.Facts] [hPre_finite : Cert.Pre_finite.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0))
      ∧ r.2.sem = fun _ => 0)

def quiescent_Reference9Ideal_pre_finite [hReference9Ideal : Cert.Reference9Ideal.Facts] [hPre_finite : Cert.Pre_finite.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v41) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v28) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v27) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v27) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v4_0)) (v1 : (c : Dev Cert.Kernel6Ideal.nD) → Buf (Elt Ideal) ((c.tc : Thread Cert.Kernel6Ideal.nD Cert.Kernel6Ideal.τ).loc Cert.Kernel6Ideal.main_v4_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4_0) = v0 c
          ∧ r.2.mem ((c.tc : Thread Cert.Kernel6Ideal.nD Cert.Kernel6Ideal.τ).loc Cert.Kernel6Ideal.main_v4_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v19) = v0 c
          ∧ r.2.mem ((c.tc : Thread Cert.Reference6Ideal.nD Cert.Reference6Ideal.τ).loc Cert.Reference6Ideal.main_v18) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v17) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v26) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  IdealRules.named_const.Statement Cert.Kernel9Ideal.κ "neg_log2e" .f32 0xBFB8AA3B#32 ((-((Real.log 2)⁻¹) : ℝ) : EReal)
  ∧ IdealRules.named_const.Statement Cert.Kernel9Ideal.κ "exp_zero" .f32 0x42D00000#32 ⊤

def algebraic_Kernel9Ideal_Reference9Ideal_pre_finite [hKernel9Ideal : Cert.Kernel9Ideal.Facts] [hReference9Ideal : Cert.Reference9Ideal.Facts] [hPre_finite : Cert.Pre_finite.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v34) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Kernel9Ideal_pre_finite (hKernel9Ideal := hKernel9Ideal) (hPre_finite := hPre_finite)
    ∧ quiescent_Reference9Ideal (hReference9Ideal := hReference9Ideal)
    ∧ quiescent_Reference9Ideal_pre_finite (hReference9Ideal := hReference9Ideal) (hPre_finite := hPre_finite)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal_pre_finite (hKernel9Ideal := hKernel9Ideal) (hReference9Ideal := hReference9Ideal) (hPre_finite := hPre_finite)
-- ==== Pre_finite.lean ====
abbrev S16384x3072 : Shape := ⟨2, ![16384, 3072]⟩
abbrev S_ : Shape := ⟨0, ![]⟩

class Facts : Prop where
  bitsLt_bf16_f32 : FTy.bits .bf16 < FTy.bits .f32
  bcast_S_S16384x3072 : S_.BroadcastsInDim S16384x3072 (![] : Fin 0 → Fin S16384x3072.rank)
  reducesTo_S16384x3072_S_d0_1 : S16384x3072.ReducesTo [0, 1] S_
  h_S_ : 0 < S_.numel

variable [Facts]

def fn {F : FTy → Type} [FloatOps F] (main_arg0 : FVec F S16384x3072 .bf16) : IVec S_ 1 :=
  let main_v0 : FVec F S16384x3072 .f32 := (extf .f32 · bitsLt_bf16_f32) main_arg0
  let main_v1 : FVec F S16384x3072 .f32 := Host.absf main_v0
  let main_cst : FVec F S_ .f32 := constant S_ .f32 0x7F800000#32
  let main_v2 : FVec F S16384x3072 .f32 := broadcastInDim S16384x3072 ![] bcast_S_S16384x3072 main_cst
  let main_v3 : IVec S16384x3072 1 := cmpf .olt main_v1 main_v2
  let main_c : IVec S_ 1 := constantI S_ 1 1#1
  let main_v4 : IVec S_ 1 := (fun x v => Host.reduce IntOp.andi x v reducesTo_S16384x3072_S_d0_1 h_S_) main_v3 main_c
  main_v4
-- ==== Kernel.lean ====
abbrev S16384x4096 : Shape := ⟨2, ![16384, 4096]⟩
abbrev S16384x2048 : Shape := ⟨2, ![16384, 2048]⟩
abbrev S4 : Shape := ⟨1, ![4]⟩
abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S4x1 : Shape := ⟨2, ![4, 1]⟩
abbrev S4x128 : Shape := ⟨2, ![4, 128]⟩
abbrev S4x128x1 : Shape := ⟨3, ![4, 128, 1]⟩
abbrev S512x4096 : Shape := ⟨2, ![512, 4096]⟩
abbrev S512x2048 : Shape := ⟨2, ![512, 2048]⟩
abbrev S4x256x512 : Shape := ⟨3, ![4, 256, 512]⟩
abbrev S128x256 : Shape := ⟨2, ![128, 256]⟩
abbrev S1x128x1 : Shape := ⟨3, ![1, 128, 1]⟩
abbrev S128x512 : Shape := ⟨2, ![128, 512]⟩
abbrev S1x256x512 : Shape := ⟨3, ![1, 256, 512]⟩
abbrev S256x512 : Shape := ⟨2, ![256, 512]⟩
abbrev S1 : Shape := ⟨1, ![1]⟩

abbrev nBuf : Space → Nat
  | .hbm => 63
  | .vmem => 10
  | .smem => 1
  | _ => 0

abbrev bufTy : (tb : Table) → Fin (tcTables nBuf tb) → BufTy
  | .hbm, ⟨0, _⟩ => ⟨S16384x4096, .bf16⟩
  | .hbm, ⟨1, _⟩ => ⟨S16384x2048, .f32⟩
  | .hbm, ⟨2, _⟩ => ⟨S4, .f32⟩
  | .hbm, ⟨3, _⟩ => ⟨S_, .f32⟩
  | .hbm, ⟨4, _⟩ => ⟨S4, .f32⟩
  | .hbm, ⟨5, _⟩ => ⟨S4, .f32⟩
  | .hbm, ⟨6, _⟩ => ⟨S_, .f32⟩
  | .hbm, ⟨7, _⟩ => ⟨S4, .f32⟩
  | .hbm, ⟨8, _⟩ => ⟨S4, .f32⟩
  | .hbm, ⟨9, _⟩ => ⟨S4, .f32⟩
  | .hbm, ⟨10, _⟩ => ⟨S4, .f32⟩
  | .hbm, ⟨11, _⟩ => ⟨S4, .f32⟩
  | .hbm, ⟨12, _⟩ => ⟨S128, .i32⟩
  | .hbm, ⟨13, _⟩ => ⟨S128x1, .i32⟩
  | .hbm, ⟨14, _⟩ => ⟨S1x128, .i32⟩
  | .hbm, ⟨15, _⟩ => ⟨S128x128, .i32⟩
  | .hbm, ⟨16, _⟩ => ⟨S128x128, .i32⟩
  | .hbm, ⟨17, _⟩ => ⟨S128x128, .i32⟩
  | .hbm, ⟨18, _⟩ => ⟨S_, .i32⟩
  | .hbm, ⟨19, _⟩ => ⟨S128x128, .i32⟩
  | .hbm, ⟨20, _⟩ => ⟨S128x128, .i1⟩
  | .hbm, ⟨21, _⟩ => ⟨S4x1x1, .f32⟩
  | .hbm, ⟨22, _⟩ => ⟨S_, .i32⟩
  | .hbm, ⟨23, _⟩ => ⟨S128x128, .i32⟩
  | .hbm, ⟨24, _⟩ => ⟨S128x128, .i32⟩
  | .hbm, ⟨25, _⟩ => ⟨S128x128, .f32⟩
  | .hbm, ⟨26, _⟩ => ⟨S1x128x128, .f32⟩
  | .hbm, ⟨27, _⟩ => ⟨S4x128x128, .f32⟩
  | .hbm, ⟨28, _⟩ => ⟨S4x128x128, .f32⟩
  | .hbm, ⟨29, _⟩ => ⟨S4x128x128, .f32⟩
  | .hbm, ⟨30, _⟩ => ⟨S4x128x128, .f32⟩
  | .hbm, ⟨31, _⟩ => ⟨S_, .f32⟩
  | .hbm, ⟨32, _⟩ => ⟨S_, .f32⟩
  | .hbm, ⟨33, _⟩ => ⟨S4x128x128, .i1⟩
  | .hbm, ⟨34, _⟩ => ⟨S4x128x128, .f32⟩
  | .hbm, ⟨35, _⟩ => ⟨S4x128x128, .f32⟩
  | .hbm, ⟨36, _⟩ => ⟨S4x1, .f32⟩
  | .hbm, ⟨37, _⟩ => ⟨S_, .i32⟩
  | .hbm, ⟨38, _⟩ => ⟨S128, .i32⟩
  | .hbm, ⟨39, _⟩ => ⟨S128, .i32⟩
  | .hbm, ⟨40, _⟩ => ⟨S128, .f32⟩
  | .hbm, ⟨41, _⟩ => ⟨S1x128, .f32⟩
  | .hbm, ⟨42, _⟩ => ⟨S4x128, .f32⟩
  | .hbm, ⟨43, _⟩ => ⟨S4x128, .f32⟩
  | .hbm, ⟨44, _⟩ => ⟨S4x128, .f32⟩
  | .hbm, ⟨45, _⟩ => ⟨S4x128, .f32⟩
  | .hbm, ⟨46, _⟩ => ⟨S4x128x1, .f32⟩
  | .hbm, ⟨47, _⟩ => ⟨S4x1, .f32⟩
  | .hbm, ⟨48, _⟩ => ⟨S_, .i32⟩
  | .hbm, ⟨49, _⟩ => ⟨S128, .i32⟩
  | .hbm, ⟨50, _⟩ => ⟨S128, .i32⟩
  | .hbm, ⟨51, _⟩ => ⟨S128, .f32⟩
  | .hbm, ⟨52, _⟩ => ⟨S1x128, .f32⟩
  | .hbm, ⟨53, _⟩ => ⟨S4x128, .f32⟩
  | .hbm, ⟨54, _⟩ => ⟨S4x128, .f32⟩
  | .hbm, ⟨55, _⟩ => ⟨S4x128, .f32⟩
  | .hbm, ⟨56, _⟩ => ⟨S4x128, .f32⟩
  | .hbm, ⟨57, _⟩ => ⟨S4x128x1, .f32⟩
  | .hbm, ⟨58, _⟩ => ⟨S_, .f32⟩
  | .hbm, ⟨59, _⟩ => ⟨S4, .f32⟩
  | .hbm, ⟨60, _⟩ => ⟨S4, .f32⟩
  | .hbm, ⟨61, _⟩ => ⟨S4, .f32⟩
  | .hbm, ⟨62, _⟩ => ⟨S16384x2048, .bf16⟩
  | .local _ .vmem, ⟨0, _⟩ => ⟨S512x4096, .bf16⟩
  | .local _ .vmem, ⟨1, _⟩ => ⟨S512x4096, .bf16⟩
  | .local _ .vmem, ⟨2, _⟩ => ⟨S512x2048, .f32⟩
  | .local _ .vmem, ⟨3, _⟩ => ⟨S512x2048, .f32⟩
  | .local _ .vmem, ⟨4, _⟩ => ⟨S4x128x128, .f32⟩
  | .local _ .vmem, ⟨5, _⟩ => ⟨S4x128x1, .f32⟩
  | .local _ .vmem, ⟨6, _⟩ => ⟨S4x128x1, .f32⟩
  | .local _ .vmem, ⟨7, _⟩ => ⟨S512x2048, .bf16⟩
  | .local _ .vmem, ⟨8, _⟩ => ⟨S512x2048, .bf16⟩
  | .local _ .vmem, ⟨9, _⟩ => ⟨S4x256x512, .f32⟩
  | .local _ .smem, ⟨0, _⟩ => ⟨S4, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_c_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v25 : Ref sig .tc := ⟨.hbm, 35, rfl⟩
abbrev main_v26 : Ref sig .tc := ⟨.hbm, 36, rfl⟩
abbrev main_c_3 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_c_4 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_5 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S16384x4096 : Shape := ⟨2, ![16384, 4096]⟩
abbrev S16384x2048 : Shape := ⟨2, ![16384, 2048]⟩
abbrev S4x4096x4096 : Shape := ⟨3, ![4, 4096, 4096]⟩
abbrev S4x4096x1024 : Shape := ⟨3, ![4, 4096, 1024]⟩
abbrev S4x4096x2048 : Shape := ⟨3, ![4, 4096, 2048]⟩
abbrev S4x32x128x4x256 : Shape := ⟨5, ![4, 32, 128, 4, 256]⟩
abbrev S_ : Shape := ⟨0, ![]⟩
abbrev S4x32x128x4x512 : Shape := ⟨5, ![4, 32, 128, 4, 512]⟩
abbrev S4 : Shape := ⟨1, ![4]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S4x32x4x128x128 : Shape := ⟨5, ![4, 32, 4, 128, 128]⟩
abbrev S1x1x4x128x128 : Shape := ⟨5, ![1, 1, 4, 128, 128]⟩
abbrev S4x32x4x512x128 : Shape := ⟨5, ![4, 32, 4, 512, 128]⟩
abbrev S4x1 : Shape := ⟨2, ![4, 1]⟩
abbrev S4x128 : Shape := ⟨2, ![4, 128]⟩
abbrev S1x4x1x1 : Shape := ⟨4, ![1, 4, 1, 1]⟩
abbrev S128x4 : Shape := ⟨2, ![128, 4]⟩
abbrev S128x4x1 : Shape := ⟨3, ![128, 4, 1]⟩
abbrev S1x1x128x4x1 : Shape := ⟨5, ![1, 1, 128, 4, 1]⟩
abbrev S4x32x4x256x512 : Shape := ⟨5, ![4, 32, 4, 256, 512]⟩
abbrev S4x4x256x512 : Shape := ⟨4, ![4, 4, 256, 512]⟩
abbrev S32x4x4x256x512 : Shape := ⟨5, ![32, 4, 4, 256, 512]⟩
abbrev S1x4x4x256x512 : Shape := ⟨5, ![1, 4, 4, 256, 512]⟩
abbrev S4x32x128x4 : Shape := ⟨4, ![4, 32, 128, 4]⟩
abbrev S4x32x128x4x1 : Shape := ⟨5, ![4, 32, 128, 4, 1]⟩

abbrev nBuf : Space → Nat
  | .hbm => 152
  | .vmem => 0
  | .smem => 0
  | _ => 0

abbrev hbmTy0_0 (i : Nat) : BufTy := match i % 128 with
  | 0 => ⟨S16384x4096, .bf16⟩
  | 1 => ⟨S16384x2048, .f32⟩
  | 2 => ⟨S4x4096x4096, .bf16⟩
  | 3 => ⟨S4x4096x1024, .bf16⟩
  | 4 => ⟨S4x4096x1024, .bf16⟩
  | 5 => ⟨S4x4096x2048, .bf16⟩
  | 6 => ⟨S4x4096x2048, .f32⟩
  | 7 => ⟨S4x4096x1024, .f32⟩
  | 8 => ⟨S4x32x128x4x256, .f32⟩
  | 9 => ⟨S4x4096x1024, .f32⟩
  | 10 => ⟨S4x32x128x4x256, .f32⟩
  | 11 => ⟨S_, .f32⟩
  | 12 => ⟨S4x32x128x4x256, .f32⟩
  | 13 => ⟨S4x32x128x4x256, .f32⟩
  | 14 => ⟨S4x4096x2048, .f32⟩
  | 15 => ⟨S4x32x128x4x512, .f32⟩
  | 16 => ⟨S4, .f32⟩
  | 17 => ⟨S_, .f32⟩
  | 18 => ⟨S4, .f32⟩
  | 19 => ⟨S4, .f32⟩
  | 20 => ⟨S_, .f32⟩
  | 21 => ⟨S4, .f32⟩
  | 22 => ⟨S4, .f32⟩
  | 23 => ⟨S4, .f32⟩
  | 24 => ⟨S4, .f32⟩
  | 25 => ⟨S4, .f32⟩
  | 26 => ⟨S128, .i32⟩
  | 27 => ⟨S128x1, .i32⟩
  | 28 => ⟨S1x128, .i32⟩
  | 29 => ⟨S128x128, .i32⟩
  | 30 => ⟨S128x128, .i32⟩
  | 31 => ⟨S128x128, .i32⟩
  | 32 => ⟨S_, .i32⟩
  | 33 => ⟨S128x128, .i32⟩
  | 34 => ⟨S128x128, .i1⟩
  | 35 => ⟨S4x1x1, .f32⟩
  | 36 => ⟨S_, .i32⟩
  | 37 => ⟨S128x128, .i32⟩
  | 38 => ⟨S128x128, .i32⟩
  | 39 => ⟨S128x128, .f32⟩
  | 40 => ⟨S1x128x128, .f32⟩
  | 41 => ⟨S4x128x128, .f32⟩
  | 42 => ⟨S4x128x128, .f32⟩
  | 43 => ⟨S4x128x128, .f32⟩
  | 44 => ⟨S4x128x128, .f32⟩
  | 45 => ⟨S_, .f32⟩
  | 46 => ⟨S_, .f32⟩
  | 47 => ⟨S4x128x128, .i1⟩
  | 48 => ⟨S4x128x128, .f32⟩
  | 49 => ⟨S4x128x128, .f32⟩
  | 50 => ⟨S4x32x4x128x128, .f32⟩
  | 51 => ⟨S1x1x4x128x128, .f32⟩
  | 52 => ⟨S4x32x4x128x128, .f32⟩
  | 53 => ⟨S4x32x4x128x128, .f32⟩
  | 54 => ⟨S4x32x4x512x128, .f32⟩
  | 55 => ⟨S4x32x128x4x512, .f32⟩
  | 56 => ⟨S4x1, .f32⟩
  | 57 => ⟨S_, .i32⟩
  | 58 => ⟨S128, .i32⟩
  | 59 => ⟨S128, .i32⟩
  | 60 => ⟨S128, .f32⟩
  | 61 => ⟨S1x128, .f32⟩
  | 62 => ⟨S4x128, .f32⟩
  | 63 => ⟨S4x128, .f32⟩
  | 64 => ⟨S4x128, .f32⟩
  | 65 => ⟨S4x128, .f32⟩
  | 66 => ⟨S4x1, .f32⟩
  | 67 => ⟨S_, .i32⟩
  | 68 => ⟨S128, .i32⟩
  | 69 => ⟨S128, .i32⟩
  | 70 => ⟨S128, .f32⟩
  | 71 => ⟨S1x128, .f32⟩
  | 72 => ⟨S4x128, .f32⟩
  | 73 => ⟨S4x128, .f32⟩
  | 74 => ⟨S4x128, .f32⟩
  | 75 => ⟨S4x128, .f32⟩
  | 76 => ⟨S_, .f32⟩
  | 77 => ⟨S4, .f32⟩
  | 78 => ⟨S4, .f32⟩
  | 79 => ⟨S4, .f32⟩
  | 80 => ⟨S1x4x1x1, .f32⟩
  | 81 => ⟨S128x4, .f32⟩
  | 82 => ⟨S128x4x1, .f32⟩
  | 83 => ⟨S1x1x128x4x1, .f32⟩
  | 84 => ⟨S4x32x128x4x256, .f32⟩
  | 85 => ⟨S4x32x128x4x256, .f32⟩
  | 86 => ⟨S4x32x4x256x512, .f32⟩
  | 87 => ⟨S_, .f32⟩
  | 88 => ⟨S4x4x256x512, .f32⟩
  | 89 => ⟨S32x4x4x256x512, .f32⟩
  | 90 => ⟨S_, .f32⟩
  | 91 => ⟨S32x4x4x256x512, .f32⟩
  | 92 => ⟨S_, .i32⟩
  | 93 => ⟨S32x4x4x256x512, .f32⟩
  | 94 => ⟨S1x4x1x1, .f32⟩
  | 95 => ⟨S_, .i32⟩
  | 96 => ⟨S4x4x256x512, .f32⟩
  | 97 => ⟨S32x4x4x256x512, .f32⟩
  | 98 => ⟨S_, .i32⟩
  | 99 => ⟨S_, .i1⟩
  | 100 => ⟨S_, .i32⟩
  | 101 => ⟨S_, .i32⟩
  | 102 => ⟨S_, .i32⟩
  | 103 => ⟨S_, .i32⟩
  | 104 => ⟨S1x4x4x256x512, .f32⟩
  | 105 => ⟨S4x4x256x512, .f32⟩
  | 106 => ⟨S4x4x256x512, .f32⟩
  | 107 => ⟨S4x4x256x512, .f32⟩
  | 108 => ⟨S4x4x256x512, .f32⟩
  | 109 => ⟨S1x4x4x256x512, .f32⟩
  | 110 => ⟨S_, .i32⟩
  | 111 => ⟨S_, .i32⟩
  | 112 => ⟨S_, .i32⟩
  | 113 => ⟨S_, .i32⟩
  | 114 => ⟨S32x4x4x256x512, .f32⟩
  | 115 => ⟨S_, .i32⟩
  | 116 => ⟨S_, .i32⟩
  | 117 => ⟨S4x32x4x256x512, .f32⟩
  | 118 => ⟨S128x4, .f32⟩
  | 119 => ⟨S128x4x1, .f32⟩
  | 120 => ⟨S1x1x128x4x1, .f32⟩
  | 121 => ⟨S4x32x128x4x256, .f32⟩
  | 122 => ⟨S4x32x128x4x256, .f32⟩
  | 123 => ⟨S4x32x4x512x128, .f32⟩
  | 124 => ⟨S4x32x128x4x512, .f32⟩
  | 125 => ⟨S4x32x128x4x512, .f32⟩
  | 126 => ⟨S4x32x128x4x512, .f32⟩
  | 127 => ⟨S_, .f32⟩
  | _ => ⟨S16384x4096, .bf16⟩

abbrev hbmTy0_1 (i : Nat) : BufTy := match i % 128 with
  | 0 => ⟨S4x32x128x4, .f32⟩
  | 1 => ⟨S4x32x128x4x1, .f32⟩
  | 2 => ⟨S_, .f32⟩
  | 3 => ⟨S4x32x128x4x1, .f32⟩
  | 4 => ⟨S4x32x128x4x1, .f32⟩
  | 5 => ⟨S_, .f32⟩
  | 6 => ⟨S4x32x128x4x1, .f32⟩
  | 7 => ⟨S4x32x128x4x1, .f32⟩
  | 8 => ⟨S4x32x128x4x1, .f32⟩
  | 9 => ⟨S4x32x128x4x512, .f32⟩
  | 10 => ⟨S4x32x128x4x512, .f32⟩
  | 11 => ⟨S4x4096x2048, .f32⟩
  | 12 => ⟨S4x4096x2048, .f32⟩
  | 13 => ⟨S4x4096x2048, .f32⟩
  | 14 => ⟨S_, .f32⟩
  | 15 => ⟨S4x4096x2048, .f32⟩
  | 16 => ⟨S4x4096x2048, .f32⟩
  | 17 => ⟨S_, .f32⟩
  | 18 => ⟨S4x4096x2048, .f32⟩
  | 19 => ⟨S4x4096x2048, .f32⟩
  | 20 => ⟨S4x4096x2048, .f32⟩
  | 21 => ⟨S4x4096x2048, .f32⟩
  | 22 => ⟨S16384x2048, .f32⟩
  | 23 => ⟨S16384x2048, .bf16⟩
  | _ => ⟨S16384x4096, .bf16⟩

abbrev hbmTy (i : Nat) : BufTy := match i / 128 with
  | 0 => hbmTy0_0 i
  | 1 => hbmTy0_1 i
  | _ => ⟨S16384x4096, .bf16⟩

abbrev bufTy : (tb : Table) → Fin (tcTables nBuf tb) → BufTy
  | .hbm, ⟨i, _⟩ => hbmTy i
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_v15 : Ref sig .tc := ⟨.hbm, 19, rfl⟩
abbrev main_cst_1 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_c : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_c_2 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_cst_3 : Ref sig .tc := ⟨.hbm, 45, rfl⟩
abbrev main_call0_v0 : Ref sig .tc := ⟨.hbm, 46, rfl⟩
abbrev main_call0_v1 : Ref sig .tc := ⟨.hbm, 47, rfl⟩
abbrev main_call0_v2 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_c_4 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_c_5 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_cst_6 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_cst_7 : Ref sig .tc := ⟨.hbm, 87, rfl⟩
abbrev main_v73 : Ref sig .tc := ⟨.hbm, 88, rfl⟩
abbrev main_v74 : Ref sig .tc := ⟨.hbm, 89, rfl⟩
abbrev main_cst_8 : Ref sig .tc := ⟨.hbm, 90, rfl⟩
abbrev main_v75 : Ref sig .tc := ⟨.hbm, 91, rfl⟩
abbrev main_c_9 : Ref sig .tc := ⟨.hbm, 92, rfl⟩
abbrev main_v76_0 : Ref sig .tc := ⟨.hbm, 93, rfl⟩
abbrev main_v76_1 : Ref sig .tc := ⟨.hbm, 94, rfl⟩
abbrev main_v76_2 : Ref sig .tc := ⟨.hbm, 95, rfl⟩
abbrev main_v76_3 : Ref sig .tc := ⟨.hbm, 96, rfl⟩
abbrev main_v76_4 : Ref sig .tc := ⟨.hbm, 97, rfl⟩
abbrev main_while0c_c_17 : Ref sig .tc := ⟨.hbm, 98, rfl⟩
abbrev main_while0c_v101 : Ref sig .tc := ⟨.hbm, 99, rfl⟩
abbrev main_while0b_call1_c : Ref sig .tc := ⟨.hbm, 100, rfl⟩
abbrev main_while0b_call1_c_0 : Ref sig .tc := ⟨.hbm, 101, rfl⟩
abbrev main_while0b_call1_c_1 : Ref sig .tc := ⟨.hbm, 102, rfl⟩
abbrev main_while0b_call1_c_2 : Ref sig .tc := ⟨.hbm, 103, rfl⟩
abbrev main_while0b_call1_v0 : Ref sig .tc := ⟨.hbm, 104, rfl⟩
abbrev main_while0b_v101 : Ref sig .tc := ⟨.hbm, 105, rfl⟩
abbrev main_while0b_v102 : Ref sig .tc := ⟨.hbm, 106, rfl⟩
abbrev main_while0b_v103 : Ref sig .tc := ⟨.hbm, 107, rfl⟩
abbrev main_while0b_v104 : Ref sig .tc := ⟨.hbm, 108, rfl⟩
abbrev main_while0b_call2_v0 : Ref sig .tc := ⟨.hbm, 109, rfl⟩
abbrev main_while0b_call2_c : Ref sig .tc := ⟨.hbm, 110, rfl⟩
abbrev main_while0b_call2_c_0 : Ref sig .tc := ⟨.hbm, 111, rfl⟩
abbrev main_while0b_call2_c_1 : Ref sig .tc := ⟨.hbm, 112, rfl⟩
abbrev main_while0b_call2_c_2 : Ref sig .tc := ⟨.hbm, 113, rfl⟩
abbrev main_while0b_v105 : Ref sig .tc := ⟨.hbm, 114, rfl⟩
abbrev main_while0b_c_17 : Ref sig .tc := ⟨.hbm, 115, rfl⟩
abbrev main_while0b_v106 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_cst_10 : Ref sig .tc := ⟨.hbm, 127, rfl⟩
abbrev main_v87 : Ref sig .tc := ⟨.hbm, 128, rfl⟩
abbrev main_v88 : Ref sig .tc := ⟨.hbm, 129, rfl⟩
abbrev main_cst_11 : Ref sig .tc := ⟨.hbm, 130, rfl⟩
abbrev main_v89 : Ref sig .tc := ⟨.hbm, 131, rfl⟩
abbrev main_v90 : Ref sig .tc := ⟨.hbm, 132, rfl⟩
abbrev main_cst_12 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_call3_v0 : Ref sig .tc := ⟨.hbm, 140, rfl⟩
abbrev main_call3_v1 : Ref sig .tc := ⟨.hbm, 141, rfl⟩
abbrev main_call3_cst : Ref sig .tc := ⟨.hbm, 142, rfl⟩
abbrev main_call3_v2 : Ref sig .tc := ⟨.hbm, 143, rfl⟩
abbrev main_call3_v3 : Ref sig .tc := ⟨.hbm, 144, rfl⟩
abbrev main_call3_cst_0 : Ref sig .tc := ⟨.hbm, 145, rfl⟩
abbrev main_call3_v4 : Ref sig .tc := ⟨.hbm, 146, rfl⟩
abbrev main_call3_v5 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩

abbrev nD : Nat := 1
abbrev τ : Topo := Topo.v7x

variable {F : FTy → Type} [FloatOps F]

abbrev main_while0_count : Scf.Loop 32 := ⟨0#32, 32#32, 1#32⟩
-- ==== Kernel2.lean ====
abbrev S16384x1024 : Shape := ⟨2, ![16384, 1024]⟩
abbrev S4x1024 : Shape := ⟨2, ![4, 1024]⟩
abbrev S1024 : Shape := ⟨1, ![1024]⟩
abbrev S2x1024x1024 : Shape := ⟨3, ![2, 1024, 1024]⟩
abbrev S4x1024x4096 : Shape := ⟨3, ![4, 1024, 4096]⟩
abbrev S4x4096x1024 : Shape := ⟨3, ![4, 4096, 1024]⟩
abbrev S1x1024 : Shape := ⟨2, ![1, 1024]⟩
abbrev S512x1024 : Shape := ⟨2, ![512, 1024]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S1024x1024 : Shape := ⟨2, ![1024, 1024]⟩
abbrev S512 : Shape := ⟨1, ![512]⟩
abbrev S512x1 : Shape := ⟨2, ![512, 1]⟩
abbrev S1024x4096 : Shape := ⟨2, ![1024, 4096]⟩
abbrev S512x4096 : Shape := ⟨2, ![512, 4096]⟩
abbrev S4096x1024 : Shape := ⟨2, ![4096, 1024]⟩

abbrev nBuf : Space → Nat
  | .hbm => 15
  | .vmem => 11
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S4x1024, .f32⟩
  | .hbm, ⟨3, _⟩ => ⟨S1024, .f32⟩
  | .hbm, ⟨4, _⟩ => ⟨S2x1024x1024, .f32⟩
  | .hbm, ⟨5, _⟩ => ⟨S4x1024x4096, .f32⟩
  | .hbm, ⟨6, _⟩ => ⟨S4x4096x1024, .f32⟩
  | .hbm, ⟨7, _⟩ => ⟨S2x1024x1024, .bf16⟩
  | .hbm, ⟨8, _⟩ => ⟨S1x1024, .f32⟩
  | .hbm, ⟨9, _⟩ => ⟨S1024, .f32⟩
  | .hbm, ⟨10, _⟩ => ⟨S4x1024x4096, .bf16⟩
  | .hbm, ⟨11, _⟩ => ⟨S4x4096x1024, .bf16⟩
  | .hbm, ⟨12, _⟩ => ⟨S1x1024, .f32⟩
  | .hbm, ⟨13, _⟩ => ⟨S1x1024, .f32⟩
  | .hbm, ⟨14, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024x4096, .bf16⟩
  | .local _ .vmem, ⟨7, _⟩ => ⟨S1x4096x1024, .bf16⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S16384x1024 : Shape := ⟨2, ![16384, 1024]⟩
abbrev S4x1024 : Shape := ⟨2, ![4, 1024]⟩
abbrev S1024 : Shape := ⟨1, ![1024]⟩
abbrev S2x1024x1024 : Shape := ⟨3, ![2, 1024, 1024]⟩
abbrev S4x1024x4096 : Shape := ⟨3, ![4, 1024, 4096]⟩
abbrev S4x4096x1024 : Shape := ⟨3, ![4, 4096, 1024]⟩
abbrev S1x1024x1024 : Shape := ⟨3, ![1, 1024, 1024]⟩
abbrev S1024x1024 : Shape := ⟨2, ![1024, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S16384x4096 : Shape := ⟨2, ![16384, 4096]⟩

abbrev nBuf : Space → Nat
  | .hbm => 57
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S4x1024, .f32⟩
  | .hbm, ⟨3, _⟩ => ⟨S1024, .f32⟩
  | .hbm, ⟨4, _⟩ => ⟨S2x1024x1024, .f32⟩
  | .hbm, ⟨5, _⟩ => ⟨S4x1024x4096, .f32⟩
  | .hbm, ⟨6, _⟩ => ⟨S4x4096x1024, .f32⟩
  | .hbm, ⟨7, _⟩ => ⟨S16384x1024, .f32⟩
  | .hbm, ⟨8, _⟩ => ⟨S1x1024x1024, .f32⟩
  | .hbm, ⟨9, _⟩ => ⟨S1024x1024, .f32⟩
  | .hbm, ⟨10, _⟩ => ⟨S16384x1024, .f32⟩
  | .hbm, ⟨11, _⟩ => ⟨S16384x1024, .f32⟩
  | .hbm, ⟨12, _⟩ => ⟨S1x1024, .f32⟩
  | .hbm, ⟨13, _⟩ => ⟨S1024, .f32⟩
  | .hbm, ⟨14, _⟩ => ⟨S16384x1024, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x1, .f32⟩
  | .hbm, ⟨25, _⟩ => ⟨S16384x1024, .f32⟩
  | .hbm, ⟨26, _⟩ => ⟨S16384x1024, .f32⟩
  | .hbm, ⟨27, _⟩ => ⟨S1x1024, .f32⟩
  | .hbm, ⟨28, _⟩ => ⟨S16384x1024, .f32⟩
  | .hbm, ⟨29, _⟩ => ⟨S16384x1024, .f32⟩
  | .hbm, ⟨30, _⟩ => ⟨S1x1024x4096, .f32⟩
  | .hbm, ⟨31, _⟩ => ⟨S1024x4096, .f32⟩
  | .hbm, ⟨32, _⟩ => ⟨S1x4096x1024, .f32⟩
  | .hbm, ⟨33, _⟩ => ⟨S4096x1024, .f32⟩
  | .hbm, ⟨34, _⟩ => ⟨S16384x4096, .f32⟩
  | .hbm, ⟨35, _⟩ => ⟨S_, .f32⟩
  | .hbm, ⟨36, _⟩ => ⟨S16384x4096, .f32⟩
  | .hbm, ⟨37, _⟩ => ⟨S16384x4096, .f32⟩
  | .hbm, ⟨38, _⟩ => ⟨S16384x4096, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S_, .f32⟩
  | .hbm, ⟨43, _⟩ => ⟨S16384, .f32⟩
  | .hbm, ⟨44, _⟩ => ⟨S16384x1, .f32⟩
  | .hbm, ⟨45, _⟩ => ⟨S_, .f32⟩
  | .hbm, ⟨46, _⟩ => ⟨S16384x1, .f32⟩
  | .hbm, ⟨47, _⟩ => ⟨S16384x1, .f32⟩
  | .hbm, ⟨48, _⟩ => ⟨S_, .f32⟩
  | .hbm, ⟨49, _⟩ => ⟨S16384x1, .f32⟩
  | .hbm, ⟨50, _⟩ => ⟨S16384x1, .f32⟩
  | .hbm, ⟨51, _⟩ => ⟨S16384x1, .f32⟩
  | .hbm, ⟨52, _⟩ => ⟨S16384x1024, .f32⟩
  | .hbm, ⟨53, _⟩ => ⟨S16384x1024, .f32⟩
  | .hbm, ⟨54, _⟩ => ⟨S1x1024, .f32⟩
  | .hbm, ⟨55, _⟩ => ⟨S16384x1024, .f32⟩
  | .hbm, ⟨56, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_call0_cst : Ref sig .tc := ⟨.hbm, 35, rfl⟩
abbrev main_call0_v0 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_2 : Ref sig .tc := ⟨.hbm, 42, rfl⟩
abbrev main_v30 : Ref sig .tc := ⟨.hbm, 43, rfl⟩
abbrev main_v31 : Ref sig .tc := ⟨.hbm, 44, rfl⟩
abbrev main_cst_3 : Ref sig .tc := ⟨.hbm, 45, rfl⟩
abbrev main_v32 : Ref sig .tc := ⟨.hbm, 46, rfl⟩
abbrev main_v33 : Ref sig .tc := ⟨.hbm, 47, rfl⟩
abbrev main_cst_4 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩

abbrev nD : Nat := 1
abbrev τ : Topo := Topo.v7x

variable {F : FTy → Type} [FloatOps F]
-- ==== Kernel3.lean ====
abbrev S16384x1024 : Shape := ⟨2, ![16384, 1024]⟩
abbrev S4x1024 : Shape := ⟨2, ![4, 1024]⟩
abbrev S2x1024x1024 : Shape := ⟨3, ![2, 1024, 1024]⟩
abbrev S4x1024x4096 : Shape := ⟨3, ![4, 1024, 4096]⟩
abbrev S4x4096x1024 : Shape := ⟨3, ![4, 4096, 1024]⟩
abbrev S1x1024 : Shape := ⟨2, ![1, 1024]⟩
abbrev S1024 : Shape := ⟨1, ![1024]⟩
abbrev S512x1024 : Shape := ⟨2, ![512, 1024]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S1024x1024 : Shape := ⟨2, ![1024, 1024]⟩
abbrev S512 : Shape := ⟨1, ![512]⟩
abbrev S512x1 : Shape := ⟨2, ![512, 1]⟩
abbrev S1024x4096 : Shape := ⟨2, ![1024, 4096]⟩
abbrev S512x4096 : Shape := ⟨2, ![512, 4096]⟩
abbrev S4096x1024 : Shape := ⟨2, ![4096, 1024]⟩

abbrev nBuf : Space → Nat
  | .hbm => 13
  | .vmem => 10
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S4x1024, .f32⟩
  | .hbm, ⟨3, _⟩ => ⟨S2x1024x1024, .f32⟩
  | .hbm, ⟨4, _⟩ => ⟨S4x1024x4096, .f32⟩
  | .hbm, ⟨5, _⟩ => ⟨S4x4096x1024, .f32⟩
  | .hbm, ⟨6, _⟩ => ⟨S2x1024x1024, .bf16⟩
  | .hbm, ⟨7, _⟩ => ⟨S1x1024, .f32⟩
  | .hbm, ⟨8, _⟩ => ⟨S1024, .f32⟩
  | .hbm, ⟨9, _⟩ => ⟨S4x1024x4096, .bf16⟩
  | .hbm, ⟨10, _⟩ => ⟨S4x4096x1024, .bf16⟩
  | .hbm, ⟨11, _⟩ => ⟨S1x1024, .f32⟩
  | .hbm, ⟨12, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024x4096, .bf16⟩
  | .local _ .vmem, ⟨7, _⟩ => ⟨S1x4096x1024, .bf16⟩
  | .local _ .vmem, ⟨8, _⟩ => ⟨S512x1024, .f32⟩
  | .local _ .vmem, ⟨9, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S16384x1024 : Shape := ⟨2, ![16384, 1024]⟩
abbrev S4x1024 : Shape := ⟨2, ![4, 1024]⟩
abbrev S2x1024x1024 : Shape := ⟨3, ![2, 1024, 1024]⟩
abbrev S4x1024x4096 : Shape := ⟨3, ![4, 1024, 4096]⟩
abbrev S4x4096x1024 : Shape := ⟨3, ![4, 4096, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S16384x4096 : Shape := ⟨2, ![16384, 4096]⟩

abbrev nBuf : Space → Nat
  | .hbm => 40
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S4x1024, .f32⟩
  | .hbm, ⟨3, _⟩ => ⟨S2x1024x1024, .f32⟩
  | .hbm, ⟨4, _⟩ => ⟨S4x1024x4096, .f32⟩
  | .hbm, ⟨5, _⟩ => ⟨S4x4096x1024, .f32⟩
  | .hbm, ⟨6, _⟩ => ⟨S16384x1024, .f32⟩
  | .hbm, ⟨7, _⟩ => ⟨S1x1024x1024, .f32⟩
  | .hbm, ⟨8, _⟩ => ⟨S1024x1024, .f32⟩
  | .hbm, ⟨9, _⟩ => ⟨S16384x1024, .f32⟩
  | .hbm, ⟨10, _⟩ => ⟨S16384x1024, .f32⟩
  | .hbm, ⟨11, _⟩ => ⟨S1x1024, .f32⟩
  | .hbm, ⟨12, _⟩ => ⟨S1024, .f32⟩
  | .hbm, ⟨13, _⟩ => ⟨S16384x1024, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1, .f32⟩
  | .hbm, ⟨24, _⟩ => ⟨S16384x1024, .f32⟩
  | .hbm, ⟨25, _⟩ => ⟨S16384x1024, .f32⟩
  | .hbm, ⟨26, _⟩ => ⟨S1x1024, .f32⟩
  | .hbm, ⟨27, _⟩ => ⟨S16384x1024, .f32⟩
  | .hbm, ⟨28, _⟩ => ⟨S16384x1024, .f32⟩
  | .hbm, ⟨29, _⟩ => ⟨S1x1024x4096, .f32⟩
  | .hbm, ⟨30, _⟩ => ⟨S1024x4096, .f32⟩
  | .hbm, ⟨31, _⟩ => ⟨S1x4096x1024, .f32⟩
  | .hbm, ⟨32, _⟩ => ⟨S4096x1024, .f32⟩
  | .hbm, ⟨33, _⟩ => ⟨S16384x4096, .f32⟩
  | .hbm, ⟨34, _⟩ => ⟨S_, .f32⟩
  | .hbm, ⟨35, _⟩ => ⟨S16384x4096, .f32⟩
  | .hbm, ⟨36, _⟩ => ⟨S16384x4096, .f32⟩
  | .hbm, ⟨37, _⟩ => ⟨S16384x4096, .f32⟩
  | .hbm, ⟨38, _⟩ => ⟨S16384x1024, .f32⟩
  | .hbm, ⟨39, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_call0_cst : Ref sig .tc := ⟨.hbm, 34, rfl⟩
abbrev main_call0_v0 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Kernel4.lean ====
abbrev S16384x2048 : Shape := ⟨2, ![16384, 2048]⟩
abbrev S16384x1024 : Shape := ⟨2, ![16384, 1024]⟩
abbrev S4x1024 : Shape := ⟨2, ![4, 1024]⟩
abbrev S1x2048x1024 : Shape := ⟨3, ![1, 2048, 1024]⟩
abbrev S4x1024x4096 : Shape := ⟨3, ![4, 1024, 4096]⟩
abbrev S4x4096x1024 : Shape := ⟨3, ![4, 4096, 1024]⟩
abbrev S1x1024 : Shape := ⟨2, ![1, 1024]⟩
abbrev S1024 : Shape := ⟨1, ![1024]⟩
abbrev S512x2048 : Shape := ⟨2, ![512, 2048]⟩
abbrev S512x1024 : Shape := ⟨2, ![512, 1024]⟩
abbrev S1x1024x4096 : Shape := ⟨3, ![1, 1024, 4096]⟩
abbrev S1x4096x1024 : Shape := ⟨3, ![1, 4096, 1024]⟩
abbrev S2048x1024 : Shape := ⟨2, ![2048, 1024]⟩
abbrev S512 : Shape := ⟨1, ![512]⟩
abbrev S512x1 : Shape := ⟨2, ![512, 1]⟩
abbrev S1024x4096 : Shape := ⟨2, ![1024, 4096]⟩
abbrev S512x4096 : Shape := ⟨2, ![512, 4096]⟩
abbrev S4096x1024 : Shape := ⟨2, ![4096, 1024]⟩

abbrev nBuf : Space → Nat
  | .hbm => 13
  | .vmem => 10
  | .smem => 0
  | _ => 0

abbrev bufTy : (tb : Table) → Fin (tcTables nBuf tb) → BufTy
  | .hbm, ⟨0, _⟩ => ⟨S16384x2048, .bf16⟩
  | .hbm, ⟨1, _⟩ => ⟨S16384x1024, .f32⟩
  | .hbm, ⟨2, _⟩ => ⟨S4x1024, .f32⟩
  | .hbm, ⟨3, _⟩ => ⟨S1x2048x1024, .f32⟩
  | .hbm, ⟨4, _⟩ => ⟨S4x1024x4096, .f32⟩
  | .hbm, ⟨5, _⟩ => ⟨S4x4096x1024, .f32⟩
  | .hbm, ⟨6, _⟩ => ⟨S1x2048x1024, .bf16⟩
  | .hbm, ⟨7, _⟩ => ⟨S1x1024, .f32⟩
  | .hbm, ⟨8, _⟩ => ⟨S1024, .f32⟩
  | .hbm, ⟨9, _⟩ => ⟨S4x1024x4096, .bf16⟩
  | .hbm, ⟨10, _⟩ => ⟨S4x4096x1024, .bf16⟩
  | .hbm, ⟨11, _⟩ => ⟨S1x1024, .f32⟩
  | .hbm, ⟨12, _⟩ => ⟨S16384x1024, .f32⟩
  | .local _ .vmem, ⟨0, _⟩ => ⟨S512x2048, .bf16⟩
  | .local _ .vmem, ⟨1, _⟩ => ⟨S512x2048, .bf16⟩
  | .local _ .vmem, ⟨2, _⟩ => ⟨S1x2048x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024x4096, .bf16⟩
  | .local _ .vmem, ⟨7, _⟩ => ⟨S1x4096x1024, .bf16⟩
  | .local _ .vmem, ⟨8, _⟩ => ⟨S512x1024, .f32⟩
  | .local _ .vmem, ⟨9, _⟩ => ⟨S512x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_5 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S16384x2048 : Shape := ⟨2, ![16384, 2048]⟩
abbrev S16384x1024 : Shape := ⟨2, ![16384, 1024]⟩
abbrev S4x1024 : Shape := ⟨2, ![4, 1024]⟩
abbrev S1x2048x1024 : Shape := ⟨3, ![1, 2048, 1024]⟩
abbrev S4x1024x4096 : Shape := ⟨3, ![4, 1024, 4096]⟩
abbrev S4x4096x1024 : Shape := ⟨3, ![4, 4096, 1024]⟩
abbrev S2048x1024 : Shape := ⟨2, ![2048, 1024]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S16384x4096 : Shape := ⟨2, ![16384, 4096]⟩

abbrev nBuf : Space → Nat
  | .hbm => 39
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x1024, .f32⟩
  | .hbm, ⟨2, _⟩ => ⟨S4x1024, .f32⟩
  | .hbm, ⟨3, _⟩ => ⟨S1x2048x1024, .f32⟩
  | .hbm, ⟨4, _⟩ => ⟨S4x1024x4096, .f32⟩
  | .hbm, ⟨5, _⟩ => ⟨S4x4096x1024, .f32⟩
  | .hbm, ⟨6, _⟩ => ⟨S16384x2048, .f32⟩
  | .hbm, ⟨7, _⟩ => ⟨S2048x1024, .f32⟩
  | .hbm, ⟨8, _⟩ => ⟨S16384x1024, .f32⟩
  | .hbm, ⟨9, _⟩ => ⟨S16384x1024, .f32⟩
  | .hbm, ⟨10, _⟩ => ⟨S1x1024, .f32⟩
  | .hbm, ⟨11, _⟩ => ⟨S1024, .f32⟩
  | .hbm, ⟨12, _⟩ => ⟨S16384x1024, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1, .f32⟩
  | .hbm, ⟨23, _⟩ => ⟨S16384x1024, .f32⟩
  | .hbm, ⟨24, _⟩ => ⟨S16384x1024, .f32⟩
  | .hbm, ⟨25, _⟩ => ⟨S1x1024, .f32⟩
  | .hbm, ⟨26, _⟩ => ⟨S16384x1024, .f32⟩
  | .hbm, ⟨27, _⟩ => ⟨S16384x1024, .f32⟩
  | .hbm, ⟨28, _⟩ => ⟨S1x1024x4096, .f32⟩
  | .hbm, ⟨29, _⟩ => ⟨S1024x4096, .f32⟩
  | .hbm, ⟨30, _⟩ => ⟨S1x4096x1024, .f32⟩
  | .hbm, ⟨31, _⟩ => ⟨S4096x1024, .f32⟩
  | .hbm, ⟨32, _⟩ => ⟨S16384x4096, .f32⟩
  | .hbm, ⟨33, _⟩ => ⟨S_, .f32⟩
  | .hbm, ⟨34, _⟩ => ⟨S16384x4096, .f32⟩
  | .hbm, ⟨35, _⟩ => ⟨S16384x4096, .f32⟩
  | .hbm, ⟨36, _⟩ => ⟨S16384x4096, .f32⟩
  | .hbm, ⟨37, _⟩ => ⟨S16384x1024, .f32⟩
  | .hbm, ⟨38, _⟩ => ⟨S16384x1024, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_call0_cst : Ref sig .tc := ⟨.hbm, 33, rfl⟩
abbrev main_call0_v0 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== Kernel5.lean ====
abbrev S16384x1024 : Shape := ⟨2, ![16384, 1024]⟩
abbrev S4x1024 : Shape := ⟨2, ![4, 1024]⟩
abbrev S1x1024x1024 : Shape := ⟨3, ![1, 1024, 1024]⟩
abbrev S4x1024x4096 : Shape := ⟨3, ![4, 1024, 4096]⟩
abbrev S4x4096x1024 : Shape := ⟨3, ![4, 4096, 1024]⟩
abbrev S1x1024 : Shape := ⟨2, ![1, 1024]⟩
abbrev S1024 : Shape := ⟨1, ![1024]⟩
abbrev S512x1024 : Shape := ⟨2, ![512, 1024]⟩
abbrev S1x1024x4096 : Shape := ⟨3, ![1, 1024, 4096]⟩
abbrev S1x4096x1024 : Shape := ⟨3, ![1, 4096, 1024]⟩
abbrev S1024x1024 : Shape := ⟨2, ![1024, 1024]⟩
abbrev S512 : Shape := ⟨1, ![512]⟩
abbrev S512x1 : Shape := ⟨2, ![512, 1]⟩
abbrev S1024x4096 : Shape := ⟨2, ![1024, 4096]⟩
abbrev S512x4096 : Shape := ⟨2, ![512, 4096]⟩
abbrev S4096x1024 : Shape := ⟨2, ![4096, 1024]⟩

abbrev nBuf : Space → Nat
  | .hbm => 13
  | .vmem => 10
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S4x1024, .f32⟩
  | .hbm, ⟨3, _⟩ => ⟨S1x1024x1024, .f32⟩
  | .hbm, ⟨4, _⟩ => ⟨S4x1024x4096, .f32⟩
  | .hbm, ⟨5, _⟩ => ⟨S4x4096x1024, .f32⟩
  | .hbm, ⟨6, _⟩ => ⟨S1x1024x1024, .bf16⟩
  | .hbm, ⟨7, _⟩ => ⟨S1x1024, .f32⟩
  | .hbm, ⟨8, _⟩ => ⟨S1024, .f32⟩
  | .hbm, ⟨9, _⟩ => ⟨S4x1024x4096, .bf16⟩
  | .hbm, ⟨10, _⟩ => ⟨S4x4096x1024, .bf16⟩
  | .hbm, ⟨11, _⟩ => ⟨S1x1024, .f32⟩
  | .hbm, ⟨12, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024x4096, .bf16⟩
  | .local _ .vmem, ⟨7, _⟩ => ⟨S1x4096x1024, .bf16⟩
  | .local _ .vmem, ⟨8, _⟩ => ⟨S512x1024, .f32⟩
  | .local _ .vmem, ⟨9, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference5Ideal.lean ====
abbrev S16384x1024 : Shape := ⟨2, ![16384, 1024]⟩
abbrev S4x1024 : Shape := ⟨2, ![4, 1024]⟩
abbrev S1x1024x1024 : Shape := ⟨3, ![1, 1024, 1024]⟩
abbrev S4x1024x4096 : Shape := ⟨3, ![4, 1024, 4096]⟩
abbrev S4x4096x1024 : Shape := ⟨3, ![4, 4096, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S16384x4096 : Shape := ⟨2, ![16384, 4096]⟩

abbrev nBuf : Space → Nat
  | .hbm => 39
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S4x1024, .f32⟩
  | .hbm, ⟨3, _⟩ => ⟨S1x1024x1024, .f32⟩
  | .hbm, ⟨4, _⟩ => ⟨S4x1024x4096, .f32⟩
  | .hbm, ⟨5, _⟩ => ⟨S4x4096x1024, .f32⟩
  | .hbm, ⟨6, _⟩ => ⟨S16384x1024, .f32⟩
  | .hbm, ⟨7, _⟩ => ⟨S1024x1024, .f32⟩
  | .hbm, ⟨8, _⟩ => ⟨S16384x1024, .f32⟩
  | .hbm, ⟨9, _⟩ => ⟨S16384x1024, .f32⟩
  | .hbm, ⟨10, _⟩ => ⟨S1x1024, .f32⟩
  | .hbm, ⟨11, _⟩ => ⟨S1024, .f32⟩
  | .hbm, ⟨12, _⟩ => ⟨S16384x1024, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1, .f32⟩
  | .hbm, ⟨23, _⟩ => ⟨S16384x1024, .f32⟩
  | .hbm, ⟨24, _⟩ => ⟨S16384x1024, .f32⟩
  | .hbm, ⟨25, _⟩ => ⟨S1x1024, .f32⟩
  | .hbm, ⟨26, _⟩ => ⟨S16384x1024, .f32⟩
  | .hbm, ⟨27, _⟩ => ⟨S16384x1024, .f32⟩
  | .hbm, ⟨28, _⟩ => ⟨S1x1024x4096, .f32⟩
  | .hbm, ⟨29, _⟩ => ⟨S1024x4096, .f32⟩
  | .hbm, ⟨30, _⟩ => ⟨S1x4096x1024, .f32⟩
  | .hbm, ⟨31, _⟩ => ⟨S4096x1024, .f32⟩
  | .hbm, ⟨32, _⟩ => ⟨S16384x4096, .f32⟩
  | .hbm, ⟨33, _⟩ => ⟨S_, .f32⟩
  | .hbm, ⟨34, _⟩ => ⟨S16384x4096, .f32⟩
  | .hbm, ⟨35, _⟩ => ⟨S16384x4096, .f32⟩
  | .hbm, ⟨36, _⟩ => ⟨S16384x4096, .f32⟩
  | .hbm, ⟨37, _⟩ => ⟨S16384x1024, .f32⟩
  | .hbm, ⟨38, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_call0_cst : Ref sig .tc := ⟨.hbm, 33, rfl⟩
abbrev main_call0_v0 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== Kernel6.lean ====
abbrev S16384x1024 : Shape := ⟨2, ![16384, 1024]⟩
abbrev S4x1024 : Shape := ⟨2, ![4, 1024]⟩
abbrev S1x1024x6144 : Shape := ⟨3, ![1, 1024, 6144]⟩
abbrev S1x1024 : Shape := ⟨2, ![1, 1024]⟩
abbrev S1024 : Shape := ⟨1, ![1024]⟩
abbrev S16384x4096 : Shape := ⟨2, ![16384, 4096]⟩
abbrev S16384x2048 : Shape := ⟨2, ![16384, 2048]⟩
abbrev S512x1024 : Shape := ⟨2, ![512, 1024]⟩
abbrev S512x4096 : Shape := ⟨2, ![512, 4096]⟩
abbrev S512x2048 : Shape := ⟨2, ![512, 2048]⟩
abbrev S512 : Shape := ⟨1, ![512]⟩
abbrev S512x1 : Shape := ⟨2, ![512, 1]⟩
abbrev S1x1024x1024 : Shape := ⟨3, ![1, 1024, 1024]⟩
abbrev S1024x1024 : Shape := ⟨2, ![1024, 1024]⟩

abbrev nBuf : Space → Nat
  | .hbm => 9
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S4x1024, .f32⟩
  | .hbm, ⟨2, _⟩ => ⟨S1x1024x6144, .f32⟩
  | .hbm, ⟨3, _⟩ => ⟨S1x1024, .f32⟩
  | .hbm, ⟨4, _⟩ => ⟨S1024, .f32⟩
  | .hbm, ⟨5, _⟩ => ⟨S1x1024x6144, .bf16⟩
  | .hbm, ⟨6, _⟩ => ⟨S1x1024, .f32⟩
  | .hbm, ⟨7, _⟩ => ⟨S16384x4096, .bf16⟩
  | .hbm, ⟨8, _⟩ => ⟨S16384x2048, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x6144, .bf16⟩
  | .local _ .vmem, ⟨4, _⟩ => ⟨S512x4096, .bf16⟩
  | .local _ .vmem, ⟨5, _⟩ => ⟨S512x4096, .bf16⟩
  | .local _ .vmem, ⟨6, _⟩ => ⟨S512x2048, .f32⟩
  | .local _ .vmem, ⟨7, _⟩ => ⟨S512x2048, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x6144 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference6Ideal.lean ====
abbrev S16384x1024 : Shape := ⟨2, ![16384, 1024]⟩
abbrev S4x1024 : Shape := ⟨2, ![4, 1024]⟩
abbrev S1x1024x6144 : Shape := ⟨3, ![1, 1024, 6144]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1024x6144 : Shape := ⟨2, ![1024, 6144]⟩
abbrev S16384x6144 : Shape := ⟨2, ![16384, 6144]⟩
abbrev S16384x4096 : Shape := ⟨2, ![16384, 4096]⟩
abbrev S16384x2048 : Shape := ⟨2, ![16384, 2048]⟩

abbrev nBuf : Space → Nat
  | .hbm => 26
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x1024, .f32⟩
  | .hbm, ⟨2, _⟩ => ⟨S1x1024x6144, .f32⟩
  | .hbm, ⟨3, _⟩ => ⟨S1x1024, .f32⟩
  | .hbm, ⟨4, _⟩ => ⟨S1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S1024x6144, .f32⟩
  | .hbm, ⟨22, _⟩ => ⟨S16384x6144, .f32⟩
  | .hbm, ⟨23, _⟩ => ⟨S16384x4096, .f32⟩
  | .hbm, ⟨24, _⟩ => ⟨S16384x2048, .f32⟩
  | .hbm, ⟨25, _⟩ => ⟨S16384x4096, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Kernel7.lean ====
abbrev S16384x1024 : Shape := ⟨2, ![16384, 1024]⟩
abbrev S4x1024 : Shape := ⟨2, ![4, 1024]⟩
abbrev S1x1024x3072 : Shape := ⟨3, ![1, 1024, 3072]⟩
abbrev S1x1024 : Shape := ⟨2, ![1, 1024]⟩
abbrev S1024 : Shape := ⟨1, ![1024]⟩
abbrev S16384x3072 : Shape := ⟨2, ![16384, 3072]⟩
abbrev S1024x1024 : Shape := ⟨2, ![1024, 1024]⟩
abbrev S1024x3072 : Shape := ⟨2, ![1024, 3072]⟩
abbrev S1024x1 : Shape := ⟨2, ![1024, 1]⟩

abbrev nBuf : Space → Nat
  | .hbm => 7
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S4x1024, .f32⟩
  | .hbm, ⟨2, _⟩ => ⟨S1x1024x3072, .f32⟩
  | .hbm, ⟨3, _⟩ => ⟨S1x1024, .f32⟩
  | .hbm, ⟨4, _⟩ => ⟨S1024, .f32⟩
  | .hbm, ⟨5, _⟩ => ⟨S1x1024, .f32⟩
  | .hbm, ⟨6, _⟩ => ⟨S16384x3072, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x3072, .f32⟩
  | .local _ .vmem, ⟨4, _⟩ => ⟨S1024x3072, .bf16⟩
  | .local _ .vmem, ⟨5, _⟩ => ⟨S1024x3072, .bf16⟩
  | .local _ .vmem, ⟨6, _⟩ => ⟨S1024x3072, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference7Ideal.lean ====
abbrev S16384x1024 : Shape := ⟨2, ![16384, 1024]⟩
abbrev S4x1024 : Shape := ⟨2, ![4, 1024]⟩
abbrev S1x1024x3072 : Shape := ⟨3, ![1, 1024, 3072]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1024x3072 : Shape := ⟨2, ![1024, 3072]⟩
abbrev S16384x3072 : Shape := ⟨2, ![16384, 3072]⟩

abbrev nBuf : Space → Nat
  | .hbm => 24
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x1024, .f32⟩
  | .hbm, ⟨2, _⟩ => ⟨S1x1024x3072, .f32⟩
  | .hbm, ⟨3, _⟩ => ⟨S1x1024, .f32⟩
  | .hbm, ⟨4, _⟩ => ⟨S1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S1024x3072, .f32⟩
  | .hbm, ⟨22, _⟩ => ⟨S16384x3072, .f32⟩
  | .hbm, ⟨23, _⟩ => ⟨S16384x3072, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Kernel8.lean ====
abbrev S16384x1024 : Shape := ⟨2, ![16384, 1024]⟩
abbrev S4x1024 : Shape := ⟨2, ![4, 1024]⟩
abbrev S2x1024x1280 : Shape := ⟨3, ![2, 1024, 1280]⟩
abbrev S1x1024 : Shape := ⟨2, ![1, 1024]⟩
abbrev S1024 : Shape := ⟨1, ![1024]⟩
abbrev S16384x1536 : Shape := ⟨2, ![16384, 1536]⟩
abbrev S1024x1024 : Shape := ⟨2, ![1024, 1024]⟩
abbrev S1x1024x1280 : Shape := ⟨3, ![1, 1024, 1280]⟩
abbrev S1024x1536 : Shape := ⟨2, ![1024, 1536]⟩
abbrev S1x1024x1024 : Shape := ⟨3, ![1, 1024, 1024]⟩
abbrev S1024x128 : Shape := ⟨2, ![1024, 128]⟩
abbrev S1x1024x128 : Shape := ⟨3, ![1, 1024, 128]⟩
abbrev S1024x1 : Shape := ⟨2, ![1024, 1]⟩
abbrev S1024x512 : Shape := ⟨2, ![1024, 512]⟩

abbrev nBuf : Space → Nat
  | .hbm => 7
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S4x1024, .f32⟩
  | .hbm, ⟨2, _⟩ => ⟨S2x1024x1280, .f32⟩
  | .hbm, ⟨3, _⟩ => ⟨S1x1024, .f32⟩
  | .hbm, ⟨4, _⟩ => ⟨S1024, .f32⟩
  | .hbm, ⟨5, _⟩ => ⟨S1x1024, .f32⟩
  | .hbm, ⟨6, _⟩ => ⟨S16384x1536, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x1280, .f32⟩
  | .local _ .vmem, ⟨4, _⟩ => ⟨S1024x1536, .bf16⟩
  | .local _ .vmem, ⟨5, _⟩ => ⟨S1024x1536, .bf16⟩
  | .local _ .vmem, ⟨6, _⟩ => ⟨S1024x1536, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x1280 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference8Ideal.lean ====
abbrev S16384x1024 : Shape := ⟨2, ![16384, 1024]⟩
abbrev S4x1024 : Shape := ⟨2, ![4, 1024]⟩
abbrev S2x1024x1280 : Shape := ⟨3, ![2, 1024, 1280]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024x1280 : Shape := ⟨3, ![1, 1024, 1280]⟩
abbrev S1024x1280 : Shape := ⟨2, ![1024, 1280]⟩
abbrev S16384x1280 : Shape := ⟨2, ![16384, 1280]⟩
abbrev S16384x128 : Shape := ⟨2, ![16384, 128]⟩
abbrev S16384x64 : Shape := ⟨2, ![16384, 64]⟩
abbrev S16384x1536 : Shape := ⟨2, ![16384, 1536]⟩

abbrev nBuf : Space → Nat
  | .hbm => 33
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x1024, .f32⟩
  | .hbm, ⟨2, _⟩ => ⟨S2x1024x1280, .f32⟩
  | .hbm, ⟨3, _⟩ => ⟨S1x1024, .f32⟩
  | .hbm, ⟨4, _⟩ => ⟨S1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S1x1024x1280, .f32⟩
  | .hbm, ⟨22, _⟩ => ⟨S1024x1280, .f32⟩
  | .hbm, ⟨23, _⟩ => ⟨S16384x1280, .f32⟩
  | .hbm, ⟨24, _⟩ => ⟨S16384x1024, .f32⟩
  | .hbm, ⟨25, _⟩ => ⟨S16384x128, .f32⟩
  | .hbm, ⟨26, _⟩ => ⟨S16384x128, .f32⟩
  | .hbm, ⟨27, _⟩ => ⟨S16384x64, .f32⟩
  | .hbm, ⟨28, _⟩ => ⟨S16384x64, .f32⟩
  | .hbm, ⟨29, _⟩ => ⟨S16384x64, .f32⟩
  | .hbm, ⟨30, _⟩ => ⟨S16384x64, .f32⟩
  | .hbm, ⟨31, _⟩ => ⟨S16384x1536, .f32⟩
  | .hbm, ⟨32, _⟩ => ⟨S16384x1536, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩

abbrev nD : Nat := 1
abbrev τ : Topo := Topo.v7x

variable {F : FTy → Type} [FloatOps F]
-- ==== Kernel9.lean ====
abbrev S16384x3072 : Shape := ⟨2, ![16384, 3072]⟩
abbrev S16384x1024 : Shape := ⟨2, ![16384, 1024]⟩
abbrev S256x512 : Shape := ⟨2, ![256, 512]⟩
abbrev S4096x512 : Shape := ⟨2, ![4096, 512]⟩
abbrev S4x32x256x128 : Shape := ⟨4, ![4, 32, 256, 128]⟩
abbrev S4x256x256 : Shape := ⟨3, ![4, 256, 256]⟩
abbrev S32x128x128 : Shape := ⟨3, ![32, 128, 128]⟩
abbrev S4096x128 : Shape := ⟨2, ![4096, 128]⟩
abbrev S1x32x128x128 : Shape := ⟨4, ![1, 32, 128, 128]⟩
abbrev S256x256 : Shape := ⟨2, ![256, 256]⟩
abbrev S128x256 : Shape := ⟨2, ![128, 256]⟩
abbrev S128x128 : Shape := ⟨2, ![128, 128]⟩
abbrev S1x1x256x128 : Shape := ⟨4, ![1, 1, 256, 128]⟩
abbrev S256x128 : Shape := ⟨2, ![256, 128]⟩
abbrev S1x128x256 : Shape := ⟨3, ![1, 128, 256]⟩
abbrev S1x256x256 : Shape := ⟨3, ![1, 256, 256]⟩
abbrev S1x4x256x256 : Shape := ⟨4, ![1, 4, 256, 256]⟩
abbrev S1 : Shape := ⟨1, ![1]⟩
abbrev S1x1x1x1 : Shape := ⟨4, ![1, 1, 1, 1]⟩

abbrev nBuf : Space → Nat
  | .hbm => 2
  | .vmem => 12
  | .smem => 0
  | _ => 0

abbrev bufTy : (tb : Table) → Fin (tcTables nBuf tb) → BufTy
  | .hbm, ⟨0, _⟩ => ⟨S16384x3072, .bf16⟩
  | .hbm, ⟨1, _⟩ => ⟨S16384x1024, .bf16⟩
  | .local _ .vmem, ⟨0, _⟩ => ⟨S256x512, .bf16⟩
  | .local _ .vmem, ⟨1, _⟩ => ⟨S256x512, .bf16⟩
  | .local _ .vmem, ⟨2, _⟩ => ⟨S4096x512, .bf16⟩
  | .local _ .vmem, ⟨3, _⟩ => ⟨S4096x512, .bf16⟩
  | .local _ .vmem, ⟨4, _⟩ => ⟨S4096x512, .bf16⟩
  | .local _ .vmem, ⟨5, _⟩ => ⟨S4096x512, .bf16⟩
  | .local _ .vmem, ⟨6, _⟩ => ⟨S256x512, .bf16⟩
  | .local _ .vmem, ⟨7, _⟩ => ⟨S256x512, .bf16⟩
  | .local _ .vmem, ⟨8, _⟩ => ⟨S4x32x256x128, .bf16⟩
  | .local _ .vmem, ⟨9, _⟩ => ⟨S4x32x256x128, .bf16⟩
  | .local _ .vmem, ⟨10, _⟩ => ⟨S4x256x256, .f32⟩
  | .local _ .vmem, ⟨11, _⟩ => ⟨S256x512, .f32⟩
  | _, _ => ⟨S16384x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 16], ![false, false, false]⟩

def k0_off1 (i : grid0.Coords) (c1_i32_22 : BitVec 32) : Fin 4 → Nat :=
  let c0_25 : Index := 0#32
  let arg2 : BitVec 32 := BitVec.ofNat 32 (i 2).val
  let c2_i32 : BitVec 32 := 2#32
  let v62 : BitVec 32 := Scalar.muli arg2 c2_i32
  let v63 : BitVec 32 := Scalar.addi v62 c1_i32_22
  let v67 : Index := Scalar.indexCast v63
  let c0_26 : Index := 0#32
  let c0_27 : Index := 0#32
  ![0, v67.toNat, 0, 0]
def k0_off2 (i : grid0.Coords) (c1_i32_22 : BitVec 32) : Fin 4 → Nat :=
  let c1 : Index := 1#32
  let arg2 : BitVec 32 := BitVec.ofNat 32 (i 2).val
  let c2_i32 : BitVec 32 := 2#32
  let v62 : BitVec 32 := Scalar.muli arg2 c2_i32
  let v63 : BitVec 32 := Scalar.addi v62 c1_i32_22
  let v72 : Index := Scalar.indexCast v63
  let c0_29 : Index := 0#32
  let c0_30 : Index := 0#32
  ![1, v72.toNat, 0, 0]
def k0_off3 (i : grid0.Coords) (c1_i32_22 : BitVec 32) : Fin 4 → Nat :=
  let c2 : Index := 2#32
  let arg2 : BitVec 32 := BitVec.ofNat 32 (i 2).val
  let c2_i32 : BitVec 32 := 2#32
  let v62 : BitVec 32 := Scalar.muli arg2 c2_i32
  let v63 : BitVec 32 := Scalar.addi v62 c1_i32_22
  let v102 : Index := Scalar.indexCast v63
  let c0_38 : Index := 0#32
  let c0_39 : Index := 0#32
  ![2, v102.toNat, 0, 0]
def k0_off4 (i : grid0.Coords) (c1_i32_22 : BitVec 32) : Fin 4 → Nat :=
  let c3 : Index := 3#32
  let arg2 : BitVec 32 := BitVec.ofNat 32 (i 2).val
  let c2_i32 : BitVec 32 := 2#32
  let v62 : BitVec 32 := Scalar.muli arg2 c2_i32
  let v63 : BitVec 32 := Scalar.addi v62 c1_i32_22
  let v159 : Index := Scalar.indexCast v63
  let c0_61 : Index := 0#32
  let c0_62 : Index := 0#32
  ![3, v159.toNat, 0, 0]
def k0_off5 (i : grid0.Coords) (arg11 : BitVec 32) (c1_i32_227 : BitVec 32) : Fin 4 → Nat :=
  let c0_229 : Index := 0#32
  let arg2 : BitVec 32 := BitVec.ofNat 32 (i 2).val
  let c1_i32_225 : BitVec 32 := 1#32
  let v550 : BitVec 32 := Scalar.subi arg2 c1_i32_225
  let v551 : BitVec 32 := Scalar.subi v550 arg11
  let c2_i32_226 : BitVec 32 := 2#32
  let v552 : BitVec 32 := Scalar.muli v551 c2_i32_226
  let v553 : BitVec 32 := Scalar.addi v552 c1_i32_227
  let v556 : Index := Scalar.indexCast v553
  let c0_230 : Index := 0#32
  let c0_231 : Index := 0#32
  ![0, v556.toNat, 0, 0]

def k0_off6 (i : grid0.Coords) (arg11 : BitVec 32) (c1_i32_227 : BitVec 32) : Fin 4 → Nat :=
  let c1_233 : Index := 1#32
  let arg2 : BitVec 32 := BitVec.ofNat 32 (i 2).val
  let c1_i32_225 : BitVec 32 := 1#32
  let v550 : BitVec 32 := Scalar.subi arg2 c1_i32_225
  let v551 : BitVec 32 := Scalar.subi v550 arg11
  let c2_i32_226 : BitVec 32 := 2#32
  let v552 : BitVec 32 := Scalar.muli v551 c2_i32_226
  let v553 : BitVec 32 := Scalar.addi v552 c1_i32_227
  let v561 : Index := Scalar.indexCast v553
  let c0_234 : Index := 0#32
  let c0_235 : Index := 0#32
  ![1, v561.toNat, 0, 0]
def k0_off7 (i : grid0.Coords) (arg11 : BitVec 32) (c1_i32_227 : BitVec 32) : Fin 4 → Nat :=
  let c2_242 : Index := 2#32
  let arg2 : BitVec 32 := BitVec.ofNat 32 (i 2).val
  let c1_i32_225 : BitVec 32 := 1#32
  let v550 : BitVec 32 := Scalar.subi arg2 c1_i32_225
  let v551 : BitVec 32 := Scalar.subi v550 arg11
  let c2_i32_226 : BitVec 32 := 2#32
  let v552 : BitVec 32 := Scalar.muli v551 c2_i32_226
  let v553 : BitVec 32 := Scalar.addi v552 c1_i32_227
  let v589 : Index := Scalar.indexCast v553
  let c0_243 : Index := 0#32
  let c0_244 : Index := 0#32
  ![2, v589.toNat, 0, 0]
def k0_off8 (i : grid0.Coords) (arg11 : BitVec 32) (c1_i32_227 : BitVec 32) : Fin 4 → Nat :=
  let c3_265 : Index := 3#32
  let arg2 : BitVec 32 := BitVec.ofNat 32 (i 2).val
  let c1_i32_225 : BitVec 32 := 1#32
  let v550 : BitVec 32 := Scalar.subi arg2 c1_i32_225
  let v551 : BitVec 32 := Scalar.subi v550 arg11
  let c2_i32_226 : BitVec 32 := 2#32
  let v552 : BitVec 32 := Scalar.muli v551 c2_i32_226
  let v553 : BitVec 32 := Scalar.addi v552 c1_i32_227
  let v642 : Index := Scalar.indexCast v553
  let c0_266 : Index := 0#32
  let c0_267 : Index := 0#32
  ![3, v642.toNat, 0, 0]

def k0_chk1 (i : grid0.Coords) (arg11 : BitVec 32) : Prop :=
  (∀ (r : Fin 2), ∀ a, (k0_off5 i arg11 (BitVec.ofNat 32 r.val)) a + S1x1x256x128.size a ≤ S4x32x256x128.size a) ∧
  (∀ (r : Fin 2), ∀ a, (k0_off6 i arg11 (BitVec.ofNat 32 r.val)) a + S1x1x256x128.size a ≤ S4x32x256x128.size a) ∧
  (∀ (r : Fin 2), ∀ a, (k0_off7 i arg11 (BitVec.ofNat 32 r.val)) a + S1x1x256x128.size a ≤ S4x32x256x128.size a) ∧
  (∀ (r : Fin 2), ∀ a, (k0_off8 i arg11 (BitVec.ofNat 32 r.val)) a + S1x1x256x128.size a ≤ S4x32x256x128.size a)
theorem k0_off5_inb : ∀ (i : grid0.Coords) (arg11 : BitVec 32) (k0_hw1 : k0_chk1 i arg11), ∀ (r : Fin 2), ∀ a, (k0_off5 i arg11 (BitVec.ofNat 32 r.val)) a + S1x1x256x128.size a ≤ S4x32x256x128.size a := fun i arg11 k0_hw1 r => k0_hw1.1 r
theorem k0_off6_inb : ∀ (i : grid0.Coords) (arg11 : BitVec 32) (k0_hw1 : k0_chk1 i arg11), ∀ (r : Fin 2), ∀ a, (k0_off6 i arg11 (BitVec.ofNat 32 r.val)) a + S1x1x256x128.size a ≤ S4x32x256x128.size a := fun i arg11 k0_hw1 r => k0_hw1.2.1 r
theorem k0_off7_inb : ∀ (i : grid0.Coords) (arg11 : BitVec 32) (k0_hw1 : k0_chk1 i arg11), ∀ (r : Fin 2), ∀ a, (k0_off7 i arg11 (BitVec.ofNat 32 r.val)) a + S1x1x256x128.size a ≤ S4x32x256x128.size a := fun i arg11 k0_hw1 r => k0_hw1.2.2.1 r
theorem k0_off8_inb : ∀ (i : grid0.Coords) (arg11 : BitVec 32) (k0_hw1 : k0_chk1 i arg11), ∀ (r : Fin 2), ∀ a, (k0_off8 i arg11 (BitVec.ofNat 32 r.val)) a + S1x1x256x128.size a ≤ S4x32x256x128.size a := fun i arg11 k0_hw1 r => k0_hw1.2.2.2 r

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Kernel9Ideal.lean ====
variable {F : FTy → Type} [FloatOps F] [Named F]
def κ : String → Option EReal := fun
  | "exp_zero" => some ⊤
  | "neg_log2e" => some ((-((Real.log 2)⁻¹) : ℝ) : EReal)
  | _ => none
-- ==== Reference9Ideal.lean ====
abbrev S16384x3072 : Shape := ⟨2, ![16384, 3072]⟩
abbrev S4x4096x3x16x64 : Shape := ⟨5, ![4, 4096, 3, 16, 64]⟩
abbrev S4x4096x1x16x64 : Shape := ⟨5, ![4, 4096, 1, 16, 64]⟩
abbrev S4x4096x16x64 : Shape := ⟨4, ![4, 4096, 16, 64]⟩
abbrev S4x16x4096x64 : Shape := ⟨4, ![4, 16, 4096, 64]⟩
abbrev S4x16x4096x4096 : Shape := ⟨4, ![4, 16, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x1x4096x4096 : Shape := ⟨4, ![1, 1, 4096, 4096]⟩
abbrev S16384x1024 : Shape := ⟨2, ![16384, 1024]⟩

abbrev nBuf : Space → Nat
  | .hbm => 77
  | .vmem => 0
  | .smem => 0
  | _ => 0

abbrev bufTy : (tb : Table) → Fin (tcTables nBuf tb) → BufTy
  | .hbm, ⟨0, _⟩ => ⟨S16384x3072, .bf16⟩
  | .hbm, ⟨1, _⟩ => ⟨S16384x3072, .f32⟩
  | .hbm, ⟨2, _⟩ => ⟨S4x4096x3x16x64, .f32⟩
  | .hbm, ⟨3, _⟩ => ⟨S4x4096x1x16x64, .f32⟩
  | .hbm, ⟨4, _⟩ => ⟨S4x4096x16x64, .f32⟩
  | .hbm, ⟨5, _⟩ => ⟨S4x16x4096x64, .f32⟩
  | .hbm, ⟨6, _⟩ => ⟨S4x4096x1x16x64, .f32⟩
  | .hbm, ⟨7, _⟩ => ⟨S4x4096x16x64, .f32⟩
  | .hbm, ⟨8, _⟩ => ⟨S4x16x4096x64, .f32⟩
  | .hbm, ⟨9, _⟩ => ⟨S4x4096x1x16x64, .f32⟩
  | .hbm, ⟨10, _⟩ => ⟨S4x4096x16x64, .f32⟩
  | .hbm, ⟨11, _⟩ => ⟨S4x16x4096x64, .f32⟩
  | .hbm, ⟨12, _⟩ => ⟨S4x16x4096x4096, .f32⟩
  | .hbm, ⟨13, _⟩ => ⟨S_, .f32⟩
  | .hbm, ⟨14, _⟩ => ⟨S4x16x4096x4096, .f32⟩
  | .hbm, ⟨15, _⟩ => ⟨S4x16x4096x4096, .f32⟩
  | .hbm, ⟨16, _⟩ => ⟨S4096, .i32⟩
  | .hbm, ⟨17, _⟩ => ⟨S1x4096, .i32⟩
  | .hbm, ⟨18, _⟩ => ⟨S4096, .i32⟩
  | .hbm, ⟨19, _⟩ => ⟨S4096x1, .i32⟩
  | .hbm, ⟨20, _⟩ => ⟨S4096x4096, .i32⟩
  | .hbm, ⟨21, _⟩ => ⟨S4096x4096, .i32⟩
  | .hbm, ⟨22, _⟩ => ⟨S4096x4096, .i1⟩
  | .hbm, ⟨23, _⟩ => ⟨S1x1x4096x4096, .i1⟩
  | .hbm, ⟨24, _⟩ => ⟨S4x16x4096x4096, .f32⟩
  | .hbm, ⟨25, _⟩ => ⟨S_, .f32⟩
  | .hbm, ⟨26, _⟩ => ⟨S4x16x4096x4096, .f32⟩
  | .hbm, ⟨27, _⟩ => ⟨S4x16x4096x4096, .f32⟩
  | .hbm, ⟨28, _⟩ => ⟨S4x16x4096x4096, .f32⟩
  | .hbm, ⟨29, _⟩ => ⟨S4x16x4096x4096, .f32⟩
  | .hbm, ⟨30, _⟩ => ⟨S4x16x4096x4096, .i1⟩
  | .hbm, ⟨31, _⟩ => ⟨S4x16x4096x4096, .f32⟩
  | .hbm, ⟨32, _⟩ => ⟨S4x16x4096x4096, .f32⟩
  | .hbm, ⟨33, _⟩ => ⟨S4x16x4096x4096, .f32⟩
  | .hbm, ⟨34, _⟩ => ⟨S4x16x4096x4096, .f32⟩
  | .hbm, ⟨35, _⟩ => ⟨S4x16x4096x4096, .f32⟩
  | .hbm, ⟨36, _⟩ => ⟨S4x16x4096x4096, .f32⟩
  | .hbm, ⟨37, _⟩ => ⟨S4x16x4096x4096, .f32⟩
  | .hbm, ⟨38, _⟩ => ⟨S4x16x4096x4096, .f32⟩
  | .hbm, ⟨39, _⟩ => ⟨S4x16x4096x4096, .f32⟩
  | .hbm, ⟨40, _⟩ => ⟨S4x16x4096x4096, .f32⟩
  | .hbm, ⟨41, _⟩ => ⟨S4x16x4096x4096, .f32⟩
  | .hbm, ⟨42, _⟩ => ⟨S_, .f32⟩
  | .hbm, ⟨43, _⟩ => ⟨S4x16x4096x4096, .f32⟩
  | .hbm, ⟨44, _⟩ => ⟨S4x16x4096x4096, .f32⟩
  | .hbm, ⟨45, _⟩ => ⟨S4x16x4096x4096, .f32⟩
  | .hbm, ⟨46, _⟩ => ⟨S4x16x4096x4096, .f32⟩
  | .hbm, ⟨47, _⟩ => ⟨S4x16x4096x4096, .i1⟩
  | .hbm, ⟨48, _⟩ => ⟨S4x16x4096x4096, .f32⟩
  | .hbm, ⟨49, _⟩ => ⟨S4x16x4096x4096, .f32⟩
  | .hbm, ⟨50, _⟩ => ⟨S4x16x4096x4096, .f32⟩
  | .hbm, ⟨51, _⟩ => ⟨S4x16x4096x4096, .f32⟩
  | .hbm, ⟨52, _⟩ => ⟨S4x16x4096x4096, .f32⟩
  | .hbm, ⟨53, _⟩ => ⟨S4x16x4096x4096, .f32⟩
  | .hbm, ⟨54, _⟩ => ⟨S4x16x4096x4096, .f32⟩
  | .hbm, ⟨55, _⟩ => ⟨S4x16x4096x4096, .f32⟩
  | .hbm, ⟨56, _⟩ => ⟨S4x16x4096x4096, .f32⟩
  | .hbm, ⟨57, _⟩ => ⟨S_, .f32⟩
  | .hbm, ⟨58, _⟩ => ⟨S_, .f32⟩
  | .hbm, ⟨59, _⟩ => ⟨S4x16x4096x4096, .i1⟩
  | .hbm, ⟨60, _⟩ => ⟨S4x16x4096x4096, .f32⟩
  | .hbm, ⟨61, _⟩ => ⟨S4x16x4096x4096, .f32⟩
  | .hbm, ⟨62, _⟩ => ⟨S_, .f32⟩
  | .hbm, ⟨63, _⟩ => ⟨S_, .f32⟩
  | .hbm, ⟨64, _⟩ => ⟨S4x16x4096x4096, .f32⟩
  | .hbm, ⟨65, _⟩ => ⟨S4x16x4096x4096, .f32⟩
  | .hbm, ⟨66, _⟩ => ⟨S4x16x4096x4096, .f32⟩
  | .hbm, ⟨67, _⟩ => ⟨S4x16x4096x4096, .f32⟩
  | .hbm, ⟨68, _⟩ => ⟨S_, .f32⟩
  | .hbm, ⟨69, _⟩ => ⟨S_, .f32⟩
  | .hbm, ⟨70, _⟩ => ⟨S4x16x4096x4096, .i1⟩
  | .hbm, ⟨71, _⟩ => ⟨S4x16x4096x4096, .f32⟩
  | .hbm, ⟨72, _⟩ => ⟨S4x16x4096x4096, .f32⟩
  | .hbm, ⟨73, _⟩ => ⟨S4x16x4096x64, .f32⟩
  | .hbm, ⟨74, _⟩ => ⟨S4x4096x16x64, .f32⟩
  | .hbm, ⟨75, _⟩ => ⟨S16384x1024, .f32⟩
  | .hbm, ⟨76, _⟩ => ⟨S16384x1024, .bf16⟩
  | _, _ => ⟨S16384x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_cst : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_call0_v0 : Ref sig .tc := ⟨.hbm, 24, rfl⟩
abbrev main_call0_call0_cst : Ref sig .tc := ⟨.hbm, 25, rfl⟩
abbrev main_call0_call0_v0 : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_v9 : Ref sig .tc := ⟨.hbm, 35, rfl⟩
abbrev main_call0_call0_v10 : Ref sig .tc := ⟨.hbm, 36, rfl⟩
abbrev main_call0_call0_v11 : Ref sig .tc := ⟨.hbm, 37, rfl⟩
abbrev main_call0_v1 : Ref sig .tc := ⟨.hbm, 38, rfl⟩
abbrev main_v22 : Ref sig .tc := ⟨.hbm, 39, rfl⟩
abbrev main_v23 : Ref sig .tc := ⟨.hbm, 40, rfl⟩
abbrev main_call1_v0 : Ref sig .tc := ⟨.hbm, 41, rfl⟩
abbrev main_call1_call0_cst : Ref sig .tc := ⟨.hbm, 42, rfl⟩
abbrev main_call1_call0_v0 : Ref sig .tc := ⟨.hbm, 43, rfl⟩
abbrev main_call1_call0_v1 : Ref sig .tc := ⟨.hbm, 44, rfl⟩
abbrev main_call1_call0_v2 : Ref sig .tc := ⟨.hbm, 45, rfl⟩
abbrev main_call1_call0_v3 : Ref sig .tc := ⟨.hbm, 46, rfl⟩
abbrev main_call1_call0_v4 : Ref sig .tc := ⟨.hbm, 47, rfl⟩
abbrev main_call1_call0_v5 : Ref sig .tc := ⟨.hbm, 48, rfl⟩
abbrev main_call1_call0_v6 : Ref sig .tc := ⟨.hbm, 49, rfl⟩
abbrev main_call1_call0_v7 : Ref sig .tc := ⟨.hbm, 50, rfl⟩
abbrev main_call1_call0_v8 : Ref sig .tc := ⟨.hbm, 51, rfl⟩
abbrev main_call1_call0_v9 : Ref sig .tc := ⟨.hbm, 52, rfl⟩
abbrev main_call1_call0_v10 : Ref sig .tc := ⟨.hbm, 53, rfl⟩
abbrev main_call1_call0_v11 : Ref sig .tc := ⟨.hbm, 54, rfl⟩
abbrev main_call1_v1 : Ref sig .tc := ⟨.hbm, 55, rfl⟩
abbrev main_v24 : Ref sig .tc := ⟨.hbm, 56, rfl⟩
abbrev main_cst_0 : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_v25 : Ref sig .tc := ⟨.hbm, 61, rfl⟩
abbrev main_call3_cst : Ref sig .tc := ⟨.hbm, 62, rfl⟩
abbrev main_call3_v0 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_cst_1 : Ref sig .tc := ⟨.hbm, 68, rfl⟩
abbrev main_call4_v0 : Ref sig .tc := ⟨.hbm, 69, rfl⟩
abbrev main_call4_v1 : Ref sig .tc := ⟨.hbm, 70, rfl⟩
abbrev main_call4_v2 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩

abbrev nD : Nat := 1
abbrev τ : Topo := Topo.v7x

variable {F : FTy → Type} [FloatOps F]
-- ==== Proof.RetSpec.lean ====
module

public import Idealize.ShloMosaic.Lib.Pointwise

/-! # Retention, as a formula

One retention layer over 128 chunks of 128 rows (32 chunks to a sequence, 4 sequences), with 4 heads of 256 key columns
and 512 value columns. `x` is the row-major projection: query columns, then key columns, then value columns. `g` is the
gate. `dm`, `qd`, `kd`, `cd` are the decay tables: inside a chunk, of the queries, of the keys, across a chunk. -/

@[expose] public section

noncomputable section

namespace Ret

open Idealize.ShloMosaic

/-- Row `i` of chunk `N`. -/
def row (N i : Fin 128) : Fin 16384 := ⟨128 * N.val + i.val, by omega⟩
/-- Query column `d` of head `h`. -/
def qc (h : Fin 4) (d : Fin 256) : Fin 4096 := ⟨256 * h.val + d.val, by omega⟩
/-- Key column `d` of head `h`. -/
def kc (h : Fin 4) (d : Fin 256) : Fin 4096 := ⟨1024 + 256 * h.val + d.val, by omega⟩
/-- Value column `e` of head `h`. -/
def vc (h : Fin 4) (e : Fin 512) : Fin 4096 := ⟨2048 + 512 * h.val + e.val, by omega⟩
/-- Output column `e` of head `h`. -/
def oc (h : Fin 4) (e : Fin 512) : Fin 2048 := ⟨512 * h.val + e.val, by omega⟩
/-- Chunk `n` of sequence `b` (`n` taken modulo the number of chunks in all). -/
def chunk (b : Fin 4) (n : ℕ) : Fin 128 := ⟨(32 * b.val + n) % 128, Nat.mod_lt _ (by decide)⟩

/-- The key scale, 1/16. -/
def c0 : EReal := Ideal.ofBits FTy.f32 0x3D800000#32
/-- The number of columns of a head, 512. -/
def c512 : EReal := Ideal.ofBits FTy.f32 0x44000000#32
/-- The norm's ε. -/
def eps : EReal := Ideal.ofBits FTy.f32 0x358637BD#32

variable (x : Fin 16384 → Fin 4096 → EReal) (g : Fin 16384 → Fin 2048 → EReal)
variable (dm : Fin 4 → Fin 128 → Fin 128 → EReal) (qd kd : Fin 4 → Fin 128 → EReal) (cd : Fin 4 → EReal)

/-- What chunk `N` adds to head `h`'s state: decayed keys against values, summed over the chunk's rows. -/
def kv (N : Fin 128) (h : Fin 4) (d : Fin 256) (e : Fin 512) : EReal :=
  ∑ j : Fin 128, x (row N j) (kc h d) * c0 * kd h j * x (row N j) (vc h e)

/-- Head `h`'s state of sequence `b` before its chunk `n`. -/
def state (b : Fin 4) : ℕ → Fin 4 → Fin 256 → Fin 512 → EReal
  | 0, _, _, _ => 0
  | n + 1, h, d, e => state b n h d e * cd h + kv x kd (chunk b n) h d e

/-- Head `h`'s output at row `i` of chunk `N`, from the state `s` before the chunk: the chunk's own rows, and the state. -/
def out (s : Fin 4 → Fin 256 → Fin 512 → EReal) (N : Fin 128) (h : Fin 4) (i : Fin 128) (e : Fin 512) : EReal :=
  (∑ j : Fin 128, (∑ d : Fin 256, x (row N i) (qc h d) * (x (row N j) (kc h d) * c0)) * dm h i j * x (row N j) (vc h e))
    + ∑ d : Fin 256, x (row N i) (qc h d) * qd h i * s h d e

/-- A head's row `o` normed, at column `e`, under the gate's silu. -/
def gated (o : Fin 512 → EReal) (gt : EReal) (e : Fin 512) : EReal :=
  gt * Ideal.div 1 (1 + Ideal.exp (-gt)) * (o e * Ideal.rsqrt (Ideal.div (∑ e' : Fin 512, o e' * o e') c512 + eps))

/-- The layer's result at row `i` of chunk `n` of sequence `b`, column `e` of head `h`. -/
def result (b : Fin 4) (n : Fin 32) (i : Fin 128) (h : Fin 4) (e : Fin 512) : EReal :=
  gated (out x dm qd (state x kd cd b n.val) (chunk b n.val) h i) (g (row (chunk b n.val) i) (oc h e)) e

/-- The layer's result at row `R`, column `C` of the whole array. -/
def resultAt (R : Fin 16384) (C : Fin 2048) : EReal :=
  result x g dm qd kd cd ⟨R.val / 4096, by omega⟩ ⟨R.val % 4096 / 128, by omega⟩ ⟨R.val % 128, by omega⟩ ⟨C.val / 512, by omega⟩
    ⟨C.val % 512, by omega⟩

/-! ## The decay tables -/

/-- `log γ` of head `h`: `log (1 - exp (log 2 · (-5 - h)))`. -/
def lg (h : Fin 4) : EReal :=
  Ideal.log1p (-Ideal.exp (Ideal.ofBits FTy.f32 0x3F317218#32 * (Ideal.ofBits FTy.f32 0xC0A00000#32
    - FloatOps.sitofp (F := Ideal) FTy.f32 (BitVec.ofNat 32 h.val))))
/-- Across a chunk: `γ ^ 128`. -/
def tcd (h : Fin 4) : EReal := Ideal.exp (lg h * Ideal.ofBits FTy.f32 0x43000000#32)
/-- Of a chunk's key `j`: `γ ^ (127 - j)`. -/
def tkd (h : Fin 4) (j : Fin 128) : EReal :=
  Ideal.exp (lg h * FloatOps.sitofp (F := Ideal) FTy.f32 (IntOp.subi (127#32) (BitVec.ofNat 32 j.val)))
/-- Of a chunk's query `i`: `γ ^ (i + 1)`. -/
def tqd (h : Fin 4) (i : Fin 128) : EReal :=
  Ideal.exp (lg h * FloatOps.sitofp (F := Ideal) FTy.f32 (IntOp.addi (BitVec.ofNat 32 i.val) (1#32)))
/-- Between a chunk's query `i` and key `j`: `γ ^ (i - j)` where `j ≤ i`, else 0. -/
def tdm (h : Fin 4) (i j : Fin 128) : EReal :=
  Scalar.select (IntOp.cmpi .sge (IntOp.subi (BitVec.ofNat 32 i.val) (BitVec.ofNat 32 j.val)) (0#32))
    (Ideal.exp (lg h * FloatOps.sitofp (F := Ideal) FTy.f32 (IntOp.maxsi (IntOp.subi (BitVec.ofNat 32 i.val) (BitVec.ofNat 32 j.val)) (0#32))))
    0

end Ret

end
-- ==== Proof.RetBlock.lean ====
module

public import proofs.«01_k».proof.Proof.RetSpec
public import proofs.«01_k».proof.Proof.Gen.KernelIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Ret

open Idealize.ShloMosaic Idealize.ShloMosaic.TcCoe Idealize.ShloMosaic.Tactic Cert.KernelIdeal Cert.KernelIdeal.Gen
open Idealize.SL Idealize.SL.RA Idealize.SL.BI

/-- One head's state after a chunk: the keys `k` decayed by `kd` against the values `v`, on the state `st` decayed by `cd`. -/
def stV {F : FTy → Type} [FloatOps F] (k : Vec F S128x256 .bf16) (kd : Vec F S1x128x1 .f32) (v : Vec F S128x512 .bf16)
    (st : Vec F S1x256x512 .f32) (cd : Elt F .f32) : Vec F S1x256x512 .f32 :=
  k0_pay14 (k0_pay5 k kd) v st cd

/-- One head's output rows of a chunk, from the state before it. -/
def outV {F : FTy → Type} [FloatOps F] (q k : Vec F S128x256 .bf16) (dm : Vec F S1x128x128 .f32) (qd : Vec F S1x128x1 .f32)
    (v : Vec F S128x512 .bf16) (st : Vec F S1x256x512 .f32) : Vec F S128x512 .f32 :=
  k0_pay13 (k0_pay4 q qd) (k0_pay6 q k dm) v st

/-- One head's rows normed and gated. -/
def gateV {F : FTy → Type} [FloatOps F] (o g : Vec F S128x512 .f32) : Vec F S128x512 .bf16 := k0_pay34 (k0_pay32 o) (k0_pay33 g)

theorem stV_apply (k : Vec Ideal S128x256 .bf16) (kd : Vec Ideal S1x128x1 .f32) (v : Vec Ideal S128x512 .bf16)
    (st : Vec Ideal S1x256x512 .f32) (cd : Elt Ideal .f32) (d : Fin 256) (e : Fin 512) :
    stV k kd v st cd (ix3 0 d e)
      = st (ix3 0 d e) * cd + ∑ j : Fin 128, k (ix2 j d) * Ret.c0 * kd (ix3 0 j 0) * v (ix2 j e) := by
  unfold stV Ret.c0
  pointwise [k0_pay14, k0_pay5, k0_pay3, k0_pay12]

theorem outV_apply (q k : Vec Ideal S128x256 .bf16) (dm : Vec Ideal S1x128x128 .f32) (qd : Vec Ideal S1x128x1 .f32)
    (v : Vec Ideal S128x512 .bf16) (st : Vec Ideal S1x256x512 .f32) (i : Fin 128) (e : Fin 512) :
    outV q k dm qd v st (ix2 i e)
      = (∑ j : Fin 128, (∑ d : Fin 256, q (ix2 i d) * (k (ix2 j d) * Ret.c0)) * dm (ix3 0 i j) * v (ix2 j e))
        + ∑ d : Fin 256, q (ix2 i d) * qd (ix3 0 i 0) * st (ix3 0 d e) := by
  unfold outV Ret.c0
  pointwise [k0_pay13, k0_pay6, k0_pay4, k0_pay3, k0_pay12]

theorem gateV_apply (o g : Vec Ideal S128x512 .f32) (i : Fin 128) (e : Fin 512) :
    gateV o g (ix2 i e) = Ret.gated (fun e' => o (ix2 i e')) (g (ix2 i e)) e := by
  unfold gateV Ret.gated Ret.c512 Ret.eps
  pointwise [k0_pay34, k0_pay32, k0_pay33]
  rw [zero_sub]

/-! ## A point's blocks, read by the heads -/

/-- A two-axis block load at an index is the array at the offset index. -/
theorem ld2 {e : EltTy} {n0 n1 a b p q : ℕ} (x : Vec Ideal ⟨2, ![n0, n1]⟩ e) (i) (r : Fin p) (s : Fin q) (u : Fin n0) (w : Fin n1)
    (hu : u.val = a + r.val) (hw : w.val = b + s.val) :
    View.ld x (Rect.unit ![a, b] ![p, q] i) (ix2 r s) = x (ix2 u w) := by
  refine congrArg x (funext fun k => Fin.ext ?_)
  match k with
  | ⟨0, _⟩ => show a + 1 * r.val = u.val; omega
  | ⟨1, _⟩ => show b + 1 * s.val = w.val; omega

/-- A three-axis block load at an index is the array at the offset index. -/
theorem ld3 {e : EltTy} {n0 n1 n2 a b c p q l : ℕ} (x : Vec Ideal ⟨3, ![n0, n1, n2]⟩ e) (i) (r : Fin p) (s : Fin q) (t : Fin l)
    (u : Fin n0) (w : Fin n1) (z : Fin n2) (hu : u.val = a + r.val) (hw : w.val = b + s.val) (hz : z.val = c + t.val) :
    View.ld x (Rect.unit ![a, b, c] ![p, q, l] i) (ix3 r s t) = x (ix3 u w z) := by
  refine congrArg x (funext fun k => Fin.ext ?_)
  match k with
  | ⟨0, _⟩ => show a + 1 * r.val = u.val; omega
  | ⟨1, _⟩ => show b + 1 * s.val = w.val; omega
  | ⟨2, _⟩ => show c + 1 * t.val = z.val; omega

/-- A one-element load of a row is the row's element at the offset. -/
theorem ld1 {e : EltTy} {n a : ℕ} (x : Vec Ideal ⟨1, ![n]⟩ e) (i) (hf) (u : Fin n) (hu : u.val = a) :
    View.ld x (Rect.unit ![a] ![1] i) (Shape.Idx.first hf) = x (ix1 u) := by
  refine congrArg x (funext fun k => Fin.ext ?_)
  match k with
  | ⟨0, _⟩ => show a + 1 * 0 = u.val; omega

variable (X : Vec Ideal S512x4096 .bf16) (G : Vec Ideal S512x2048 .f32) (DM : Vec Ideal S4x128x128 .f32)
  (QD KD : Vec Ideal S4x128x1 .f32) (CD : Vec Ideal S4 .f32)

/-- Row `i` of the block's chunk `c`. -/
def brow (c : Fin 4) (i : Fin 128) : Fin 512 := ⟨128 * c.val + i.val, by omega⟩

/-- The state after the block's chunk `c`, from the state `S` before it. -/
def stepS (c : Fin 4) (S : Vec Ideal S4x256x512 .f32) : Vec Ideal S4x256x512 .f32 := fun y =>
  S (ix3 (y 0) (y 1) (y 2)) * CD (ix1 (y 0)) + ∑ j : Fin 128, X (ix2 (brow c j) (Ret.kc (y 0) (y 1))) * Ret.c0 * KD (ix3 (y 0) j 0)
    * X (ix2 (brow c j) (Ret.vc (y 0) (y 2)))

theorem stepS_apply (c : Fin 4) (S : Vec Ideal S4x256x512 .f32) (h : Fin 4) (d : Fin 256) (e : Fin 512) :
    stepS X KD CD c S (ix3 h d e) = S (ix3 h d e) * CD (ix1 h) + ∑ j : Fin 128, X (ix2 (brow c j) (Ret.kc h d)) * Ret.c0
      * KD (ix3 h j 0) * X (ix2 (brow c j) (Ret.vc h e)) := rfl

/-- One head's state after a chunk, computed from the loads the head makes, is the head's part of `stepS`. -/
theorem ld_stepS (c h : Fin 4) (S : Vec Ideal S4x256x512 .f32) (i1 i2 i3 i4 i5 hf) :
    stV (View.ld X (Rect.unit ![128 * c.val, 1024 + 256 * h.val] ![128, 256] i1))
      (View.ld KD (Rect.unit ![h.val, 0, 0] ![1, 128, 1] i2))
      (View.ld X (Rect.unit ![128 * c.val, 2048 + 512 * h.val] ![128, 512] i3))
      (View.ld S (Rect.unit ![h.val, 0, 0] ![1, 256, 512] i4))
      (View.ld CD (Rect.unit ![h.val] ![1] i5) (Shape.Idx.first hf))
    = View.ld (stepS X KD CD c S) (Rect.unit ![h.val, 0, 0] ![1, 256, 512] i4) := by
  funext y
  idx_vars y
  obtain rfl : y0 = 0 := Subsingleton.elim _ _
  rw [stV_apply, ld3 (stepS X KD CD c S) _ 0 y1 y2 h y1 y2 (by simp) (by simp) (by simp), ld3 S _ 0 y1 y2 h y1 y2 (by simp) (by simp) (by simp),
    ld1 CD _ _ h rfl]
  refine congrArg₂ _ rfl (Finset.sum_congr rfl fun j _ => ?_)
  rw [ld2 X _ j y1 (brow c j) (Ret.kc h y1) rfl (by simp [Ret.kc]), ld3 KD _ 0 j 0 h j 0 (by simp) (by simp) (by simp),
    ld2 X _ j y2 (brow c j) (Ret.vc h y2) rfl (by simp [Ret.vc])]
  rfl

/-- The state before the block's chunk `n`, from the state `S` before the block. -/
def blkS (S : Vec Ideal S4x256x512 .f32) : ℕ → Vec Ideal S4x256x512 .f32
  | 0 => S
  | n + 1 => stepS X KD CD (Fin.ofNat 4 n) (blkS S n)

/-- A load of a block that fits. -/
theorem in1 {n a p : ℕ} (h : a + p ≤ n) : ∀ k, ![a] k + ![p] k ≤ (⟨1, ![n]⟩ : Shape).size k :=
  fun k => match k with | ⟨0, _⟩ => h
theorem in2 {n0 n1 a b p q : ℕ} (h : a + p ≤ n0) (h' : b + q ≤ n1) : ∀ k, ![a, b] k + ![p, q] k ≤ (⟨2, ![n0, n1]⟩ : Shape).size k :=
  fun k => match k with | ⟨0, _⟩ => h | ⟨1, _⟩ => h'
theorem in3 {n0 n1 n2 a b c p q l : ℕ} (h : a + p ≤ n0) (h' : b + q ≤ n1) (h'' : c + l ≤ n2) :
    ∀ k, ![a, b, c] k + ![p, q, l] k ≤ (⟨3, ![n0, n1, n2]⟩ : Shape).size k :=
  fun k => match k with | ⟨0, _⟩ => h | ⟨1, _⟩ => h' | ⟨2, _⟩ => h''

/-- The rectangles the heads load: of queries, keys and values, of a head's tables and state, of its output columns. -/
abbrev rq (c h : Fin 4) : Rect S512x4096 := Rect.unit ![128 * c.val, 256 * h.val] ![128, 256] (in2 (by omega) (by omega))
abbrev rk (c h : Fin 4) : Rect S512x4096 := Rect.unit ![128 * c.val, 1024 + 256 * h.val] ![128, 256] (in2 (by omega) (by omega))
abbrev rv (c h : Fin 4) : Rect S512x4096 := Rect.unit ![128 * c.val, 2048 + 512 * h.val] ![128, 512] (in2 (by omega) (by omega))
abbrev rs (h : Fin 4) : Rect S4x256x512 := Rect.unit ![h.val, 0, 0] ![1, 256, 512] (in3 (by omega) (by omega) (by omega))
abbrev rd (h : Fin 4) : Rect S4x128x1 := Rect.unit ![h.val, 0, 0] ![1, 128, 1] (in3 (by omega) (by omega) (by omega))
abbrev rm (h : Fin 4) : Rect S4x128x128 := Rect.unit ![h.val, 0, 0] ![1, 128, 128] (in3 (by omega) (by omega) (by omega))
abbrev rc (h : Fin 4) : Rect S4 := Rect.unit ![h.val] ![1] (in1 (by omega))
abbrev ro (c h : Fin 4) : Rect S512x2048 := Rect.unit ![128 * c.val, 512 * h.val] ![128, 512] (in2 (by omega) (by omega))
theorem rc_pos (h : Fin 4) : 0 < (rc h).shape.numel := Nat.zero_lt_one

/-- Head `h`'s state after the block's chunk `c`, from the loads the head makes and its part `st` of the state before. -/
def ldSt (c h : Fin 4) (st : Vec Ideal S1x256x512 .f32) : Vec Ideal S1x256x512 .f32 :=
  stV (View.ld X (rk c h)) (View.ld KD (rd h)) (View.ld X (rv c h)) st (View.ld CD (rc h) (Shape.Idx.first (rc_pos h)))

/-- Head `h`'s part of the state after the block's chunk 0, 1, 2, 3, chunk by chunk from its part before the block. -/
theorem ldSt0 (S : Vec Ideal S4x256x512 .f32) (h : Fin 4) :
    ldSt X KD CD 0 h (View.ld S (rs h)) = View.ld (blkS X KD CD S 1) (rs h) := ld_stepS X KD CD 0 h S _ _ _ _ _ _
theorem ldSt1 (S : Vec Ideal S4x256x512 .f32) (h : Fin 4) :
    ldSt X KD CD 1 h (ldSt X KD CD 0 h (View.ld S (rs h))) = View.ld (blkS X KD CD S 2) (rs h) := by
  rw [ldSt0]; exact ld_stepS X KD CD 1 h (blkS X KD CD S 1) _ _ _ _ _ _
theorem ldSt2 (S : Vec Ideal S4x256x512 .f32) (h : Fin 4) :
    ldSt X KD CD 2 h (ldSt X KD CD 1 h (ldSt X KD CD 0 h (View.ld S (rs h)))) = View.ld (blkS X KD CD S 3) (rs h) := by
  rw [ldSt1]; exact ld_stepS X KD CD 2 h (blkS X KD CD S 2) _ _ _ _ _ _
theorem ldSt3 (S : Vec Ideal S4x256x512 .f32) (h : Fin 4) :
    ldSt X KD CD 3 h (ldSt X KD CD 2 h (ldSt X KD CD 1 h (ldSt X KD CD 0 h (View.ld S (rs h)))))
      = View.ld (blkS X KD CD S 4) (rs h) := by
  rw [ldSt2]; exact ld_stepS X KD CD 3 h (blkS X KD CD S 3) _ _ _ _ _ _

/-- Head `h`'s output at row `i` of the block's chunk `c`, from the state `S` before the chunk. -/
def outB (S : Vec Ideal S4x256x512 .f32) (c h : Fin 4) (i : Fin 128) (e : Fin 512) : EReal :=
  (∑ j : Fin 128, (∑ d : Fin 256, X (ix2 (brow c i) (Ret.qc h d)) * (X (ix2 (brow c j) (Ret.kc h d)) * Ret.c0)) * DM (ix3 h i j)
      * X (ix2 (brow c j) (Ret.vc h e)))
    + ∑ d : Fin 256, X (ix2 (brow c i) (Ret.qc h d)) * QD (ix3 h i 0) * S (ix3 h d e)

/-- The chunk, the row in it, the head and the column in it of a place of the output block. -/
def pc (y : S512x2048.Idx) : Fin 4 := ⟨(y 0).val / 128, by have h : (y 0).val < 512 := (y 0).isLt; omega⟩
def pr (y : S512x2048.Idx) : Fin 128 := ⟨(y 0).val % 128, Nat.mod_lt _ (by decide)⟩
def ph (y : S512x2048.Idx) : Fin 4 := ⟨(y 1).val / 512, by have h : (y 1).val < 2048 := (y 1).isLt; omega⟩
def pe (y : S512x2048.Idx) : Fin 512 := ⟨(y 1).val % 512, Nat.mod_lt _ (by decide)⟩

/-- The output block, from the state `S` before the block. -/
def yB (S : Vec Ideal S4x256x512 .f32) : Vec Ideal S512x2048 .bf16 := fun y =>
  Ret.gated (outB X DM QD (blkS X KD CD S (pc y).val) (pc y) (ph y) (pr y)) (G (ix2 (brow (pc y) (pr y)) (Ret.oc (ph y) (pe y)))) (pe y)

/-- One head's rows of a chunk, computed from the loads the head makes, are its part of the output block. -/
theorem ld_yB (c h : Fin 4) (S : Vec Ideal S4x256x512 .f32) (i0 i1 i2 i3 i4 i5 i6 i7) :
    gateV (outV (View.ld X (Rect.unit ![128 * c.val, 256 * h.val] ![128, 256] i0))
        (View.ld X (Rect.unit ![128 * c.val, 1024 + 256 * h.val] ![128, 256] i1))
        (View.ld DM (Rect.unit ![h.val, 0, 0] ![1, 128, 128] i2))
        (View.ld QD (Rect.unit ![h.val, 0, 0] ![1, 128, 1] i3))
        (View.ld X (Rect.unit ![128 * c.val, 2048 + 512 * h.val] ![128, 512] i4))
        (View.ld (blkS X KD CD S c.val) (Rect.unit ![h.val, 0, 0] ![1, 256, 512] i5)))
      (View.ld G (Rect.unit ![128 * c.val, 512 * h.val] ![128, 512] i6))
    = View.ld (yB X G DM QD KD CD S) (Rect.unit ![128 * c.val, 512 * h.val] ![128, 512] i7) := by
  funext y
  idx_vars y
  rw [gateV_apply, ld2 (yB X G DM QD KD CD S) _ y0 y1 (brow c y0) (Ret.oc h y1) rfl rfl, ld2 G _ y0 y1 (brow c y0) (Ret.oc h y1) rfl rfl]
  have ec : pc (ix2 (brow c y0) (Ret.oc h y1)) = c := Fin.ext (show (128 * c.val + y0.val) / 128 = c.val by omega)
  have er : pr (ix2 (brow c y0) (Ret.oc h y1)) = y0 := Fin.ext (show (128 * c.val + y0.val) % 128 = y0.val by omega)
  have eh : ph (ix2 (brow c y0) (Ret.oc h y1)) = h := Fin.ext (show (512 * h.val + y1.val) / 512 = h.val by omega)
  have ee : pe (ix2 (brow c y0) (Ret.oc h y1)) = y1 := Fin.ext (show (512 * h.val + y1.val) % 512 = y1.val by omega)
  unfold yB
  rw [ec, er, eh, ee]
  refine congrArg (fun o => Ret.gated o _ y1) (funext fun e => ?_)
  rw [outV_apply]
  unfold outB
  refine congrArg₂ _ (Finset.sum_congr rfl fun j _ => ?_) (Finset.sum_congr rfl fun d _ => ?_)
  · rw [ld3 DM _ 0 y0 j h y0 j (by simp) (by simp) (by simp), ld2 X _ j e (brow c j) (Ret.vc h e) rfl (by simp [Ret.vc])]
    refine congrArg (fun s => s * _ * _) (Finset.sum_congr rfl fun d _ => ?_)
    rw [ld2 X _ y0 d (brow c y0) (Ret.qc h d) rfl (by simp [Ret.qc]), ld2 X _ j d (brow c j) (Ret.kc h d) rfl (by simp [Ret.kc])]
  · rw [ld2 X _ y0 d (brow c y0) (Ret.qc h d) rfl (by simp [Ret.qc]), ld3 QD _ 0 y0 0 h y0 0 (by simp) (by simp) (by simp),
      ld3 (blkS X KD CD S c.val) _ 0 d e h d e (by simp) (by simp) (by simp)]

/-- Head `h`'s rows of the block's chunk `c`, from the loads the head makes and its part `st` of the state before. -/
def ldY (c h : Fin 4) (st : Vec Ideal S1x256x512 .f32) : Vec Ideal S128x512 .bf16 :=
  gateV (outV (View.ld X (rq c h)) (View.ld X (rk c h)) (View.ld DM (rm h)) (View.ld QD (rd h)) (View.ld X (rv c h)) st)
    (View.ld G (ro c h))

/-- Head `h`'s part of the output block in chunk 0, 1, 2, 3. -/
theorem ldY0 (S : Vec Ideal S4x256x512 .f32) (h : Fin 4) :
    ldY X G DM QD 0 h (View.ld S (rs h)) = View.ld (yB X G DM QD KD CD S) (ro 0 h) := ld_yB X G DM QD KD CD 0 h S _ _ _ _ _ _ _ _
theorem ldY1 (S : Vec Ideal S4x256x512 .f32) (h : Fin 4) :
    ldY X G DM QD 1 h (ldSt X KD CD 0 h (View.ld S (rs h))) = View.ld (yB X G DM QD KD CD S) (ro 1 h) := by
  rw [ldSt0]; exact ld_yB X G DM QD KD CD 1 h S _ _ _ _ _ _ _ _
theorem ldY2 (S : Vec Ideal S4x256x512 .f32) (h : Fin 4) :
    ldY X G DM QD 2 h (ldSt X KD CD 1 h (ldSt X KD CD 0 h (View.ld S (rs h)))) = View.ld (yB X G DM QD KD CD S) (ro 2 h) := by
  rw [ldSt1]; exact ld_yB X G DM QD KD CD 2 h S _ _ _ _ _ _ _ _
theorem ldY3 (S : Vec Ideal S4x256x512 .f32) (h : Fin 4) :
    ldY X G DM QD 3 h (ldSt X KD CD 2 h (ldSt X KD CD 1 h (ldSt X KD CD 0 h (View.ld S (rs h)))))
      = View.ld (yB X G DM QD KD CD S) (ro 3 h) := by
  rw [ldSt2]; exact ld_yB X G DM QD KD CD 3 h S _ _ _ _ _ _ _ _

end Cert.KernelIdeal.Ret
-- ==== Proof.RetPoint.lean ====
module

public import proofs.«01_k».proof.Proof.RetBlock

@[expose] public section

set_option maxRecDepth 16384

noncomputable section

namespace Cert.KernelIdeal.Ret

open Idealize.ShloMosaic Idealize.ShloMosaic.TcCoe Idealize.ShloMosaic.Tactic Cert.KernelIdeal Cert.KernelIdeal.Gen
open Idealize.SL Idealize.SL.RA Idealize.SL.BI

variable (m : (ℓ : Loc nD τ sig) → Buf (Elt Ideal) ℓ)

/-- A point that starts no sequence leaves in the state's buffer the state after its block's four chunks. -/
theorem scr_B (c : Dev nD) (t : Fin cfg0.N) (h0 : ¬ t.val % 8 = 0) :
    (outsAt0 m c t.val t.isLt).2 = blkS (iblk m c 1 t) (iblk m c 5 t) (iblk m c 0 t) (outsAt0 m c (t.val - 1) (Nat.lt_of_le_of_lt (Nat.sub_le _ _) t.isLt)).2 4 := by
  rw [outsAt0_B m c t h0]
  frame_open
  simp (disch := decide) only [↓ View.readCov_skip, ↓ View.readCov_cons_toLoadRect, ↓ View.readCov_fill]
  frame_out
  simp only [read_unread_whole]
  generalize (outsAt0 m c (t.val-1) _).2 = S
  funext y
  exact View.canon_append_of_piecesOf _ _ [_, _, _, _]
    ⟨fun x => congrFun (ldSt3 (iblk m c 1 t) (iblk m c 5 t) (iblk m c 0 t) S 3) x,
     fun x => congrFun (ldSt3 (iblk m c 1 t) (iblk m c 5 t) (iblk m c 0 t) S 2) x,
     fun x => congrFun (ldSt3 (iblk m c 1 t) (iblk m c 5 t) (iblk m c 0 t) S 1) x,
     fun x => congrFun (ldSt3 (iblk m c 1 t) (iblk m c 5 t) (iblk m c 0 t) S 0) x, trivial⟩ y
    (View.cover_of_tiledL _ ![1, 256, 512] (by sl_kernel_rfl) y)

/-- A point that starts a sequence does so from the state the reset stores. -/
theorem scr_A (c : Dev nD) (t : Fin cfg0.N) (h0 : t.val % 8 = 0) :
    (outsAt0 m c t.val t.isLt).2 = blkS (iblk m c 1 t) (iblk m c 5 t) (iblk m c 0 t) (k0_pay2 (F := Ideal)) 4 := by
  rw [outsAt0_A m c t h0]
  frame_open
  simp (disch := decide) only [↓ View.readCov_skip, ↓ View.readCov_cons_toLoadRect, ↓ View.readCov_fill]
  frame_out
  generalize (k0_pay2 (F := Ideal)) = S
  funext y
  exact View.canon_append_of_piecesOf _ _ [_, _, _, _]
    ⟨fun x => congrFun (ldSt3 (iblk m c 1 t) (iblk m c 5 t) (iblk m c 0 t) S 3) x,
     fun x => congrFun (ldSt3 (iblk m c 1 t) (iblk m c 5 t) (iblk m c 0 t) S 2) x,
     fun x => congrFun (ldSt3 (iblk m c 1 t) (iblk m c 5 t) (iblk m c 0 t) S 1) x,
     fun x => congrFun (ldSt3 (iblk m c 1 t) (iblk m c 5 t) (iblk m c 0 t) S 0) x, trivial⟩ y
    (View.cover_of_tiledL _ ![1, 256, 512] (by sl_kernel_rfl) y)

set_option maxHeartbeats 4000000 in
/-- What a point that starts no sequence writes to its output block. -/
theorem out_B (c : Dev nD) (t : Fin cfg0.N) (h0 : ¬ t.val % 8 = 0) :
    (outsAt0 m c t.val t.isLt).1 = yB (iblk m c 1 t) (iblk m c 2 t) (iblk m c 3 t) (iblk m c 4 t) (iblk m c 5 t) (iblk m c 0 t) (outsAt0 m c (t.val - 1) (Nat.lt_of_le_of_lt (Nat.sub_le _ _) t.isLt)).2 := by
  rw [outsAt0_B m c t h0]
  frame_open
  simp (disch := decide) only [↓ View.readCov_skip, ↓ View.readCov_cons_toLoadRect, ↓ View.readCov_fill]
  frame_out
  simp only [read_unread_whole]
  generalize (outsAt0 m c (t.val-1) _).2 = S
  funext y
  exact View.canon_append_of_piecesOf _ [] [_, _, _, _, _, _, _, _, _, _, _, _, _, _, _, _]
    ⟨fun x => congrFun (ldY3 (iblk m c 1 t) (iblk m c 2 t) (iblk m c 3 t) (iblk m c 4 t) (iblk m c 5 t) (iblk m c 0 t) S 3) x,
     fun x => congrFun (ldY3 (iblk m c 1 t) (iblk m c 2 t) (iblk m c 3 t) (iblk m c 4 t) (iblk m c 5 t) (iblk m c 0 t) S 2) x,
     fun x => congrFun (ldY3 (iblk m c 1 t) (iblk m c 2 t) (iblk m c 3 t) (iblk m c 4 t) (iblk m c 5 t) (iblk m c 0 t) S 1) x,
     fun x => congrFun (ldY3 (iblk m c 1 t) (iblk m c 2 t) (iblk m c 3 t) (iblk m c 4 t) (iblk m c 5 t) (iblk m c 0 t) S 0) x,
     fun x => congrFun (ldY2 (iblk m c 1 t) (iblk m c 2 t) (iblk m c 3 t) (iblk m c 4 t) (iblk m c 5 t) (iblk m c 0 t) S 3) x,
     fun x => congrFun (ldY2 (iblk m c 1 t) (iblk m c 2 t) (iblk m c 3 t) (iblk m c 4 t) (iblk m c 5 t) (iblk m c 0 t) S 2) x,
     fun x => congrFun (ldY2 (iblk m c 1 t) (iblk m c 2 t) (iblk m c 3 t) (iblk m c 4 t) (iblk m c 5 t) (iblk m c 0 t) S 1) x,
     fun x => congrFun (ldY2 (iblk m c 1 t) (iblk m c 2 t) (iblk m c 3 t) (iblk m c 4 t) (iblk m c 5 t) (iblk m c 0 t) S 0) x,
     fun x => congrFun (ldY1 (iblk m c 1 t) (iblk m c 2 t) (iblk m c 3 t) (iblk m c 4 t) (iblk m c 5 t) (iblk m c 0 t) S 3) x,
     fun x => congrFun (ldY1 (iblk m c 1 t) (iblk m c 2 t) (iblk m c 3 t) (iblk m c 4 t) (iblk m c 5 t) (iblk m c 0 t) S 2) x,
     fun x => congrFun (ldY1 (iblk m c 1 t) (iblk m c 2 t) (iblk m c 3 t) (iblk m c 4 t) (iblk m c 5 t) (iblk m c 0 t) S 1) x,
     fun x => congrFun (ldY1 (iblk m c 1 t) (iblk m c 2 t) (iblk m c 3 t) (iblk m c 4 t) (iblk m c 5 t) (iblk m c 0 t) S 0) x,
     fun x => congrFun (ldY0 (iblk m c 1 t) (iblk m c 2 t) (iblk m c 3 t) (iblk m c 4 t) (iblk m c 5 t) (iblk m c 0 t) S 3) x,
     fun x => congrFun (ldY0 (iblk m c 1 t) (iblk m c 2 t) (iblk m c 3 t) (iblk m c 4 t) (iblk m c 5 t) (iblk m c 0 t) S 2) x,
     fun x => congrFun (ldY0 (iblk m c 1 t) (iblk m c 2 t) (iblk m c 3 t) (iblk m c 4 t) (iblk m c 5 t) (iblk m c 0 t) S 1) x,
     fun x => congrFun (ldY0 (iblk m c 1 t) (iblk m c 2 t) (iblk m c 3 t) (iblk m c 4 t) (iblk m c 5 t) (iblk m c 0 t) S 0) x, trivial⟩ y
    (View.cover_of_tiledL _ ![128, 512] (by sl_kernel_rfl) y)

set_option maxHeartbeats 4000000 in
/-- What a point that starts a sequence writes to its output block. -/
theorem out_A (c : Dev nD) (t : Fin cfg0.N) (h0 : t.val % 8 = 0) :
    (outsAt0 m c t.val t.isLt).1 = yB (iblk m c 1 t) (iblk m c 2 t) (iblk m c 3 t) (iblk m c 4 t) (iblk m c 5 t) (iblk m c 0 t) (k0_pay2 (F := Ideal)) := by
  rw [outsAt0_A m c t h0]
  frame_open
  simp (disch := decide) only [↓ View.readCov_skip, ↓ View.readCov_cons_toLoadRect, ↓ View.readCov_fill]
  frame_out
  generalize (k0_pay2 (F := Ideal)) = S
  funext y
  exact View.canon_append_of_piecesOf _ [] [_, _, _, _, _, _, _, _, _, _, _, _, _, _, _, _]
    ⟨fun x => congrFun (ldY3 (iblk m c 1 t) (iblk m c 2 t) (iblk m c 3 t) (iblk m c 4 t) (iblk m c 5 t) (iblk m c 0 t) S 3) x,
     fun x => congrFun (ldY3 (iblk m c 1 t) (iblk m c 2 t) (iblk m c 3 t) (iblk m c 4 t) (iblk m c 5 t) (iblk m c 0 t) S 2) x,
     fun x => congrFun (ldY3 (iblk m c 1 t) (iblk m c 2 t) (iblk m c 3 t) (iblk m c 4 t) (iblk m c 5 t) (iblk m c 0 t) S 1) x,
     fun x => congrFun (ldY3 (iblk m c 1 t) (iblk m c 2 t) (iblk m c 3 t) (iblk m c 4 t) (iblk m c 5 t) (iblk m c 0 t) S 0) x,
     fun x => congrFun (ldY2 (iblk m c 1 t) (iblk m c 2 t) (iblk m c 3 t) (iblk m c 4 t) (iblk m c 5 t) (iblk m c 0 t) S 3) x,
     fun x => congrFun (ldY2 (iblk m c 1 t) (iblk m c 2 t) (iblk m c 3 t) (iblk m c 4 t) (iblk m c 5 t) (iblk m c 0 t) S 2) x,
     fun x => congrFun (ldY2 (iblk m c 1 t) (iblk m c 2 t) (iblk m c 3 t) (iblk m c 4 t) (iblk m c 5 t) (iblk m c 0 t) S 1) x,
     fun x => congrFun (ldY2 (iblk m c 1 t) (iblk m c 2 t) (iblk m c 3 t) (iblk m c 4 t) (iblk m c 5 t) (iblk m c 0 t) S 0) x,
     fun x => congrFun (ldY1 (iblk m c 1 t) (iblk m c 2 t) (iblk m c 3 t) (iblk m c 4 t) (iblk m c 5 t) (iblk m c 0 t) S 3) x,
     fun x => congrFun (ldY1 (iblk m c 1 t) (iblk m c 2 t) (iblk m c 3 t) (iblk m c 4 t) (iblk m c 5 t) (iblk m c 0 t) S 2) x,
     fun x => congrFun (ldY1 (iblk m c 1 t) (iblk m c 2 t) (iblk m c 3 t) (iblk m c 4 t) (iblk m c 5 t) (iblk m c 0 t) S 1) x,
     fun x => congrFun (ldY1 (iblk m c 1 t) (iblk m c 2 t) (iblk m c 3 t) (iblk m c 4 t) (iblk m c 5 t) (iblk m c 0 t) S 0) x,
     fun x => congrFun (ldY0 (iblk m c 1 t) (iblk m c 2 t) (iblk m c 3 t) (iblk m c 4 t) (iblk m c 5 t) (iblk m c 0 t) S 3) x,
     fun x => congrFun (ldY0 (iblk m c 1 t) (iblk m c 2 t) (iblk m c 3 t) (iblk m c 4 t) (iblk m c 5 t) (iblk m c 0 t) S 2) x,
     fun x => congrFun (ldY0 (iblk m c 1 t) (iblk m c 2 t) (iblk m c 3 t) (iblk m c 4 t) (iblk m c 5 t) (iblk m c 0 t) S 1) x,
     fun x => congrFun (ldY0 (iblk m c 1 t) (iblk m c 2 t) (iblk m c 3 t) (iblk m c 4 t) (iblk m c 5 t) (iblk m c 0 t) S 0) x, trivial⟩ y
    (View.cover_of_tiledL _ ![128, 512] (by sl_kernel_rfl) y)

end Cert.KernelIdeal.Ret

end
-- ==== Proof.RetKernel.lean ====
module

public import proofs.«01_k».proof.Proof.RetPoint
public import Idealize.ShloMosaic.Lib.Claim
public import Idealize.ShloMosaic.Lib.StableHlo.RunRead

@[expose] public section

set_option maxRecDepth 16384

noncomputable section

namespace Cert.KernelIdeal.Ret

open Idealize.ShloMosaic Idealize.ShloMosaic.TcCoe Idealize.ShloMosaic.Tactic Cert.KernelIdeal Cert.KernelIdeal.Gen
open Idealize.SL Idealize.SL.RA Idealize.SL.BI

variable (m : (ℓ : Loc nD τ sig) → Buf (Elt Ideal) ℓ)

theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)

theorem blk1 (c : Dev nD) (t : Fin cfg0.N) (r : Fin 512) (k : Fin 4096) (R : Fin 16384) (hR : R.val = 512 * t.val + r.val) :
    iblk m c 1 t (ix2 r k) = m ((c : Thread nD τ).loc main_arg0) (ix2 R k) := by
  obtain ⟨e0, e1⟩ := idx1 t
  blk_ext [iblk, V, e0, e1]

theorem blk2 (c : Dev nD) (t : Fin cfg0.N) (r : Fin 512) (k : Fin 2048) (R : Fin 16384) (hR : R.val = 512 * t.val + r.val) :
    iblk m c 2 t (ix2 r k) = m ((c : Thread nD τ).loc main_arg1) (ix2 R k) := by
  obtain ⟨e0, e1⟩ := idx2 t
  blk_ext [iblk, V, e0, e1]

theorem idx0 : ∀ t : Fin cfg0.N, win0_0.index t (0 : Fin 1) = 0 :=
  (by decide +kernel : ∀ t : Fin grid0.N, _)
theorem idx3 : ∀ t : Fin cfg0.N, win0_3.index t (0 : Fin 3) = 0 ∧ win0_3.index t (1 : Fin 3) = 0 ∧ win0_3.index t (2 : Fin 3) = 0 :=
  (by decide +kernel : ∀ t : Fin grid0.N, _)
theorem idx4 : ∀ t : Fin cfg0.N, win0_4.index t (0 : Fin 3) = 0 ∧ win0_4.index t (1 : Fin 3) = 0 ∧ win0_4.index t (2 : Fin 3) = 0 :=
  (by decide +kernel : ∀ t : Fin grid0.N, _)
theorem idx5 : ∀ t : Fin cfg0.N, win0_5.index t (0 : Fin 3) = 0 ∧ win0_5.index t (1 : Fin 3) = 0 ∧ win0_5.index t (2 : Fin 3) = 0 :=
  (by decide +kernel : ∀ t : Fin grid0.N, _)
theorem blk0 (c : Dev nD) (t : Fin cfg0.N) (h : Fin 4) :
    iblk m c 0 t (ix1 h) = Ret.tcd h := by
  have e : ((View.whole main_v48).slice (win0_0.rect t)).emb (ix1 h) = ix1 h := by
    have e0 := idx0 t
    blk_ext [e0]
  blk_simp [iblk]
  rw [e]
  unfold V
  after_reads_simp
  pointwise [Ret.tcd, Ret.tkd, Ret.tqd, Ret.tdm, Ret.lg]
theorem blk5 (c : Dev nD) (t : Fin cfg0.N) (h : Fin 4) (j : Fin 128) :
    iblk m c 5 t (ix3 h j 0) = Ret.tkd h j := by
  have e : ((View.whole main_v45).slice (win0_5.rect t)).emb (ix3 h j 0) = ix3 h j 0 := by
    obtain ⟨e0, e1, e2⟩ := idx5 t
    blk_ext [e0, e1, e2]
  blk_simp [iblk]
  rw [e]
  unfold V
  after_reads_simp
  pointwise [Ret.tcd, Ret.tkd, Ret.tqd, Ret.tdm, Ret.lg]
theorem blk4 (c : Dev nD) (t : Fin cfg0.N) (h : Fin 4) (j : Fin 128) :
    iblk m c 4 t (ix3 h j 0) = Ret.tqd h j := by
  have e : ((View.whole main_v35).slice (win0_4.rect t)).emb (ix3 h j 0) = ix3 h j 0 := by
    obtain ⟨e0, e1, e2⟩ := idx4 t
    blk_ext [e0, e1, e2]
  blk_simp [iblk]
  rw [e]
  unfold V
  after_reads_simp
  pointwise [Ret.tcd, Ret.tkd, Ret.tqd, Ret.tdm, Ret.lg]
theorem blk3 (c : Dev nD) (t : Fin cfg0.N) (h : Fin 4) (i j : Fin 128) :
    iblk m c 3 t (ix3 h i j) = Ret.tdm h i j := by
  have e : ((View.whole main_v25).slice (win0_3.rect t)).emb (ix3 h i j) = ix3 h i j := by
    obtain ⟨e0, e1, e2⟩ := idx3 t
    blk_ext [e0, e1, e2]
  blk_simp [iblk]
  rw [e]
  unfold V
  after_reads_simp
  simp only [StableHlo.TRef.toBuf, StableHlo.TRef.ofBuf, cast_eq, id]
  pointwise [Ret.tcd, Ret.tkd, Ret.tqd, Ret.tdm, Ret.lg]

/-! ## What the state's buffer holds after every point -/

/-- The projection and the gate, as launched on device `c`. -/
def xOf (c : Dev nD) (r : Fin 16384) (k : Fin 4096) : EReal := m ((c : Thread nD τ).loc main_arg0) (ix2 r k)
def gOf (c : Dev nD) (r : Fin 16384) (k : Fin 2048) : EReal := m ((c : Thread nD τ).loc main_arg1) (ix2 r k)

/-- From the state before a point's four chunks, the state before its chunk `k`. -/
theorem blkS_eq (c : Dev nD) (t : Fin cfg0.N) (b : Fin 4) (n : ℕ) (hn : n + 4 ≤ 32) (ht : 4 * t.val = 32 * b.val + n)
    (S : Vec Ideal S4x256x512 .f32) (hS : ∀ h d e, S (ix3 h d e) = Ret.state (xOf m c) Ret.tkd Ret.tcd b n h d e) :
    ∀ k, k ≤ 4 → ∀ h d e, blkS (iblk m c 1 t) (iblk m c 5 t) (iblk m c 0 t) S k (ix3 h d e)
      = Ret.state (xOf m c) Ret.tkd Ret.tcd b (n + k) h d e := by
  intro k
  induction k with
  | zero => exact fun _ h d e => hS h d e
  | succ k ih =>
    intro hk h d e
    show stepS (iblk m c 1 t) (iblk m c 5 t) (iblk m c 0 t) (Fin.ofNat 4 k) (blkS (iblk m c 1 t) (iblk m c 5 t) (iblk m c 0 t) S k) (ix3 h d e) = _
    rw [stepS_apply, ih (by omega) h d e, blk0]
    show _ = Ret.state (xOf m c) Ret.tkd Ret.tcd b (n + k) h d e * Ret.tcd h + Ret.kv (xOf m c) Ret.tkd (Ret.chunk b (n + k)) h d e
    refine congrArg _ (Finset.sum_congr rfl fun j _ => ?_)
    have hr : (Ret.row (Ret.chunk b (n + k)) j).val = 512 * t.val + (brow (Fin.ofNat 4 k) j).val := by
      show 128 * ((32 * b.val + (n + k)) % 128) + j.val = 512 * t.val + (128 * (k % 4) + j.val)
      omega
    rw [blk5, blk1 m c t _ _ _ hr, blk1 m c t _ _ _ hr]
    rfl

/-- The state the reset stores is 0. -/
theorem reset_apply (h : Fin 4) (d : Fin 256) (e : Fin 512) : k0_pay2 (F := Ideal) (ix3 h d e) = 0 := by
  pointwise [k0_pay2]

/-- After point `n` the state's buffer holds the state after the point's four chunks. -/
theorem scratch_eq (c : Dev nD) : ∀ (n : ℕ) (hn : n < cfg0.N) (b : Fin 4) (s : ℕ), s < 8 → n = 8 * b.val + s → ∀ h d e,
    (outsAt0 m c n hn).2 (ix3 h d e) = Ret.state (xOf m c) Ret.tkd Ret.tcd b (4 * s + 4) h d e := by
  intro n
  induction n with
  | zero =>
    intro hn b s hs hb h d e
    obtain rfl : s = 0 := by omega
    exact (congrFun (scr_A m c ⟨0, hn⟩ rfl) _).trans
      (blkS_eq m c ⟨0, hn⟩ b 0 (by omega) (by show 4 * 0 = _; omega) _ (fun h d e => reset_apply h d e) 4 le_rfl h d e)
  | succ n ih =>
    intro hn b s hs hb h d e
    by_cases h0 : (n + 1) % 8 = 0
    · obtain rfl : s = 0 := by omega
      exact (congrFun (scr_A m c ⟨n + 1, hn⟩ h0) _).trans
        (blkS_eq m c ⟨n + 1, hn⟩ b 0 (by omega) (by show 4 * (n + 1) = _; omega) _ (fun h d e => reset_apply h d e) 4 le_rfl h d e)
    · exact (congrFun (scr_B m c ⟨n + 1, hn⟩ h0) _).trans
        (blkS_eq m c ⟨n + 1, hn⟩ b (4 * s) (by omega) (by show 4 * (n + 1) = _; omega) _
          (fun h d e => (ih (Nat.lt_of_succ_lt hn) b (s - 1) (by omega) (by omega) h d e).trans
            (by rw [show 4 * (s - 1) + 4 = 4 * s by omega])) 4 le_rfl h d e)

/-! ## The result -/

/-- From the state before a point's four chunks, the output block is the layer's result at its rows. -/
theorem yB_eq (c : Dev nD) (t : Fin cfg0.N) (b : Fin 4) (n : ℕ) (hn : n + 4 ≤ 32) (ht : 4 * t.val = 32 * b.val + n)
    (S : Vec Ideal S4x256x512 .f32) (hS : ∀ h d e, S (ix3 h d e) = Ret.state (xOf m c) Ret.tkd Ret.tcd b n h d e)
    (y : S512x2048.Idx) :
    yB (iblk m c 1 t) (iblk m c 2 t) (iblk m c 3 t) (iblk m c 4 t) (iblk m c 5 t) (iblk m c 0 t) S y
      = Ret.result (xOf m c) (gOf m c) Ret.tdm Ret.tqd Ret.tkd Ret.tcd b ⟨n + (pc y).val, by omega⟩ (pr y) (ph y) (pe y) := by
  have hr : ∀ j, (Ret.row (Ret.chunk b (n + (pc y).val)) j).val = 512 * t.val + (brow (pc y) j).val := fun j => by
    show 128 * ((32 * b.val + (n + (pc y).val)) % 128) + j.val = 512 * t.val + (128 * (pc y).val + j.val)
    have := (pc y).isLt
    omega
  unfold yB Ret.result
  rw [blk2 m c t _ _ _ (hr (pr y))]
  refine congrArg (fun o => Ret.gated o _ (pe y)) (funext fun e => ?_)
  unfold outB Ret.out
  refine congrArg₂ _ (Finset.sum_congr rfl fun j _ => ?_) (Finset.sum_congr rfl fun d _ => ?_)
  · rw [blk3, blk1 m c t _ _ _ (hr j)]
    refine congrArg (fun s => s * _ * _) (Finset.sum_congr rfl fun d _ => ?_)
    rw [blk1 m c t _ _ _ (hr (pr y)), blk1 m c t _ _ _ (hr j)]
    rfl
  · rw [blk4, blk1 m c t _ _ _ (hr (pr y)), blkS_eq m c t b n hn ht S hS (pc y).val (by omega)]
    rfl

/-- What point `t` leaves in its output block: the layer's result at its rows. -/
theorem out_eq (c : Dev nD) (t : Fin cfg0.N) (b : Fin 4) (s : ℕ) (hs : s < 8) (ht : t.val = 8 * b.val + s) (y : S512x2048.Idx) :
    (outsAt0 m c t.val t.isLt).1 y
      = Ret.result (xOf m c) (gOf m c) Ret.tdm Ret.tqd Ret.tkd Ret.tcd b ⟨4 * s + (pc y).val, by omega⟩ (pr y) (ph y) (pe y) := by
  by_cases h0 : t.val % 8 = 0
  · obtain rfl : s = 0 := by omega
    exact (congrFun (out_A m c t h0) y).trans
      (yB_eq m c t b 0 (by omega) (by omega) _ (fun h d e => reset_apply h d e) y)
  · exact (congrFun (out_B m c t h0) y).trans
      (yB_eq m c t b (4 * s) (by omega) (by omega) _
        (fun h d e => (scratch_eq m c (t.val - 1) _ b (s - 1) (by omega) (by omega) h d e).trans
          (by rw [show 4 * (s - 1) + 4 = 4 * s by omega])) y)

/-- THE RESULT ARRAY after the run is the layer's result of the launched projection and gate. -/
theorem final_apply (c : Dev nD) (R : Fin 16384) (C : Fin 2048) :
    Value.G6 m c (ix2 R C) = Ret.resultAt (xOf m c) (gOf m c) Ret.tdm Ret.tqd Ret.tkd Ret.tcd R C := by
  have hp : Value.pt6Of (ix2 R C) = R.val / 512 := by
    show 1 * (R.val / 512 - 0) + 1 * (C.val / 2048 - 0) = R.val / 512
    have := C.isLt
    omega
  have hN : R.val / 512 < cfg0.N := lt_of_lt_of_eq (by omega) N_0.symm
  unfold Value.G6
  rw [dif_pos (by rw [hp]; exact hN)]
  have e := Value.outsAt0_sweep m c (R.val / 512) hN
  rw [Value.fold0_congr m c _ _ _ (by omega) hp, ← e,
    out_eq m c ⟨R.val / 512, hN⟩ ⟨R.val / 4096, by omega⟩ (R.val / 512 % 8) (by omega) (by show R.val / 512 = 8 * (R.val / 4096) + _; omega)]
  unfold Ret.resultAt
  congr 1
  all_goals (apply Fin.ext)
  · show 4 * (R.val / 512 % 8) + R.val % 512 / 128 = R.val % 4096 / 128; omega
  · show R.val % 512 % 128 = R.val % 128; omega
  · show C.val % 2048 / 512 = C.val / 512; have := C.isLt; omega
  · show C.val % 2048 % 512 = C.val % 512; omega

end Cert.KernelIdeal.Ret

end
-- ==== Proof.RetRefEntry.lean ====
module

public import proofs.«01_k».proof.Proof.RetSpec
public import proofs.«01_k».proof.Proof.Gen.ReferenceIdeal.Run
public import Idealize.ShloMosaic.Lib.StableHlo.RunRead
public import Idealize.ShloMosaic.Lib.Pipeline.ValueKit

/-! # What the retention reference computes before its loop over the chunks

Queries, gate, query decay, each chunk's own part of the output, and each chunk's contribution to the state, each read
at an index. -/

@[expose] public section

set_option maxRecDepth 16384

noncomputable section

namespace Cert.ReferenceIdeal.Ret

open Idealize.ShloMosaic Idealize.ShloMosaic.TcCoe Idealize.ShloMosaic.Tactic Idealize.ShloMosaic.StableHlo
open Cert.ReferenceIdeal Cert.ReferenceIdeal.Gen Cert.ReferenceIdeal.Value

variable (m : (ℓ : Loc nD τ sig) → Buf (Elt Ideal) ℓ)

/-- The projection, by row and column. -/
def xOf (c : Dev nD) (r : Fin 16384) (k : Fin 4096) : EReal := m ((c : Thread nD τ).loc main_arg0) (ix2 r k)
/-- The gate, by row and column. -/
def gOf (c : Dev nD) (r : Fin 16384) (k : Fin 2048) : EReal := m ((c : Thread nD τ).loc main_arg1) (ix2 r k)

/-- The projection at any spelling of row and column. -/
theorem x_at (c : Dev nD) (r r' : Fin 16384) (k k' : Fin 4096) (hr : r.val = r'.val) (hk : k.val = k'.val) :
    launchContents m c (Proc.devRef .tc main_arg0) (ix2 r k) = xOf m c r' k' := by
  obtain rfl := Fin.ext hr
  obtain rfl := Fin.ext hk
  rfl

/-- A factor moved out of a choice whose other branch is zero. -/
theorem sel_mul (p : BitVec 1) (v s e : EReal) : Scalar.select p (v * (s * e)) 0 = s * Scalar.select p e 0 * v := by
  unfold Scalar.select
  split
  · exact mul_comm _ _
  · rw [mul_zero, zero_mul]

theorem chunk_val (b : Fin 4) (n : Fin 32) : (Ret.chunk b n.val).val = 32 * b.val + n.val := by
  show (32 * b.val + n.val) % 128 = _
  omega

/-- A chunk's row at its position in the whole array. -/
theorem at_row (x : Fin 16384 → Fin 4096 → EReal) (b : Fin 4) (n : Fin 32) (i : Fin 128) (k k' : Fin 4096) (hk : k.val = k'.val) :
    x ⟨b.val * 4096 + (n.val * 128 + i.val), by omega⟩ k = x (Ret.row (Ret.chunk b n.val) i) k' := by
  have hc := chunk_val b n
  have hr : (⟨b.val * 4096 + (n.val * 128 + i.val), by omega⟩ : Fin 16384) = Ret.row (Ret.chunk b n.val) i :=
    Fin.ext (by show b.val * 4096 + (n.val * 128 + i.val) = 128 * (Ret.chunk b n.val).val + i.val; omega)
  rw [hr, Fin.ext hk]

/-- A chunk's own part of the output, by position in the whole array. -/
theorem inner_eq (x : Fin 16384 → Fin 4096 → EReal) (b : Fin 4) (n : Fin 32) (i : Fin 128) (h : Fin 4) (e : Fin 512) :
    (∑ j : Fin 128, Scalar.select (IntOp.cmpi CmpIPredicate.sge (IntOp.subi (BitVec.ofNat 32 i.val) (BitVec.ofNat 32 j.val)) 0#32)
        (x ⟨b.val * 4096 + (n.val * 128 + j.val), by omega⟩ ⟨2048 + (h.val * 512 + e.val), by omega⟩
          * ((∑ d : Fin 256, x ⟨b.val * 4096 + (n.val * 128 + i.val), by omega⟩ ⟨h.val * 256 + d.val, by omega⟩
              * (x ⟨b.val * 4096 + (n.val * 128 + j.val), by omega⟩ ⟨1024 + (h.val * 256 + d.val), by omega⟩
                * Ideal.ofBits FTy.f32 1031798784#32))
            * Ideal.exp (Ideal.log1p (-Ideal.exp (Ideal.ofBits FTy.f32 1060205080#32
                  * (Ideal.ofBits FTy.f32 3231711232#32 - FloatOps.sitofp (F := Ideal) FTy.f32 (BitVec.ofNat 32 h.val))))
                * FloatOps.sitofp (F := Ideal) FTy.f32 (IntOp.maxsi (IntOp.subi (BitVec.ofNat 32 i.val) (BitVec.ofNat 32 j.val)) 0#32))))
        0)
      = ∑ j : Fin 128, (∑ d : Fin 256, x (Ret.row (Ret.chunk b n.val) i) (Ret.qc h d)
          * (x (Ret.row (Ret.chunk b n.val) j) (Ret.kc h d) * Ret.c0)) * Ret.tdm h i j
          * x (Ret.row (Ret.chunk b n.val) j) (Ret.vc h e) := by
  refine Finset.sum_congr rfl fun j _ => ?_
  rw [sel_mul, at_row x b n j _ (Ret.vc h e) (by show 2048 + (h.val * 512 + e.val) = 2048 + 512 * h.val + e.val; omega)]
  simp only [Ret.tdm, Ret.lg, Ret.c0]
  congr 2
  refine Finset.sum_congr rfl fun d _ => ?_
  rw [at_row x b n i _ (Ret.qc h d) (by show h.val * 256 + d.val = 256 * h.val + d.val; omega),
    at_row x b n j _ (Ret.kc h d) (by show 1024 + (h.val * 256 + d.val) = 1024 + 256 * h.val + d.val; omega)]

/-- What a chunk adds to the state, by position in the whole array. -/
theorem kv_eq (x : Fin 16384 → Fin 4096 → EReal) (b : Fin 4) (n : Fin 32) (h : Fin 4) (d : Fin 256) (e : Fin 512) :
    (∑ j : Fin 128, x ⟨b.val * 4096 + (n.val * 128 + j.val), by omega⟩ ⟨1024 + (h.val * 256 + d.val), by omega⟩
          * Ideal.ofBits FTy.f32 1031798784#32
          * Ideal.exp (Ideal.log1p (-Ideal.exp (Ideal.ofBits FTy.f32 1060205080#32
                * (Ideal.ofBits FTy.f32 3231711232#32 - FloatOps.sitofp (F := Ideal) FTy.f32 (BitVec.ofNat 32 h.val))))
              * FloatOps.sitofp (F := Ideal) FTy.f32 (IntOp.subi (127#32) (BitVec.ofNat 32 j.val)))
          * x ⟨b.val * 4096 + (n.val * 128 + j.val), by omega⟩ ⟨2048 + (h.val * 512 + e.val), by omega⟩)
      = Ret.kv x Ret.tkd (Ret.chunk b n.val) h d e := by
  refine Finset.sum_congr rfl fun j _ => ?_
  rw [at_row x b n j _ (Ret.kc h d) (by show 1024 + (h.val * 256 + d.val) = 1024 + 256 * h.val + d.val; omega),
    at_row x b n j _ (Ret.vc h e) (by show 2048 + (h.val * 512 + e.val) = 2048 + 512 * h.val + e.val; omega)]
  simp only [Ret.tkd, Ret.lg, Ret.c0]

set_option maxHeartbeats 8000000 in
/-- A chunk's own part of the output. -/
theorem e_v44 (c : Dev nD) (b : Fin 4) (n : Fin 32) (i : Fin 128) (h : Fin 4) (e : Fin 512) :
    @Eq EReal (entryContents preI m c (Proc.devRef .tc main_v44) (ix5 b n i h e))
      (∑ j : Fin 128, (∑ d : Fin 256, xOf m c (Ret.row (Ret.chunk b n.val) i) (Ret.qc h d)
          * (xOf m c (Ret.row (Ret.chunk b n.val) j) (Ret.kc h d) * Ret.c0)) * Ret.tdm h i j
          * xOf m c (Ret.row (Ret.chunk b n.val) j) (Ret.vc h e)) := by
  rw [← inner_eq]
  simp only [entryContents, afterL_cons, afterL_nil]
  after_reads_simp
  simp only [StableHlo.TRef.toBuf, StableHlo.TRef.ofBuf, cast_eq, id]
  pointwise
  simp only [xOf, launchContents]
  done

set_option maxHeartbeats 8000000 in
/-- What a chunk adds to the state. -/
theorem e_v76_0 (c : Dev nD) (n : Fin 32) (b : Fin 4) (h : Fin 4) (d : Fin 256) (e : Fin 512) :
    @Eq EReal (entryContents preI m c (Proc.devRef .tc main_v76_0) (ix5 n b h d e))
      (Ret.kv (xOf m c) Ret.tkd (Ret.chunk b n.val) h d e) := by
  rw [← kv_eq]
  simp only [entryContents, afterL_cons, afterL_nil]
  after_reads_simp
  simp only [id]
  pointwise
  simp only [xOf, launchContents]
  done

/-- The gate. -/
theorem e_v4 (c : Dev nD) (b : Fin 4) (t : Fin 4096) (k : Fin 2048) :
    @Eq EReal (entryContents preI m c (Proc.devRef .tc main_v4) (ix3 b t k))
      (gOf m c ⟨b.val * 4096 + t.val, by omega⟩ k) := by
  simp only [entryContents, afterL_cons, afterL_nil]
  after_reads_simp
  pointwise
  rfl

/-- The queries. -/
theorem e_v6 (c : Dev nD) (b : Fin 4) (n : Fin 32) (i : Fin 128) (h : Fin 4) (d : Fin 256) :
    @Eq EReal (entryContents preI m c (Proc.devRef .tc main_v6) (ix5 b n i h d))
      (xOf m c (Ret.row (Ret.chunk b n.val) i) (Ret.qc h d)) := by
  simp only [entryContents, afterL_cons, afterL_nil]
  after_reads_simp
  pointwise
  have hc := chunk_val b n
  exact x_at m c ⟨b.val * 4096 + (n.val * 128 + i.val), by omega⟩ (Ret.row (Ret.chunk b n.val) i) ⟨h.val * 256 + d.val, by omega⟩ (Ret.qc h d)
    (by show _ = 128 * (Ret.chunk b n.val).val + i.val; rw [hc]; show b.val * 4096 + (n.val * 128 + i.val) = _; omega) (by show h.val * 256 + d.val = 256 * h.val + d.val; omega)

/-- The query decay. -/
theorem e_v53 (c : Dev nD) (h : Fin 4) (i : Fin 128) :
    @Eq EReal (entryContents preI m c (Proc.devRef .tc main_v53) (ix2 h i))
      (Ret.tqd h i) := by
  simp only [entryContents, afterL_cons, afterL_nil]
  after_reads_simp
  pointwise
  rfl

/-- The decay across a chunk. -/
theorem e_v76_1 (c : Dev nD) (a : Fin 1) (h : Fin 4) (d e : Fin 1) :
    @Eq EReal (entryContents preI m c (Proc.devRef .tc main_v76_1) (ix4 a h d e))
      (Ret.tcd h) := by
  simp only [entryContents, afterL_cons, afterL_nil]
  after_reads_simp
  simp only [id]
  pointwise
  rfl

/-- The state before the first chunk. -/
theorem e_v76_3 (c : Dev nD) (b : Fin 4) (h : Fin 4) (d : Fin 256) (e : Fin 512) :
    @Eq EReal (entryContents preI m c (Proc.devRef .tc main_v76_3) (ix4 b h d e))
      (0) := by
  simp only [entryContents, afterL_cons, afterL_nil]
  after_reads_simp
  simp only [id]
  pointwise

end Cert.ReferenceIdeal.Ret
-- ==== Proof.RetRef.lean ====
module

public import proofs.«01_k».proof.Proof.RetRefEntry
public import Idealize.ShloMosaic.Lib.DynamicIndex

/-! # The retention reference's loop over the chunks, and its result -/

@[expose] public section

set_option maxRecDepth 16384

noncomputable section

namespace Cert.ReferenceIdeal.Ret

open Idealize.ShloMosaic Idealize.ShloMosaic.TcCoe Idealize.ShloMosaic.Tactic Idealize.ShloMosaic.StableHlo
open Cert.ReferenceIdeal Cert.ReferenceIdeal.Gen Cert.ReferenceIdeal.Value

variable (m : (ℓ : Loc nD τ sig) → Buf (Elt Ideal) ℓ)

/-! ## Buffers read as numbers -/

/-- The gate in `V`. -/
abbrev r4 (V : Valuation τ sig (Elt Ideal)) (b : Fin 4) (t : Fin 4096) (k : Fin 2048) : EReal := V (Proc.devRef .tc main_v4) (ix3 b t k)
/-- The queries in `V`. -/
abbrev r6 (V : Valuation τ sig (Elt Ideal)) (b : Fin 4) (n : Fin 32) (i : Fin 128) (h : Fin 4) (d : Fin 256) : EReal := V (Proc.devRef .tc main_v6) (ix5 b n i h d)
/-- The chunks' own part of the output in `V`. -/
abbrev r44 (V : Valuation τ sig (Elt Ideal)) (b : Fin 4) (n : Fin 32) (i : Fin 128) (h : Fin 4) (e : Fin 512) : EReal := V (Proc.devRef .tc main_v44) (ix5 b n i h e)
/-- The query decay in `V`. -/
abbrev r53 (V : Valuation τ sig (Elt Ideal)) (h : Fin 4) (i : Fin 128) : EReal := V (Proc.devRef .tc main_v53) (ix2 h i)
/-- The chunks' contributions to the state in `V`. -/
abbrev r760 (V : Valuation τ sig (Elt Ideal)) (n : Fin 32) (b h : Fin 4) (d : Fin 256) (e : Fin 512) : EReal := V (Proc.devRef .tc main_v76_0) (ix5 n b h d e)
/-- The decay across a chunk in `V`. -/
abbrev r761 (V : Valuation τ sig (Elt Ideal)) (h : Fin 4) : EReal := V (Proc.devRef .tc main_v76_1) (ix4 (0 : Fin 1) h (0 : Fin 1) (0 : Fin 1))
/-- The carried state in `V`. -/
abbrev r763 (V : Valuation τ sig (Elt Ideal)) (b h : Fin 4) (d : Fin 256) (e : Fin 512) : EReal := V (Proc.devRef .tc main_v76_3) (ix4 b h d e)
/-- The recorded states in `V`. -/
abbrev r764 (V : Valuation τ sig (Elt Ideal)) (n : Fin 32) (b h : Fin 4) (d : Fin 256) (e : Fin 512) : EReal := V (Proc.devRef .tc main_v76_4) (ix5 n b h d e)

/-! ## One trip, at an index -/

/-- Contents whose counter is `n`: the starts of the slice at `n` along the chunks, at zero along the rest. -/
theorem start_lt (V : Valuation τ sig (Elt Ideal)) (n : Fin 32)
    (hV : V (Proc.devRef .tc main_v76_2) = fun _ => BitVec.ofNat 32 n.val) (k : Fin 5) :
    (((![V (Proc.devRef .tc main_v76_2), constantI S_ 32 0#32, constantI S_ 32 0#32, constantI S_ 32 0#32, constantI S_ 32 0#32]
      : Fin 5 → (⟨S_, .i32⟩ : BufTy).Contents (Elt Ideal))) k (Shape.Idx.first h_S_)).toInt
      = (((![n.val, 0, 0, 0, 0] : Fin 5 → ℕ) k : ℕ) : Int) := by
  fin_cases k
  · show (V (Proc.devRef .tc main_v76_2) (Shape.Idx.first h_S_)).toInt = _
    rw [hV]
    exact toInt_ofNat_of_lt (by have := n.isLt; omega)
  all_goals rfl

/-- One slab of the chunks' array cut out at slab `n`. -/
theorem slab_read (x : S32x4x4x256x512.Idx → EReal) (start : Fin 5 → Int) (hf : S32x4x4x256x512.Slices (fun _ => 0) S1x4x4x256x512)
    (n : Fin 32) (hs : ∀ k : Fin 5, start k = (((![n.val, 0, 0, 0, 0] : Fin 5 → ℕ) k : ℕ) : Int))
    (b h : Fin 4) (d : Fin 256) (e : Fin 512) :
    Host.dynamicSlice S1x4x4x256x512 x start hf (ix5 (0 : Fin 1) b h d e) = x (ix5 n b h d e) := by
  have hn := n.isLt
  have hcs : ∀ a : Fin 5, Host.clampedStart S32x4x4x256x512 S1x4x4x256x512 hf.1 start a = (![n.val, 0, 0, 0, 0] : Fin 5 → ℕ) a := by
    intro a
    refine Host.clampedStart_of_le hf.1 start a _ (hs a) ?_
    fin_cases a
    · show n.val + 1 ≤ 32; omega
    · show 0 + 4 ≤ 4; omega
    · show 0 + 4 ≤ 4; omega
    · show 0 + 256 ≤ 256; omega
    · show 0 + 512 ≤ 512; omega
  rw [Host.dynamicSlice_apply]
  congr 1
  funext a
  have ha := hcs a
  fin_cases a
  · exact Fin.ext (by show Host.clampedStart _ _ _ _ 0 + 0 = n.val; exact ha)
  · exact Fin.ext (by show Host.clampedStart _ _ _ _ 1 + b.val = b.val; rw [show Host.clampedStart S32x4x4x256x512 S1x4x4x256x512 hf.1 start 1 = 0 from ha]; omega)
  · exact Fin.ext (by show Host.clampedStart _ _ _ _ 2 + h.val = h.val; rw [show Host.clampedStart S32x4x4x256x512 S1x4x4x256x512 hf.1 start 2 = 0 from ha]; omega)
  · exact Fin.ext (by show Host.clampedStart _ _ _ _ 3 + d.val = d.val; rw [show Host.clampedStart S32x4x4x256x512 S1x4x4x256x512 hf.1 start 3 = 0 from ha]; omega)
  · exact Fin.ext (by show Host.clampedStart _ _ _ _ 4 + e.val = e.val; rw [show Host.clampedStart S32x4x4x256x512 S1x4x4x256x512 hf.1 start 4 = 0 from ha]; omega)

/-- One slab of the chunks' array replaced at slab `n`. -/
theorem slab_write (x : S32x4x4x256x512.Idx → EReal) (u : S1x4x4x256x512.Idx → EReal) (start : Fin 5 → Int)
    (hf : S32x4x4x256x512.Slices (fun _ => 0) S1x4x4x256x512)
    (n : Fin 32) (hs : ∀ k : Fin 5, start k = (((![n.val, 0, 0, 0, 0] : Fin 5 → ℕ) k : ℕ) : Int))
    (n' : Fin 32) (b h : Fin 4) (d : Fin 256) (e : Fin 512) :
    Host.dynamicUpdateSlice x u start hf (ix5 n' b h d e) = if n' = n then u (ix5 (0 : Fin 1) b h d e) else x (ix5 n' b h d e) := by
  have hn := n.isLt
  have hcs : ∀ a : Fin 5, Host.clampedStart S32x4x4x256x512 S1x4x4x256x512 hf.1 start a = (![n.val, 0, 0, 0, 0] : Fin 5 → ℕ) a := by
    intro a
    refine Host.clampedStart_of_le hf.1 start a _ (hs a) ?_
    fin_cases a
    · show n.val + 1 ≤ 32; omega
    · show 0 + 4 ≤ 4; omega
    · show 0 + 4 ≤ 4; omega
    · show 0 + 256 ≤ 256; omega
    · show 0 + 512 ≤ 512; omega
  rw [Host.dynamicUpdateSlice_apply]
  by_cases hnn : n' = n
  · subst hnn
    rw [if_pos rfl, dif_pos (by
      intro a
      rw [hcs a]
      fin_cases a
      · show n'.val ≤ n'.val ∧ n'.val < n'.val + 1; omega
      · show 0 ≤ b.val ∧ b.val < 0 + 4; omega
      · show 0 ≤ h.val ∧ h.val < 0 + 4; omega
      · show 0 ≤ d.val ∧ d.val < 0 + 256; omega
      · show 0 ≤ e.val ∧ e.val < 0 + 512; omega)]
    congr 1
    funext a
    have ha := hcs a
    fin_cases a
    · exact Fin.ext (by show n'.val - Host.clampedStart _ _ _ _ 0 = 0; rw [show Host.clampedStart S32x4x4x256x512 S1x4x4x256x512 hf.1 start 0 = n'.val from ha]; omega)
    · exact Fin.ext (by show b.val - Host.clampedStart _ _ _ _ 1 = b.val; rw [show Host.clampedStart S32x4x4x256x512 S1x4x4x256x512 hf.1 start 1 = 0 from ha]; omega)
    · exact Fin.ext (by show h.val - Host.clampedStart _ _ _ _ 2 = h.val; rw [show Host.clampedStart S32x4x4x256x512 S1x4x4x256x512 hf.1 start 2 = 0 from ha]; omega)
    · exact Fin.ext (by show d.val - Host.clampedStart _ _ _ _ 3 = d.val; rw [show Host.clampedStart S32x4x4x256x512 S1x4x4x256x512 hf.1 start 3 = 0 from ha]; omega)
    · exact Fin.ext (by show e.val - Host.clampedStart _ _ _ _ 4 = e.val; rw [show Host.clampedStart S32x4x4x256x512 S1x4x4x256x512 hf.1 start 4 = 0 from ha]; omega)
  · rw [if_neg hnn, dif_neg (fun hall => hnn (Fin.ext (by
      have h0 := hall 0
      rw [hcs 0] at h0
      have h1 : n.val ≤ n'.val ∧ n'.val < n.val + 1 := h0
      omega)))]

/-- A slab's leading axis dropped. -/
theorem slab_cast (y : S1x4x4x256x512.Idx → EReal) (b h : Fin 4) (d : Fin 256) (e : Fin 512) :
    shapeCast S4x4x256x512 y shapeCasts_S1x4x4x256x512_S4x4x256x512 (ix4 b h d e) = y (ix5 (0 : Fin 1) b h d e) := by
  pointwise

/-- A state as a slab. -/
theorem slab_broadcast (y : S4x4x256x512.Idx → EReal) (b h : Fin 4) (d : Fin 256) (e : Fin 512) :
    broadcastInDim S1x4x4x256x512 ![1, 2, 3, 4] bcast_S4x4x256x512_S1x4x4x256x512_1_2_3_4 y (ix5 (0 : Fin 1) b h d e) = y (ix4 b h d e) := by
  pointwise

/-- The decay spread over the state. -/
theorem decay_read (y : S1x4x1x1.Idx → EReal) (b h : Fin 4) (d : Fin 256) (e : Fin 512) :
    broadcastInDim S4x4x256x512 ![0, 1, 2, 3] bcast_S1x4x1x1_S4x4x256x512_0_1_2_3 y (ix4 b h d e) = y (ix4 (0 : Fin 1) h (0 : Fin 1) (0 : Fin 1)) := by
  pointwise

/-- The state after a trip: decayed, plus the chunk's contribution. -/
theorem step3 (V : Valuation τ sig (Elt Ideal)) (n : Fin 32) (hV : V (Proc.devRef .tc main_v76_2) = fun _ => BitVec.ofNat 32 n.val)
    (b h : Fin 4) (d : Fin 256) (e : Fin 512) :
    @Eq EReal (step_main_v76_3 V (ix4 b h d e)) ((r763 V b h d e) * (r761 V h)
      + (r760 V n b h d e)) := by
  unfold step_main_v76_3
  exact congrArg₂ (fun p q : EReal => p + q) (congrArg (fun p : EReal => r763 V b h d e * p) (decay_read _ b h d e))
    ((slab_cast _ b h d e).trans (slab_read _ _ _ n (start_lt V n hV) b h d e))

/-- The recorded states after a trip: the state before it recorded at the chunk. -/
theorem step4 (V : Valuation τ sig (Elt Ideal)) (n : Fin 32) (hV : V (Proc.devRef .tc main_v76_2) = fun _ => BitVec.ofNat 32 n.val)
    (n' : Fin 32) (b h : Fin 4) (d : Fin 256) (e : Fin 512) :
    @Eq EReal (step_main_v76_4 V (ix5 n' b h d e)) (if n' = n then r763 V b h d e else r764 V n' b h d e) := by
  unfold step_main_v76_4
  refine (slab_write (V (Proc.devRef .tc main_v76_4)) (broadcastInDim S1x4x4x256x512 ![1, 2, 3, 4] bcast_S4x4x256x512_S1x4x4x256x512_1_2_3_4 (V (Proc.devRef .tc main_v76_3))) _ _ n (start_lt V n hV) n' b h d e).trans ?_
  rw [slab_broadcast (V (Proc.devRef .tc main_v76_3)) b h d e]

/-- A buffer no trip writes keeps its contents at the loop's entry. -/
theorem kept (c : Dev nD) (r : Ref sig .tc)
    (h : ∀ V : Valuation τ sig (Elt Ideal), afterL bodyI (after condOps V) (Proc.devRef .tc r) = V (Proc.devRef .tc r)) :
    ∀ k, atK m k c (Proc.devRef .tc r) = entryContents preI m c (Proc.devRef .tc r)
  | 0 => rfl
  | k + 1 => (h (atK m k c)).trans (kept c r h k)

theorem kept_v76_0 (V : Valuation τ sig (Elt Ideal)) : afterL bodyI (after condOps V) (Proc.devRef .tc main_v76_0) = V (Proc.devRef .tc main_v76_0) :=
  (trip_agree V main_v76_0 (by decide)).trans (STEP_main_v76_0 V)
theorem kept_v76_1 (V : Valuation τ sig (Elt Ideal)) : afterL bodyI (after condOps V) (Proc.devRef .tc main_v76_1) = V (Proc.devRef .tc main_v76_1) :=
  (trip_agree V main_v76_1 (by decide)).trans (STEP_main_v76_1 V)

theorem kept_v53 (V : Valuation τ sig (Elt Ideal)) : afterL bodyI (after condOps V) (Proc.devRef .tc main_v53) = V (Proc.devRef .tc main_v53) := by
  simp only [bodyI, afterL_cons, afterL_nil]
  rw [after_of_writes_sub while0Ops0_3 _ while0Ops0_3_writes (by decide +kernel), after_of_writes_sub while0Ops0_2 _ while0Ops0_2_writes (by decide +kernel),
    after_of_writes_sub while0Ops0_1 _ while0Ops0_1_writes (by decide +kernel), after_of_writes_sub while0Ops0 _ while0Ops0_writes (by decide +kernel),
    after_of_writes_sub condOps _ condOps_writes (by decide +kernel)]
theorem kept_v6 (V : Valuation τ sig (Elt Ideal)) : afterL bodyI (after condOps V) (Proc.devRef .tc main_v6) = V (Proc.devRef .tc main_v6) := by
  simp only [bodyI, afterL_cons, afterL_nil]
  rw [after_of_writes_sub while0Ops0_3 _ while0Ops0_3_writes (by decide +kernel), after_of_writes_sub while0Ops0_2 _ while0Ops0_2_writes (by decide +kernel),
    after_of_writes_sub while0Ops0_1 _ while0Ops0_1_writes (by decide +kernel), after_of_writes_sub while0Ops0 _ while0Ops0_writes (by decide +kernel),
    after_of_writes_sub condOps _ condOps_writes (by decide +kernel)]
theorem kept_v44 (V : Valuation τ sig (Elt Ideal)) : afterL bodyI (after condOps V) (Proc.devRef .tc main_v44) = V (Proc.devRef .tc main_v44) := by
  simp only [bodyI, afterL_cons, afterL_nil]
  rw [after_of_writes_sub while0Ops0_3 _ while0Ops0_3_writes (by decide +kernel), after_of_writes_sub while0Ops0_2 _ while0Ops0_2_writes (by decide +kernel),
    after_of_writes_sub while0Ops0_1 _ while0Ops0_1_writes (by decide +kernel), after_of_writes_sub while0Ops0 _ while0Ops0_writes (by decide +kernel),
    after_of_writes_sub condOps _ condOps_writes (by decide +kernel)]
theorem kept_v4 (V : Valuation τ sig (Elt Ideal)) : afterL bodyI (after condOps V) (Proc.devRef .tc main_v4) = V (Proc.devRef .tc main_v4) := by
  simp only [bodyI, afterL_cons, afterL_nil]
  rw [after_of_writes_sub while0Ops0_3 _ while0Ops0_3_writes (by decide +kernel), after_of_writes_sub while0Ops0_2 _ while0Ops0_2_writes (by decide +kernel),
    after_of_writes_sub while0Ops0_1 _ while0Ops0_1_writes (by decide +kernel), after_of_writes_sub while0Ops0 _ while0Ops0_writes (by decide +kernel),
    after_of_writes_sub condOps _ condOps_writes (by decide +kernel)]

/-! ## All trips -/

/-- The counter before trip `k`. -/
theorem ctr (c : Dev nD) (k : ℕ) : atK m k c (Proc.devRef .tc main_v76_2) = fun _ => BitVec.ofNat 32 k := by
  rw [atK_ctr]
  funext _
  show Scf.iv 0#32 1#32 k = _
  simp [Scf.iv]

/-- The carried state before trip `k` is the state before chunk `k`. -/
theorem state_at (c : Dev nD) (b h : Fin 4) (d : Fin 256) (e : Fin 512) : ∀ k, k ≤ 32 →
    (r763 (atK m k c) b h d e) = Ret.state (xOf m c) Ret.tkd Ret.tcd b k h d e
  | 0, _ => e_v76_3 m c b h d e
  | k + 1, hk => by
    have hs : r763 (atK m (k + 1) c) b h d e = step_main_v76_3 (atK m k c) (ix4 b h d e) :=
      congrFun ((trip_agree (atK m k c) main_v76_3 (by decide)).trans (STEP_main_v76_3 _)) (ix4 b h d e)
    have h0 : r760 (atK m k c) ⟨k, by omega⟩ b h d e = Ret.kv (xOf m c) Ret.tkd (Ret.chunk b k) h d e :=
      (congrFun (kept m c _ kept_v76_0 k) (ix5 _ b h d e)).trans (e_v76_0 m c ⟨k, by omega⟩ b h d e)
    have h1 : r761 (atK m k c) h = Ret.tcd h :=
      (congrFun (kept m c _ kept_v76_1 k) (ix4 0 h 0 0)).trans (e_v76_1 m c 0 h 0 0)
    rw [hs, step3 _ ⟨k, by omega⟩ (ctr m c k), state_at c b h d e k (by omega), h0, h1]
    rfl

/-- The recorded states before trip `k`: those before the earlier chunks. -/
theorem states_at (c : Dev nD) (n : Fin 32) (b h : Fin 4) (d : Fin 256) (e : Fin 512) : ∀ k, k ≤ 32 → n.val < k →
    (r764 (atK m k c) n b h d e) = Ret.state (xOf m c) Ret.tkd Ret.tcd b n.val h d e
  | 0, _, hn => absurd hn (by omega)
  | k + 1, hk, hn => by
    have hs : r764 (atK m (k + 1) c) n b h d e = step_main_v76_4 (atK m k c) (ix5 n b h d e) :=
      congrFun ((trip_agree (atK m k c) main_v76_4 (by decide)).trans (STEP_main_v76_4 _)) (ix5 n b h d e)
    rw [hs, step4 _ ⟨k, by omega⟩ (ctr m c k)]
    by_cases hkn : n.val = k
    · rw [if_pos (Fin.ext hkn), state_at m c b h d e k (by omega), hkn]
    · rw [if_neg (fun he => hkn (congrArg Fin.val he))]
      exact states_at c n b h d e k (by omega) (by omega)

/-! ## After the loop -/

/-- A row's position: its sequence, its chunk in the sequence, its row in the chunk. -/
theorem row_eq (R : Fin 16384) : R = Ret.row (Ret.chunk ⟨R.val / 4096, by omega⟩ (R.val % 4096 / 128)) ⟨R.val % 128, by omega⟩ :=
  Fin.ext (by show R.val = 128 * ((32 * (R.val / 4096) + R.val % 4096 / 128) % 128) + R.val % 128; omega)

/-- What the operations after the loop leave, given what they read. -/
theorem post (V : Valuation τ sig (Elt Ideal)) (x : Fin 16384 → Fin 4096 → EReal) (g : Fin 16384 → Fin 2048 → EReal)
    (dm : Fin 4 → Fin 128 → Fin 128 → EReal) (qd kd : Fin 4 → Fin 128 → EReal) (cd : Fin 4 → EReal)
    (h4 : ∀ (b : Fin 4) (t : Fin 4096) (k : Fin 2048), (r4 V b t k) = g ⟨b.val * 4096 + t.val, by omega⟩ k)
    (h44 : ∀ (b : Fin 4) (n : Fin 32) (i : Fin 128) (h : Fin 4) (e : Fin 512), (r44 V b n i h e)
      = ∑ j : Fin 128, (∑ d : Fin 256, x (Ret.row (Ret.chunk b n.val) i) (Ret.qc h d)
          * (x (Ret.row (Ret.chunk b n.val) j) (Ret.kc h d) * Ret.c0)) * dm h i j
          * x (Ret.row (Ret.chunk b n.val) j) (Ret.vc h e))
    (h764 : ∀ (n : Fin 32) (b h : Fin 4) (d : Fin 256) (e : Fin 512), (r764 V n b h d e) = Ret.state x kd cd b n.val h d e)
    (h6 : ∀ (b : Fin 4) (n : Fin 32) (i : Fin 128) (h : Fin 4) (d : Fin 256), (r6 V b n i h d) = x (Ret.row (Ret.chunk b n.val) i) (Ret.qc h d))
    (h53 : ∀ (h : Fin 4) (i : Fin 128), (r53 V h i) = qd h i)
    (R : Fin 16384) (C : Fin 2048) :
    @Eq EReal (afterL postI V (Proc.devRef .tc main_v100) (ix2 R C)) (Ret.resultAt x g dm qd kd cd R C) := by
  have ho : ∀ e : Fin 512, (r44 V (⟨R.val / 4096, by omega⟩ : Fin 4) (⟨R.val % 4096 / 128, by omega⟩ : Fin 32) (⟨R.val % 4096 % 128, by omega⟩ : Fin 128) (⟨C.val / 512, by omega⟩ : Fin 4) e)
      + ∑ d : Fin 256, (r764 V (⟨R.val % 4096 / 128, by omega⟩ : Fin 32) (⟨R.val / 4096, by omega⟩ : Fin 4) (⟨C.val / 512, by omega⟩ : Fin 4) d e)
        * ((r6 V (⟨R.val / 4096, by omega⟩ : Fin 4) (⟨R.val % 4096 / 128, by omega⟩ : Fin 32) (⟨R.val % 4096 % 128, by omega⟩ : Fin 128) (⟨C.val / 512, by omega⟩ : Fin 4) d)
        * (r53 V (⟨C.val / 512, by omega⟩ : Fin 4) (⟨R.val % 4096 % 128, by omega⟩ : Fin 128)))
      = Ret.out x dm qd (Ret.state x kd cd ⟨R.val / 4096, by omega⟩ (R.val % 4096 / 128)) (Ret.chunk ⟨R.val / 4096, by omega⟩ (R.val % 4096 / 128)) ⟨C.val / 512, by omega⟩
        ⟨R.val % 128, by omega⟩ e := by
    intro e
    have hi : (⟨R.val % 4096 % 128, by omega⟩ : Fin 128) = ⟨R.val % 128, by omega⟩ := Fin.ext (by show R.val % 4096 % 128 = R.val % 128; omega)
    rw [hi]
    unfold Ret.out
    congr 1
    · exact h44 _ _ _ _ e
    · refine Finset.sum_congr rfl fun d _ => ?_
      rw [h764, h6, h53, mul_comm]
  have hg : (r4 V (⟨R.val / 4096, by omega⟩ : Fin 4) (⟨R.val % 4096, by omega⟩ : Fin 4096) C) = g R C := by
    rw [h4]; congr 1; exact Fin.ext (by show R.val / 4096 * 4096 + R.val % 4096 = R.val; omega)
  simp only [afterL_cons, afterL_nil]
  after_reads_simp
  simp only [StableHlo.TRef.toBuf, StableHlo.TRef.ofBuf, cast_eq, id]
  pointwise
  simp only [r4, r6, r44, r53, r764] at ho hg
  simp only [ho, hg]
  have hrow := (row_eq R).symm
  have hcol : Ret.oc ⟨C.val / 512, by omega⟩ ⟨C.val % 512, by omega⟩ = C := Fin.ext (by show 512 * (C.val / 512) + C.val % 512 = C.val; omega)
  simp only [Ret.resultAt, Ret.result, Ret.gated, hrow, hcol, Ret.c512, Ret.eps]

/-- What the reference leaves in its result. -/
theorem final_apply (c : Dev nD) (R : Fin 16384) (C : Fin 2048) :
    @Eq EReal (finalContents condOps preI bodyI postI 32 m c (Proc.devRef .tc main_v100) (ix2 R C))
      (Ret.resultAt (xOf m c) (gOf m c) Ret.tdm Ret.tqd Ret.tkd Ret.tcd R C) := by
  have hk : ∀ (r : Ref sig .tc), (∀ V : Valuation τ sig (Elt Ideal), afterL bodyI (after condOps V) (Proc.devRef .tc r) = V (Proc.devRef .tc r)) →
      after condOps (atK m 32 c) (Proc.devRef .tc r) = atK m 32 c (Proc.devRef .tc r) →
      after condOps (atK m 32 c) (Proc.devRef .tc r) = entryContents preI m c (Proc.devRef .tc r) :=
    fun r hb ha => ha.trans (kept m c r hb 32)
  refine post (after condOps (atK m 32 c)) (xOf m c) (gOf m c) Ret.tdm Ret.tqd Ret.tkd Ret.tcd ?_ ?_ ?_ ?_ ?_ R C
  · intro b t k
    exact (congrFun (hk _ kept_v4 (after_of_writes_sub condOps _ condOps_writes (by decide +kernel))) (ix3 b t k)).trans (e_v4 m c b t k)
  · intro b n i h e
    exact (congrFun (hk _ kept_v44 (after_of_writes_sub condOps _ condOps_writes (by decide +kernel))) (ix5 b n i h e)).trans (e_v44 m c b n i h e)
  · intro n b h d e
    exact (congrFun (after_of_writes_sub condOps (atK m 32 c) condOps_writes (r := main_v76_4) (by decide +kernel)) (ix5 n b h d e)).trans
      (states_at m c n b h d e 32 le_rfl n.isLt)
  · intro b n i h d
    exact (congrFun (hk _ kept_v6 (after_of_writes_sub condOps _ condOps_writes (by decide +kernel))) (ix5 b n i h d)).trans (e_v6 m c b n i h d)
  · intro h i
    exact (congrFun (hk _ kept_v53 (after_of_writes_sub condOps _ condOps_writes (by decide +kernel))) (ix2 h i)).trans (e_v53 m c h i)

end Cert.ReferenceIdeal.Ret
-- ==== Proof.RetClaim.lean ====
module

public import proofs.«01_k».proof.Defs
public import proofs.«01_k».proof.Proof.RetKernel
public import proofs.«01_k».proof.Proof.RetRef
public import proofs.«01_k».proof.Proof.Gen.Kernel.Frame
public import proofs.«01_k».proof.Proof.Gen.KernelIdeal.Frame
public import Idealize.ShloMosaic.Lib.Claim
public import Idealize.ShloMosaic.Adequacy
public import Idealize.ShloMosaic.Init

/-! # The claims about retention -/

@[expose] public section

set_option maxRecDepth 16384

noncomputable section

namespace Cert.ReferenceIdeal.Ret

open Idealize.ShloMosaic Idealize.ShloMosaic.TcCoe Idealize.ShloMosaic.Tactic Idealize.ShloMosaic.StableHlo
open Cert.ReferenceIdeal Cert.ReferenceIdeal.Gen Cert.ReferenceIdeal.Value

variable (m : (ℓ : Loc nD τ sig) → Buf (Elt Ideal) ℓ)

/-- A buffer that no stretch of the reference writes ends as it began. -/
theorem final_unwritten (c : Dev nD) (r : Ref sig .tc)
    (h0 : r ∉ hostOps0_W) (h1 : r ∉ hostOps0_1_W) (h2 : r ∉ hostOps0_2_W) (hpost : ∀ V : Valuation τ sig (Elt Ideal), afterL postI V (Proc.devRef .tc r) = V (Proc.devRef .tc r))
    (hc : r ∉ condOps_W) (b0 : r ∉ while0Ops0_W) (b1 : r ∉ while0Ops0_1_W) (b2 : r ∉ while0Ops0_2_W) (b3 : r ∉ while0Ops0_3_W) :
    finalContents condOps preI bodyI postI 32 m c (Proc.devRef .tc r) = m ((c : Thread nD τ).loc r) := by
  have hk : ∀ V : Valuation τ sig (Elt Ideal), afterL bodyI (after condOps V) (Proc.devRef .tc r) = V (Proc.devRef .tc r) := by
    intro V
    simp only [bodyI, afterL_cons, afterL_nil]
    rw [after_of_writes_sub while0Ops0_3 _ while0Ops0_3_writes b3, after_of_writes_sub while0Ops0_2 _ while0Ops0_2_writes b2,
      after_of_writes_sub while0Ops0_1 _ while0Ops0_1_writes b1, after_of_writes_sub while0Ops0 _ while0Ops0_writes b0,
      after_of_writes_sub condOps _ condOps_writes hc]
  have hp : afterL postI (after condOps (atK m 32 c)) (Proc.devRef .tc r) = atK m 32 c (Proc.devRef .tc r) := by
    rw [hpost, after_of_writes_sub condOps _ condOps_writes hc]
  have he : entryContents preI m c (Proc.devRef .tc r) = m ((c : Thread nD τ).loc r) := by
    simp only [entryContents, preI, afterL_cons, afterL_nil]
    rw [after_of_writes_sub hostOps0_2 _ hostOps0_2_writes h2, after_of_writes_sub hostOps0_1 _ hostOps0_1_writes h1,
      after_of_writes_sub hostOps0 _ hostOps0_writes h0]
  exact hp.trans ((kept m c r hk 32).trans he)

theorem final_arg0 (c : Dev nD) : finalContents condOps preI bodyI postI 32 m c (Proc.devRef .tc main_arg0) = m ((c : Thread nD τ).loc main_arg0) :=
  final_unwritten m c main_arg0 (by decide +kernel) (by decide +kernel) (by decide +kernel) (fun V => by simp only [afterL_cons, afterL_nil]; after_reads_simp)
    (by decide +kernel) (by decide +kernel) (by decide +kernel) (by decide +kernel) (by decide +kernel)

theorem final_arg1 (c : Dev nD) : finalContents condOps preI bodyI postI 32 m c (Proc.devRef .tc main_arg1) = m ((c : Thread nD τ).loc main_arg1) :=
  final_unwritten m c main_arg1 (by decide +kernel) (by decide +kernel) (by decide +kernel) (fun V => by simp only [afterL_cons, afterL_nil]; after_reads_simp)
    (by decide +kernel) (by decide +kernel) (by decide +kernel) (by decide +kernel) (by decide +kernel)

/-- The reference's run: its result, and its arguments unchanged. -/
theorem run (ρ : Dev nD → PrngReg) : θ_run (defs (F := Ideal)) (onTc (τ := τ) (main (F := Ideal))) ⟨m, fun _ => 0, ρ⟩ fun r => ∀ c : Dev nD,
      r.2.mem ((c : Thread nD τ).loc main_v100) = finalContents condOps preI bodyI postI 32 m c (Proc.devRef .tc main_v100)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨h c main_v100 rfl, (h c main_arg0 rfl).trans (final_arg0 m c), (h c main_arg1 rfl).trans (final_arg1 m c)⟩)
    (run_fold m ρ)

end Cert.ReferenceIdeal.Ret

namespace Cert.Proof.Ret

open Idealize.ShloMosaic Idealize.ShloMosaic.TcCoe Idealize.SL.Sem

/-- Retention's frame. -/
theorem frame_kernel : Cert.quiescent_Kernel (hKernel := Cert.Kernel.Gen.facts) :=
  fun m ρ _ => Cert.Kernel.Gen.frame m ρ

/-- The frame of retention over the extended reals. -/
theorem frame_kernelIdeal : Cert.quiescent_KernelIdeal (hKernelIdeal := Cert.KernelIdeal.Gen.facts) :=
  fun m ρ _ => Cert.KernelIdeal.Gen.frame m ρ

/-- The frame of retention's reference: it declares no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Ret.run m ρ)

/-- Retention and its reference, from the same arguments, leave the same result. -/
theorem algebraic : Cert.algebraic_KernelIdeal_ReferenceIdeal (hKernelIdeal := Cert.KernelIdeal.Gen.facts)
    (hReferenceIdeal := Cert.ReferenceIdeal.Gen.facts) := by
  intro m ρ m' ρ' _ hagree
  refine ⟨Cert.KernelIdeal.Value.G6 m, Cert.KernelIdeal.Value.run m ρ,
    (θ_run Cert.ReferenceIdeal.defs _ _).mono (fun r h c => ⟨(h c).1.trans ?_, (h c).2⟩) (Cert.ReferenceIdeal.Ret.run m' ρ')⟩
  funext i
  obtain ⟨R, C, rfl⟩ : ∃ (R : Fin 16384) (C : Fin 2048), i = ix2 R C := ⟨_, _, eq_ix2 i⟩
  refine (Cert.ReferenceIdeal.Ret.final_apply m' c R C).trans (Eq.trans ?_ (Cert.KernelIdeal.Ret.final_apply m c R C).symm)
  have hx : Cert.ReferenceIdeal.Ret.xOf m' c = Cert.KernelIdeal.Ret.xOf m c := by
    funext a b
    exact congrFun (hagree c).1 (ix2 a b)
  have hg : Cert.ReferenceIdeal.Ret.gOf m' c = Cert.KernelIdeal.Ret.gOf m c := by
    funext a b
    exact congrFun (hagree c).2 (ix2 a b)
  rw [hx, hg]

end Cert.Proof.Ret

end
-- ==== Proof.TailSpec.lean ====
module

public import Idealize.ShloMosaic.Lib.Pointwise

/-! # A layer's tail, as a formula

The output projection of a mixer with its residual, the norm, the squared-ReLU MLP with its residual, and the last norm.
`mix` is the mixer's output, `h` the residual stream, `g` the MLP norm's gain, `wo`, `wu`, `wd` the weights, `fg` the last
norm's gain. -/

@[expose] public section

noncomputable section

namespace Tail

open Idealize.ShloMosaic

/-- The number of columns of the stream, 1024. -/
def c1024 : EReal := Ideal.ofBits FTy.f32 0x44800000#32
/-- The norms' ε. -/
def eps : EReal := Ideal.ofBits FTy.f32 0x358637BD#32

/-- A row `x` normed and scaled by `g`, at column `c`. -/
def rms (x g : Fin 1024 → EReal) (c : Fin 1024) : EReal :=
  x c * Ideal.rsqrt (Ideal.div (∑ c' : Fin 1024, x c' * x c') c1024 + eps) * g c

/-- The stream after the mixer: a row of the stream plus the mixer's row through the output projection. -/
def mixed {K : ℕ} (mix : Fin K → EReal) (wo : Fin K → Fin 1024 → EReal) (h : Fin 1024 → EReal) (c : Fin 1024) : EReal :=
  h c + ∑ k : Fin K, mix k * wo k c

/-- The hidden layer: a normed row through the up projection, its positive part. -/
def hidden (x : Fin 1024 → EReal) (wu : Fin 1024 → Fin 4096 → EReal) (f : Fin 4096) : EReal :=
  max (∑ c : Fin 1024, x c * wu c f) 0

/-- The MLP with its residual. -/
def mlp (h1 g : Fin 1024 → EReal) (wu : Fin 1024 → Fin 4096 → EReal) (wd : Fin 4096 → Fin 1024 → EReal) (c : Fin 1024) : EReal :=
  h1 c + ∑ f : Fin 4096, hidden (rms h1 g) wu f * hidden (rms h1 g) wu f * wd f c

/-- One row of a layer's tail. -/
def row {K : ℕ} (mix : Fin K → EReal) (wo : Fin K → Fin 1024 → EReal) (h g : Fin 1024 → EReal)
    (wu : Fin 1024 → Fin 4096 → EReal) (wd : Fin 4096 → Fin 1024 → EReal) : Fin 1024 → EReal :=
  mlp (mixed mix wo h) g wu wd

end Tail

end
-- ==== Proof.TailLastKernel.lean ====
module

public import proofs.«01_k».proof.Proof.TailSpec
public import proofs.«01_k».proof.Proof.Gen.Kernel2Ideal.Value
public import Idealize.ShloMosaic.Lib.Claim
public import Idealize.ShloMosaic.Lib.StableHlo.RunRead
public import Idealize.ShloMosaic.Lib.Pipeline.ValueKit
public import Idealize.ShloMosaic.Lib.Pointwise

/-! # The tail of the last layer: what the kernel leaves

The grid's point `t` works on rows `512 t … 512 t + 511` of the mixer's output and of the stream, and holds the layer's
weights whole. Each row it writes is the tail's formula (`TailSpec`) of that row. -/

@[expose] public section

set_option maxRecDepth 16384

noncomputable section

namespace Cert.Kernel2Ideal.Tail

open Idealize.ShloMosaic Idealize.ShloMosaic.TcCoe Idealize.ShloMosaic.Tactic Cert.Kernel2Ideal Cert.Kernel2Ideal.Gen
open Idealize.SL Idealize.SL.RA Idealize.SL.BI

/-! ## The body's arithmetic -/

/-- A row of the block before the last norm is the layer's tail of the rows of the body's operands. -/
theorem pay_row (P0 : FVec Ideal S512x1024 .f32) (P1 : FVec Ideal S512x1024 .bf16) (P2 : FVec Ideal S1x1024x1024 .bf16) (P3 : FVec Ideal S1x1024 .f32)
    (P4 : FVec Ideal S1x1024x4096 .bf16) (P5 : FVec Ideal S1x4096x1024 .bf16) (r : Fin 512) (c : Fin 1024) :
    k0_pay2 (F := Ideal) P0 P1 P2 P3 P4 P5 (ix2 r c) = Tail.row (fun k : Fin 1024 => P1 (ix2 r k)) (fun k c => P2 (ix3 (0 : Fin 1) k c)) (fun c => P0 (ix2 r c))
      (fun c => P3 (ix2 (0 : Fin 1) c)) (fun c f => P4 (ix3 (0 : Fin 1) c f)) (fun f c => P5 (ix3 (0 : Fin 1) f c)) c := by
  pointwise [k0_pay2]
  rfl

/-- A row of the block the body writes is the last norm of that row. -/
theorem pay_norm (H : FVec Ideal S512x1024 .f32) (P6 : FVec Ideal S1x1024 .f32) (r : Fin 512) (c : Fin 1024) :
    k0_pay1 (F := Ideal) H (k0_pay3 P6) (mulf H H) (ix2 r c) = Tail.rms (fun c => H (ix2 r c)) (fun c => P6 (ix2 (0 : Fin 1) c)) c := by
  pointwise [k0_pay1, k0_pay3]
  rfl

/-! ## The blocks a point reads -/

variable (m : (ℓ : Loc nD τ sig) → Buf (Elt Ideal) ℓ)

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 3) = 1 ∧ win0_1.index t (1 : Fin 3) = 0 ∧ win0_1.index t (2 : Fin 3) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 3) = 3 ∧ win0_4.index t (1 : Fin 3) = 0 ∧ win0_4.index t (2 : Fin 3) = 0 :=
  (by decide +kernel : ∀ t : Fin grid0.N, _)
theorem idx5 : ∀ t : Fin cfg0.N, win0_5.index t (0 : Fin 3) = 3 ∧ win0_5.index t (1 : Fin 3) = 0 ∧ win0_5.index t (2 : Fin 3) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = t.val ∧ win0_7.index t (1 : Fin 2) = 0 :=
  (by decide +kernel : ∀ t : Fin grid0.N, _)

/-- Row `r` of point `t`'s block of the mixer's output is row `512 t + r` of it. -/
theorem blk0 (c : Dev nD) (t : Fin cfg0.N) (r : Fin 512) (k : Fin 1024) (R : Fin 16384) (hR : R.val = 512 * t.val + r.val) :
    iblk m c 0 t (ix2 r k) = m ((c : Thread nD τ).loc main_arg0) (ix2 R k) := by
  obtain ⟨e0, e1⟩ := idx0 t
  blk_ext [iblk, V, e0, e1]

/-- Row `r` of point `t`'s block of the stream is row `512 t + r` of it. -/
theorem blk2 (c : Dev nD) (t : Fin cfg0.N) (r : Fin 512) (k : Fin 1024) (R : Fin 16384) (hR : R.val = 512 * t.val + r.val) :
    iblk m c 2 t (ix2 r k) = m ((c : Thread nD τ).loc main_arg1) (ix2 R k) := by
  obtain ⟨e0, e1⟩ := idx2 t
  blk_ext [iblk, V, e0, e1]

/-- The block of the output projection is matrix 1 of the weights. -/
theorem blk1 (c : Dev nD) (t : Fin cfg0.N) (i : Fin 1024) (j : Fin 1024) :
    iblk m c 1 t (ix3 (0 : Fin 1) i j) = m ((c : Thread nD τ).loc main_arg4) (ix3 (1 : Fin 2) i j) := by
  have e : ((View.whole main_v0).slice (win0_1.rect t)).emb (ix3 (0 : Fin 1) i j) = ix3 (1 : Fin 2) i j := by
    obtain ⟨e0, e1, e2⟩ := idx1 t
    blk_ext [e0, e1, e2]
  blk_simp [iblk]
  rw [e]
  unfold V
  after_reads_simp
  pointwise

/-- The block of the up projection is matrix 3 of the weights. -/
theorem blk4 (c : Dev nD) (t : Fin cfg0.N) (i : Fin 1024) (j : Fin 4096) :
    iblk m c 4 t (ix3 (0 : Fin 1) i j) = m ((c : Thread nD τ).loc main_arg5) (ix3 (3 : Fin 4) i j) := by
  have e : ((View.whole main_v3).slice (win0_4.rect t)).emb (ix3 (0 : Fin 1) i j) = ix3 (3 : Fin 4) i j := by
    obtain ⟨e0, e1, e2⟩ := idx4 t
    blk_ext [e0, e1, e2]
  blk_simp [iblk]
  rw [e]
  unfold V
  after_reads_simp
  pointwise

/-- The block of the down projection is matrix 3 of the weights. -/
theorem blk5 (c : Dev nD) (t : Fin cfg0.N) (i : Fin 4096) (j : Fin 1024) :
    iblk m c 5 t (ix3 (0 : Fin 1) i j) = m ((c : Thread nD τ).loc main_arg6) (ix3 (3 : Fin 4) i j) := by
  have e : ((View.whole main_v4).slice (win0_5.rect t)).emb (ix3 (0 : Fin 1) i j) = ix3 (3 : Fin 4) i j := by
    obtain ⟨e0, e1, e2⟩ := idx5 t
    blk_ext [e0, e1, e2]
  blk_simp [iblk]
  rw [e]
  unfold V
  after_reads_simp
  pointwise

/-- The block of gains is row 3 of the MLP norms' gains. -/
theorem blk3 (c : Dev nD) (t : Fin cfg0.N) (k : Fin 1024) :
    iblk m c 3 t (ix2 (0 : Fin 1) k) = m ((c : Thread nD τ).loc main_arg2) (ix2 (3 : Fin 4) k) := by
  have e : ((View.whole main_v5).slice (win0_3.rect t)).emb (ix2 (0 : Fin 1) k) = ix2 (0 : Fin 1) k := by
    obtain ⟨e0, e1⟩ := idx3 t
    blk_ext [e0, e1]
  blk_simp [iblk]
  rw [e]
  unfold V
  after_reads_simp
  pointwise

/-- The block of gains is the last norm's gain. -/
theorem blk6 (c : Dev nD) (t : Fin cfg0.N) (k : Fin 1024) :
    iblk m c 6 t (ix2 (0 : Fin 1) k) = m ((c : Thread nD τ).loc main_arg3) (ix1 k) := by
  have e : ((View.whole main_v6).slice (win0_6.rect t)).emb (ix2 (0 : Fin 1) k) = ix2 (0 : Fin 1) k := by
    obtain ⟨e0, e1⟩ := idx6 t
    blk_ext [e0, e1]
  blk_simp [iblk]
  rw [e]
  unfold V
  after_reads_simp
  pointwise

/-! ## The result -/

/-- Row `R` of the result, from the arguments. -/
def res (c : Dev nD) (R : Fin 16384) : Fin 1024 → EReal :=
  Tail.rms (Tail.row (fun k : Fin 1024 => m ((c : Thread nD τ).loc main_arg0) (ix2 R k)) (fun k C => m ((c : Thread nD τ).loc main_arg4) (ix3 (1 : Fin 2) k C))
    (fun C => m ((c : Thread nD τ).loc main_arg1) (ix2 R C)) (fun C => m ((c : Thread nD τ).loc main_arg2) (ix2 (3 : Fin 4) C))
    (fun C f => m ((c : Thread nD τ).loc main_arg5) (ix3 (3 : Fin 4) C f)) (fun f C => m ((c : Thread nD τ).loc main_arg6) (ix3 (3 : Fin 4) f C))) (fun C => m ((c : Thread nD τ).loc main_arg3) (ix1 C))
/-- The result, from the arguments. -/
def G (c : Dev nD) : S16384x1024.Idx → EReal := fun i => res m c (i 0) (i 1)
theorem points : cfg0.N = 32 := by decide +kernel
/-- The row of the arrays that row `r` of point `t`'s block is. -/
def rowOf (t : Fin cfg0.N) (r : Fin 512) : Fin 16384 := ⟨512 * t.val + r.val, by have := t.isLt; have := points; omega⟩

/-- What point `t` leaves in its block of the result. -/
theorem point (c : Dev nD) (t : Fin cfg0.N) (r : Fin 512) (C : Fin 1024) :
    @Eq EReal (k0_pay1 (F := Ideal) (k0_pay2 (iblk m c 2 t) (iblk m c 0 t) (iblk m c 1 t) (iblk m c 3 t) (iblk m c 4 t) (iblk m c 5 t)) (k0_pay3 (iblk m c 6 t))
      (k0_pay4 (iblk m c 2 t) (iblk m c 0 t) (iblk m c 1 t) (iblk m c 3 t) (iblk m c 4 t) (iblk m c 5 t)) (ix2 r C))
      (res m c (rowOf t r) C) := by
  refine (pay_norm _ _ r C).trans ?_
  simp only [pay_row, blk0 m c t r _ (rowOf t r) rfl, blk1 m c t, blk2 m c t r _ (rowOf t r) rfl, blk3 m c t, blk4 m c t, blk5 m c t, blk6 m c t]
  rfl

/-- The array the run leaves is the formula at every row. -/
theorem final (c : Dev nD) : (dats m 0 c).arrAt 7 cfg0.N = G m c := by
  refine (dats m 0 c).arrAt_eq_of_covers 7 _ (by decide +kernel) fun t hf y => ?_
  blk_simp
  rw [after0_7]
  frame_out
  obtain ⟨r, C, rfl⟩ : ∃ (r : Fin 512) (C : Fin 1024), y = ix2 r C := ⟨_, _, eq_ix2 y⟩
  refine (point m c t r C).trans ?_
  have e : ((View.whole main_v7).slice (win0_7.rect t)).emb (ix2 r C) = ix2 (rowOf t r) C := by
    obtain ⟨e0, e1⟩ := idx7 t
    blk_ext [e0, e1, rowOf]
  show _ = G m c (((View.whole main_v7).slice (win0_7.rect t)).emb (ix2 r C))
  rw [e]
  rfl

end Cert.Kernel2Ideal.Tail

end
-- ==== Proof.TailLastRef.lean ====
module

public import proofs.«01_k».proof.Proof.TailSpec
public import proofs.«01_k».proof.Proof.Gen.Reference2Ideal.Run
public import Idealize.ShloMosaic.Lib.Claim
public import Idealize.ShloMosaic.Lib.StableHlo.RunRead
public import Idealize.ShloMosaic.Lib.Pointwise

/-! # The tail of the last layer: what the reference leaves -/

@[expose] public section

set_option maxRecDepth 16384

noncomputable section

namespace Cert.Reference2Ideal.Tail

open Idealize.ShloMosaic Idealize.ShloMosaic.TcCoe Idealize.ShloMosaic.Tactic Cert.Reference2Ideal Cert.Reference2Ideal.Gen
open Idealize.SL Idealize.SL.RA Idealize.SL.BI

variable (m : (ℓ : Loc nD τ sig) → Buf (Elt Ideal) ℓ)

/-- Row `R` of the result, from the arguments. -/
def res (c : Dev nD) (R : Fin 16384) : Fin 1024 → EReal :=
  Tail.rms (Tail.row (fun k : Fin 1024 => m ((c : Thread nD τ).loc main_arg0) (ix2 R k)) (fun k C => m ((c : Thread nD τ).loc main_arg4) (ix3 (1 : Fin 2) k C))
    (fun C => m ((c : Thread nD τ).loc main_arg1) (ix2 R C)) (fun C => m ((c : Thread nD τ).loc main_arg2) (ix2 (3 : Fin 4) C))
    (fun C f => m ((c : Thread nD τ).loc main_arg5) (ix3 (3 : Fin 4) C f)) (fun f C => m ((c : Thread nD τ).loc main_arg6) (ix3 (3 : Fin 4) f C))) (fun C => m ((c : Thread nD τ).loc main_arg3) (ix1 C))

/-- The reference's result at row `R` and column `C` is the formula there. -/
theorem value (c : Dev nD) (R : Fin 16384) (C : Fin 1024) :
    @Eq EReal (Value.res_main_v41 m c (ix2 R C)) (res m c R C) := by
  unfold Value.res_main_v41
  pointwise
  rfl

end Cert.Reference2Ideal.Tail

end
-- ==== Proof.TailLastClaim.lean ====
module

public import proofs.«01_k».proof.Defs
public import proofs.«01_k».proof.Proof.TailLastKernel
public import proofs.«01_k».proof.Proof.TailLastRef
public import proofs.«01_k».proof.Proof.Gen.Kernel2.Frame
public import Idealize.ShloMosaic.Lib.Claim
public import Idealize.ShloMosaic.Adequacy
public import Idealize.ShloMosaic.Init

/-! # The tail of the last layer: the claims -/

@[expose] public section

set_option maxRecDepth 16384

noncomputable section

namespace Cert.Proof.TailLast

open Idealize.ShloMosaic Idealize.ShloMosaic.TcCoe Idealize.SL.Sem

/-- The tail's frame. -/
theorem frame_kernel : Cert.quiescent_Kernel2 (hKernel2 := Cert.Kernel2.Gen.facts) :=
  fun m ρ _ => Cert.Kernel2.Gen.frame m ρ

/-- The frame of the tail over the extended reals. -/
theorem frame_kernelIdeal : Cert.quiescent_Kernel2Ideal (hKernel2Ideal := Cert.Kernel2Ideal.Gen.facts) :=
  fun m ρ _ => Cert.Kernel2Ideal.Gen.frame m ρ

/-- The frame of the tail's reference: it declares no semaphore. -/
theorem frame_reference : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run m ρ)

/-- The tail and its reference, from the same arguments, leave the same result. -/
theorem algebraic : Cert.algebraic_Kernel2Ideal_Reference2Ideal (hKernel2Ideal := Cert.Kernel2Ideal.Gen.facts)
    (hReference2Ideal := Cert.Reference2Ideal.Gen.facts) := by
  intro m ρ m' ρ' _ hagree
  refine ⟨Cert.Kernel2Ideal.Tail.G m, (θ_run Cert.Kernel2Ideal.defs _ _).mono (fun r h c => ⟨(h c).1.trans (Cert.Kernel2Ideal.Tail.final m c), (h c).2⟩)
      (Cert.Kernel2Ideal.Value.run_blocks m ρ),
    (θ_run Cert.Reference2Ideal.defs _ _).mono (fun r h c => ⟨(h c).1.trans ?_, (h c).2⟩) (Cert.Reference2Ideal.Value.run m' ρ')⟩
  funext i
  obtain ⟨R, C, rfl⟩ : ∃ (R : Fin 16384) (C : Fin 1024), i = ix2 R C := ⟨_, _, eq_ix2 i⟩
  have h0 : ∀ (i : Fin 16384) (j : Fin 1024), @Eq EReal (m' ((c.tc : Thread Cert.Reference2Ideal.nD Cert.Reference2Ideal.τ).loc Cert.Reference2Ideal.main_arg0) (ix2 i j))
      (m ((c.tc : Thread Cert.Kernel2Ideal.nD Cert.Kernel2Ideal.τ).loc Cert.Kernel2Ideal.main_arg0) (ix2 i j)) := fun i j => congrFun (hagree c).1 (ix2 i j)
  have h1 : ∀ (i : Fin 16384) (j : Fin 1024), @Eq EReal (m' ((c.tc : Thread Cert.Reference2Ideal.nD Cert.Reference2Ideal.τ).loc Cert.Reference2Ideal.main_arg1) (ix2 i j))
      (m ((c.tc : Thread Cert.Kernel2Ideal.nD Cert.Kernel2Ideal.τ).loc Cert.Kernel2Ideal.main_arg1) (ix2 i j)) := fun i j => congrFun (hagree c).2.1 (ix2 i j)
  have h2 : ∀ (i : Fin 4) (j : Fin 1024), @Eq EReal (m' ((c.tc : Thread Cert.Reference2Ideal.nD Cert.Reference2Ideal.τ).loc Cert.Reference2Ideal.main_arg2) (ix2 i j))
      (m ((c.tc : Thread Cert.Kernel2Ideal.nD Cert.Kernel2Ideal.τ).loc Cert.Kernel2Ideal.main_arg2) (ix2 i j)) := fun i j => congrFun (hagree c).2.2.1 (ix2 i j)
  have h3 : ∀ (i : Fin 1024), @Eq EReal (m' ((c.tc : Thread Cert.Reference2Ideal.nD Cert.Reference2Ideal.τ).loc Cert.Reference2Ideal.main_arg3) (ix1 i))
      (m ((c.tc : Thread Cert.Kernel2Ideal.nD Cert.Kernel2Ideal.τ).loc Cert.Kernel2Ideal.main_arg3) (ix1 i)) := fun i => congrFun (hagree c).2.2.2.1 (ix1 i)
  have h4 : ∀ (i : Fin 2) (j : Fin 1024) (k : Fin 1024), @Eq EReal (m' ((c.tc : Thread Cert.Reference2Ideal.nD Cert.Reference2Ideal.τ).loc Cert.Reference2Ideal.main_arg4) (ix3 i j k))
      (m ((c.tc : Thread Cert.Kernel2Ideal.nD Cert.Kernel2Ideal.τ).loc Cert.Kernel2Ideal.main_arg4) (ix3 i j k)) := fun i j k => congrFun (hagree c).2.2.2.2.1 (ix3 i j k)
  have h5 : ∀ (i : Fin 4) (j : Fin 1024) (k : Fin 4096), @Eq EReal (m' ((c.tc : Thread Cert.Reference2Ideal.nD Cert.Reference2Ideal.τ).loc Cert.Reference2Ideal.main_arg5) (ix3 i j k))
      (m ((c.tc : Thread Cert.Kernel2Ideal.nD Cert.Kernel2Ideal.τ).loc Cert.Kernel2Ideal.main_arg5) (ix3 i j k)) := fun i j k => congrFun (hagree c).2.2.2.2.2.1 (ix3 i j k)
  have h6 : ∀ (i : Fin 4) (j : Fin 4096) (k : Fin 1024), @Eq EReal (m' ((c.tc : Thread Cert.Reference2Ideal.nD Cert.Reference2Ideal.τ).loc Cert.Reference2Ideal.main_arg6) (ix3 i j k))
      (m ((c.tc : Thread Cert.Kernel2Ideal.nD Cert.Kernel2Ideal.τ).loc Cert.Kernel2Ideal.main_arg6) (ix3 i j k)) := fun i j k => congrFun (hagree c).2.2.2.2.2.2 (ix3 i j k)
  refine (Cert.Reference2Ideal.Tail.value m' c R C).trans ?_
  show @Eq EReal _ (Cert.Kernel2Ideal.Tail.res m c R C)
  simp only [Cert.Reference2Ideal.Tail.res, Cert.Kernel2Ideal.Tail.res, h0, h1, h2, h3, h4, h5, h6]

end Cert.Proof.TailLast

end
-- ==== Proof.TailSwaKernel.lean ====
module

public import proofs.«01_k».proof.Proof.TailSpec
public import proofs.«01_k».proof.Proof.Gen.Kernel3Ideal.Value
public import Idealize.ShloMosaic.Lib.Claim
public import Idealize.ShloMosaic.Lib.StableHlo.RunRead
public import Idealize.ShloMosaic.Lib.Pipeline.ValueKit
public import Idealize.ShloMosaic.Lib.Pointwise

/-! # The tail of layer 0: what the kernel leaves

The grid's point `t` works on rows `512 t … 512 t + 511` of the mixer's output and of the stream, and holds the layer's
weights whole. Each row it writes is the tail's formula (`TailSpec`) of that row. -/

@[expose] public section

set_option maxRecDepth 16384

noncomputable section

namespace Cert.Kernel3Ideal.Tail

open Idealize.ShloMosaic Idealize.ShloMosaic.TcCoe Idealize.ShloMosaic.Tactic Cert.Kernel3Ideal Cert.Kernel3Ideal.Gen
open Idealize.SL Idealize.SL.RA Idealize.SL.BI

/-! ## The body's arithmetic -/

/-- A row of the block the body writes is the layer's tail of the rows of the body's operands. -/
theorem pay_row (P0 : FVec Ideal S512x1024 .f32) (P1 : FVec Ideal S512x1024 .bf16) (P2 : FVec Ideal S1x1024x1024 .bf16) (P3 : FVec Ideal S1x1024 .f32)
    (P4 : FVec Ideal S1x1024x4096 .bf16) (P5 : FVec Ideal S1x4096x1024 .bf16) (r : Fin 512) (c : Fin 1024) :
    k0_pay1 (F := Ideal) P0 P1 P2 P3 P4 P5 (ix2 r c) = Tail.row (fun k : Fin 1024 => P1 (ix2 r k)) (fun k c => P2 (ix3 (0 : Fin 1) k c)) (fun c => P0 (ix2 r c))
      (fun c => P3 (ix2 (0 : Fin 1) c)) (fun c f => P4 (ix3 (0 : Fin 1) c f)) (fun f c => P5 (ix3 (0 : Fin 1) f c)) c := by
  pointwise [k0_pay1]
  rfl

/-! ## The blocks a point reads -/

variable (m : (ℓ : Loc nD τ sig) → Buf (Elt Ideal) ℓ)

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 3) = 0 ∧ win0_1.index t (1 : Fin 3) = 0 ∧ win0_1.index t (2 : Fin 3) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 3) = 0 ∧ win0_4.index t (1 : Fin 3) = 0 ∧ win0_4.index t (2 : Fin 3) = 0 :=
  (by decide +kernel : ∀ t : Fin grid0.N, _)
theorem idx5 : ∀ t : Fin cfg0.N, win0_5.index t (0 : Fin 3) = 0 ∧ win0_5.index t (1 : Fin 3) = 0 ∧ win0_5.index t (2 : Fin 3) = 0 :=
  (by decide +kernel : ∀ t : Fin grid0.N, _)
theorem idx6 : ∀ t : Fin cfg0.N, win0_6.index t (0 : Fin 2) = t.val ∧ win0_6.index t (1 : Fin 2) = 0 :=
  (by decide +kernel : ∀ t : Fin grid0.N, _)

/-- Row `r` of point `t`'s block of the mixer's output is row `512 t + r` of it. -/
theorem blk0 (c : Dev nD) (t : Fin cfg0.N) (r : Fin 512) (k : Fin 1024) (R : Fin 16384) (hR : R.val = 512 * t.val + r.val) :
    iblk m c 0 t (ix2 r k) = m ((c : Thread nD τ).loc main_arg0) (ix2 R k) := by
  obtain ⟨e0, e1⟩ := idx0 t
  blk_ext [iblk, V, e0, e1]

/-- Row `r` of point `t`'s block of the stream is row `512 t + r` of it. -/
theorem blk2 (c : Dev nD) (t : Fin cfg0.N) (r : Fin 512) (k : Fin 1024) (R : Fin 16384) (hR : R.val = 512 * t.val + r.val) :
    iblk m c 2 t (ix2 r k) = m ((c : Thread nD τ).loc main_arg1) (ix2 R k) := by
  obtain ⟨e0, e1⟩ := idx2 t
  blk_ext [iblk, V, e0, e1]

/-- The block of the output projection is matrix 0 of the weights. -/
theorem blk1 (c : Dev nD) (t : Fin cfg0.N) (i : Fin 1024) (j : Fin 1024) :
    iblk m c 1 t (ix3 (0 : Fin 1) i j) = m ((c : Thread nD τ).loc main_arg3) (ix3 (0 : Fin 2) i j) := by
  have e : ((View.whole main_v0).slice (win0_1.rect t)).emb (ix3 (0 : Fin 1) i j) = ix3 (0 : Fin 2) i j := by
    obtain ⟨e0, e1, e2⟩ := idx1 t
    blk_ext [e0, e1, e2]
  blk_simp [iblk]
  rw [e]
  unfold V
  after_reads_simp
  pointwise

/-- The block of the up projection is matrix 0 of the weights. -/
theorem blk4 (c : Dev nD) (t : Fin cfg0.N) (i : Fin 1024) (j : Fin 4096) :
    iblk m c 4 t (ix3 (0 : Fin 1) i j) = m ((c : Thread nD τ).loc main_arg4) (ix3 (0 : Fin 4) i j) := by
  have e : ((View.whole main_v3).slice (win0_4.rect t)).emb (ix3 (0 : Fin 1) i j) = ix3 (0 : Fin 4) i j := by
    obtain ⟨e0, e1, e2⟩ := idx4 t
    blk_ext [e0, e1, e2]
  blk_simp [iblk]
  rw [e]
  unfold V
  after_reads_simp
  pointwise

/-- The block of the down projection is matrix 0 of the weights. -/
theorem blk5 (c : Dev nD) (t : Fin cfg0.N) (i : Fin 4096) (j : Fin 1024) :
    iblk m c 5 t (ix3 (0 : Fin 1) i j) = m ((c : Thread nD τ).loc main_arg5) (ix3 (0 : Fin 4) i j) := by
  have e : ((View.whole main_v4).slice (win0_5.rect t)).emb (ix3 (0 : Fin 1) i j) = ix3 (0 : Fin 4) i j := by
    obtain ⟨e0, e1, e2⟩ := idx5 t
    blk_ext [e0, e1, e2]
  blk_simp [iblk]
  rw [e]
  unfold V
  after_reads_simp
  pointwise

/-- The block of gains is row 0 of the MLP norms' gains. -/
theorem blk3 (c : Dev nD) (t : Fin cfg0.N) (k : Fin 1024) :
    iblk m c 3 t (ix2 (0 : Fin 1) k) = m ((c : Thread nD τ).loc main_arg2) (ix2 (0 : Fin 4) k) := by
  have e : ((View.whole main_v5).slice (win0_3.rect t)).emb (ix2 (0 : Fin 1) k) = ix2 (0 : Fin 1) k := by
    obtain ⟨e0, e1⟩ := idx3 t
    blk_ext [e0, e1]
  blk_simp [iblk]
  rw [e]
  unfold V
  after_reads_simp
  pointwise

/-! ## The result -/

/-- Row `R` of the result, from the arguments. -/
def res (c : Dev nD) (R : Fin 16384) : Fin 1024 → EReal :=
  Tail.row (fun k : Fin 1024 => m ((c : Thread nD τ).loc main_arg0) (ix2 R k)) (fun k C => m ((c : Thread nD τ).loc main_arg3) (ix3 (0 : Fin 2) k C))
    (fun C => m ((c : Thread nD τ).loc main_arg1) (ix2 R C)) (fun C => m ((c : Thread nD τ).loc main_arg2) (ix2 (0 : Fin 4) C))
    (fun C f => m ((c : Thread nD τ).loc main_arg4) (ix3 (0 : Fin 4) C f)) (fun f C => m ((c : Thread nD τ).loc main_arg5) (ix3 (0 : Fin 4) f C))
/-- The result, from the arguments. -/
def G (c : Dev nD) : S16384x1024.Idx → EReal := fun i => res m c (i 0) (i 1)
theorem points : cfg0.N = 32 := by decide +kernel
/-- The row of the arrays that row `r` of point `t`'s block is. -/
def rowOf (t : Fin cfg0.N) (r : Fin 512) : Fin 16384 := ⟨512 * t.val + r.val, by have := t.isLt; have := points; omega⟩

/-- What point `t` leaves in its block of the result. -/
theorem point (c : Dev nD) (t : Fin cfg0.N) (r : Fin 512) (C : Fin 1024) :
    @Eq EReal (k0_pay1 (F := Ideal) (iblk m c 2 t) (iblk m c 0 t) (iblk m c 1 t) (iblk m c 3 t) (iblk m c 4 t) (iblk m c 5 t) (ix2 r C))
      (res m c (rowOf t r) C) := by
  refine (pay_row _ _ _ _ _ _ r C).trans ?_
  simp only [blk0 m c t r _ (rowOf t r) rfl, blk1 m c t, blk2 m c t r _ (rowOf t r) rfl, blk3 m c t, blk4 m c t, blk5 m c t]
  rfl

/-- The array the run leaves is the formula at every row. -/
theorem final (c : Dev nD) : (dats m 0 c).arrAt 6 cfg0.N = G m c := by
  refine (dats m 0 c).arrAt_eq_of_covers 6 _ (by decide +kernel) fun t hf y => ?_
  blk_simp
  rw [after0_6]
  frame_out
  obtain ⟨r, C, rfl⟩ : ∃ (r : Fin 512) (C : Fin 1024), y = ix2 r C := ⟨_, _, eq_ix2 y⟩
  refine (point m c t r C).trans ?_
  have e : ((View.whole main_v6).slice (win0_6.rect t)).emb (ix2 r C) = ix2 (rowOf t r) C := by
    obtain ⟨e0, e1⟩ := idx6 t
    blk_ext [e0, e1, rowOf]
  show _ = G m c (((View.whole main_v6).slice (win0_6.rect t)).emb (ix2 r C))
  rw [e]
  rfl

end Cert.Kernel3Ideal.Tail

end
-- ==== Proof.TailSwaRef.lean ====
module

public import proofs.«01_k».proof.Proof.TailSpec
public import proofs.«01_k».proof.Proof.Gen.Reference3Ideal.Run
public import Idealize.ShloMosaic.Lib.Claim
public import Idealize.ShloMosaic.Lib.StableHlo.RunRead
public import Idealize.ShloMosaic.Lib.Pointwise

/-! # The tail of layer 0: what the reference leaves -/

@[expose] public section

set_option maxRecDepth 16384

noncomputable section

namespace Cert.Reference3Ideal.Tail

open Idealize.ShloMosaic Idealize.ShloMosaic.TcCoe Idealize.ShloMosaic.Tactic Cert.Reference3Ideal Cert.Reference3Ideal.Gen
open Idealize.SL Idealize.SL.RA Idealize.SL.BI

variable (m : (ℓ : Loc nD τ sig) → Buf (Elt Ideal) ℓ)

/-- Row `R` of the result, from the arguments. -/
def res (c : Dev nD) (R : Fin 16384) : Fin 1024 → EReal :=
  Tail.row (fun k : Fin 1024 => m ((c : Thread nD τ).loc main_arg0) (ix2 R k)) (fun k C => m ((c : Thread nD τ).loc main_arg3) (ix3 (0 : Fin 2) k C))
    (fun C => m ((c : Thread nD τ).loc main_arg1) (ix2 R C)) (fun C => m ((c : Thread nD τ).loc main_arg2) (ix2 (0 : Fin 4) C))
    (fun C f => m ((c : Thread nD τ).loc main_arg4) (ix3 (0 : Fin 4) C f)) (fun f C => m ((c : Thread nD τ).loc main_arg5) (ix3 (0 : Fin 4) f C))

/-- The reference's result at row `R` and column `C` is the formula there. -/
theorem value (c : Dev nD) (R : Fin 16384) (C : Fin 1024) :
    @Eq EReal (Value.res_main_v28 m c (ix2 R C)) (res m c R C) := by
  unfold Value.res_main_v28
  pointwise
  rfl

end Cert.Reference3Ideal.Tail

end
-- ==== Proof.TailSwaClaim.lean ====
module

public import proofs.«01_k».proof.Defs
public import proofs.«01_k».proof.Proof.TailSwaKernel
public import proofs.«01_k».proof.Proof.TailSwaRef
public import proofs.«01_k».proof.Proof.Gen.Kernel3.Frame
public import Idealize.ShloMosaic.Lib.Claim
public import Idealize.ShloMosaic.Adequacy
public import Idealize.ShloMosaic.Init

/-! # The tail of layer 0: the claims -/

@[expose] public section

set_option maxRecDepth 16384

noncomputable section

namespace Cert.Proof.TailSwa

open Idealize.ShloMosaic Idealize.ShloMosaic.TcCoe Idealize.SL.Sem

/-- The tail's frame. -/
theorem frame_kernel : Cert.quiescent_Kernel3 (hKernel3 := Cert.Kernel3.Gen.facts) :=
  fun m ρ _ => Cert.Kernel3.Gen.frame m ρ

/-- The frame of the tail over the extended reals. -/
theorem frame_kernelIdeal : Cert.quiescent_Kernel3Ideal (hKernel3Ideal := Cert.Kernel3Ideal.Gen.facts) :=
  fun m ρ _ => Cert.Kernel3Ideal.Gen.frame m ρ

/-- The frame of the tail's reference: it declares no semaphore. -/
theorem frame_reference : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run m ρ)

/-- The tail and its reference, from the same arguments, leave the same result. -/
theorem algebraic : Cert.algebraic_Kernel3Ideal_Reference3Ideal (hKernel3Ideal := Cert.Kernel3Ideal.Gen.facts)
    (hReference3Ideal := Cert.Reference3Ideal.Gen.facts) := by
  intro m ρ m' ρ' _ hagree
  refine ⟨Cert.Kernel3Ideal.Tail.G m, (θ_run Cert.Kernel3Ideal.defs _ _).mono (fun r h c => ⟨(h c).1.trans (Cert.Kernel3Ideal.Tail.final m c), (h c).2⟩)
      (Cert.Kernel3Ideal.Value.run_blocks m ρ),
    (θ_run Cert.Reference3Ideal.defs _ _).mono (fun r h c => ⟨(h c).1.trans ?_, (h c).2⟩) (Cert.Reference3Ideal.Value.run m' ρ')⟩
  funext i
  obtain ⟨R, C, rfl⟩ : ∃ (R : Fin 16384) (C : Fin 1024), i = ix2 R C := ⟨_, _, eq_ix2 i⟩
  have h0 : ∀ (i : Fin 16384) (j : Fin 1024), @Eq EReal (m' ((c.tc : Thread Cert.Reference3Ideal.nD Cert.Reference3Ideal.τ).loc Cert.Reference3Ideal.main_arg0) (ix2 i j))
      (m ((c.tc : Thread Cert.Kernel3Ideal.nD Cert.Kernel3Ideal.τ).loc Cert.Kernel3Ideal.main_arg0) (ix2 i j)) := fun i j => congrFun (hagree c).1 (ix2 i j)
  have h1 : ∀ (i : Fin 16384) (j : Fin 1024), @Eq EReal (m' ((c.tc : Thread Cert.Reference3Ideal.nD Cert.Reference3Ideal.τ).loc Cert.Reference3Ideal.main_arg1) (ix2 i j))
      (m ((c.tc : Thread Cert.Kernel3Ideal.nD Cert.Kernel3Ideal.τ).loc Cert.Kernel3Ideal.main_arg1) (ix2 i j)) := fun i j => congrFun (hagree c).2.1 (ix2 i j)
  have h2 : ∀ (i : Fin 4) (j : Fin 1024), @Eq EReal (m' ((c.tc : Thread Cert.Reference3Ideal.nD Cert.Reference3Ideal.τ).loc Cert.Reference3Ideal.main_arg2) (ix2 i j))
      (m ((c.tc : Thread Cert.Kernel3Ideal.nD Cert.Kernel3Ideal.τ).loc Cert.Kernel3Ideal.main_arg2) (ix2 i j)) := fun i j => congrFun (hagree c).2.2.1 (ix2 i j)
  have h3 : ∀ (i : Fin 2) (j : Fin 1024) (k : Fin 1024), @Eq EReal (m' ((c.tc : Thread Cert.Reference3Ideal.nD Cert.Reference3Ideal.τ).loc Cert.Reference3Ideal.main_arg3) (ix3 i j k))
      (m ((c.tc : Thread Cert.Kernel3Ideal.nD Cert.Kernel3Ideal.τ).loc Cert.Kernel3Ideal.main_arg3) (ix3 i j k)) := fun i j k => congrFun (hagree c).2.2.2.1 (ix3 i j k)
  have h4 : ∀ (i : Fin 4) (j : Fin 1024) (k : Fin 4096), @Eq EReal (m' ((c.tc : Thread Cert.Reference3Ideal.nD Cert.Reference3Ideal.τ).loc Cert.Reference3Ideal.main_arg4) (ix3 i j k))
      (m ((c.tc : Thread Cert.Kernel3Ideal.nD Cert.Kernel3Ideal.τ).loc Cert.Kernel3Ideal.main_arg4) (ix3 i j k)) := fun i j k => congrFun (hagree c).2.2.2.2.1 (ix3 i j k)
  have h5 : ∀ (i : Fin 4) (j : Fin 4096) (k : Fin 1024), @Eq EReal (m' ((c.tc : Thread Cert.Reference3Ideal.nD Cert.Reference3Ideal.τ).loc Cert.Reference3Ideal.main_arg5) (ix3 i j k))
      (m ((c.tc : Thread Cert.Kernel3Ideal.nD Cert.Kernel3Ideal.τ).loc Cert.Kernel3Ideal.main_arg5) (ix3 i j k)) := fun i j k => congrFun (hagree c).2.2.2.2.2 (ix3 i j k)
  refine (Cert.Reference3Ideal.Tail.value m' c R C).trans ?_
  show @Eq EReal _ (Cert.Kernel3Ideal.Tail.res m c R C)
  simp only [Cert.Reference3Ideal.Tail.res, Cert.Kernel3Ideal.Tail.res, h0, h1, h2, h3, h4, h5]

end Cert.Proof.TailSwa

end
-- ==== Proof.TailRetKernel.lean ====
module

public import proofs.«01_k».proof.Proof.TailSpec
public import proofs.«01_k».proof.Proof.Gen.Kernel4Ideal.Value
public import Idealize.ShloMosaic.Lib.Claim
public import Idealize.ShloMosaic.Lib.StableHlo.RunRead
public import Idealize.ShloMosaic.Lib.Pipeline.ValueKit
public import Idealize.ShloMosaic.Lib.Pointwise

/-! # The tail of layer 2 (the retention layer): what the kernel leaves

The grid's point `t` works on rows `512 t … 512 t + 511` of the mixer's output and of the stream, and holds the layer's
weights whole. Each row it writes is the tail's formula (`TailSpec`) of that row. -/

@[expose] public section

set_option maxRecDepth 16384

noncomputable section

namespace Cert.Kernel4Ideal.Tail

open Idealize.ShloMosaic Idealize.ShloMosaic.TcCoe Idealize.ShloMosaic.Tactic Cert.Kernel4Ideal Cert.Kernel4Ideal.Gen
open Idealize.SL Idealize.SL.RA Idealize.SL.BI

/-! ## The body's arithmetic -/

/-- A row of the block the body writes is the layer's tail of the rows of the body's operands. -/
theorem pay_row (P0 : FVec Ideal S512x1024 .f32) (P1 : FVec Ideal S512x2048 .bf16) (P2 : FVec Ideal S1x2048x1024 .bf16) (P3 : FVec Ideal S1x1024 .f32)
    (P4 : FVec Ideal S1x1024x4096 .bf16) (P5 : FVec Ideal S1x4096x1024 .bf16) (r : Fin 512) (c : Fin 1024) :
    k0_pay1 (F := Ideal) P0 P1 P2 P3 P4 P5 (ix2 r c) = Tail.row (fun k : Fin 2048 => P1 (ix2 r k)) (fun k c => P2 (ix3 (0 : Fin 1) k c)) (fun c => P0 (ix2 r c))
      (fun c => P3 (ix2 (0 : Fin 1) c)) (fun c f => P4 (ix3 (0 : Fin 1) c f)) (fun f c => P5 (ix3 (0 : Fin 1) f c)) c := by
  pointwise [k0_pay1]
  rfl

/-! ## The blocks a point reads -/

variable (m : (ℓ : Loc nD τ sig) → Buf (Elt Ideal) ℓ)

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 3) = 0 ∧ win0_1.index t (1 : Fin 3) = 0 ∧ win0_1.index t (2 : Fin 3) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 3) = 2 ∧ win0_4.index t (1 : Fin 3) = 0 ∧ win0_4.index t (2 : Fin 3) = 0 :=
  (by decide +kernel : ∀ t : Fin grid0.N, _)
theorem idx5 : ∀ t : Fin cfg0.N, win0_5.index t (0 : Fin 3) = 2 ∧ win0_5.index t (1 : Fin 3) = 0 ∧ win0_5.index t (2 : Fin 3) = 0 :=
  (by decide +kernel : ∀ t : Fin grid0.N, _)
theorem idx6 : ∀ t : Fin cfg0.N, win0_6.index t (0 : Fin 2) = t.val ∧ win0_6.index t (1 : Fin 2) = 0 :=
  (by decide +kernel : ∀ t : Fin grid0.N, _)

/-- Row `r` of point `t`'s block of the mixer's output is row `512 t + r` of it. -/
theorem blk0 (c : Dev nD) (t : Fin cfg0.N) (r : Fin 512) (k : Fin 2048) (R : Fin 16384) (hR : R.val = 512 * t.val + r.val) :
    iblk m c 0 t (ix2 r k) = m ((c : Thread nD τ).loc main_arg0) (ix2 R k) := by
  obtain ⟨e0, e1⟩ := idx0 t
  blk_ext [iblk, V, e0, e1]

/-- Row `r` of point `t`'s block of the stream is row `512 t + r` of it. -/
theorem blk2 (c : Dev nD) (t : Fin cfg0.N) (r : Fin 512) (k : Fin 1024) (R : Fin 16384) (hR : R.val = 512 * t.val + r.val) :
    iblk m c 2 t (ix2 r k) = m ((c : Thread nD τ).loc main_arg1) (ix2 R k) := by
  obtain ⟨e0, e1⟩ := idx2 t
  blk_ext [iblk, V, e0, e1]

/-- The block of the output projection is matrix 0 of the weights. -/
theorem blk1 (c : Dev nD) (t : Fin cfg0.N) (i : Fin 2048) (j : Fin 1024) :
    iblk m c 1 t (ix3 (0 : Fin 1) i j) = m ((c : Thread nD τ).loc main_arg3) (ix3 (0 : Fin 1) i j) := by
  have e : ((View.whole main_v0).slice (win0_1.rect t)).emb (ix3 (0 : Fin 1) i j) = ix3 (0 : Fin 1) i j := by
    obtain ⟨e0, e1, e2⟩ := idx1 t
    blk_ext [e0, e1, e2]
  blk_simp [iblk]
  rw [e]
  unfold V
  after_reads_simp
  pointwise

/-- The block of the up projection is matrix 2 of the weights. -/
theorem blk4 (c : Dev nD) (t : Fin cfg0.N) (i : Fin 1024) (j : Fin 4096) :
    iblk m c 4 t (ix3 (0 : Fin 1) i j) = m ((c : Thread nD τ).loc main_arg4) (ix3 (2 : Fin 4) i j) := by
  have e : ((View.whole main_v3).slice (win0_4.rect t)).emb (ix3 (0 : Fin 1) i j) = ix3 (2 : Fin 4) i j := by
    obtain ⟨e0, e1, e2⟩ := idx4 t
    blk_ext [e0, e1, e2]
  blk_simp [iblk]
  rw [e]
  unfold V
  after_reads_simp
  pointwise

/-- The block of the down projection is matrix 2 of the weights. -/
theorem blk5 (c : Dev nD) (t : Fin cfg0.N) (i : Fin 4096) (j : Fin 1024) :
    iblk m c 5 t (ix3 (0 : Fin 1) i j) = m ((c : Thread nD τ).loc main_arg5) (ix3 (2 : Fin 4) i j) := by
  have e : ((View.whole main_v4).slice (win0_5.rect t)).emb (ix3 (0 : Fin 1) i j) = ix3 (2 : Fin 4) i j := by
    obtain ⟨e0, e1, e2⟩ := idx5 t
    blk_ext [e0, e1, e2]
  blk_simp [iblk]
  rw [e]
  unfold V
  after_reads_simp
  pointwise

/-- The block of gains is row 2 of the MLP norms' gains. -/
theorem blk3 (c : Dev nD) (t : Fin cfg0.N) (k : Fin 1024) :
    iblk m c 3 t (ix2 (0 : Fin 1) k) = m ((c : Thread nD τ).loc main_arg2) (ix2 (2 : Fin 4) k) := by
  have e : ((View.whole main_v5).slice (win0_3.rect t)).emb (ix2 (0 : Fin 1) k) = ix2 (0 : Fin 1) k := by
    obtain ⟨e0, e1⟩ := idx3 t
    blk_ext [e0, e1]
  blk_simp [iblk]
  rw [e]
  unfold V
  after_reads_simp
  pointwise

/-! ## The result -/

/-- Row `R` of the result, from the arguments. -/
def res (c : Dev nD) (R : Fin 16384) : Fin 1024 → EReal :=
  Tail.row (fun k : Fin 2048 => m ((c : Thread nD τ).loc main_arg0) (ix2 R k)) (fun k C => m ((c : Thread nD τ).loc main_arg3) (ix3 (0 : Fin 1) k C))
    (fun C => m ((c : Thread nD τ).loc main_arg1) (ix2 R C)) (fun C => m ((c : Thread nD τ).loc main_arg2) (ix2 (2 : Fin 4) C))
    (fun C f => m ((c : Thread nD τ).loc main_arg4) (ix3 (2 : Fin 4) C f)) (fun f C => m ((c : Thread nD τ).loc main_arg5) (ix3 (2 : Fin 4) f C))
/-- The result, from the arguments. -/
def G (c : Dev nD) : S16384x1024.Idx → EReal := fun i => res m c (i 0) (i 1)
theorem points : cfg0.N = 32 := by decide +kernel
/-- The row of the arrays that row `r` of point `t`'s block is. -/
def rowOf (t : Fin cfg0.N) (r : Fin 512) : Fin 16384 := ⟨512 * t.val + r.val, by have := t.isLt; have := points; omega⟩

/-- What point `t` leaves in its block of the result. -/
theorem point (c : Dev nD) (t : Fin cfg0.N) (r : Fin 512) (C : Fin 1024) :
    @Eq EReal (k0_pay1 (F := Ideal) (iblk m c 2 t) (iblk m c 0 t) (iblk m c 1 t) (iblk m c 3 t) (iblk m c 4 t) (iblk m c 5 t) (ix2 r C))
      (res m c (rowOf t r) C) := by
  refine (pay_row _ _ _ _ _ _ r C).trans ?_
  simp only [blk0 m c t r _ (rowOf t r) rfl, blk1 m c t, blk2 m c t r _ (rowOf t r) rfl, blk3 m c t, blk4 m c t, blk5 m c t]
  rfl

/-- The array the run leaves is the formula at every row. -/
theorem final (c : Dev nD) : (dats m 0 c).arrAt 6 cfg0.N = G m c := by
  refine (dats m 0 c).arrAt_eq_of_covers 6 _ (by decide +kernel) fun t hf y => ?_
  blk_simp
  rw [after0_6]
  frame_out
  obtain ⟨r, C, rfl⟩ : ∃ (r : Fin 512) (C : Fin 1024), y = ix2 r C := ⟨_, _, eq_ix2 y⟩
  refine (point m c t r C).trans ?_
  have e : ((View.whole main_v6).slice (win0_6.rect t)).emb (ix2 r C) = ix2 (rowOf t r) C := by
    obtain ⟨e0, e1⟩ := idx6 t
    blk_ext [e0, e1, rowOf]
  show _ = G m c (((View.whole main_v6).slice (win0_6.rect t)).emb (ix2 r C))
  rw [e]
  rfl

end Cert.Kernel4Ideal.Tail

end
-- ==== Proof.TailRetRef.lean ====
module

public import proofs.«01_k».proof.Proof.TailSpec
public import proofs.«01_k».proof.Proof.Gen.Reference4Ideal.Run
public import Idealize.ShloMosaic.Lib.Claim
public import Idealize.ShloMosaic.Lib.StableHlo.RunRead
public import Idealize.ShloMosaic.Lib.Pointwise

/-! # The tail of layer 2 (the retention layer): what the reference leaves -/

@[expose] public section

set_option maxRecDepth 16384

noncomputable section

namespace Cert.Reference4Ideal.Tail

open Idealize.ShloMosaic Idealize.ShloMosaic.TcCoe Idealize.ShloMosaic.Tactic Cert.Reference4Ideal Cert.Reference4Ideal.Gen
open Idealize.SL Idealize.SL.RA Idealize.SL.BI

variable (m : (ℓ : Loc nD τ sig) → Buf (Elt Ideal) ℓ)

/-- Row `R` of the result, from the arguments. -/
def res (c : Dev nD) (R : Fin 16384) : Fin 1024 → EReal :=
  Tail.row (fun k : Fin 2048 => m ((c : Thread nD τ).loc main_arg0) (ix2 R k)) (fun k C => m ((c : Thread nD τ).loc main_arg3) (ix3 (0 : Fin 1) k C))
    (fun C => m ((c : Thread nD τ).loc main_arg1) (ix2 R C)) (fun C => m ((c : Thread nD τ).loc main_arg2) (ix2 (2 : Fin 4) C))
    (fun C f => m ((c : Thread nD τ).loc main_arg4) (ix3 (2 : Fin 4) C f)) (fun f C => m ((c : Thread nD τ).loc main_arg5) (ix3 (2 : Fin 4) f C))

/-- The output projection's one matrix, without its leading axis. -/
theorem wo_apply (P : FVec Ideal S1x2048x1024 .f32) (k : Fin 2048) (C : Fin 1024) :
    shapeCast S2048x1024 P shapeCasts_S1x2048x1024_S2048x1024 (ix2 k C) = P (ix3 (0 : Fin 1) k C) := by
  pointwise

/-- The reference's result at row `R` and column `C` is the formula there. -/
theorem value (c : Dev nD) (R : Fin 16384) (C : Fin 1024) :
    @Eq EReal (Value.res_main_v27 m c (ix2 R C)) (res m c R C) := by
  unfold Value.res_main_v27
  have hw := wo_apply (m ((c : Thread nD τ).loc main_arg3))
  unfold res
  simp only [← hw]
  clear hw
  generalize (shapeCast S2048x1024 (m ((c : Thread nD τ).loc main_arg3)) shapeCasts_S1x2048x1024_S2048x1024 : FVec Ideal S2048x1024 .f32) = W
  pointwise
  rfl

end Cert.Reference4Ideal.Tail

end
-- ==== Proof.TailRetClaim.lean ====
module

public import proofs.«01_k».proof.Defs
public import proofs.«01_k».proof.Proof.TailRetKernel
public import proofs.«01_k».proof.Proof.TailRetRef
public import proofs.«01_k».proof.Proof.Gen.Kernel4.Frame
public import Idealize.ShloMosaic.Lib.Claim
public import Idealize.ShloMosaic.Adequacy
public import Idealize.ShloMosaic.Init

/-! # The tail of layer 2 (the retention layer): the claims -/

@[expose] public section

set_option maxRecDepth 16384

noncomputable section

namespace Cert.Proof.TailRet

open Idealize.ShloMosaic Idealize.ShloMosaic.TcCoe Idealize.SL.Sem

/-- The tail's frame. -/
theorem frame_kernel : Cert.quiescent_Kernel4 (hKernel4 := Cert.Kernel4.Gen.facts) :=
  fun m ρ _ => Cert.Kernel4.Gen.frame m ρ

/-- The frame of the tail over the extended reals. -/
theorem frame_kernelIdeal : Cert.quiescent_Kernel4Ideal (hKernel4Ideal := Cert.Kernel4Ideal.Gen.facts) :=
  fun m ρ _ => Cert.Kernel4Ideal.Gen.frame m ρ

/-- The frame of the tail's reference: it declares no semaphore. -/
theorem frame_reference : Cert.quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩)
    (Cert.Reference4Ideal.Value.run m ρ)

/-- The tail and its reference, from the same arguments, leave the same result. -/
theorem algebraic : Cert.algebraic_Kernel4Ideal_Reference4Ideal (hKernel4Ideal := Cert.Kernel4Ideal.Gen.facts)
    (hReference4Ideal := Cert.Reference4Ideal.Gen.facts) := by
  intro m ρ m' ρ' _ hagree
  refine ⟨Cert.Kernel4Ideal.Tail.G m, (θ_run Cert.Kernel4Ideal.defs _ _).mono (fun r h c => ⟨(h c).1.trans (Cert.Kernel4Ideal.Tail.final m c), (h c).2⟩)
      (Cert.Kernel4Ideal.Value.run_blocks m ρ),
    (θ_run Cert.Reference4Ideal.defs _ _).mono (fun r h c => ⟨(h c).1.trans ?_, (h c).2⟩) (Cert.Reference4Ideal.Value.run m' ρ')⟩
  funext i
  obtain ⟨R, C, rfl⟩ : ∃ (R : Fin 16384) (C : Fin 1024), i = ix2 R C := ⟨_, _, eq_ix2 i⟩
  have h0 : ∀ (i : Fin 16384) (j : Fin 2048), @Eq EReal (m' ((c.tc : Thread Cert.Reference4Ideal.nD Cert.Reference4Ideal.τ).loc Cert.Reference4Ideal.main_arg0) (ix2 i j))
      (m ((c.tc : Thread Cert.Kernel4Ideal.nD Cert.Kernel4Ideal.τ).loc Cert.Kernel4Ideal.main_arg0) (ix2 i j)) := fun i j => congrFun (hagree c).1 (ix2 i j)
  have h1 : ∀ (i : Fin 16384) (j : Fin 1024), @Eq EReal (m' ((c.tc : Thread Cert.Reference4Ideal.nD Cert.Reference4Ideal.τ).loc Cert.Reference4Ideal.main_arg1) (ix2 i j))
      (m ((c.tc : Thread Cert.Kernel4Ideal.nD Cert.Kernel4Ideal.τ).loc Cert.Kernel4Ideal.main_arg1) (ix2 i j)) := fun i j => congrFun (hagree c).2.1 (ix2 i j)
  have h2 : ∀ (i : Fin 4) (j : Fin 1024), @Eq EReal (m' ((c.tc : Thread Cert.Reference4Ideal.nD Cert.Reference4Ideal.τ).loc Cert.Reference4Ideal.main_arg2) (ix2 i j))
      (m ((c.tc : Thread Cert.Kernel4Ideal.nD Cert.Kernel4Ideal.τ).loc Cert.Kernel4Ideal.main_arg2) (ix2 i j)) := fun i j => congrFun (hagree c).2.2.1 (ix2 i j)
  have h3 : ∀ (i : Fin 1) (j : Fin 2048) (k : Fin 1024), @Eq EReal (m' ((c.tc : Thread Cert.Reference4Ideal.nD Cert.Reference4Ideal.τ).loc Cert.Reference4Ideal.main_arg3) (ix3 i j k))
      (m ((c.tc : Thread Cert.Kernel4Ideal.nD Cert.Kernel4Ideal.τ).loc Cert.Kernel4Ideal.main_arg3) (ix3 i j k)) := fun i j k => congrFun (hagree c).2.2.2.1 (ix3 i j k)
  have h4 : ∀ (i : Fin 4) (j : Fin 1024) (k : Fin 4096), @Eq EReal (m' ((c.tc : Thread Cert.Reference4Ideal.nD Cert.Reference4Ideal.τ).loc Cert.Reference4Ideal.main_arg4) (ix3 i j k))
      (m ((c.tc : Thread Cert.Kernel4Ideal.nD Cert.Kernel4Ideal.τ).loc Cert.Kernel4Ideal.main_arg4) (ix3 i j k)) := fun i j k => congrFun (hagree c).2.2.2.2.1 (ix3 i j k)
  have h5 : ∀ (i : Fin 4) (j : Fin 4096) (k : Fin 1024), @Eq EReal (m' ((c.tc : Thread Cert.Reference4Ideal.nD Cert.Reference4Ideal.τ).loc Cert.Reference4Ideal.main_arg5) (ix3 i j k))
      (m ((c.tc : Thread Cert.Kernel4Ideal.nD Cert.Kernel4Ideal.τ).loc Cert.Kernel4Ideal.main_arg5) (ix3 i j k)) := fun i j k => congrFun (hagree c).2.2.2.2.2 (ix3 i j k)
  refine (Cert.Reference4Ideal.Tail.value m' c R C).trans ?_
  show @Eq EReal _ (Cert.Kernel4Ideal.Tail.res m c R C)
  simp only [Cert.Reference4Ideal.Tail.res, Cert.Kernel4Ideal.Tail.res, h0, h1, h2, h3, h4, h5]

end Cert.Proof.TailRet

end
-- ==== Proof.TailSbKernel.lean ====
module

public import proofs.«01_k».proof.Proof.TailSpec
public import proofs.«01_k».proof.Proof.Gen.Kernel5Ideal.Value
public import Idealize.ShloMosaic.Lib.Claim
public import Idealize.ShloMosaic.Lib.StableHlo.RunRead
public import Idealize.ShloMosaic.Lib.Pipeline.ValueKit
public import Idealize.ShloMosaic.Lib.Pointwise

/-! # The tail of layer 1 (the stick-breaking layer): what the kernel leaves

The grid's point `t` works on rows `512 t … 512 t + 511` of the mixer's output and of the stream, and holds the layer's
weights whole. Each row it writes is the tail's formula (`TailSpec`) of that row. -/

@[expose] public section

set_option maxRecDepth 16384

noncomputable section

namespace Cert.Kernel5Ideal.Tail

open Idealize.ShloMosaic Idealize.ShloMosaic.TcCoe Idealize.ShloMosaic.Tactic Cert.Kernel5Ideal Cert.Kernel5Ideal.Gen
open Idealize.SL Idealize.SL.RA Idealize.SL.BI

/-! ## The body's arithmetic -/

/-- A row of the block the body writes is the layer's tail of the rows of the body's operands. -/
theorem pay_row (P0 : FVec Ideal S512x1024 .f32) (P1 : FVec Ideal S512x1024 .bf16) (P2 : FVec Ideal S1x1024x1024 .bf16) (P3 : FVec Ideal S1x1024 .f32)
    (P4 : FVec Ideal S1x1024x4096 .bf16) (P5 : FVec Ideal S1x4096x1024 .bf16) (r : Fin 512) (c : Fin 1024) :
    k0_pay1 (F := Ideal) P0 P1 P2 P3 P4 P5 (ix2 r c) = Tail.row (fun k : Fin 1024 => P1 (ix2 r k)) (fun k c => P2 (ix3 (0 : Fin 1) k c)) (fun c => P0 (ix2 r c))
      (fun c => P3 (ix2 (0 : Fin 1) c)) (fun c f => P4 (ix3 (0 : Fin 1) c f)) (fun f c => P5 (ix3 (0 : Fin 1) f c)) c := by
  pointwise [k0_pay1]
  rfl

/-! ## The blocks a point reads -/

variable (m : (ℓ : Loc nD τ sig) → Buf (Elt Ideal) ℓ)

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 3) = 0 ∧ win0_1.index t (1 : Fin 3) = 0 ∧ win0_1.index t (2 : Fin 3) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 3) = 1 ∧ win0_4.index t (1 : Fin 3) = 0 ∧ win0_4.index t (2 : Fin 3) = 0 :=
  (by decide +kernel : ∀ t : Fin grid0.N, _)
theorem idx5 : ∀ t : Fin cfg0.N, win0_5.index t (0 : Fin 3) = 1 ∧ win0_5.index t (1 : Fin 3) = 0 ∧ win0_5.index t (2 : Fin 3) = 0 :=
  (by decide +kernel : ∀ t : Fin grid0.N, _)
theorem idx6 : ∀ t : Fin cfg0.N, win0_6.index t (0 : Fin 2) = t.val ∧ win0_6.index t (1 : Fin 2) = 0 :=
  (by decide +kernel : ∀ t : Fin grid0.N, _)

/-- Row `r` of point `t`'s block of the mixer's output is row `512 t + r` of it. -/
theorem blk0 (c : Dev nD) (t : Fin cfg0.N) (r : Fin 512) (k : Fin 1024) (R : Fin 16384) (hR : R.val = 512 * t.val + r.val) :
    iblk m c 0 t (ix2 r k) = m ((c : Thread nD τ).loc main_arg0) (ix2 R k) := by
  obtain ⟨e0, e1⟩ := idx0 t
  blk_ext [iblk, V, e0, e1]

/-- Row `r` of point `t`'s block of the stream is row `512 t + r` of it. -/
theorem blk2 (c : Dev nD) (t : Fin cfg0.N) (r : Fin 512) (k : Fin 1024) (R : Fin 16384) (hR : R.val = 512 * t.val + r.val) :
    iblk m c 2 t (ix2 r k) = m ((c : Thread nD τ).loc main_arg1) (ix2 R k) := by
  obtain ⟨e0, e1⟩ := idx2 t
  blk_ext [iblk, V, e0, e1]

/-- The block of the output projection is matrix 0 of the weights. -/
theorem blk1 (c : Dev nD) (t : Fin cfg0.N) (i : Fin 1024) (j : Fin 1024) :
    iblk m c 1 t (ix3 (0 : Fin 1) i j) = m ((c : Thread nD τ).loc main_arg3) (ix3 (0 : Fin 1) i j) := by
  have e : ((View.whole main_v0).slice (win0_1.rect t)).emb (ix3 (0 : Fin 1) i j) = ix3 (0 : Fin 1) i j := by
    obtain ⟨e0, e1, e2⟩ := idx1 t
    blk_ext [e0, e1, e2]
  blk_simp [iblk]
  rw [e]
  unfold V
  after_reads_simp
  pointwise

/-- The block of the up projection is matrix 1 of the weights. -/
theorem blk4 (c : Dev nD) (t : Fin cfg0.N) (i : Fin 1024) (j : Fin 4096) :
    iblk m c 4 t (ix3 (0 : Fin 1) i j) = m ((c : Thread nD τ).loc main_arg4) (ix3 (1 : Fin 4) i j) := by
  have e : ((View.whole main_v3).slice (win0_4.rect t)).emb (ix3 (0 : Fin 1) i j) = ix3 (1 : Fin 4) i j := by
    obtain ⟨e0, e1, e2⟩ := idx4 t
    blk_ext [e0, e1, e2]
  blk_simp [iblk]
  rw [e]
  unfold V
  after_reads_simp
  pointwise

/-- The block of the down projection is matrix 1 of the weights. -/
theorem blk5 (c : Dev nD) (t : Fin cfg0.N) (i : Fin 4096) (j : Fin 1024) :
    iblk m c 5 t (ix3 (0 : Fin 1) i j) = m ((c : Thread nD τ).loc main_arg5) (ix3 (1 : Fin 4) i j) := by
  have e : ((View.whole main_v4).slice (win0_5.rect t)).emb (ix3 (0 : Fin 1) i j) = ix3 (1 : Fin 4) i j := by
    obtain ⟨e0, e1, e2⟩ := idx5 t
    blk_ext [e0, e1, e2]
  blk_simp [iblk]
  rw [e]
  unfold V
  after_reads_simp
  pointwise

/-- The block of gains is row 1 of the MLP norms' gains. -/
theorem blk3 (c : Dev nD) (t : Fin cfg0.N) (k : Fin 1024) :
    iblk m c 3 t (ix2 (0 : Fin 1) k) = m ((c : Thread nD τ).loc main_arg2) (ix2 (1 : Fin 4) k) := by
  have e : ((View.whole main_v5).slice (win0_3.rect t)).emb (ix2 (0 : Fin 1) k) = ix2 (0 : Fin 1) k := by
    obtain ⟨e0, e1⟩ := idx3 t
    blk_ext [e0, e1]
  blk_simp [iblk]
  rw [e]
  unfold V
  after_reads_simp
  pointwise

/-! ## The result -/

/-- Row `R` of the result, from the arguments. -/
def res (c : Dev nD) (R : Fin 16384) : Fin 1024 → EReal :=
  Tail.row (fun k : Fin 1024 => m ((c : Thread nD τ).loc main_arg0) (ix2 R k)) (fun k C => m ((c : Thread nD τ).loc main_arg3) (ix3 (0 : Fin 1) k C))
    (fun C => m ((c : Thread nD τ).loc main_arg1) (ix2 R C)) (fun C => m ((c : Thread nD τ).loc main_arg2) (ix2 (1 : Fin 4) C))
    (fun C f => m ((c : Thread nD τ).loc main_arg4) (ix3 (1 : Fin 4) C f)) (fun f C => m ((c : Thread nD τ).loc main_arg5) (ix3 (1 : Fin 4) f C))
/-- The result, from the arguments. -/
def G (c : Dev nD) : S16384x1024.Idx → EReal := fun i => res m c (i 0) (i 1)
theorem points : cfg0.N = 32 := by decide +kernel
/-- The row of the arrays that row `r` of point `t`'s block is. -/
def rowOf (t : Fin cfg0.N) (r : Fin 512) : Fin 16384 := ⟨512 * t.val + r.val, by have := t.isLt; have := points; omega⟩

/-- What point `t` leaves in its block of the result. -/
theorem point (c : Dev nD) (t : Fin cfg0.N) (r : Fin 512) (C : Fin 1024) :
    @Eq EReal (k0_pay1 (F := Ideal) (iblk m c 2 t) (iblk m c 0 t) (iblk m c 1 t) (iblk m c 3 t) (iblk m c 4 t) (iblk m c 5 t) (ix2 r C))
      (res m c (rowOf t r) C) := by
  refine (pay_row _ _ _ _ _ _ r C).trans ?_
  simp only [blk0 m c t r _ (rowOf t r) rfl, blk1 m c t, blk2 m c t r _ (rowOf t r) rfl, blk3 m c t, blk4 m c t, blk5 m c t]
  rfl

/-- The array the run leaves is the formula at every row. -/
theorem final (c : Dev nD) : (dats m 0 c).arrAt 6 cfg0.N = G m c := by
  refine (dats m 0 c).arrAt_eq_of_covers 6 _ (by decide +kernel) fun t hf y => ?_
  blk_simp
  rw [after0_6]
  frame_out
  obtain ⟨r, C, rfl⟩ : ∃ (r : Fin 512) (C : Fin 1024), y = ix2 r C := ⟨_, _, eq_ix2 y⟩
  refine (point m c t r C).trans ?_
  have e : ((View.whole main_v6).slice (win0_6.rect t)).emb (ix2 r C) = ix2 (rowOf t r) C := by
    obtain ⟨e0, e1⟩ := idx6 t
    blk_ext [e0, e1, rowOf]
  show _ = G m c (((View.whole main_v6).slice (win0_6.rect t)).emb (ix2 r C))
  rw [e]
  rfl

end Cert.Kernel5Ideal.Tail

end
-- ==== Proof.TailSbRef.lean ====
module

public import proofs.«01_k».proof.Proof.TailSpec
public import proofs.«01_k».proof.Proof.Gen.Reference5Ideal.Run
public import Idealize.ShloMosaic.Lib.Claim
public import Idealize.ShloMosaic.Lib.StableHlo.RunRead
public import Idealize.ShloMosaic.Lib.Pointwise

/-! # The tail of layer 1 (the stick-breaking layer): what the reference leaves -/

@[expose] public section

set_option maxRecDepth 16384

noncomputable section

namespace Cert.Reference5Ideal.Tail

open Idealize.ShloMosaic Idealize.ShloMosaic.TcCoe Idealize.ShloMosaic.Tactic Cert.Reference5Ideal Cert.Reference5Ideal.Gen
open Idealize.SL Idealize.SL.RA Idealize.SL.BI

variable (m : (ℓ : Loc nD τ sig) → Buf (Elt Ideal) ℓ)

/-- Row `R` of the result, from the arguments. -/
def res (c : Dev nD) (R : Fin 16384) : Fin 1024 → EReal :=
  Tail.row (fun k : Fin 1024 => m ((c : Thread nD τ).loc main_arg0) (ix2 R k)) (fun k C => m ((c : Thread nD τ).loc main_arg3) (ix3 (0 : Fin 1) k C))
    (fun C => m ((c : Thread nD τ).loc main_arg1) (ix2 R C)) (fun C => m ((c : Thread nD τ).loc main_arg2) (ix2 (1 : Fin 4) C))
    (fun C f => m ((c : Thread nD τ).loc main_arg4) (ix3 (1 : Fin 4) C f)) (fun f C => m ((c : Thread nD τ).loc main_arg5) (ix3 (1 : Fin 4) f C))

/-- The output projection's one matrix, without its leading axis. -/
theorem wo_apply (P : FVec Ideal S1x1024x1024 .f32) (k : Fin 1024) (C : Fin 1024) :
    shapeCast S1024x1024 P shapeCasts_S1x1024x1024_S1024x1024 (ix2 k C) = P (ix3 (0 : Fin 1) k C) := by
  pointwise

/-- The reference's result at row `R` and column `C` is the formula there. -/
theorem value (c : Dev nD) (R : Fin 16384) (C : Fin 1024) :
    @Eq EReal (Value.res_main_v27 m c (ix2 R C)) (res m c R C) := by
  unfold Value.res_main_v27
  have hw := wo_apply (m ((c : Thread nD τ).loc main_arg3))
  unfold res
  simp only [← hw]
  clear hw
  generalize (shapeCast S1024x1024 (m ((c : Thread nD τ).loc main_arg3)) shapeCasts_S1x1024x1024_S1024x1024 : FVec Ideal S1024x1024 .f32) = W
  pointwise
  rfl

end Cert.Reference5Ideal.Tail

end
-- ==== Proof.TailSbClaim.lean ====
module

public import proofs.«01_k».proof.Defs
public import proofs.«01_k».proof.Proof.TailSbKernel
public import proofs.«01_k».proof.Proof.TailSbRef
public import proofs.«01_k».proof.Proof.Gen.Kernel5.Frame
public import Idealize.ShloMosaic.Lib.Claim
public import Idealize.ShloMosaic.Adequacy
public import Idealize.ShloMosaic.Init

/-! # The tail of layer 1 (the stick-breaking layer): the claims -/

@[expose] public section

set_option maxRecDepth 16384

noncomputable section

namespace Cert.Proof.TailSb

open Idealize.ShloMosaic Idealize.ShloMosaic.TcCoe Idealize.SL.Sem

/-- The tail's frame. -/
theorem frame_kernel : Cert.quiescent_Kernel5 (hKernel5 := Cert.Kernel5.Gen.facts) :=
  fun m ρ _ => Cert.Kernel5.Gen.frame m ρ

/-- The frame of the tail over the extended reals. -/
theorem frame_kernelIdeal : Cert.quiescent_Kernel5Ideal (hKernel5Ideal := Cert.Kernel5Ideal.Gen.facts) :=
  fun m ρ _ => Cert.Kernel5Ideal.Gen.frame m ρ

/-- The frame of the tail's reference: it declares no semaphore. -/
theorem frame_reference : Cert.quiescent_Reference5Ideal (hReference5Ideal := Cert.Reference5Ideal.Gen.facts) := fun m ρ _ =>
  (θ_run Cert.Reference5Ideal.defs _ _).mono (fun r h => ⟨fun c => (h c).2, sem_eq_zero_of_no_sems (by decide) r.2⟩)
    (Cert.Reference5Ideal.Value.run m ρ)

/-- The tail and its reference, from the same arguments, leave the same result. -/
theorem algebraic : Cert.algebraic_Kernel5Ideal_Reference5Ideal (hKernel5Ideal := Cert.Kernel5Ideal.Gen.facts)
    (hReference5Ideal := Cert.Reference5Ideal.Gen.facts) := by
  intro m ρ m' ρ' _ hagree
  refine ⟨Cert.Kernel5Ideal.Tail.G m, (θ_run Cert.Kernel5Ideal.defs _ _).mono (fun r h c => ⟨(h c).1.trans (Cert.Kernel5Ideal.Tail.final m c), (h c).2⟩)
      (Cert.Kernel5Ideal.Value.run_blocks m ρ),
    (θ_run Cert.Reference5Ideal.defs _ _).mono (fun r h c => ⟨(h c).1.trans ?_, (h c).2⟩) (Cert.Reference5Ideal.Value.run m' ρ')⟩
  funext i
  obtain ⟨R, C, rfl⟩ : ∃ (R : Fin 16384) (C : Fin 1024), i = ix2 R C := ⟨_, _, eq_ix2 i⟩
  have h0 : ∀ (i : Fin 16384) (j : Fin 1024), @Eq EReal (m' ((c.tc : Thread Cert.Reference5Ideal.nD Cert.Reference5Ideal.τ).loc Cert.Reference5Ideal.main_arg0) (ix2 i j))
      (m ((c.tc : Thread Cert.Kernel5Ideal.nD Cert.Kernel5Ideal.τ).loc Cert.Kernel5Ideal.main_arg0) (ix2 i j)) := fun i j => congrFun (hagree c).1 (ix2 i j)
  have h1 : ∀ (i : Fin 16384) (j : Fin 1024), @Eq EReal (m' ((c.tc : Thread Cert.Reference5Ideal.nD Cert.Reference5Ideal.τ).loc Cert.Reference5Ideal.main_arg1) (ix2 i j))
      (m ((c.tc : Thread Cert.Kernel5Ideal.nD Cert.Kernel5Ideal.τ).loc Cert.Kernel5Ideal.main_arg1) (ix2 i j)) := fun i j => congrFun (hagree c).2.1 (ix2 i j)
  have h2 : ∀ (i : Fin 4) (j : Fin 1024), @Eq EReal (m' ((c.tc : Thread Cert.Reference5Ideal.nD Cert.Reference5Ideal.τ).loc Cert.Reference5Ideal.main_arg2) (ix2 i j))
      (m ((c.tc : Thread Cert.Kernel5Ideal.nD Cert.Kernel5Ideal.τ).loc Cert.Kernel5Ideal.main_arg2) (ix2 i j)) := fun i j => congrFun (hagree c).2.2.1 (ix2 i j)
  have h3 : ∀ (i : Fin 1) (j : Fin 1024) (k : Fin 1024), @Eq EReal (m' ((c.tc : Thread Cert.Reference5Ideal.nD Cert.Reference5Ideal.τ).loc Cert.Reference5Ideal.main_arg3) (ix3 i j k))
      (m ((c.tc : Thread Cert.Kernel5Ideal.nD Cert.Kernel5Ideal.τ).loc Cert.Kernel5Ideal.main_arg3) (ix3 i j k)) := fun i j k => congrFun (hagree c).2.2.2.1 (ix3 i j k)
  have h4 : ∀ (i : Fin 4) (j : Fin 1024) (k : Fin 4096), @Eq EReal (m' ((c.tc : Thread Cert.Reference5Ideal.nD Cert.Reference5Ideal.τ).loc Cert.Reference5Ideal.main_arg4) (ix3 i j k))
      (m ((c.tc : Thread Cert.Kernel5Ideal.nD Cert.Kernel5Ideal.τ).loc Cert.Kernel5Ideal.main_arg4) (ix3 i j k)) := fun i j k => congrFun (hagree c).2.2.2.2.1 (ix3 i j k)
  have h5 : ∀ (i : Fin 4) (j : Fin 4096) (k : Fin 1024), @Eq EReal (m' ((c.tc : Thread Cert.Reference5Ideal.nD Cert.Reference5Ideal.τ).loc Cert.Reference5Ideal.main_arg5) (ix3 i j k))
      (m ((c.tc : Thread Cert.Kernel5Ideal.nD Cert.Kernel5Ideal.τ).loc Cert.Kernel5Ideal.main_arg5) (ix3 i j k)) := fun i j k => congrFun (hagree c).2.2.2.2.2 (ix3 i j k)
  refine (Cert.Reference5Ideal.Tail.value m' c R C).trans ?_
  show @Eq EReal _ (Cert.Kernel5Ideal.Tail.res m c R C)
  simp only [Cert.Reference5Ideal.Tail.res, Cert.Kernel5Ideal.Tail.res, h0, h1, h2, h3, h4, h5]

end Cert.Proof.TailSb

end
-- ==== Proof.ProjSpec.lean ====
module

public import proofs.«01_k».proof.Proof.TailSpec
public import Idealize.ShloMosaic.Lib.Pipeline.ValueKit

/-! # A layer's input projection, as a formula

A row of the stream, normed and scaled by the gain, against one column of the projection's weights; and how a
rectangle of an array is read at an index. -/

@[expose] public section

noncomputable section

namespace Proj

open Idealize.ShloMosaic

/-- The row `x` normed with the gain `g`, against the column `w`. -/
def at' (x g w : Fin 1024 → EReal) : EReal := ∑ k : Fin 1024, Tail.rms x g k * w k

/-- The column of a sliding-window layer's weights that column `C` of its projection reads: the queries' columns in place,
then each key and value head's 64 columns twice. -/
def swaCol (C : Fin 1536) : Fin 1280 :=
  if h : C.val < 1024 then ⟨C.val, by omega⟩ else ⟨1024 + 64 * ((C.val - 1024) / 128) + C.val % 64, by omega⟩

theorem swaCol_val_q (C : Fin 1536) (h : C.val < 1024) : (swaCol C).val = C.val := by
  unfold swaCol
  rw [dif_pos h]

theorem swaCol_val_kv (C : Fin 1536) (h : ¬ C.val < 1024) :
    (swaCol C).val = 1024 + 64 * ((C.val - 1024) / 128) + C.val % 64 := by
  unfold swaCol
  rw [dif_neg h]

theorem swaCol_q (C : Fin 1536) (D : Fin 1280) (h : C.val < 1024) (hD : D.val = C.val) : swaCol C = D := by
  unfold swaCol
  rw [dif_pos h]
  exact Fin.ext hD.symm

theorem swaCol_kv (C : Fin 1536) (D : Fin 1280) (g l : ℕ) (hl : l < 128) (hC : C.val = 1024 + 128 * g + l)
    (hD : D.val = 1024 + 64 * g + l % 64) : swaCol C = D := by
  unfold swaCol
  rw [dif_neg (by omega)]
  exact Fin.ext (by dsimp only; omega)

/-- A two-axis block load at an index is the array at the offset index. -/
theorem ld2 {e : EltTy} {n0 n1 a b p q : ℕ} (x : Vec Ideal ⟨2, ![n0, n1]⟩ e) (i) (r : Fin p) (s : Fin q) (u : Fin n0) (w : Fin n1)
    (hu : u.val = a + r.val) (hw : w.val = b + s.val) :
    View.ld x (Rect.unit ![a, b] ![p, q] i) (ix2 r s) = x (ix2 u w) := by
  refine congrArg x (funext fun k => Fin.ext ?_)
  match k with
  | ⟨0, _⟩ => show a + 1 * r.val = u.val; omega
  | ⟨1, _⟩ => show b + 1 * s.val = w.val; omega

/-- A three-axis block load at an index is the array at the offset index. -/
theorem ld3 {e : EltTy} {n0 n1 n2 a b c p q l : ℕ} (x : Vec Ideal ⟨3, ![n0, n1, n2]⟩ e) (i) (r : Fin p) (s : Fin q) (t : Fin l)
    (u : Fin n0) (w : Fin n1) (z : Fin n2) (hu : u.val = a + r.val) (hw : w.val = b + s.val) (hz : z.val = c + t.val) :
    View.ld x (Rect.unit ![a, b, c] ![p, q, l] i) (ix3 r s t) = x (ix3 u w z) := by
  refine congrArg x (funext fun k => Fin.ext ?_)
  match k with
  | ⟨0, _⟩ => show a + 1 * r.val = u.val; omega
  | ⟨1, _⟩ => show b + 1 * s.val = w.val; omega
  | ⟨2, _⟩ => show c + 1 * t.val = z.val; omega

/-- A two-axis rectangle's index at an index of its own is the offset index. -/
theorem emb2 {n0 n1 a b p q : ℕ} (i) (r : Fin p) (s : Fin q) (u : Fin n0) (w : Fin n1)
    (hu : u.val = a + r.val) (hw : w.val = b + s.val) :
    (Rect.unit (s := ⟨2, ![n0, n1]⟩) ![a, b] ![p, q] i).emb (ix2 r s) = ix2 u w := by
  refine funext fun k => Fin.ext ?_
  match k with
  | ⟨0, _⟩ => show a + 1 * r.val = u.val; omega
  | ⟨1, _⟩ => show b + 1 * s.val = w.val; omega

end Proj

end
-- ==== Proof.ProjRetKernel.lean ====
module

public import proofs.«01_k».proof.Proof.ProjSpec
public import proofs.«01_k».proof.Proof.Gen.Kernel6Ideal.Value
public import Idealize.ShloMosaic.Lib.Claim
public import Idealize.ShloMosaic.Lib.StableHlo.RunRead
public import Idealize.ShloMosaic.Lib.Pipeline.ReadBack
public import Idealize.ShloMosaic.Lib.Pipeline.ValueKit
public import Idealize.ShloMosaic.Lib.Pointwise

/-! # The input projection of layer 2 (the retention layer): what the kernel leaves

The grid's point `t` norms rows `512 t … 512 t + 511` of the stream and multiplies them by the layer's weights, 1024
columns at a time: columns 0 … 4095 go to the first result, columns 4096 … 6143 to the second. -/

@[expose] public section

set_option maxRecDepth 16384

noncomputable section

namespace Cert.Kernel6Ideal.Proj

open Idealize.ShloMosaic Idealize.ShloMosaic.TcCoe Idealize.ShloMosaic.Tactic Cert.Kernel6Ideal Cert.Kernel6Ideal.Gen
open Idealize.SL Idealize.SL.RA Idealize.SL.BI

/-! ## The body's arithmetic -/

section
variable (P0 : FVec Ideal S512x1024 .f32) (P1 : FVec Ideal S1x1024 .f32) (W : FVec Ideal S1x1024x1024 .bf16) (r : Fin 512) (c : Fin 1024)

/-- A group of columns of the block: the rows normed, against the group's columns of the weights. -/
theorem pay5_apply : k0_pay5 (F := Ideal) P0 P1 W (ix2 r c)
    = Proj.at' (fun k => P0 (ix2 r k)) (fun k => P1 (ix2 (0 : Fin 1) k)) (fun k => W (ix3 (0 : Fin 1) k c)) := by
  pointwise [k0_pay5, k0_pay4]
  rfl
theorem pay6_apply : k0_pay6 (F := Ideal) P0 P1 W (ix2 r c)
    = Proj.at' (fun k => P0 (ix2 r k)) (fun k => P1 (ix2 (0 : Fin 1) k)) (fun k => W (ix3 (0 : Fin 1) k c)) := pay5_apply P0 P1 W r c
theorem pay7_apply : k0_pay7 (F := Ideal) P0 P1 W (ix2 r c)
    = Proj.at' (fun k => P0 (ix2 r k)) (fun k => P1 (ix2 (0 : Fin 1) k)) (fun k => W (ix3 (0 : Fin 1) k c)) := pay5_apply P0 P1 W r c
theorem pay1_apply : k0_pay1 (F := Ideal) (k0_pay4 P0 P1) W (ix2 r c)
    = Proj.at' (fun k => P0 (ix2 r k)) (fun k => P1 (ix2 (0 : Fin 1) k)) (fun k => W (ix3 (0 : Fin 1) k c)) := pay5_apply P0 P1 W r c
theorem pay2_apply : k0_pay2 (F := Ideal) (k0_pay4 P0 P1) W (ix2 r c)
    = Proj.at' (fun k => P0 (ix2 r k)) (fun k => P1 (ix2 (0 : Fin 1) k)) (fun k => W (ix3 (0 : Fin 1) k c)) := by
  pointwise [k0_pay2, k0_pay4]
  rfl
theorem pay3_apply : k0_pay3 (F := Ideal) (k0_pay4 P0 P1) W (ix2 r c)
    = Proj.at' (fun k => P0 (ix2 r k)) (fun k => P1 (ix2 (0 : Fin 1) k)) (fun k => W (ix3 (0 : Fin 1) k c)) := pay2_apply P0 P1 W r c
end

/-! ## A point's blocks -/

section
variable (X : Vec Ideal S512x1024 .f32) (G : Vec Ideal S1x1024 .f32) (W : Vec Ideal S1x1024x6144 .bf16)

/-- Column `c` of row `r` of the projection of the block. -/
def col (r : Fin 512) (c : Fin 6144) : EReal :=
  Proj.at' (fun k => X (ix2 r k)) (fun k => G (ix2 (0 : Fin 1) k)) (fun k => W (ix3 (0 : Fin 1) k c))
/-- The block of the first result. -/
def y3 : Vec Ideal S512x4096 .bf16 := fun y => col X G W (y 0) ⟨(y 1).val, by have : (y 1).val < 4096 := (y 1).isLt; omega⟩
/-- The block of the second result. -/
def y4 : Vec Ideal S512x2048 .f32 := fun y => col X G W (y 0) ⟨4096 + (y 1).val, by have : (y 1).val < 2048 := (y 1).isLt; omega⟩

/-- A group of columns, its operands read as loads of the blocks, is the projection's columns at the group's offset. -/
theorem group (r : Fin 512) (c : Fin 1024) (C : Fin 6144) (o : ℕ) (hi) (hC : C.val = o + c.val) :
    Proj.at' (fun k => View.ld X r0_0 (ix2 r k)) (fun k => View.ld G r0_1 (ix2 (0 : Fin 1) k))
      (fun k => View.ld W (Rect.unit (s := S1x1024x6144) ![0, 0, o] S1x1024x1024.size hi) (ix3 (0 : Fin 1) k c)) = col X G W r C := by
  unfold col
  congr 1
  · exact funext fun k => Proj.ld2 X _ r k r k (Nat.zero_add _).symm (Nat.zero_add _).symm
  · exact funext fun k => Proj.ld2 G _ 0 k 0 k rfl (Nat.zero_add _).symm
  · exact funext fun k => Proj.ld3 W _ 0 k c 0 k C rfl (Nat.zero_add _).symm hC

theorem out3 : out0_3 (F := Ideal) X G W = y3 X G W := by
  unfold out0_3 k0_pay8
  funext y
  refine View.canon_append_of_piecesOf (y3 X G W) [] [_, _, _, _] ⟨fun x => ?_, fun x => ?_, fun x => ?_, fun x => ?_, trivial⟩ y
    (View.cover_of_tiledL _ ![512, 1024] (by sl_kernel_rfl) y)
  all_goals obtain ⟨r, c, rfl⟩ : ∃ (r : Fin 512) (c : Fin 1024), x = ix2 r c := ⟨_, _, eq_ix2 x⟩
  · refine (pay1_apply _ _ _ r c).trans ((group X G W r c ⟨3072 + c.val, by omega⟩ 3072 _ rfl).trans ?_)
    rw [show r0_9.emb (ix2 r c) = ix2 r (⟨3072 + c.val, by omega⟩ : Fin 4096) from Proj.emb2 _ _ _ _ _ (Nat.zero_add _).symm rfl]
    rfl
  · refine (pay7_apply _ _ _ r c).trans ((group X G W r c ⟨2048 + c.val, by omega⟩ 2048 _ rfl).trans ?_)
    rw [show r0_7.emb (ix2 r c) = ix2 r (⟨2048 + c.val, by omega⟩ : Fin 4096) from Proj.emb2 _ _ _ _ _ (Nat.zero_add _).symm rfl]
    rfl
  · refine (pay6_apply _ _ _ r c).trans ((group X G W r c ⟨1024 + c.val, by omega⟩ 1024 _ rfl).trans ?_)
    rw [show r0_5.emb (ix2 r c) = ix2 r (⟨1024 + c.val, by omega⟩ : Fin 4096) from Proj.emb2 _ _ _ _ _ (Nat.zero_add _).symm rfl]
    rfl
  · refine (pay5_apply _ _ _ r c).trans ((group X G W r c ⟨c.val, by omega⟩ 0 _ (Nat.zero_add _).symm).trans ?_)
    rw [show r0_3.emb (ix2 r c) = ix2 r (⟨c.val, by omega⟩ : Fin 4096) from Proj.emb2 _ _ _ _ _ (Nat.zero_add _).symm (Nat.zero_add _).symm]
    rfl

theorem out4 : out0_4 (F := Ideal) X G W = y4 X G W := by
  unfold out0_4 k0_pay8
  funext y
  refine View.canon_append_of_piecesOf (y4 X G W) [] [_, _] ⟨fun x => ?_, fun x => ?_, trivial⟩ y
    (View.cover_of_tiledL _ ![512, 1024] (by sl_kernel_rfl) y)
  all_goals obtain ⟨r, c, rfl⟩ : ∃ (r : Fin 512) (c : Fin 1024), x = ix2 r c := ⟨_, _, eq_ix2 x⟩
  · refine (pay3_apply _ _ _ r c).trans ((group X G W r c ⟨4096 + (1024 + c.val), by omega⟩ 5120 _ (by simp only; omega)).trans ?_)
    rw [show r0_13.emb (ix2 r c) = ix2 r (⟨1024 + c.val, by omega⟩ : Fin 2048) from Proj.emb2 _ _ _ _ _ (Nat.zero_add _).symm rfl]
    rfl
  · refine (pay2_apply _ _ _ r c).trans ((group X G W r c ⟨4096 + c.val, by omega⟩ 4096 _ rfl).trans ?_)
    rw [show r0_11.emb (ix2 r c) = ix2 r (⟨c.val, by omega⟩ : Fin 2048) from Proj.emb2 _ _ _ _ _ (Nat.zero_add _).symm (Nat.zero_add _).symm]
    rfl
end

/-! ## The blocks a point reads -/

variable (m : (ℓ : Loc nD τ sig) → Buf (Elt Ideal) ℓ)

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 3) = 0 ∧ win0_2.index t (1 : Fin 3) = 0 ∧ win0_2.index t (2 : Fin 3) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)
theorem idx4 : ∀ t : Fin cfg0.N, win0_4.index t (0 : Fin 2) = t.val ∧ win0_4.index t (1 : Fin 2) = 0 :=
  (by decide +kernel : ∀ t : Fin grid0.N, _)

/-- Row `r` of point `t`'s block of the stream is row `512 t + r` of it. -/
theorem blk0 (c : Dev nD) (t : Fin cfg0.N) (r : Fin 512) (k : Fin 1024) (R : Fin 16384) (hR : R.val = 512 * t.val + r.val) :
    iblk m c 0 t (ix2 r k) = m ((c : Thread nD τ).loc main_arg0) (ix2 R k) := by
  obtain ⟨e0, e1⟩ := idx0 t
  blk_ext [iblk, V, e0, e1]

/-- The block of gains is row 2 of the norms' gains. -/
theorem blk1 (c : Dev nD) (t : Fin cfg0.N) (k : Fin 1024) :
    iblk m c 1 t (ix2 (0 : Fin 1) k) = m ((c : Thread nD τ).loc main_arg1) (ix2 (2 : Fin 4) k) := by
  have e : ((View.whole main_v3).slice (win0_1.rect t)).emb (ix2 (0 : Fin 1) k) = ix2 (0 : Fin 1) k := by
    obtain ⟨e0, e1⟩ := idx1 t
    blk_ext [e0, e1]
  blk_simp [iblk]
  rw [e]
  unfold V
  after_reads_simp
  pointwise

/-- The block of the weights is the weights. -/
theorem blk2 (c : Dev nD) (t : Fin cfg0.N) (i : Fin 1024) (j : Fin 6144) :
    iblk m c 2 t (ix3 (0 : Fin 1) i j) = m ((c : Thread nD τ).loc main_arg2) (ix3 (0 : Fin 1) i j) := by
  have e : ((View.whole main_v2).slice (win0_2.rect t)).emb (ix3 (0 : Fin 1) i j) = ix3 (0 : Fin 1) i j := by
    obtain ⟨e0, e1, e2⟩ := idx2 t
    blk_ext [e0, e1, e2]
  blk_simp [iblk]
  rw [e]
  unfold V
  after_reads_simp
  pointwise

/-! ## The results -/

/-- Column `C` of row `R` of the projection, from the arguments. -/
def res (c : Dev nD) (R : Fin 16384) (C : Fin 6144) : EReal :=
  Proj.at' (fun k => m ((c : Thread nD τ).loc main_arg0) (ix2 R k)) (fun k => m ((c : Thread nD τ).loc main_arg1) (ix2 (2 : Fin 4) k))
    (fun k => m ((c : Thread nD τ).loc main_arg2) (ix3 (0 : Fin 1) k C))
/-- The first result, from the arguments. -/
def G3 (c : Dev nD) : S16384x4096.Idx → EReal := fun i => res m c (i 0) ⟨(i 1).val, by have : (i 1).val < 4096 := (i 1).isLt; omega⟩
/-- The second result, from the arguments. -/
def G4 (c : Dev nD) : S16384x2048.Idx → EReal := fun i => res m c (i 0) ⟨4096 + (i 1).val, by have : (i 1).val < 2048 := (i 1).isLt; omega⟩
theorem points : cfg0.N = 32 := by decide +kernel
/-- The row of the arrays that row `r` of point `t`'s block is. -/
def rowOf (t : Fin cfg0.N) (r : Fin 512) : Fin 16384 := ⟨512 * t.val + r.val, by have := t.isLt; have := points; omega⟩

/-- What point `t` computes. -/
theorem point (c : Dev nD) (t : Fin cfg0.N) (r : Fin 512) (C : Fin 6144) :
    col (iblk m c 0 t) (iblk m c 1 t) (iblk m c 2 t) r C = res m c (rowOf t r) C := by
  unfold col
  simp only [blk0 m c t r _ (rowOf t r) rfl, blk1 m c t, blk2 m c t]
  rfl

/-- The first array the run leaves. -/
theorem final3 (c : Dev nD) : (dats m 0 c).arrAt 3 cfg0.N = G3 m c := by
  refine (dats m 0 c).arrAt_eq_of_covers 3 _ (by decide +kernel) fun t hf y => ?_
  blk_simp
  rw [after0_3, out3]
  obtain ⟨r, C, rfl⟩ : ∃ (r : Fin 512) (C : Fin 4096), y = ix2 r C := ⟨_, _, eq_ix2 y⟩
  refine (point m c t r ⟨C.val, by omega⟩).trans ?_
  have e : ((View.whole main_v4_0).slice (win0_3.rect t)).emb (ix2 r C) = ix2 (rowOf t r) C := by
    obtain ⟨e0, e1⟩ := idx3 t
    blk_ext [e0, e1, rowOf]
  show _ = G3 m c (((View.whole main_v4_0).slice (win0_3.rect t)).emb (ix2 r C))
  rw [e]
  rfl

/-- The second array the run leaves. -/
theorem final4 (c : Dev nD) : (dats m 0 c).arrAt 4 cfg0.N = G4 m c := by
  refine (dats m 0 c).arrAt_eq_of_covers 4 _ (by decide +kernel) fun t hf y => ?_
  blk_simp
  rw [after0_4, out4]
  obtain ⟨r, C, rfl⟩ : ∃ (r : Fin 512) (C : Fin 2048), y = ix2 r C := ⟨_, _, eq_ix2 y⟩
  refine (point m c t r ⟨4096 + C.val, by omega⟩).trans ?_
  have e : ((View.whole main_v4_1).slice (win0_4.rect t)).emb (ix2 r C) = ix2 (rowOf t r) C := by
    obtain ⟨e0, e1⟩ := idx4 t
    blk_ext [e0, e1, rowOf]
  show _ = G4 m c (((View.whole main_v4_1).slice (win0_4.rect t)).emb (ix2 r C))
  rw [e]
  rfl

end Cert.Kernel6Ideal.Proj

end
-- ==== Proof.ProjRetRef.lean ====
module

public import proofs.«01_k».proof.Proof.ProjSpec
public import proofs.«01_k».proof.Proof.Gen.Reference6Ideal.Run
public import Idealize.ShloMosaic.Lib.Claim
public import Idealize.ShloMosaic.Lib.StableHlo.RunRead
public import Idealize.ShloMosaic.Lib.Pointwise

/-! # The input projection of layer 2 (the retention layer): what the reference leaves -/

@[expose] public section

set_option maxRecDepth 16384

noncomputable section

namespace Cert.Reference6Ideal.Proj

open Idealize.ShloMosaic Idealize.ShloMosaic.TcCoe Idealize.ShloMosaic.Tactic Cert.Reference6Ideal Cert.Reference6Ideal.Gen
open Idealize.SL Idealize.SL.RA Idealize.SL.BI

/-- The one matrix of weights, without its leading axis. -/
theorem w_apply (P : FVec Ideal S1x1024x6144 .f32) (k : Fin 1024) (C : Fin 6144) :
    shapeCast S1024x6144 P shapeCasts_S1x1024x6144_S1024x6144 (ix2 k C) = P (ix3 (0 : Fin 1) k C) := by
  pointwise

/-- The normed rows of the stream, as the reference writes them. -/
def normed (X : FVec Ideal S16384x1024 .f32) (Gn : FVec Ideal S4x1024 .f32) : FVec Ideal S16384x1024 .f32 :=
  mulf (mulf X (broadcastInDim S16384x1024 ![0, 1] bcast_S16384x1_S16384x1024_0_1 (Host.rsqrt (addf (Host.divf (broadcastInDim S16384x1 ![0] bcast_S16384_S16384x1_0 (Host.reduceAdd (mulf X X) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 (shapeCast _ (extractStridedSlice S1x1024 ![2, 0] Gn slices_S4x1024_S1x1024_2_0) shapeCasts_S1x1024_S1024)))

/-- The whole projection, as the reference writes it. -/
def proj (X : FVec Ideal S16384x1024 .f32) (Gn : FVec Ideal S4x1024 .f32) (W : FVec Ideal S1x1024x6144 .f32) : FVec Ideal S16384x6144 .f32 :=
  Host.dotGeneral dot_S16384x1024_S1024x6144_S16384x6144_1_0_0_1_n_n none (normed X Gn) (shapeCast _ W shapeCasts_S1x1024x6144_S1024x6144)

theorem proj_apply (X : FVec Ideal S16384x1024 .f32) (Gn : FVec Ideal S4x1024 .f32) (W : FVec Ideal S1x1024x6144 .f32) (R : Fin 16384) (C : Fin 6144) :
    proj X Gn W (ix2 R C)
      = Proj.at' (fun k => X (ix2 R k)) (fun k => Gn (ix2 (2 : Fin 4) k)) (fun k => W (ix3 (0 : Fin 1) k C)) := by
  have hw := w_apply W
  unfold proj normed
  simp only [← hw]
  clear hw
  generalize (shapeCast S1024x6144 W shapeCasts_S1x1024x6144_S1024x6144 : FVec Ideal S1024x6144 .f32) = W'
  pointwise
  rfl

/-- The first result: the projection's columns 0 … 4095. -/
def first (P : FVec Ideal S16384x6144 .f32) : FVec Ideal S16384x4096 .bf16 :=
  truncf .bf16 (extractStridedSlice S16384x4096 ![0, 0] P slices_S16384x6144_S16384x4096_0_0) bitsLt_bf16_f32
/-- The second result: the projection's columns 4096 … 6143. -/
def second (P : FVec Ideal S16384x6144 .f32) : FVec Ideal S16384x2048 .f32 :=
  extractStridedSlice S16384x2048 ![0, 4096] P slices_S16384x6144_S16384x2048_0_4096

theorem first_apply (P : FVec Ideal S16384x6144 .f32) (R : Fin 16384) (C : Fin 4096) :
    @Eq EReal (first P (ix2 R C)) (P (ix2 R (⟨C.val, by omega⟩ : Fin 6144))) := by
  pointwise [first]
theorem second_apply (P : FVec Ideal S16384x6144 .f32) (R : Fin 16384) (C : Fin 2048) :
    @Eq EReal (second P (ix2 R C)) (P (ix2 R (⟨4096 + C.val, by omega⟩ : Fin 6144))) := by
  pointwise [second]

variable (m : (ℓ : Loc nD τ sig) → Buf (Elt Ideal) ℓ) (ρ : Dev nD → PrngReg)

/-- The projection of the arguments. -/
def P (c : Dev nD) : FVec Ideal S16384x6144 .f32 :=
  proj (m ((c.tc : Thread nD τ).loc main_arg0)) (m ((c.tc : Thread nD τ).loc main_arg1)) (m ((c.tc : Thread nD τ).loc main_arg2))

/-- The run, with the results named. -/
theorem run : θ_run defs (onTc (τ := τ) (main (F := Ideal))) ⟨m, fun _ => 0, ρ⟩ fun r => ∀ c : Dev nD,
      r.2.mem ((c.tc : Thread nD τ).loc main_v19) = first (P m c)
      ∧ r.2.mem ((c.tc : Thread nD τ).loc main_v18) = second (P m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Value.run m ρ

end Cert.Reference6Ideal.Proj

end
-- ==== Proof.ProjRetClaim.lean ====
module

public import proofs.«01_k».proof.Defs
public import proofs.«01_k».proof.Proof.ProjRetKernel
public import proofs.«01_k».proof.Proof.ProjRetRef
public import proofs.«01_k».proof.Proof.Gen.Kernel6.Frame
public import Idealize.ShloMosaic.Lib.Claim
public import Idealize.ShloMosaic.Adequacy
public import Idealize.ShloMosaic.Init

/-! # The input projection of layer 2 (the retention layer): the claims -/

@[expose] public section

set_option maxRecDepth 16384

noncomputable section

namespace Cert.Proof.ProjRet

open Idealize.ShloMosaic Idealize.ShloMosaic.TcCoe Idealize.SL.Sem

/-- The projection's frame. -/
theorem frame_kernel : Cert.quiescent_Kernel6 (hKernel6 := Cert.Kernel6.Gen.facts) :=
  fun m ρ _ => Cert.Kernel6.Gen.frame m ρ

/-- The frame of the projection over the extended reals. -/
theorem frame_kernelIdeal : Cert.quiescent_Kernel6Ideal (hKernel6Ideal := Cert.Kernel6Ideal.Gen.facts) :=
  fun m ρ _ => Cert.Kernel6Ideal.Gen.frame m ρ

/-- The frame of the projection's reference: it declares no semaphore. -/
theorem frame_reference : Cert.quiescent_Reference6Ideal (hReference6Ideal := Cert.Reference6Ideal.Gen.facts) := fun m ρ _ =>
  (θ_run Cert.Reference6Ideal.defs _ _).mono (fun r h => ⟨fun c => (h c).2.2, sem_eq_zero_of_no_sems (by decide) r.2⟩)
    (Cert.Reference6Ideal.Proj.run m ρ)

/-- The projection and its reference, from the same arguments, leave the same results. -/
theorem algebraic : Cert.algebraic_Kernel6Ideal_Reference6Ideal (hKernel6Ideal := Cert.Kernel6Ideal.Gen.facts)
    (hReference6Ideal := Cert.Reference6Ideal.Gen.facts) := by
  intro m ρ m' ρ' _ hagree
  have value : ∀ (c : Dev Cert.Kernel6Ideal.nD) (R : Fin 16384) (C : Fin 6144),
      @Eq EReal (Cert.Reference6Ideal.Proj.P m' c (ix2 R C)) (Cert.Kernel6Ideal.Proj.res m c R C) := by
    intro c R C
    have h0 : ∀ (i : Fin 16384) (j : Fin 1024), @Eq EReal (m' ((c.tc : Thread Cert.Reference6Ideal.nD Cert.Reference6Ideal.τ).loc Cert.Reference6Ideal.main_arg0) (ix2 i j))
        (m ((c.tc : Thread Cert.Kernel6Ideal.nD Cert.Kernel6Ideal.τ).loc Cert.Kernel6Ideal.main_arg0) (ix2 i j)) := fun i j => congrFun (hagree c).1 (ix2 i j)
    have h1 : ∀ (i : Fin 4) (j : Fin 1024), @Eq EReal (m' ((c.tc : Thread Cert.Reference6Ideal.nD Cert.Reference6Ideal.τ).loc Cert.Reference6Ideal.main_arg1) (ix2 i j))
        (m ((c.tc : Thread Cert.Kernel6Ideal.nD Cert.Kernel6Ideal.τ).loc Cert.Kernel6Ideal.main_arg1) (ix2 i j)) := fun i j => congrFun (hagree c).2.1 (ix2 i j)
    have h2 : ∀ (i : Fin 1) (j : Fin 1024) (k : Fin 6144), @Eq EReal (m' ((c.tc : Thread Cert.Reference6Ideal.nD Cert.Reference6Ideal.τ).loc Cert.Reference6Ideal.main_arg2) (ix3 i j k))
        (m ((c.tc : Thread Cert.Kernel6Ideal.nD Cert.Kernel6Ideal.τ).loc Cert.Kernel6Ideal.main_arg2) (ix3 i j k)) := fun i j k => congrFun (hagree c).2.2 (ix3 i j k)
    refine (Cert.Reference6Ideal.Proj.proj_apply _ _ _ R C).trans ?_
    simp only [Cert.Kernel6Ideal.Proj.res, h0, h1, h2]
  refine ⟨Cert.Kernel6Ideal.Proj.G3 m, Cert.Kernel6Ideal.Proj.G4 m,
    (θ_run Cert.Kernel6Ideal.defs _ _).mono (fun r h c => ⟨(h c).1.trans (Cert.Kernel6Ideal.Proj.final3 m c),
      (h c).2.1.trans (Cert.Kernel6Ideal.Proj.final4 m c), (h c).2.2⟩) (Cert.Kernel6Ideal.Value.run_blocks m ρ),
    (θ_run Cert.Reference6Ideal.defs _ _).mono (fun r h c => ⟨(h c).1.trans ?_, (h c).2.1.trans ?_, (h c).2.2⟩) (Cert.Reference6Ideal.Proj.run m' ρ')⟩
  · funext i
    obtain ⟨R, C, rfl⟩ : ∃ (R : Fin 16384) (C : Fin 4096), i = ix2 R C := ⟨_, _, eq_ix2 i⟩
    exact (Cert.Reference6Ideal.Proj.first_apply _ R C).trans (value c R _)
  · funext i
    obtain ⟨R, C, rfl⟩ : ∃ (R : Fin 16384) (C : Fin 2048), i = ix2 R C := ⟨_, _, eq_ix2 i⟩
    exact (Cert.Reference6Ideal.Proj.second_apply _ R C).trans (value c R _)

end Cert.Proof.ProjRet

end
-- ==== Proof.ProjSbKernel.lean ====
module

public import proofs.«01_k».proof.Proof.ProjSpec
public import proofs.«01_k».proof.Proof.Gen.Kernel7Ideal.Value
public import Idealize.ShloMosaic.Lib.Claim
public import Idealize.ShloMosaic.Lib.StableHlo.RunRead
public import Idealize.ShloMosaic.Lib.Pipeline.ReadBack
public import Idealize.ShloMosaic.Lib.Pipeline.ValueKit
public import Idealize.ShloMosaic.Lib.Pointwise

/-! # The input projection of layer 1 (the stick-breaking layer): what the kernel leaves

The grid's first point stores the weights, cast, in a buffer that the later points find as it left them. Point `t` norms
rows `1024 t … 1024 t + 1023` of the stream and multiplies them by the weights of the buffer, 1024 columns at a time. -/

@[expose] public section

set_option maxRecDepth 16384

noncomputable section

namespace Cert.Kernel7Ideal.Proj

open Idealize.ShloMosaic Idealize.ShloMosaic.TcCoe Idealize.ShloMosaic.Tactic Cert.Kernel7Ideal Cert.Kernel7Ideal.Gen
open Idealize.SL Idealize.SL.RA Idealize.SL.BI

/-! ## The body's arithmetic -/

section
variable (P0 : FVec Ideal S1024x1024 .f32) (P1 : FVec Ideal S1x1024 .f32) (W : FVec Ideal S1024x1024 .bf16) (r : Fin 1024) (c : Fin 1024)

/-- A group of columns of the block: the rows normed, against the group's columns of the weights. -/
theorem pay3_apply : k0_pay3 (F := Ideal) P0 P1 W (ix2 r c)
    = Proj.at' (fun k => P0 (ix2 r k)) (fun k => P1 (ix2 (0 : Fin 1) k)) (fun k => W (ix2 k c)) := by
  pointwise [k0_pay3, k0_pay2]
  rfl
theorem pay4_apply : k0_pay4 (F := Ideal) P0 P1 W (ix2 r c)
    = Proj.at' (fun k => P0 (ix2 r k)) (fun k => P1 (ix2 (0 : Fin 1) k)) (fun k => W (ix2 k c)) := pay3_apply P0 P1 W r c
theorem pay5_apply : k0_pay5 (F := Ideal) P0 P1 W (ix2 r c)
    = Proj.at' (fun k => P0 (ix2 r k)) (fun k => P1 (ix2 (0 : Fin 1) k)) (fun k => W (ix2 k c)) := pay3_apply P0 P1 W r c

/-- The weights the first point stores. -/
theorem pay1_apply (w : FVec Ideal S1x1024x3072 .f32) (k : Fin 1024) (C : Fin 3072) :
    k0_pay1 (F := Ideal) w (ix2 k C) = w (ix3 (0 : Fin 1) k C) := by
  pointwise [k0_pay1]
end

/-! ## A point's block -/

section
variable (X : Vec Ideal S1024x1024 .f32) (G : Vec Ideal S1x1024 .f32) (W : Vec Ideal S1024x3072 .bf16)

/-- Column `c` of row `r` of the projection of the block. -/
def col (r : Fin 1024) (c : Fin 3072) : EReal :=
  Proj.at' (fun k => X (ix2 r k)) (fun k => G (ix2 (0 : Fin 1) k)) (fun k => W (ix2 k c))
/-- The block of the result. -/
def yB : Vec Ideal S1024x3072 .bf16 := fun y => col X G W (y 0) (y 1)

/-- A group of columns, its weights read as a load of the buffer, is the projection's columns at the group's offset. -/
theorem group (r : Fin 1024) (c : Fin 1024) (C : Fin 3072) (o : ℕ) (hi) (hC : C.val = o + c.val) :
    Proj.at' (fun k => X (ix2 r k)) (fun k => G (ix2 (0 : Fin 1) k))
      (fun k => View.ld W (Rect.unit (s := S1024x3072) ![0, o] S1024x1024.size hi) (ix2 k c)) = col X G W r C := by
  unfold col
  congr 1
  exact funext fun k => Proj.ld2 W _ k c k C (Nat.zero_add _).symm hC

theorem canon_eq :
    (View.canon [⟨Rect.unit ![0, 2048] ![1024, 1024] inb_S1024x3072_S1024x1024_0_2048,
          k0_pay5 (F := Ideal) X G (View.ld W (Rect.unit ![0, 2048] ![1024, 1024] inb_S1024x3072_S1024x1024_0_2048))⟩,
        ⟨Rect.unit ![0, 1024] ![1024, 1024] inb_S1024x3072_S1024x1024_0_1024,
          k0_pay4 X G (View.ld W (Rect.unit ![0, 1024] ![1024, 1024] inb_S1024x3072_S1024x1024_0_1024))⟩,
        ⟨Rect.unit ![0, 0] ![1024, 1024] inb_S1024x3072_S1024x1024_0_0,
          k0_pay3 X G (View.ld W (Rect.unit ![0, 0] ![1024, 1024] inb_S1024x3072_S1024x1024_0_0))⟩] : Vec Ideal S1024x3072 .bf16)
      = yB X G W := by
  funext y
  refine View.canon_append_of_piecesOf (yB X G W) [] [_, _, _] ⟨fun x => ?_, fun x => ?_, fun x => ?_, trivial⟩ y
    (View.cover_of_tiledL _ ![1024, 1024] (by sl_kernel_rfl) y)
  all_goals obtain ⟨r, c, rfl⟩ : ∃ (r : Fin 1024) (c : Fin 1024), x = ix2 r c := ⟨_, _, eq_ix2 x⟩
  · refine (pay5_apply _ _ _ r c).trans ((group X G W r c ⟨2048 + c.val, by omega⟩ 2048 _ rfl).trans ?_)
    dsimp only
    rw [Proj.emb2 _ r c r (⟨2048 + c.val, by omega⟩ : Fin 3072) (Nat.zero_add _).symm rfl]
    rfl
  · refine (pay4_apply _ _ _ r c).trans ((group X G W r c ⟨1024 + c.val, by omega⟩ 1024 _ rfl).trans ?_)
    dsimp only
    rw [Proj.emb2 _ r c r (⟨1024 + c.val, by omega⟩ : Fin 3072) (Nat.zero_add _).symm rfl]
    rfl
  · refine (pay3_apply _ _ _ r c).trans ((group X G W r c ⟨c.val, by omega⟩ 0 _ (Nat.zero_add _).symm).trans ?_)
    dsimp only
    rw [Proj.emb2 _ r c r (⟨c.val, by omega⟩ : Fin 3072) (Nat.zero_add _).symm (Nat.zero_add _).symm]
    rfl
end

variable (m : (ℓ : Loc nD τ sig) → Buf (Elt Ideal) ℓ)

/-! ## What a point leaves -/

theorem scr_A (c : Dev nD) (t : Fin cfg0.N) (h0 : t.val % 16 = 0) :
    (outsAt0 m c t.val t.isLt).2 = k0_pay1 (F := Ideal) (iblk m c 2 t) := by
  rw [outsAt0_A m c t h0]
  frame_open
  simp (disch := decide) only [↓ View.readCov_skip, ↓ View.readCov_cons_toLoadRect, ↓ View.readCov_fill]
  frame_out

theorem scr_B (c : Dev nD) (t : Fin cfg0.N) (h0 : ¬ t.val % 16 = 0) :
    (outsAt0 m c t.val t.isLt).2 = (outsAt0 m c (t.val - 1) (Nat.lt_of_le_of_lt (Nat.sub_le _ _) t.isLt)).2 := by
  rw [outsAt0_B m c t h0]
  rfl

theorem out_A (c : Dev nD) (t : Fin cfg0.N) (h0 : t.val % 16 = 0) :
    (outsAt0 m c t.val t.isLt).1 = yB (iblk m c 0 t) (iblk m c 1 t) (k0_pay1 (F := Ideal) (iblk m c 2 t)) := by
  rw [outsAt0_A m c t h0]
  frame_open
  simp (disch := decide) only [↓ View.readCov_skip, ↓ View.readCov_cons_toLoadRect, ↓ View.readCov_fill]
  frame_out
  exact canon_eq _ _ _

theorem out_B (c : Dev nD) (t : Fin cfg0.N) (h0 : ¬ t.val % 16 = 0) :
    (outsAt0 m c t.val t.isLt).1 = yB (iblk m c 0 t) (iblk m c 1 t) (outsAt0 m c (t.val - 1) (Nat.lt_of_le_of_lt (Nat.sub_le _ _) t.isLt)).2 := by
  rw [outsAt0_B m c t h0]
  frame_open
  simp (disch := decide) only [↓ View.readCov_skip, ↓ View.readCov_cons_toLoadRect, ↓ View.readCov_fill]
  frame_out
  simp only [read_unread_whole]
  exact canon_eq _ _ _

/-! ## The blocks a point reads -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 3) = 0 ∧ win0_2.index t (1 : Fin 3) = 0 ∧ win0_2.index t (2 : Fin 3) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)

/-- Row `r` of point `t`'s block of the stream is row `1024 t + r` of it. -/
theorem blk0 (c : Dev nD) (t : Fin cfg0.N) (r : Fin 1024) (k : Fin 1024) (R : Fin 16384) (hR : R.val = 1024 * t.val + r.val) :
    iblk m c 0 t (ix2 r k) = m ((c : Thread nD τ).loc main_arg0) (ix2 R k) := by
  obtain ⟨e0, e1⟩ := idx0 t
  blk_ext [iblk, V, e0, e1]

/-- The block of gains is row 1 of the norms' gains. -/
theorem blk1 (c : Dev nD) (t : Fin cfg0.N) (k : Fin 1024) :
    iblk m c 1 t (ix2 (0 : Fin 1) k) = m ((c : Thread nD τ).loc main_arg1) (ix2 (1 : Fin 4) k) := by
  have e : ((View.whole main_v2).slice (win0_1.rect t)).emb (ix2 (0 : Fin 1) k) = ix2 (0 : Fin 1) k := by
    obtain ⟨e0, e1⟩ := idx1 t
    blk_ext [e0, e1]
  blk_simp [iblk]
  rw [e]
  unfold V
  after_reads_simp
  pointwise

/-- The block of the weights is the layer's weights. -/
theorem blk2 (c : Dev nD) (t : Fin cfg0.N) (i : Fin 1024) (j : Fin 3072) :
    iblk m c 2 t (ix3 (0 : Fin 1) i j) = m ((c : Thread nD τ).loc main_arg2) (ix3 (0 : Fin 1) i j) := by
  obtain ⟨e0, e1, e2⟩ := idx2 t
  blk_ext [iblk, V, e0, e1, e2]

/-! ## The weights' buffer -/

/-- Every point leaves the layer's weights in the buffer. -/
theorem scr (c : Dev nD) : ∀ (n : ℕ) (hn : n < cfg0.N) (k : Fin 1024) (C : Fin 3072),
    @Eq EReal ((outsAt0 m c n hn).2 (ix2 k C)) (m ((c : Thread nD τ).loc main_arg2) (ix3 (0 : Fin 1) k C))
  | 0, hn, k, C => by
    refine (congrFun (scr_A m c ⟨0, hn⟩ rfl) _).trans ((pay1_apply _ k C).trans (blk2 m c ⟨0, hn⟩ k C))
  | n + 1, hn, k, C => by
    by_cases h0 : (n + 1) % 16 = 0
    · exact (congrFun (scr_A m c ⟨n + 1, hn⟩ h0) _).trans ((pay1_apply _ k C).trans (blk2 m c ⟨n + 1, hn⟩ k C))
    · exact (congrFun (scr_B m c ⟨n + 1, hn⟩ h0) _).trans (scr c n _ k C)

/-! ## The result -/

/-- Column `C` of row `R` of the projection, from the arguments. -/
def res (c : Dev nD) (R : Fin 16384) (C : Fin 3072) : EReal :=
  Proj.at' (fun k => m ((c : Thread nD τ).loc main_arg0) (ix2 R k)) (fun k => m ((c : Thread nD τ).loc main_arg1) (ix2 (1 : Fin 4) k))
    (fun k => m ((c : Thread nD τ).loc main_arg2) (ix3 (0 : Fin 1) k C))
/-- The result, from the arguments. -/
def G (c : Dev nD) : S16384x3072.Idx → EReal := fun i => res m c (i 0) (i 1)
theorem points : cfg0.N = 16 := by decide +kernel
/-- The row of the arrays that row `r` of point `t`'s block is. -/
def rowOf (t : Fin cfg0.N) (r : Fin 1024) : Fin 16384 := ⟨1024 * t.val + r.val, by have := t.isLt; have := points; omega⟩

/-- What point `t` leaves in its block of the result. -/
theorem point (c : Dev nD) (t : Fin cfg0.N) (r : Fin 1024) (C : Fin 3072) :
    @Eq EReal ((outsAt0 m c t.val t.isLt).1 (ix2 r C)) (res m c (rowOf t r) C) := by
  by_cases h0 : t.val % 16 = 0
  · refine (congrFun (out_A m c t h0) _).trans ?_
    show col _ _ _ r C = _
    unfold col
    simp only [pay1_apply, blk0 m c t r _ (rowOf t r) rfl, blk1 m c t, blk2 m c t]
    rfl
  · refine (congrFun (out_B m c t h0) _).trans ?_
    show col _ _ _ r C = _
    unfold col
    simp only [blk0 m c t r _ (rowOf t r) rfl, blk1 m c t, scr m c]
    rfl

/-- The array the run leaves. -/
theorem final (c : Dev nD) : (dats m 0 c).arrAt 3 cfg0.N = G m c := by
  refine (dats m 0 c).arrAt_eq_of_covers 3 _ (by decide +kernel) fun t hf y => ?_
  blk_simp
  rw [after0_3]
  obtain ⟨r, C, rfl⟩ : ∃ (r : Fin 1024) (C : Fin 3072), y = ix2 r C := ⟨_, _, eq_ix2 y⟩
  refine (point m c t r C).trans ?_
  have e : ((View.whole main_v3).slice (win0_3.rect t)).emb (ix2 r C) = ix2 (rowOf t r) C := by
    obtain ⟨e0, e1⟩ := idx3 t
    blk_ext [e0, e1, rowOf]
  show _ = G m c (((View.whole main_v3).slice (win0_3.rect t)).emb (ix2 r C))
  rw [e]
  rfl

end Cert.Kernel7Ideal.Proj

end
-- ==== Proof.ProjSbRef.lean ====
module

public import proofs.«01_k».proof.Proof.ProjSpec
public import proofs.«01_k».proof.Proof.Gen.Reference7Ideal.Run
public import Idealize.ShloMosaic.Lib.Claim
public import Idealize.ShloMosaic.Lib.StableHlo.RunRead
public import Idealize.ShloMosaic.Lib.Pointwise

/-! # The input projection of layer 1 (the stick-breaking layer): what the reference leaves -/

@[expose] public section

set_option maxRecDepth 16384

noncomputable section

namespace Cert.Reference7Ideal.Proj

open Idealize.ShloMosaic Idealize.ShloMosaic.TcCoe Idealize.ShloMosaic.Tactic Cert.Reference7Ideal Cert.Reference7Ideal.Gen
open Idealize.SL Idealize.SL.RA Idealize.SL.BI

/-- The one matrix of weights, without its leading axis. -/
theorem w_apply (P : FVec Ideal S1x1024x3072 .f32) (k : Fin 1024) (C : Fin 3072) :
    shapeCast S1024x3072 P shapeCasts_S1x1024x3072_S1024x3072 (ix2 k C) = P (ix3 (0 : Fin 1) k C) := by
  pointwise

/-- The normed rows of the stream, as the reference writes them. -/
def normed (X : FVec Ideal S16384x1024 .f32) (Gn : FVec Ideal S4x1024 .f32) : FVec Ideal S16384x1024 .f32 :=
  mulf (mulf X (broadcastInDim S16384x1024 ![0, 1] bcast_S16384x1_S16384x1024_0_1 (Host.rsqrt (addf (Host.divf (broadcastInDim S16384x1 ![0] bcast_S16384_S16384x1_0 (Host.reduceAdd (mulf X X) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 (shapeCast _ (extractStridedSlice S1x1024 ![1, 0] Gn slices_S4x1024_S1x1024_1_0) shapeCasts_S1x1024_S1024)))

/-- The whole projection, as the reference writes it. -/
def proj (X : FVec Ideal S16384x1024 .f32) (Gn : FVec Ideal S4x1024 .f32) (W : FVec Ideal S1x1024x3072 .f32) : FVec Ideal S16384x3072 .f32 :=
  Host.dotGeneral dot_S16384x1024_S1024x3072_S16384x3072_1_0_0_1_n_n none (normed X Gn) (shapeCast _ W shapeCasts_S1x1024x3072_S1024x3072)

theorem proj_apply (X : FVec Ideal S16384x1024 .f32) (Gn : FVec Ideal S4x1024 .f32) (W : FVec Ideal S1x1024x3072 .f32) (R : Fin 16384) (C : Fin 3072) :
    proj X Gn W (ix2 R C)
      = Proj.at' (fun k => X (ix2 R k)) (fun k => Gn (ix2 (1 : Fin 4) k)) (fun k => W (ix3 (0 : Fin 1) k C)) := by
  have hw := w_apply W
  unfold proj normed
  simp only [← hw]
  clear hw
  generalize (shapeCast S1024x3072 W shapeCasts_S1x1024x3072_S1024x3072 : FVec Ideal S1024x3072 .f32) = W'
  pointwise
  rfl

/-- The result: the projection, cast. -/
def cast (P : FVec Ideal S16384x3072 .f32) : FVec Ideal S16384x3072 .bf16 := truncf .bf16 P bitsLt_bf16_f32

theorem cast_apply (P : FVec Ideal S16384x3072 .f32) (R : Fin 16384) (C : Fin 3072) :
    @Eq EReal (cast P (ix2 R C)) (P (ix2 R C)) := by
  pointwise [cast]

variable (m : (ℓ : Loc nD τ sig) → Buf (Elt Ideal) ℓ) (ρ : Dev nD → PrngReg)

/-- The projection of the arguments. -/
def P (c : Dev nD) : FVec Ideal S16384x3072 .f32 :=
  proj (m ((c.tc : Thread nD τ).loc main_arg0)) (m ((c.tc : Thread nD τ).loc main_arg1)) (m ((c.tc : Thread nD τ).loc main_arg2))

/-- The run, with the result named. -/
theorem run : θ_run defs (onTc (τ := τ) (main (F := Ideal))) ⟨m, fun _ => 0, ρ⟩ fun r => ∀ c : Dev nD,
      r.2.mem ((c.tc : Thread nD τ).loc main_v17) = cast (P m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Value.run m ρ

end Cert.Reference7Ideal.Proj

end
-- ==== Proof.ProjSbClaim.lean ====
module

public import proofs.«01_k».proof.Defs
public import proofs.«01_k».proof.Proof.ProjSbKernel
public import proofs.«01_k».proof.Proof.ProjSbRef
public import proofs.«01_k».proof.Proof.Gen.Kernel7.Frame
public import Idealize.ShloMosaic.Lib.Claim
public import Idealize.ShloMosaic.Adequacy
public import Idealize.ShloMosaic.Init

/-! # The input projection of layer 1 (the stick-breaking layer): the claims -/

@[expose] public section

set_option maxRecDepth 16384

noncomputable section

namespace Cert.Proof.ProjSb

open Idealize.ShloMosaic Idealize.ShloMosaic.TcCoe Idealize.SL.Sem

/-- The projection's frame. -/
theorem frame_kernel : Cert.quiescent_Kernel7 (hKernel7 := Cert.Kernel7.Gen.facts) :=
  fun m ρ _ => Cert.Kernel7.Gen.frame m ρ

/-- The frame of the projection over the extended reals. -/
theorem frame_kernelIdeal : Cert.quiescent_Kernel7Ideal (hKernel7Ideal := Cert.Kernel7Ideal.Gen.facts) :=
  fun m ρ _ => Cert.Kernel7Ideal.Gen.frame m ρ

/-- The frame of the projection's reference: it declares no semaphore. -/
theorem frame_reference : Cert.quiescent_Reference7Ideal (hReference7Ideal := Cert.Reference7Ideal.Gen.facts) := fun m ρ _ =>
  (θ_run Cert.Reference7Ideal.defs _ _).mono (fun r h => ⟨fun c => (h c).2, sem_eq_zero_of_no_sems (by decide) r.2⟩)
    (Cert.Reference7Ideal.Proj.run m ρ)

/-- The projection and its reference, from the same arguments, leave the same result. -/
theorem algebraic : Cert.algebraic_Kernel7Ideal_Reference7Ideal (hKernel7Ideal := Cert.Kernel7Ideal.Gen.facts)
    (hReference7Ideal := Cert.Reference7Ideal.Gen.facts) := by
  intro m ρ m' ρ' _ hagree
  have value : ∀ (c : Dev Cert.Kernel7Ideal.nD) (R : Fin 16384) (C : Fin 3072),
      @Eq EReal (Cert.Reference7Ideal.Proj.P m' c (ix2 R C)) (Cert.Kernel7Ideal.Proj.res m c R C) := by
    intro c R C
    have h0 : ∀ (i : Fin 16384) (j : Fin 1024), @Eq EReal (m' ((c.tc : Thread Cert.Reference7Ideal.nD Cert.Reference7Ideal.τ).loc Cert.Reference7Ideal.main_arg0) (ix2 i j))
        (m ((c.tc : Thread Cert.Kernel7Ideal.nD Cert.Kernel7Ideal.τ).loc Cert.Kernel7Ideal.main_arg0) (ix2 i j)) := fun i j => congrFun (hagree c).1 (ix2 i j)
    have h1 : ∀ (i : Fin 4) (j : Fin 1024), @Eq EReal (m' ((c.tc : Thread Cert.Reference7Ideal.nD Cert.Reference7Ideal.τ).loc Cert.Reference7Ideal.main_arg1) (ix2 i j))
        (m ((c.tc : Thread Cert.Kernel7Ideal.nD Cert.Kernel7Ideal.τ).loc Cert.Kernel7Ideal.main_arg1) (ix2 i j)) := fun i j => congrFun (hagree c).2.1 (ix2 i j)
    have h2 : ∀ (i : Fin 1) (j : Fin 1024) (k : Fin 3072), @Eq EReal (m' ((c.tc : Thread Cert.Reference7Ideal.nD Cert.Reference7Ideal.τ).loc Cert.Reference7Ideal.main_arg2) (ix3 i j k))
        (m ((c.tc : Thread Cert.Kernel7Ideal.nD Cert.Kernel7Ideal.τ).loc Cert.Kernel7Ideal.main_arg2) (ix3 i j k)) := fun i j k => congrFun (hagree c).2.2 (ix3 i j k)
    refine (Cert.Reference7Ideal.Proj.proj_apply _ _ _ R C).trans ?_
    simp only [Cert.Kernel7Ideal.Proj.res, h0, h1, h2]
  refine ⟨Cert.Kernel7Ideal.Proj.G m,
    (θ_run Cert.Kernel7Ideal.defs _ _).mono (fun r h c => ⟨(h c).1.trans (Cert.Kernel7Ideal.Proj.final m c), (h c).2⟩)
      (Cert.Kernel7Ideal.Value.run_blocks m ρ),
    (θ_run Cert.Reference7Ideal.defs _ _).mono (fun r h c => ⟨(h c).1.trans ?_, (h c).2⟩) (Cert.Reference7Ideal.Proj.run m' ρ')⟩
  funext i
  obtain ⟨R, C, rfl⟩ : ∃ (R : Fin 16384) (C : Fin 3072), i = ix2 R C := ⟨_, _, eq_ix2 i⟩
  exact (Cert.Reference7Ideal.Proj.cast_apply _ R C).trans (value c R C)

end Cert.Proof.ProjSb

end
-- ==== Proof.ProjSwaKernel.lean ====
module

public import proofs.«01_k».proof.Proof.ProjSpec
public import proofs.«01_k».proof.Proof.Gen.Kernel8Ideal.Value
public import Idealize.ShloMosaic.Lib.Claim
public import Idealize.ShloMosaic.Lib.StableHlo.RunRead
public import Idealize.ShloMosaic.Lib.Pipeline.ReadBack
public import Idealize.ShloMosaic.Lib.Pipeline.ValueKit
public import Idealize.ShloMosaic.Lib.KernelVsHost
public import Idealize.ShloMosaic.Lib.Pointwise

/-! # The input projection of layer 0 (a sliding-window layer): what the kernel leaves

The grid's first point stores the weights, cast, in a buffer that the later points find as it left them: the queries' columns,
then each key and value head's 64 columns twice, made by a rotation of a pair of heads by 64 lanes and a selection of the
lanes. Point `t` norms rows `1024 t … 1024 t + 1023` of the stream and multiplies them by the weights of the buffer. -/

@[expose] public section

set_option maxRecDepth 16384

noncomputable section

namespace Cert.Kernel8Ideal.Proj

open Idealize.ShloMosaic Idealize.ShloMosaic.TcCoe Idealize.ShloMosaic.Tactic Cert.Kernel8Ideal Cert.Kernel8Ideal.Gen
open Idealize.SL Idealize.SL.RA Idealize.SL.BI

/-! ## The body's arithmetic -/

section
variable (P0 : FVec Ideal S1024x1024 .f32) (P1 : FVec Ideal S1x1024 .f32) (W : FVec Ideal S1024x1024 .bf16) (r : Fin 1024) (c : Fin 1024)

/-- A group of columns of the block: the rows normed, against the group's columns of the weights. -/
theorem pay3_apply : k0_pay3 (F := Ideal) P0 P1 W (ix2 r c)
    = Proj.at' (fun k => P0 (ix2 r k)) (fun k => P1 (ix2 (0 : Fin 1) k)) (fun k => W (ix2 k c)) := by
  pointwise [k0_pay3, k0_pay2]
  rfl
theorem pay4_apply (W : FVec Ideal S1024x512 .bf16) (c : Fin 512) : k0_pay4 (F := Ideal) P0 P1 W (ix2 r c)
    = Proj.at' (fun k => P0 (ix2 r k)) (fun k => P1 (ix2 (0 : Fin 1) k)) (fun k => W (ix2 k c)) := by
  pointwise [k0_pay4, k0_pay2]
  rfl
end

/-- The queries' columns of the weights the first point stores. -/
theorem pay5_apply (w : Vec Ideal S1x1024x1024 .f32) (k c : Fin 1024) : k0_pay5 w (ix2 k c) = w (ix3 (0 : Fin 1) k c) := by
  pointwise [k0_pay5]

/-- The lanes before the 64th. -/
theorem pay6_apply (k : Fin 1024) (l : Fin 128) : k0_pay6 (ix2 k l) = if l.val < 64 then 1#1 else 0#1 := by
  pointwise [k0_pay6]
  revert l
  decide
theorem pay7_apply (w : Vec Ideal S1x1024x128 .f32) (k : Fin 1024) (l : Fin 128) :
    k0_pay7 w (ix2 k l) = w (ix3 (0 : Fin 1) k l) := by
  pointwise [k0_pay7]
/-- The pair of heads rotated by 64 lanes. -/
theorem pay8_apply (w : Vec Ideal S1x1024x128 .f32) (k : Fin 1024) (l m : Fin 128) (hm : m.val = (l.val + 64) % 128) :
    k0_pay8 w (ix2 k l) = w (ix3 (0 : Fin 1) k m) := by
  have e : k0_pay8 w (ix2 k l) = k0_pay7 w (ix2 k m) := by
    unfold k0_pay8
    dsimp only
    generalize (k0_pay7 w) = v
    refine dynamicRotate_apply (1 : Fin 2) 64#32 v rotates_S1024x128_d1 (ix2 k l) (ix2 k m) ?_
    intro b
    match b with
    | ⟨0, _⟩ => rfl
    | ⟨1, _⟩ =>
      show m.val = (l.val + 128 - 64) % 128
      omega
  exact e.trans (pay7_apply w k m)
/-- The pair's first head, twice. -/
theorem pay9_apply (w : Vec Ideal S1x1024x128 .f32) (k : Fin 1024) (l : Fin 128) :
    k0_pay9 w (ix2 k l) = w (ix3 (0 : Fin 1) k (⟨l.val % 64, by omega⟩ : Fin 128)) := by
  pointwise [k0_pay9]
  rw [pay6_apply]
  by_cases h : l.val < 64
  · rw [if_pos h]
    refine (pay7_apply w k l).trans (congrArg (fun m => w (ix3 (0 : Fin 1) k m)) (Fin.ext ?_))
    show l.val = l.val % 64
    omega
  · rw [if_neg h]
    refine pay8_apply w k l _ ?_
    show l.val % 64 = _
    omega
/-- The pair's second head, twice. -/
theorem pay10_apply (w : Vec Ideal S1x1024x128 .f32) (k : Fin 1024) (l : Fin 128) :
    k0_pay10 w (ix2 k l) = w (ix3 (0 : Fin 1) k (⟨64 + l.val % 64, by omega⟩ : Fin 128)) := by
  pointwise [k0_pay10]
  rw [pay6_apply]
  by_cases h : l.val < 64
  · rw [if_pos h]
    refine pay8_apply w k l _ ?_
    show 64 + l.val % 64 = _
    omega
  · rw [if_neg h]
    refine (pay7_apply w k l).trans (congrArg (fun m => w (ix3 (0 : Fin 1) k m)) (Fin.ext ?_))
    show l.val = 64 + l.val % 64
    omega
theorem pay13_apply (w : Vec Ideal S1x1024x128 .f32) (k : Fin 1024) (l : Fin 128) :
    k0_pay13 w (ix2 k l) = w (ix3 (0 : Fin 1) k (⟨l.val % 64, by omega⟩ : Fin 128)) := pay9_apply w k l
theorem pay1_apply (w : Vec Ideal S1x1024x128 .f32) (k : Fin 1024) (l : Fin 128) :
    k0_pay1 (k0_pay14 w) (ix2 k l) = w (ix3 (0 : Fin 1) k (⟨64 + l.val % 64, by omega⟩ : Fin 128)) := by
  refine Eq.trans ?_ (pay10_apply w k l)
  pointwise [k0_pay1, k0_pay14, k0_pay10]
  rfl

/-! ## The weights' buffer at the first point -/

/-- The weights the first point stores, from the layer's weights. -/
def scrW (w : Vec Ideal S1x1024x1280 .f32) : Vec Ideal S1024x1536 .bf16 := fun y => w (ix3 (0 : Fin 1) (y 0) (Proj.swaCol (y 1)))

theorem scrW_apply (w : Vec Ideal S1x1024x1280 .f32) (k : Fin 1024) (C : Fin 1536) :
    scrW w (ix2 k C) = w (ix3 (0 : Fin 1) k (Proj.swaCol C)) := rfl

/-- The first point's stores to the buffer. -/
abbrev pieces (w : Vec Ideal S1x1024x1280 .f32) : List (View.Piece (Elt Ideal) S1024x1536 .bf16) :=
  [⟨Rect.unit ![0, 1408] ![1024, 128] inb_S1024x1536_S1024x128_0_1408,
      k0_pay1 (k0_pay14 (View.ld w (Rect.unit ![0, 0, 1152] ![1, 1024, 128] inb_S1x1024x1280_S1x1024x128_0_0_1152)))⟩,
    ⟨Rect.unit ![0, 1280] ![1024, 128] inb_S1024x1536_S1024x128_0_1280,
      k0_pay13 (View.ld w (Rect.unit ![0, 0, 1152] ![1, 1024, 128] inb_S1x1024x1280_S1x1024x128_0_0_1152))⟩,
    ⟨Rect.unit ![0, 1152] ![1024, 128] inb_S1024x1536_S1024x128_0_1152,
      k0_pay10 (View.ld w (Rect.unit ![0, 0, 1024] ![1, 1024, 128] inb_S1x1024x1280_S1x1024x128_0_0_1024))⟩,
    ⟨Rect.unit ![0, 1024] ![1024, 128] inb_S1024x1536_S1024x128_0_1024,
      k0_pay9 (View.ld w (Rect.unit ![0, 0, 1024] ![1, 1024, 128] inb_S1x1024x1280_S1x1024x128_0_0_1024))⟩,
    ⟨Rect.unit ![0, 0] ![1024, 1024] inb_S1024x1536_S1024x1024_0_0,
      k0_pay5 (View.ld w (Rect.unit ![0, 0, 0] ![1, 1024, 1024] inb_S1x1024x1280_S1x1024x1024_0_0_0))⟩]

theorem pieces_cover (w : Vec Ideal S1x1024x1280 .f32) (y : S1024x1536.Idx) : ∃ p ∈ pieces w, y ∈ p.1.set :=
  View.cover_of_tiledBy _ ![1024, 128] (by sl_kernel_rfl) y

theorem pieces_canon (w : Vec Ideal S1x1024x1280 .f32) : View.canon (pieces w) = scrW w := by
  funext y
  refine View.canon_append_of_piecesOf (scrW w) [] (pieces w)
    ⟨fun x => ?_, fun x => ?_, fun x => ?_, fun x => ?_, fun x => ?_, trivial⟩ y (pieces_cover w y)
  · obtain ⟨k, l, rfl⟩ : ∃ (k : Fin 1024) (l : Fin 128), x = ix2 k l := ⟨_, _, eq_ix2 x⟩
    refine (pay1_apply _ k l).trans ?_
    rw [Proj.ld3 w _ 0 k _ 0 k (⟨1216 + l.val % 64, by omega⟩ : Fin 1280) rfl (Nat.zero_add _).symm (by dsimp only <;> omega)]
    dsimp only
    rw [Proj.emb2 _ k l k (⟨1408 + l.val, by omega⟩ : Fin 1536) (Nat.zero_add _).symm rfl]
    exact congrArg (fun C => w (ix3 (0 : Fin 1) k C)) (Proj.swaCol_kv _ _ 3 l.val l.isLt rfl rfl).symm
  · obtain ⟨k, l, rfl⟩ : ∃ (k : Fin 1024) (l : Fin 128), x = ix2 k l := ⟨_, _, eq_ix2 x⟩
    refine (pay13_apply _ k l).trans ?_
    rw [Proj.ld3 w _ 0 k _ 0 k (⟨1152 + l.val % 64, by omega⟩ : Fin 1280) rfl (Nat.zero_add _).symm (by dsimp only <;> omega)]
    dsimp only
    rw [Proj.emb2 _ k l k (⟨1280 + l.val, by omega⟩ : Fin 1536) (Nat.zero_add _).symm rfl]
    exact congrArg (fun C => w (ix3 (0 : Fin 1) k C)) (Proj.swaCol_kv _ _ 2 l.val l.isLt rfl rfl).symm
  · obtain ⟨k, l, rfl⟩ : ∃ (k : Fin 1024) (l : Fin 128), x = ix2 k l := ⟨_, _, eq_ix2 x⟩
    refine (pay10_apply _ k l).trans ?_
    rw [Proj.ld3 w _ 0 k _ 0 k (⟨1088 + l.val % 64, by omega⟩ : Fin 1280) rfl (Nat.zero_add _).symm (by dsimp only <;> omega)]
    dsimp only
    rw [Proj.emb2 _ k l k (⟨1152 + l.val, by omega⟩ : Fin 1536) (Nat.zero_add _).symm rfl]
    exact congrArg (fun C => w (ix3 (0 : Fin 1) k C)) (Proj.swaCol_kv _ _ 1 l.val l.isLt rfl rfl).symm
  · obtain ⟨k, l, rfl⟩ : ∃ (k : Fin 1024) (l : Fin 128), x = ix2 k l := ⟨_, _, eq_ix2 x⟩
    refine (pay9_apply _ k l).trans ?_
    rw [Proj.ld3 w _ 0 k _ 0 k (⟨1024 + l.val % 64, by omega⟩ : Fin 1280) rfl (Nat.zero_add _).symm (by dsimp only <;> omega)]
    dsimp only
    rw [Proj.emb2 _ k l k (⟨1024 + l.val, by omega⟩ : Fin 1536) (Nat.zero_add _).symm rfl]
    exact congrArg (fun C => w (ix3 (0 : Fin 1) k C)) (Proj.swaCol_kv _ _ 0 l.val l.isLt rfl rfl).symm
  · obtain ⟨k, l, rfl⟩ : ∃ (k : Fin 1024) (l : Fin 1024), x = ix2 k l := ⟨_, _, eq_ix2 x⟩
    refine (pay5_apply (View.ld w (Rect.unit ![0, 0, 0] ![1, 1024, 1024] inb_S1x1024x1280_S1x1024x1024_0_0_0)) k l).trans ?_
    rw [Proj.ld3 w _ 0 k l 0 k (⟨l.val, by omega⟩ : Fin 1280) rfl (Nat.zero_add _).symm (Nat.zero_add _).symm]
    dsimp only
    rw [Proj.emb2 _ k l k (⟨l.val, by omega⟩ : Fin 1536) (Nat.zero_add _).symm (Nat.zero_add _).symm]
    exact congrArg (fun C => w (ix3 (0 : Fin 1) k C)) (Proj.swaCol_q _ _ l.isLt rfl).symm

/-! ## A point's block -/

section
variable (X : Vec Ideal S1024x1024 .f32) (G : Vec Ideal S1x1024 .f32) (W : Vec Ideal S1024x1536 .bf16)

/-- Column `c` of row `r` of the projection of the block. -/
def col (r : Fin 1024) (c : Fin 1536) : EReal :=
  Proj.at' (fun k => X (ix2 r k)) (fun k => G (ix2 (0 : Fin 1) k)) (fun k => W (ix2 k c))
/-- The block of the result. -/
def yB : Vec Ideal S1024x1536 .bf16 := fun y => col X G W (y 0) (y 1)

/-- A group of columns, its weights read as a load of the buffer, is the projection's columns at the group's offset. -/
theorem group {n : ℕ} (r : Fin 1024) (c : Fin n) (C : Fin 1536) (o : ℕ) (hi) (hC : C.val = o + c.val) :
    Proj.at' (fun k => X (ix2 r k)) (fun k => G (ix2 (0 : Fin 1) k))
      (fun k => View.ld W (Rect.unit (s := S1024x1536) ![0, o] ![1024, n] hi) (ix2 k c)) = col X G W r C := by
  unfold col
  congr 1
  exact funext fun k => Proj.ld2 W _ k c k C (Nat.zero_add _).symm hC

theorem canon_eq :
    (View.canon [⟨Rect.unit ![0, 1024] ![1024, 512] inb_S1024x1536_S1024x512_0_1024,
          k0_pay4 (F := Ideal) X G (View.ld W (Rect.unit ![0, 1024] ![1024, 512] inb_S1024x1536_S1024x512_0_1024))⟩,
        ⟨Rect.unit ![0, 0] ![1024, 1024] inb_S1024x1536_S1024x1024_0_0,
          k0_pay3 X G (View.ld W (Rect.unit ![0, 0] ![1024, 1024] inb_S1024x1536_S1024x1024_0_0))⟩] : Vec Ideal S1024x1536 .bf16)
      = yB X G W := by
  funext y
  refine View.canon_append_of_piecesOf (yB X G W) [] [_, _] ⟨fun x => ?_, fun x => ?_, trivial⟩ y
    (View.cover_of_tiledBy _ ![1024, 512] (by sl_kernel_rfl) y)
  · obtain ⟨r, c, rfl⟩ : ∃ (r : Fin 1024) (c : Fin 512), x = ix2 r c := ⟨_, _, eq_ix2 x⟩
    refine (pay4_apply _ _ r _ c).trans ((group X G W r c ⟨1024 + c.val, by omega⟩ 1024 _ rfl).trans ?_)
    dsimp only
    rw [Proj.emb2 _ r c r (⟨1024 + c.val, by omega⟩ : Fin 1536) (Nat.zero_add _).symm rfl]
    rfl
  · obtain ⟨r, c, rfl⟩ : ∃ (r : Fin 1024) (c : Fin 1024), x = ix2 r c := ⟨_, _, eq_ix2 x⟩
    refine (pay3_apply _ _ _ r c).trans ((group X G W r c ⟨c.val, by omega⟩ 0 _ (Nat.zero_add _).symm).trans ?_)
    dsimp only
    rw [Proj.emb2 _ r c r (⟨c.val, by omega⟩ : Fin 1536) (Nat.zero_add _).symm (Nat.zero_add _).symm]
    rfl
end

variable (m : (ℓ : Loc nD τ sig) → Buf (Elt Ideal) ℓ)

/-! ## What a point leaves -/

theorem scr_A (c : Dev nD) (t : Fin cfg0.N) (h0 : t.val % 16 = 0) :
    (outsAt0 m c t.val t.isLt).2 = scrW (iblk m c 2 t) := by
  rw [outsAt0_A m c t h0]
  frame_open
  simp (disch := decide) only [↓ View.readCov_skip, ↓ View.readCov_cons_toLoadRect, ↓ View.readCov_fill]
  frame_out
  exact pieces_canon _

theorem scr_B (c : Dev nD) (t : Fin cfg0.N) (h0 : ¬ t.val % 16 = 0) :
    (outsAt0 m c t.val t.isLt).2 = (outsAt0 m c (t.val - 1) (Nat.lt_of_le_of_lt (Nat.sub_le _ _) t.isLt)).2 := by
  rw [outsAt0_B m c t h0]
  rfl

theorem out_A (c : Dev nD) (t : Fin cfg0.N) (h0 : t.val % 16 = 0) :
    (outsAt0 m c t.val t.isLt).1 = yB (iblk m c 0 t) (iblk m c 1 t) (scrW (iblk m c 2 t)) := by
  rw [outsAt0_A m c t h0]
  frame_open
  frame_out
  have e : ∀ r : Rect S1024x1536, (View.whole cc0_scratch0).readCov (pieces (iblk m c 2 t)) r.toLoadRect = View.ld (scrW (iblk m c 2 t)) r := fun r =>
    (View.readCov_eq_canon_ld _ _ r (pieces_cover _)).trans (congrArg (fun S => View.ld S r) (pieces_canon _))
  simp only [e]
  exact canon_eq _ _ _

theorem out_B (c : Dev nD) (t : Fin cfg0.N) (h0 : ¬ t.val % 16 = 0) :
    (outsAt0 m c t.val t.isLt).1 = yB (iblk m c 0 t) (iblk m c 1 t) (outsAt0 m c (t.val - 1) (Nat.lt_of_le_of_lt (Nat.sub_le _ _) t.isLt)).2 := by
  rw [outsAt0_B m c t h0]
  frame_open
  simp (disch := decide) only [↓ View.readCov_skip, ↓ View.readCov_cons_toLoadRect, ↓ View.readCov_fill]
  frame_out
  simp only [read_unread_whole]
  exact canon_eq _ _ _

/-! ## The blocks a point reads -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 3) = 0 ∧ win0_2.index t (1 : Fin 3) = 0 ∧ win0_2.index t (2 : Fin 3) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)

/-- Row `r` of point `t`'s block of the stream is row `1024 t + r` of it. -/
theorem blk0 (c : Dev nD) (t : Fin cfg0.N) (r : Fin 1024) (k : Fin 1024) (R : Fin 16384) (hR : R.val = 1024 * t.val + r.val) :
    iblk m c 0 t (ix2 r k) = m ((c : Thread nD τ).loc main_arg0) (ix2 R k) := by
  obtain ⟨e0, e1⟩ := idx0 t
  blk_ext [iblk, V, e0, e1]

/-- The block of gains is row 0 of the norms' gains. -/
theorem blk1 (c : Dev nD) (t : Fin cfg0.N) (k : Fin 1024) :
    iblk m c 1 t (ix2 (0 : Fin 1) k) = m ((c : Thread nD τ).loc main_arg1) (ix2 (0 : Fin 4) k) := by
  have e : ((View.whole main_v2).slice (win0_1.rect t)).emb (ix2 (0 : Fin 1) k) = ix2 (0 : Fin 1) k := by
    obtain ⟨e0, e1⟩ := idx1 t
    blk_ext [e0, e1]
  blk_simp [iblk]
  rw [e]
  unfold V
  after_reads_simp
  pointwise

/-- The block of the weights is the layer's weights. -/
theorem blk2 (c : Dev nD) (t : Fin cfg0.N) (i : Fin 1024) (j : Fin 1280) :
    iblk m c 2 t (ix3 (0 : Fin 1) i j) = m ((c : Thread nD τ).loc main_arg2) (ix3 (0 : Fin 2) i j) := by
  obtain ⟨e0, e1, e2⟩ := idx2 t
  blk_ext [iblk, V, e0, e1, e2]

/-! ## The weights' buffer -/

/-- Every point leaves the layer's weights in the buffer. -/
theorem scr (c : Dev nD) : ∀ (n : ℕ) (hn : n < cfg0.N) (k : Fin 1024) (C : Fin 1536),
    @Eq EReal ((outsAt0 m c n hn).2 (ix2 k C)) (m ((c : Thread nD τ).loc main_arg2) (ix3 (0 : Fin 2) k (Proj.swaCol C)))
  | 0, hn, k, C => by
    refine (congrFun (scr_A m c ⟨0, hn⟩ rfl) _).trans (blk2 m c ⟨0, hn⟩ k (Proj.swaCol C))
  | n + 1, hn, k, C => by
    by_cases h0 : (n + 1) % 16 = 0
    · exact (congrFun (scr_A m c ⟨n + 1, hn⟩ h0) _).trans (blk2 m c ⟨n + 1, hn⟩ k (Proj.swaCol C))
    · exact (congrFun (scr_B m c ⟨n + 1, hn⟩ h0) _).trans (scr c n _ k C)

/-! ## The result -/

/-- Column `C` of row `R` of the projection, from the arguments. -/
def res (c : Dev nD) (R : Fin 16384) (C : Fin 1536) : EReal :=
  Proj.at' (fun k => m ((c : Thread nD τ).loc main_arg0) (ix2 R k)) (fun k => m ((c : Thread nD τ).loc main_arg1) (ix2 (0 : Fin 4) k))
    (fun k => m ((c : Thread nD τ).loc main_arg2) (ix3 (0 : Fin 2) k (Proj.swaCol C)))
/-- The result, from the arguments. -/
def G (c : Dev nD) : S16384x1536.Idx → EReal := fun i => res m c (i 0) (i 1)
theorem points : cfg0.N = 16 := by decide +kernel
/-- The row of the arrays that row `r` of point `t`'s block is. -/
def rowOf (t : Fin cfg0.N) (r : Fin 1024) : Fin 16384 := ⟨1024 * t.val + r.val, by have := t.isLt; have := points; omega⟩

/-- What point `t` leaves in its block of the result. -/
theorem point (c : Dev nD) (t : Fin cfg0.N) (r : Fin 1024) (C : Fin 1536) :
    @Eq EReal ((outsAt0 m c t.val t.isLt).1 (ix2 r C)) (res m c (rowOf t r) C) := by
  by_cases h0 : t.val % 16 = 0
  · refine (congrFun (out_A m c t h0) _).trans ?_
    show col _ _ _ r C = _
    unfold col
    simp only [scrW_apply, blk0 m c t r _ (rowOf t r) rfl, blk1 m c t, blk2 m c t]
    rfl
  · refine (congrFun (out_B m c t h0) _).trans ?_
    show col _ _ _ r C = _
    unfold col
    simp only [blk0 m c t r _ (rowOf t r) rfl, blk1 m c t, scr m c]
    rfl

/-- The array the run leaves. -/
theorem final (c : Dev nD) : (dats m 0 c).arrAt 3 cfg0.N = G m c := by
  refine (dats m 0 c).arrAt_eq_of_covers 3 _ (by decide +kernel) fun t hf y => ?_
  blk_simp
  rw [after0_3]
  obtain ⟨r, C, rfl⟩ : ∃ (r : Fin 1024) (C : Fin 1536), y = ix2 r C := ⟨_, _, eq_ix2 y⟩
  refine (point m c t r C).trans ?_
  have e : ((View.whole main_v3).slice (win0_3.rect t)).emb (ix2 r C) = ix2 (rowOf t r) C := by
    obtain ⟨e0, e1⟩ := idx3 t
    blk_ext [e0, e1, rowOf]
  show _ = G m c (((View.whole main_v3).slice (win0_3.rect t)).emb (ix2 r C))
  rw [e]
  rfl

end Cert.Kernel8Ideal.Proj

end
-- ==== Proof.ProjSwaRef.lean ====
module

public import proofs.«01_k».proof.Proof.ProjSpec
public import proofs.«01_k».proof.Proof.Gen.Reference8Ideal.Run
public import Idealize.ShloMosaic.Lib.Claim
public import Idealize.ShloMosaic.Lib.StableHlo.RunRead
public import Idealize.ShloMosaic.Lib.Pointwise

/-! # The input projection of layer 0 (a sliding-window layer): what the reference leaves -/

@[expose] public section

set_option maxRecDepth 16384

noncomputable section

namespace Cert.Reference8Ideal.Proj

open Idealize.ShloMosaic Idealize.ShloMosaic.TcCoe Idealize.ShloMosaic.Tactic Cert.Reference8Ideal Cert.Reference8Ideal.Gen
open Idealize.SL Idealize.SL.RA Idealize.SL.BI

/-- The normed rows of the stream, as the reference writes them. -/
def normed (X : FVec Ideal S16384x1024 .f32) (Gn : FVec Ideal S4x1024 .f32) : FVec Ideal S16384x1024 .f32 :=
  mulf (mulf X (broadcastInDim S16384x1024 ![0, 1] bcast_S16384x1_S16384x1024_0_1 (Host.rsqrt (addf (Host.divf (broadcastInDim S16384x1 ![0] bcast_S16384_S16384x1_0 (Host.reduceAdd (mulf X X) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 (shapeCast _ (extractStridedSlice S1x1024 ![0, 0] Gn slices_S4x1024_S1x1024_0_0) shapeCasts_S1x1024_S1024)))

/-- The whole projection, as the reference writes it. -/
def proj (X : FVec Ideal S16384x1024 .f32) (Gn : FVec Ideal S4x1024 .f32) (W : FVec Ideal S2x1024x1280 .f32) : FVec Ideal S16384x1280 .f32 :=
  Host.dotGeneral dot_S16384x1024_S1024x1280_S16384x1280_1_0_0_1_n_n none (normed X Gn) (shapeCast _ (extractStridedSlice S1x1024x1280 ![0, 0, 0] W slices_S2x1024x1280_S1x1024x1280_0_0_0) shapeCasts_S1x1024x1280_S1024x1280)

theorem proj_apply (X : FVec Ideal S16384x1024 .f32) (Gn : FVec Ideal S4x1024 .f32) (W : FVec Ideal S2x1024x1280 .f32) (R : Fin 16384) (C : Fin 1280) :
    proj X Gn W (ix2 R C)
      = Proj.at' (fun k => X (ix2 R k)) (fun k => Gn (ix2 (0 : Fin 4) k)) (fun k => W (ix3 (0 : Fin 2) k C)) := by
  unfold proj normed
  pointwise
  rfl

/-- The result: the queries' columns, then each key and value head's columns twice, cast. -/
def join (P : FVec Ideal S16384x1280 .f32) : FVec Ideal S16384x1536 .bf16 :=
  truncf .bf16 ((concatenate S16384x1536 1 [⟨S16384x1024, ((extractStridedSlice S16384x1024 ![0, 0] P slices_S16384x1280_S16384x1024_0_0) : (⟨S16384x1024, .f32⟩ : BufTy).Contents (Elt Ideal))⟩, ⟨S16384x64, ((extractStridedSlice S16384x64 ![0, 0] (extractStridedSlice S16384x128 ![0, 1024] P slices_S16384x1280_S16384x128_0_1024) slices_S16384x128_S16384x64_0_0) : (⟨S16384x64, .f32⟩ : BufTy).Contents (Elt Ideal))⟩, ⟨S16384x64, ((extractStridedSlice S16384x64 ![0, 0] (extractStridedSlice S16384x128 ![0, 1024] P slices_S16384x1280_S16384x128_0_1024) slices_S16384x128_S16384x64_0_0) : (⟨S16384x64, .f32⟩ : BufTy).Contents (Elt Ideal))⟩, ⟨S16384x64, ((extractStridedSlice S16384x64 ![0, 64] (extractStridedSlice S16384x128 ![0, 1024] P slices_S16384x1280_S16384x128_0_1024) slices_S16384x128_S16384x64_0_64) : (⟨S16384x64, .f32⟩ : BufTy).Contents (Elt Ideal))⟩, ⟨S16384x64, ((extractStridedSlice S16384x64 ![0, 64] (extractStridedSlice S16384x128 ![0, 1024] P slices_S16384x1280_S16384x128_0_1024) slices_S16384x128_S16384x64_0_64) : (⟨S16384x64, .f32⟩ : BufTy).Contents (Elt Ideal))⟩, ⟨S16384x64, ((extractStridedSlice S16384x64 ![0, 0] (extractStridedSlice S16384x128 ![0, 1152] P slices_S16384x1280_S16384x128_0_1152) slices_S16384x128_S16384x64_0_0) : (⟨S16384x64, .f32⟩ : BufTy).Contents (Elt Ideal))⟩, ⟨S16384x64, ((extractStridedSlice S16384x64 ![0, 0] (extractStridedSlice S16384x128 ![0, 1152] P slices_S16384x1280_S16384x128_0_1152) slices_S16384x128_S16384x64_0_0) : (⟨S16384x64, .f32⟩ : BufTy).Contents (Elt Ideal))⟩, ⟨S16384x64, ((extractStridedSlice S16384x64 ![0, 64] (extractStridedSlice S16384x128 ![0, 1152] P slices_S16384x1280_S16384x128_0_1152) slices_S16384x128_S16384x64_0_64) : (⟨S16384x64, .f32⟩ : BufTy).Contents (Elt Ideal))⟩, ⟨S16384x64, ((extractStridedSlice S16384x64 ![0, 64] (extractStridedSlice S16384x128 ![0, 1152] P slices_S16384x1280_S16384x128_0_1152) slices_S16384x128_S16384x64_0_64) : (⟨S16384x64, .f32⟩ : BufTy).Contents (Elt Ideal))⟩] concatenates_S16384x1024_S16384x64_S16384x64_S16384x64_S16384x64_S16384x64_S16384x64_S16384x64_S16384x64_S16384x1536_d1 : (⟨S16384x1536, .f32⟩ : BufTy).Contents (Elt Ideal))) bitsLt_bf16_f32

theorem join_apply (P : FVec Ideal S16384x1280 .f32) (R : Fin 16384) (C : Fin 1536) :
    @Eq EReal (join P (ix2 R C)) (P (ix2 R (Proj.swaCol C))) := by
  pointwise [join]
  have hC := C.isLt
  have key : ∀ D : Fin 1280, D.val = (Proj.swaCol C).val → P (ix2 R D) = P (ix2 R (Proj.swaCol C)) :=
    fun D h => congrArg (fun D => P (ix2 R D)) (Fin.ext h)
  by_cases h1 : C.val < 1024
  · rw [dif_pos h1]
    exact key _ (Proj.swaCol_val_q C h1).symm
  have e := Proj.swaCol_val_kv C h1
  rw [dif_neg h1]
  by_cases h2 : C.val - 1024 < 64
  · rw [dif_pos h2]
    exact key _ (by rw [e]; dsimp only; omega)
  rw [dif_neg h2]
  by_cases h3 : C.val - 1024 - 64 < 64
  · rw [dif_pos h3]
    exact key _ (by rw [e]; dsimp only; omega)
  rw [dif_neg h3]
  by_cases h4 : C.val - 1024 - 64 - 64 < 64
  · rw [dif_pos h4]
    exact key _ (by rw [e]; dsimp only; omega)
  rw [dif_neg h4]
  by_cases h5 : C.val - 1024 - 64 - 64 - 64 < 64
  · rw [dif_pos h5]
    exact key _ (by rw [e]; dsimp only; omega)
  rw [dif_neg h5]
  by_cases h6 : C.val - 1024 - 64 - 64 - 64 - 64 < 64
  · rw [dif_pos h6]
    exact key _ (by rw [e]; dsimp only; omega)
  rw [dif_neg h6]
  by_cases h7 : C.val - 1024 - 64 - 64 - 64 - 64 - 64 < 64
  · rw [dif_pos h7]
    exact key _ (by rw [e]; dsimp only; omega)
  rw [dif_neg h7]
  by_cases h8 : C.val - 1024 - 64 - 64 - 64 - 64 - 64 - 64 < 64
  · rw [dif_pos h8]
    exact key _ (by rw [e]; dsimp only; omega)
  rw [dif_neg h8]
  exact key _ (by rw [e]; dsimp only; omega)

variable (m : (ℓ : Loc nD τ sig) → Buf (Elt Ideal) ℓ) (ρ : Dev nD → PrngReg)

/-- The projection of the arguments. -/
def P (c : Dev nD) : FVec Ideal S16384x1280 .f32 :=
  proj (m ((c.tc : Thread nD τ).loc main_arg0)) (m ((c.tc : Thread nD τ).loc main_arg1)) (m ((c.tc : Thread nD τ).loc main_arg2))

/-- The run, with the result named. -/
theorem run : θ_run defs (onTc (τ := τ) (main (F := Ideal))) ⟨m, fun _ => 0, ρ⟩ fun r => ∀ c : Dev nD,
      r.2.mem ((c.tc : Thread nD τ).loc main_v26) = join (P m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (by unfold Value.res_main_v26; rfl), (h c).2⟩) (Value.run m ρ)

end Cert.Reference8Ideal.Proj

end
-- ==== Proof.ProjSwaClaim.lean ====
module

public import proofs.«01_k».proof.Defs
public import proofs.«01_k».proof.Proof.ProjSwaKernel
public import proofs.«01_k».proof.Proof.ProjSwaRef
public import proofs.«01_k».proof.Proof.Gen.Kernel8.Frame
public import Idealize.ShloMosaic.Lib.Claim
public import Idealize.ShloMosaic.Adequacy
public import Idealize.ShloMosaic.Init

/-! # The input projection of layer 0 (a sliding-window layer): the claims -/

@[expose] public section

set_option maxRecDepth 16384

noncomputable section

namespace Cert.Proof.ProjSwa

open Idealize.ShloMosaic Idealize.ShloMosaic.TcCoe Idealize.SL.Sem

/-- The projection's frame. -/
theorem frame_kernel : Cert.quiescent_Kernel8 (hKernel8 := Cert.Kernel8.Gen.facts) :=
  fun m ρ _ => Cert.Kernel8.Gen.frame m ρ

/-- The frame of the projection over the extended reals. -/
theorem frame_kernelIdeal : Cert.quiescent_Kernel8Ideal (hKernel8Ideal := Cert.Kernel8Ideal.Gen.facts) :=
  fun m ρ _ => Cert.Kernel8Ideal.Gen.frame m ρ

/-- The frame of the projection's reference: it declares no semaphore. -/
theorem frame_reference : Cert.quiescent_Reference8Ideal (hReference8Ideal := Cert.Reference8Ideal.Gen.facts) := fun m ρ _ =>
  (θ_run Cert.Reference8Ideal.defs _ _).mono (fun r h => ⟨fun c => (h c).2, sem_eq_zero_of_no_sems (by decide) r.2⟩)
    (Cert.Reference8Ideal.Proj.run m ρ)

/-- The projection and its reference, from the same arguments, leave the same result. -/
theorem algebraic : Cert.algebraic_Kernel8Ideal_Reference8Ideal (hKernel8Ideal := Cert.Kernel8Ideal.Gen.facts)
    (hReference8Ideal := Cert.Reference8Ideal.Gen.facts) := by
  intro m ρ m' ρ' _ hagree
  have value : ∀ (c : Dev Cert.Kernel8Ideal.nD) (R : Fin 16384) (C : Fin 1536),
      @Eq EReal (Cert.Reference8Ideal.Proj.P m' c (ix2 R (Proj.swaCol C))) (Cert.Kernel8Ideal.Proj.res m c R C) := by
    intro c R C
    have h0 : ∀ (i : Fin 16384) (j : Fin 1024), @Eq EReal (m' ((c.tc : Thread Cert.Reference8Ideal.nD Cert.Reference8Ideal.τ).loc Cert.Reference8Ideal.main_arg0) (ix2 i j))
        (m ((c.tc : Thread Cert.Kernel8Ideal.nD Cert.Kernel8Ideal.τ).loc Cert.Kernel8Ideal.main_arg0) (ix2 i j)) := fun i j => congrFun (hagree c).1 (ix2 i j)
    have h1 : ∀ (i : Fin 4) (j : Fin 1024), @Eq EReal (m' ((c.tc : Thread Cert.Reference8Ideal.nD Cert.Reference8Ideal.τ).loc Cert.Reference8Ideal.main_arg1) (ix2 i j))
        (m ((c.tc : Thread Cert.Kernel8Ideal.nD Cert.Kernel8Ideal.τ).loc Cert.Kernel8Ideal.main_arg1) (ix2 i j)) := fun i j => congrFun (hagree c).2.1 (ix2 i j)
    have h2 : ∀ (i : Fin 2) (j : Fin 1024) (k : Fin 1280), @Eq EReal (m' ((c.tc : Thread Cert.Reference8Ideal.nD Cert.Reference8Ideal.τ).loc Cert.Reference8Ideal.main_arg2) (ix3 i j k))
        (m ((c.tc : Thread Cert.Kernel8Ideal.nD Cert.Kernel8Ideal.τ).loc Cert.Kernel8Ideal.main_arg2) (ix3 i j k)) := fun i j k => congrFun (hagree c).2.2 (ix3 i j k)
    refine (Cert.Reference8Ideal.Proj.proj_apply _ _ _ R (Proj.swaCol C)).trans ?_
    simp only [Cert.Kernel8Ideal.Proj.res, h0, h1, h2]
  refine ⟨Cert.Kernel8Ideal.Proj.G m,
    (θ_run Cert.Kernel8Ideal.defs _ _).mono (fun r h c => ⟨(h c).1.trans (Cert.Kernel8Ideal.Proj.final m c), (h c).2⟩)
      (Cert.Kernel8Ideal.Value.run_blocks m ρ),
    (θ_run Cert.Reference8Ideal.defs _ _).mono (fun r h c => ⟨(h c).1.trans ?_, (h c).2⟩) (Cert.Reference8Ideal.Proj.run m' ρ')⟩
  funext i
  obtain ⟨R, C, rfl⟩ : ∃ (R : Fin 16384) (C : Fin 1536), i = ix2 R C := ⟨_, _, eq_ix2 i⟩
  exact (Cert.Reference8Ideal.Proj.join_apply _ R C).trans (value c R C)

end Cert.Proof.ProjSwa

end
-- ==== Proof.SbUnit.lean ====
module

public import proofs.«01_k».proof.Proof.Gen.Kernel9Ideal.Skeleton
public import Idealize.ShloMosaic.Lib.Pointwise
public import Idealize.ShloMosaic.PureOps.IdealRules
public import Idealize.ShloMosaic.Lib.IdealHost

/-! # Stick-breaking attention: one block of keys against one tile of queries

The kernel meets a tile of queries with one block of 128 keys at a time, two heads side by side: the 256 columns of a block of
scores are the block's 128 keys for an even head, then the same keys for the odd head after it. What it does with the scores
is written here once, for a tile of 256 rows and for its lower half of 128 rows, and read at an index. -/

@[expose] public section

set_option maxRecDepth 16384

noncomputable section

namespace Cert.Proof.Sb

open Cert.Kernel9Ideal Cert.Kernel9Ideal.Gen
open Idealize.ShloMosaic Idealize.ShloMosaic.TcCoe Idealize.ShloMosaic.Tactic

/-! ## Real and extended real numbers -/

/-- `log (1 + e^z)`, in the form both programs compute it. -/
def sp (z : ℝ) : ℝ := max z 0 + Real.log (1 + Real.exp (-|z|))

theorem coe_max (a b : ℝ) : max (a : EReal) (b : EReal) = ((max a b : ℝ) : EReal) := (EReal.coe_strictMono.monotone.map_max).symm

theorem coe_sum {n : ℕ} (f : Fin n → ℝ) : ∑ k, (f k : EReal) = ((∑ k, f k : ℝ) : EReal) := (map_sum (⟨⟨Real.toEReal, rfl⟩, fun _ _ => rfl⟩ : ℝ →+ EReal) f Finset.univ).symm

/-- A sum over 256 columns is the sum over the two heads' 128. -/
theorem sum_halves {M : Type*} [AddCommMonoid M] (f : Fin 256 → M) :
    ∑ k, f k = ∑ y : Fin 128, f ⟨y.val, by omega⟩ + ∑ y : Fin 128, f ⟨128 + y.val, by omega⟩ :=
  Fin.sum_univ_add (a := 128) (b := 128) f

/-- Column `x` of head `e` among the 256. -/
def hc (e : Fin 2) (x : Fin 128) : Fin 256 := ⟨128 * e.val + x.val, by omega⟩

theorem hc_surj (k : Fin 256) : ∃ e x, k = hc e x :=
  ⟨⟨k.val / 128, by omega⟩, ⟨k.val % 128, by omega⟩, Fin.ext (by simp only [hc]; omega)⟩

theorem named_log2e : Named.named (F := Ideal) κ "neg_log2e" (φ := .f32) 0xBFB8AA3B#32 = ((-((Real.log 2)⁻¹) : ℝ) : EReal) :=
  IdealRules.named_const.ideal_named_scalar _ _ _ _ rfl

theorem rpow_two (z : ℝ) : Real.rpow 2 (|z| * -((Real.log 2)⁻¹)) = Real.exp (-|z|) := by
  change (2 : ℝ) ^ (|z| * -((Real.log 2)⁻¹)) = _
  rw [Real.rpow_def_of_pos (by norm_num)]
  have h : Real.log 2 ≠ 0 := (Real.log_pos (by norm_num)).ne'
  congr 1
  field_simp

/-- The kernel's scalar chain is `sp`. -/
theorem soft_coe (x : ℝ) :
    max (x : EReal) 0 + Ideal.log (1 + Ideal.exp2 (max (x : EReal) (-(x : EReal)) * ((-((Real.log 2)⁻¹) : ℝ) : EReal))) = ((sp x : ℝ) : EReal) := by
  have h1 : max (x : EReal) (-(x : EReal)) = ((|x| : ℝ) : EReal) := by
    rw [← EReal.coe_neg, coe_max]
    rfl
  have hp : (0 : ℝ) < 1 + Real.exp (-|x|) := by positivity
  rw [h1, ← EReal.coe_mul, Ideal.exp2_coe, rpow_two, ← EReal.coe_one, ← EReal.coe_add, Ideal.log_coe, if_neg (by linarith : ¬ _), ← EReal.coe_zero, coe_max, ← EReal.coe_add]
  rfl

/-! ## The two constant masks -/

theorem slt_small (a b : ℕ) (ha : a < 256) (hb : b < 256) :
    IntOp.cmpi .slt (BitVec.ofNat 32 a) (BitVec.ofNat 32 b) = if a < b then 1#1 else 0#1 := by
  show BitVec.ofBool (BitVec.slt _ _) = _
  have key : ∀ n < 256, (BitVec.ofNat 32 n).toInt = n := by decide +kernel
  rw [BitVec.slt_eq_decide, key a ha, key b hb]
  by_cases h : a < b
  · rw [if_pos h, decide_eq_true (by exact_mod_cast h)]; rfl
  · rw [if_neg h, decide_eq_false (by exact_mod_cast h)]; rfl

/-- A column's place among its head's 128, as both masks compute it. -/
theorem wrap_mod : ∀ k : Fin 256, (Scalar.select (IntOp.andi
      (IntOp.xori (IntOp.cmpi .slt (IntOp.remsi .vector (BitVec.ofNat 32 k.val) 128#32) 0#32) (Scalar.cmpi .slt 128#32 0#32))
      (IntOp.cmpi .ne (IntOp.remsi .vector (BitVec.ofNat 32 k.val) 128#32) 0#32))
    (IntOp.addi (IntOp.remsi .vector (BitVec.ofNat 32 k.val) 128#32) 128#32)
    (IntOp.remsi .vector (BitVec.ofNat 32 k.val) 128#32)) = BitVec.ofNat 32 (k.val % 128) := by
  decide +kernel

/-- Whether key `k` is strictly later than key `x`, or the column belongs to the half that takes totals. -/
theorem tri_apply (k c : Fin 256) : @Eq EReal (k0_pay44 (F := Ideal) (ix2 k c)) (if k.val % 128 > c.val ∨ 128 ≤ c.val then 1 else 0) := by
  pointwise [k0_pay44]
  refine (congrArg (fun w => Scalar.select (IntOp.ori (IntOp.cmpi .sgt w (BitVec.ofNat 32 c.val)) (IntOp.cmpi .sge (BitVec.ofNat 32 c.val) 128#32)) (1 : EReal) 0) (wrap_mod k)).trans ?_
  have h1 : IntOp.cmpi .sgt (BitVec.ofNat 32 (k.val % 128)) (BitVec.ofNat 32 c.val) = if c.val < k.val % 128 then 1#1 else 0#1 := slt_small _ _ (by omega) (by omega)
  have key : ∀ c : Fin 256, IntOp.cmpi .sge (BitVec.ofNat 32 c.val) 128#32 = if 128 ≤ c.val then 1#1 else 0#1 := by decide +kernel
  have h2 := key c
  rw [h1, h2]
  by_cases a : c.val < k.val % 128
  · rw [if_pos a, if_pos (Or.inl a)]
    split_ifs <;> rfl
  · rw [if_neg a]
    by_cases b : 128 ≤ c.val
    · rw [if_pos b, if_pos (Or.inr b)]; rfl
    · rw [if_neg b, if_neg (by rintro (h | h) <;> contradiction)]; rfl

theorem tri_cum (x y : Fin 128) : @Eq EReal (k0_pay44 (F := Ideal) (ix2 (hc 0 y) (hc 0 x))) (if x < y then 1 else 0) := by
  rw [tri_apply]
  refine if_congr ?_ rfl rfl
  simp only [hc, Fin.lt_def]
  simp
  omega

theorem tri_tot (x y : Fin 128) : @Eq EReal (k0_pay44 (F := Ideal) (ix2 (hc 0 y) (hc 1 x))) 1 := by
  rw [tri_apply, if_pos (by simp [hc])]

/-- The causal mask of a diagonal block. -/
abbrev causal : IVec S128x256 1 := k0_pay45 (iota .tc S128x256 32 [0] iota_S128x256_d0_w32) (iota .tc S128x256 32 [1] iota_S128x256_d1_w32) 128#32 0#1 1#32

theorem causal_apply (r : Fin 128) (c : Fin 256) : causal (ix2 r c) = if c.val % 128 < r.val then 1#1 else 0#1 := by
  pointwise [k0_pay45]
  exact (congrArg (fun w => IntOp.cmpi .slt w (BitVec.ofNat 32 r.val)) (wrap_mod c)).trans (slt_small _ _ (by omega) (by omega))

/-! ## 256 rows -/

/-- The scores of a block of keys. -/
def sc256 (q : FVec Ideal S256x128 .bf16) (k : Vec Ideal S1x1x256x128 .bf16) : FVec Ideal S256x256 .f32 :=
  matmul (φ₂ := .bf16) dot_S256x128_S256x128_S256x256_1_1_0_0_n_n none q (shapeCast S256x128 k shapeCasts_S1x1x256x128_S256x128) (constant S256x256 .f32 0x00000000#32)

/-- `log (1 + e^z)`. -/
def soft256 (z : FVec Ideal S256x256 .f32) : FVec Ideal S256x256 .f32 :=
  addf (maximumf z (broadcast S256x256 (Scalar.ofBits .f32 0x00000000#32)))
    (log (addf (broadcast S256x256 (Scalar.ofBits .f32 0x3F800000#32)) (exp2 (mulf (absf z) (broadcast S256x256 (Named.named κ "neg_log2e" 0xBFB8AA3B#32))))))

/-- One head's terms beside their rounding's remainder, against the matrix of later keys. -/
def part256 (tri : FVec Ideal S256x256 .bf16) (t : FVec Ideal S256x256 .f32) (o : ∀ d : Fin (S256x256 : Shape).rank, ℕ) (h : (S256x256 : Shape).Slices o S256x128) : FVec Ideal S256x256 .f32 :=
  matmul dot_S256x256_S256x256_S256x256_1_0_0_1_n_n none
    (concatenate S256x256 1 [⟨S256x128, extractStridedSlice S256x128 o (truncf .bf16 t bitsLt_bf16_f32) h⟩,
      ⟨S256x128, extractStridedSlice S256x128 o (truncf .bf16 (subf t (extf .f32 (truncf .bf16 t bitsLt_bf16_f32) bitsLt_bf16_f32)) bitsLt_bf16_f32) h⟩] concatenates_S256x128_S256x128_S256x256_d1)
    tri (constant S256x256 .f32 0x00000000#32)

/-- The terms of strictly later keys of the block, summed. -/
def cum256 (tri : FVec Ideal S256x256 .bf16) (t : FVec Ideal S256x256 .f32) : FVec Ideal S256x256 .f32 :=
  concatenate S256x256 1 [⟨S256x128, extractStridedSlice S256x128 ![0, 0] (part256 tri t ![0, 0] slices_S256x256_o0_0_S256x128) slices_S256x256_o0_0_S256x128⟩,
    ⟨S256x128, extractStridedSlice S256x128 ![0, 0] (part256 tri t ![0, 128] slices_S256x256_o0_128_S256x128) slices_S256x256_o0_0_S256x128⟩] concatenates_S256x128_S256x128_S256x256_d1

/-- The terms of the block, summed. -/
def tot256 (tri : FVec Ideal S256x256 .bf16) (t : FVec Ideal S256x256 .f32) : FVec Ideal S256x256 .f32 :=
  concatenate S256x256 1 [⟨S256x128, extractStridedSlice S256x128 ![0, 128] (part256 tri t ![0, 0] slices_S256x256_o0_0_S256x128) slices_S256x256_o0_128_S256x128⟩,
    ⟨S256x128, extractStridedSlice S256x128 ![0, 128] (part256 tri t ![0, 128] slices_S256x256_o0_128_S256x128) slices_S256x256_o0_128_S256x128⟩] concatenates_S256x128_S256x128_S256x256_d1

/-- The running sums after the block. -/
def nrun256 (tri : FVec Ideal S256x256 .bf16) (t : FVec Ideal S256x256 .f32) (run : Vec Ideal S1x256x256 .f32) : Vec Ideal S1x256x256 .f32 :=
  shapeCast S1x256x256 (addf (shapeCast S256x256 run shapeCasts_S1x256x256_S256x256) (tot256 tri t)) shapeCasts_S256x256_S1x256x256

/-- The weights of the block. -/
def wgt256 (tri : FVec Ideal S256x256 .bf16) (z t : FVec Ideal S256x256 .f32) (run : Vec Ideal S1x256x256 .f32) : FVec Ideal S256x256 .f32 :=
  exp (subf (subf (subf z (soft256 z)) (cum256 tri t)) (shapeCast S256x256 run shapeCasts_S1x256x256_S256x256))

/-- The accumulated output after the block. -/
def nacc256 (a : FVec Ideal S256x256 .f32) (acc : Vec Ideal S256x128 .f32) (v : Vec Ideal S1x1x256x128 .bf16) : Vec Ideal S256x128 .f32 :=
  shapeCast S256x128 (addf acc (matmul (φ₂ := .bf16) dot_S256x256_S256x128_S256x128_1_0_0_1_n_n none (truncf .bf16 a bitsLt_bf16_f32) (shapeCast S256x128 v shapeCasts_S1x1x256x128_S256x128) (constant S256x128 .f32 0x00000000#32))) shapeCasts_S256x128_S256x128

section
variable (tri : FVec Ideal S256x256 .bf16)

theorem sc256_apply (q : FVec Ideal S256x128 .bf16) (k : Vec Ideal S1x1x256x128 .bf16) (r : Fin 256) (c : Fin 256) :
    @Eq EReal (sc256 q k (ix2 r c)) (∑ d : Fin 128, q (ix2 r d) * k (ix4 (0 : Fin 1) (0 : Fin 1) c d)) := by
  pointwise [sc256]

theorem soft256_apply (z : FVec Ideal S256x256 .f32) (r : Fin 256) (c : Fin 256) {x : ℝ} (h : @Eq EReal (z (ix2 r c)) x) :
    @Eq EReal (soft256 z (ix2 r c)) (sp x : ℝ) := by
  pointwise [soft256]
  rw [h, named_log2e]
  exact soft_coe x

theorem lo256_apply (t : FVec Ideal S256x256 .f32) (r : Fin 256) (c : Fin 256) (T : Fin 256 → ℝ) (h : ∀ k, @Eq EReal (t (ix2 r k)) (T k)) :
    @Eq EReal (part256 tri t ![0, 0] slices_S256x256_o0_0_S256x128 (ix2 r c)) (∑ y : Fin 128, (T (hc 0 y) : EReal) * tri (ix2 (hc 0 y) c)) := by
  pointwise [part256]
  have h0 : ∀ k, ((T k : EReal) - (T k : EReal)) = 0 := fun k => by rw [← EReal.coe_sub, sub_self]; rfl
  simp only [h, h0, zero_mul, Finset.sum_const_zero, add_zero]
  rfl

theorem hi256_apply (t : FVec Ideal S256x256 .f32) (r : Fin 256) (c : Fin 256) (T : Fin 256 → ℝ) (h : ∀ k, @Eq EReal (t (ix2 r k)) (T k)) :
    @Eq EReal (part256 tri t ![0, 128] slices_S256x256_o0_128_S256x128 (ix2 r c)) (∑ y : Fin 128, (T (hc 1 y) : EReal) * tri (ix2 (hc 0 y) c)) := by
  pointwise [part256]
  have h0 : ∀ k, ((T k : EReal) - (T k : EReal)) = 0 := fun k => by rw [← EReal.coe_sub, sub_self]; rfl
  simp only [h, h0, zero_mul, Finset.sum_const_zero, add_zero]
  rfl

theorem cum256_apply (t : FVec Ideal S256x256 .f32) (r : Fin 256) (T : Fin 256 → ℝ) (h : ∀ k, @Eq EReal (t (ix2 r k)) (T k)) (e : Fin 2) (x : Fin 128) :
    @Eq EReal (cum256 tri t (ix2 r (hc e x))) (∑ y : Fin 128, (T (hc e y) : EReal) * tri (ix2 (hc 0 y) (hc 0 x))) := by
  pointwise [cum256]
  fin_cases e
  · rw [dif_pos (by simp [hc])]
    exact lo256_apply tri t r _ T h
  · rw [dif_neg (by simp [hc])]
    refine (hi256_apply tri t r _ T h).trans ?_
    congr 3
    all_goals first | rfl | simp [hc]

theorem tot256_apply (t : FVec Ideal S256x256 .f32) (r : Fin 256) (T : Fin 256 → ℝ) (h : ∀ k, @Eq EReal (t (ix2 r k)) (T k)) (e : Fin 2) (x : Fin 128) :
    @Eq EReal (tot256 tri t (ix2 r (hc e x))) (∑ y : Fin 128, (T (hc e y) : EReal) * tri (ix2 (hc 0 y) (hc 1 x))) := by
  pointwise [tot256]
  fin_cases e
  · rw [dif_pos (by simp [hc])]
    refine (lo256_apply tri t r _ T h).trans ?_
    congr 3
    all_goals first | rfl | simp [hc]
  · rw [dif_neg (by simp [hc])]
    refine (hi256_apply tri t r _ T h).trans ?_
    congr 3
    all_goals first | rfl | simp [hc]

/-- The sums after the block, over the reals. -/
theorem nrun256_real (t : FVec Ideal S256x256 .f32) (run : Vec Ideal S1x256x256 .f32) (r : Fin 256) (e : Fin 2) (x : Fin 128) (T : Fin 256 → ℝ)
    (h : ∀ k, @Eq EReal (t (ix2 r k)) (T k)) {R : ℝ} (hR : @Eq EReal (run (ix3 (0 : Fin 1) r (hc e x))) R) :
    @Eq EReal (nrun256 (k0_pay44 (F := Ideal)) t run (ix3 (0 : Fin 1) r (hc e x))) ((R + ∑ y : Fin 128, T (hc e y) : ℝ) : EReal) := by
  have hs : nrun256 (k0_pay44 (F := Ideal)) t run (ix3 (0 : Fin 1) r (hc e x)) =
      (show EReal from run (ix3 (0 : Fin 1) r (hc e x))) + tot256 (k0_pay44 (F := Ideal)) t (ix2 r (hc e x)) := by
    pointwise [nrun256]
  rw [hs, tot256_apply _ t r T h, EReal.coe_add, ← coe_sum]
  refine congrArg₂ _ hR (Finset.sum_congr rfl fun y _ => ?_)
  rw [tri_tot, mul_one]

/-- A weight of the block, over the reals. -/
theorem wgt256_real (z t : FVec Ideal S256x256 .f32) (run : Vec Ideal S1x256x256 .f32) (r : Fin 256) (e : Fin 2) (x : Fin 128) (T : Fin 256 → ℝ)
    (h : ∀ k, @Eq EReal (t (ix2 r k)) (T k)) {R Z : ℝ} (hR : @Eq EReal (run (ix3 (0 : Fin 1) r (hc e x))) R) (hZ : @Eq EReal (z (ix2 r (hc e x))) Z) :
    @Eq EReal (wgt256 (k0_pay44 (F := Ideal)) z t run (ix2 r (hc e x))) ((Real.exp (Z - sp Z - (∑ y : Fin 128, if x < y then T (hc e y) else 0) - R) : ℝ) : EReal) := by
  have hs : wgt256 (k0_pay44 (F := Ideal)) z t run (ix2 r (hc e x)) =
      Ideal.exp ((show EReal from z (ix2 r (hc e x))) - soft256 z (ix2 r (hc e x)) - cum256 (k0_pay44 (F := Ideal)) t (ix2 r (hc e x)) - run (ix3 (0 : Fin 1) r (hc e x))) := by
    pointwise [wgt256]
  rw [hs, soft256_apply z r _ hZ, cum256_apply _ t r T h, hZ, hR]
  have hc' : ∑ y : Fin 128, (T (hc e y) : EReal) * k0_pay44 (F := Ideal) (ix2 (hc 0 y) (hc 0 x)) = ((∑ y : Fin 128, if x < y then T (hc e y) else 0 : ℝ) : EReal) := by
    rw [← coe_sum]
    refine Finset.sum_congr rfl fun y _ => ?_
    rw [tri_cum]
    by_cases hxy : x < y
    · rw [if_pos hxy, if_pos hxy, mul_one]
    · rw [if_neg hxy, if_neg hxy, mul_zero]; rfl
  rw [hc', ← EReal.coe_sub, ← EReal.coe_sub, ← EReal.coe_sub, Ideal.exp_coe]

/-- The output after the block, over the reals. -/
theorem nacc256_real (a : FVec Ideal S256x256 .f32) (acc : Vec Ideal S256x128 .f32) (v : Vec Ideal S1x1x256x128 .bf16) (r : Fin 256) (l : Fin 128) (A V : Fin 256 → ℝ)
    {C : ℝ} (hC : @Eq EReal (acc (ix2 r l)) C) (hA : ∀ c, @Eq EReal (a (ix2 r c)) (A c)) (hV : ∀ c, @Eq EReal (v (ix4 (0 : Fin 1) (0 : Fin 1) c l)) (V c)) :
    @Eq EReal (nacc256 a acc v (ix2 r l)) ((C + ∑ c : Fin 256, A c * V c : ℝ) : EReal) := by
  have hs : nacc256 a acc v (ix2 r l) = (show EReal from acc (ix2 r l)) + ∑ c : Fin 256, (show EReal from a (ix2 r c)) * v (ix4 (0 : Fin 1) (0 : Fin 1) c l) := by
    pointwise [nacc256]
  rw [hs, EReal.coe_add, ← coe_sum]
  refine congrArg₂ _ hC (Finset.sum_congr rfl fun c _ => ?_)
  rw [hA, hV, EReal.coe_mul]
end

/-! ## 128 rows -/

/-- The scores of a block of keys. -/
def sc128 (q : FVec Ideal S128x128 .bf16) (k : Vec Ideal S1x1x256x128 .bf16) : FVec Ideal S128x256 .f32 :=
  matmul (φ₂ := .bf16) dot_S128x128_S256x128_S128x256_1_1_0_0_n_n none q (shapeCast S256x128 k shapeCasts_S1x1x256x128_S256x128) (constant S128x256 .f32 0x00000000#32)

/-- `log (1 + e^z)`. -/
def soft128 (z : FVec Ideal S128x256 .f32) : FVec Ideal S128x256 .f32 :=
  addf (maximumf z (broadcast S128x256 (Scalar.ofBits .f32 0x00000000#32)))
    (log (addf (broadcast S128x256 (Scalar.ofBits .f32 0x3F800000#32)) (exp2 (mulf (absf z) (broadcast S128x256 (Named.named κ "neg_log2e" 0xBFB8AA3B#32))))))

/-- One head's terms beside their rounding's remainder, against the matrix of later keys. -/
def part128 (tri : FVec Ideal S256x256 .bf16) (t : FVec Ideal S128x256 .f32) (o : ∀ d : Fin (S128x256 : Shape).rank, ℕ) (h : (S128x256 : Shape).Slices o S128x128) : FVec Ideal S128x256 .f32 :=
  matmul dot_S128x256_S256x256_S128x256_1_0_0_1_n_n none
    (concatenate S128x256 1 [⟨S128x128, extractStridedSlice S128x128 o (truncf .bf16 t bitsLt_bf16_f32) h⟩,
      ⟨S128x128, extractStridedSlice S128x128 o (truncf .bf16 (subf t (extf .f32 (truncf .bf16 t bitsLt_bf16_f32) bitsLt_bf16_f32)) bitsLt_bf16_f32) h⟩] concatenates_S128x128_S128x128_S128x256_d1)
    tri (constant S128x256 .f32 0x00000000#32)

/-- The terms of strictly later keys of the block, summed. -/
def cum128 (tri : FVec Ideal S256x256 .bf16) (t : FVec Ideal S128x256 .f32) : FVec Ideal S128x256 .f32 :=
  concatenate S128x256 1 [⟨S128x128, extractStridedSlice S128x128 ![0, 0] (part128 tri t ![0, 0] slices_S128x256_o0_0_S128x128) slices_S128x256_o0_0_S128x128⟩,
    ⟨S128x128, extractStridedSlice S128x128 ![0, 0] (part128 tri t ![0, 128] slices_S128x256_o0_128_S128x128) slices_S128x256_o0_0_S128x128⟩] concatenates_S128x128_S128x128_S128x256_d1

/-- The terms of the block, summed. -/
def tot128 (tri : FVec Ideal S256x256 .bf16) (t : FVec Ideal S128x256 .f32) : FVec Ideal S128x256 .f32 :=
  concatenate S128x256 1 [⟨S128x128, extractStridedSlice S128x128 ![0, 128] (part128 tri t ![0, 0] slices_S128x256_o0_0_S128x128) slices_S128x256_o0_128_S128x128⟩,
    ⟨S128x128, extractStridedSlice S128x128 ![0, 128] (part128 tri t ![0, 128] slices_S128x256_o0_128_S128x128) slices_S128x256_o0_128_S128x128⟩] concatenates_S128x128_S128x128_S128x256_d1

/-- The running sums after the block. -/
def nrun128 (tri : FVec Ideal S256x256 .bf16) (t : FVec Ideal S128x256 .f32) (run : Vec Ideal S1x128x256 .f32) : Vec Ideal S1x128x256 .f32 :=
  shapeCast S1x128x256 (addf (shapeCast S128x256 run shapeCasts_S1x128x256_S128x256) (tot128 tri t)) shapeCasts_S128x256_S1x128x256

/-- The weights of the block. -/
def wgt128 (tri : FVec Ideal S256x256 .bf16) (z t : FVec Ideal S128x256 .f32) (run : Vec Ideal S1x128x256 .f32) : FVec Ideal S128x256 .f32 :=
  exp (subf (subf (subf z (soft128 z)) (cum128 tri t)) (shapeCast S128x256 run shapeCasts_S1x128x256_S128x256))

/-- The accumulated output after the block. -/
def nacc128 (a : FVec Ideal S128x256 .f32) (acc : Vec Ideal S128x128 .f32) (v : Vec Ideal S1x1x256x128 .bf16) : Vec Ideal S128x128 .f32 :=
  shapeCast S128x128 (addf acc (matmul (φ₂ := .bf16) dot_S128x256_S256x128_S128x128_1_0_0_1_n_n none (truncf .bf16 a bitsLt_bf16_f32) (shapeCast S256x128 v shapeCasts_S1x1x256x128_S256x128) (constant S128x128 .f32 0x00000000#32))) shapeCasts_S128x128_S128x128

section
variable (tri : FVec Ideal S256x256 .bf16)

theorem sc128_apply (q : FVec Ideal S128x128 .bf16) (k : Vec Ideal S1x1x256x128 .bf16) (r : Fin 128) (c : Fin 256) :
    @Eq EReal (sc128 q k (ix2 r c)) (∑ d : Fin 128, q (ix2 r d) * k (ix4 (0 : Fin 1) (0 : Fin 1) c d)) := by
  pointwise [sc128]

theorem soft128_apply (z : FVec Ideal S128x256 .f32) (r : Fin 128) (c : Fin 256) {x : ℝ} (h : @Eq EReal (z (ix2 r c)) x) :
    @Eq EReal (soft128 z (ix2 r c)) (sp x : ℝ) := by
  pointwise [soft128]
  rw [h, named_log2e]
  exact soft_coe x

theorem lo128_apply (t : FVec Ideal S128x256 .f32) (r : Fin 128) (c : Fin 256) (T : Fin 256 → ℝ) (h : ∀ k, @Eq EReal (t (ix2 r k)) (T k)) :
    @Eq EReal (part128 tri t ![0, 0] slices_S128x256_o0_0_S128x128 (ix2 r c)) (∑ y : Fin 128, (T (hc 0 y) : EReal) * tri (ix2 (hc 0 y) c)) := by
  pointwise [part128]
  have h0 : ∀ k, ((T k : EReal) - (T k : EReal)) = 0 := fun k => by rw [← EReal.coe_sub, sub_self]; rfl
  simp only [h, h0, zero_mul, Finset.sum_const_zero, add_zero]
  rfl

theorem hi128_apply (t : FVec Ideal S128x256 .f32) (r : Fin 128) (c : Fin 256) (T : Fin 256 → ℝ) (h : ∀ k, @Eq EReal (t (ix2 r k)) (T k)) :
    @Eq EReal (part128 tri t ![0, 128] slices_S128x256_o0_128_S128x128 (ix2 r c)) (∑ y : Fin 128, (T (hc 1 y) : EReal) * tri (ix2 (hc 0 y) c)) := by
  pointwise [part128]
  have h0 : ∀ k, ((T k : EReal) - (T k : EReal)) = 0 := fun k => by rw [← EReal.coe_sub, sub_self]; rfl
  simp only [h, h0, zero_mul, Finset.sum_const_zero, add_zero]
  rfl

theorem cum128_apply (t : FVec Ideal S128x256 .f32) (r : Fin 128) (T : Fin 256 → ℝ) (h : ∀ k, @Eq EReal (t (ix2 r k)) (T k)) (e : Fin 2) (x : Fin 128) :
    @Eq EReal (cum128 tri t (ix2 r (hc e x))) (∑ y : Fin 128, (T (hc e y) : EReal) * tri (ix2 (hc 0 y) (hc 0 x))) := by
  pointwise [cum128]
  fin_cases e
  · rw [dif_pos (by simp [hc])]
    exact lo128_apply tri t r _ T h
  · rw [dif_neg (by simp [hc])]
    refine (hi128_apply tri t r _ T h).trans ?_
    congr 3
    all_goals first | rfl | simp [hc]

theorem tot128_apply (t : FVec Ideal S128x256 .f32) (r : Fin 128) (T : Fin 256 → ℝ) (h : ∀ k, @Eq EReal (t (ix2 r k)) (T k)) (e : Fin 2) (x : Fin 128) :
    @Eq EReal (tot128 tri t (ix2 r (hc e x))) (∑ y : Fin 128, (T (hc e y) : EReal) * tri (ix2 (hc 0 y) (hc 1 x))) := by
  pointwise [tot128]
  fin_cases e
  · rw [dif_pos (by simp [hc])]
    refine (lo128_apply tri t r _ T h).trans ?_
    congr 3
    all_goals first | rfl | simp [hc]
  · rw [dif_neg (by simp [hc])]
    refine (hi128_apply tri t r _ T h).trans ?_
    congr 3
    all_goals first | rfl | simp [hc]

/-- The sums after the block, over the reals. -/
theorem nrun128_real (t : FVec Ideal S128x256 .f32) (run : Vec Ideal S1x128x256 .f32) (r : Fin 128) (e : Fin 2) (x : Fin 128) (T : Fin 256 → ℝ)
    (h : ∀ k, @Eq EReal (t (ix2 r k)) (T k)) {R : ℝ} (hR : @Eq EReal (run (ix3 (0 : Fin 1) r (hc e x))) R) :
    @Eq EReal (nrun128 (k0_pay44 (F := Ideal)) t run (ix3 (0 : Fin 1) r (hc e x))) ((R + ∑ y : Fin 128, T (hc e y) : ℝ) : EReal) := by
  have hs : nrun128 (k0_pay44 (F := Ideal)) t run (ix3 (0 : Fin 1) r (hc e x)) =
      (show EReal from run (ix3 (0 : Fin 1) r (hc e x))) + tot128 (k0_pay44 (F := Ideal)) t (ix2 r (hc e x)) := by
    pointwise [nrun128]
  rw [hs, tot128_apply _ t r T h, EReal.coe_add, ← coe_sum]
  refine congrArg₂ _ hR (Finset.sum_congr rfl fun y _ => ?_)
  rw [tri_tot, mul_one]

/-- A weight of the block, over the reals. -/
theorem wgt128_real (z t : FVec Ideal S128x256 .f32) (run : Vec Ideal S1x128x256 .f32) (r : Fin 128) (e : Fin 2) (x : Fin 128) (T : Fin 256 → ℝ)
    (h : ∀ k, @Eq EReal (t (ix2 r k)) (T k)) {R Z : ℝ} (hR : @Eq EReal (run (ix3 (0 : Fin 1) r (hc e x))) R) (hZ : @Eq EReal (z (ix2 r (hc e x))) Z) :
    @Eq EReal (wgt128 (k0_pay44 (F := Ideal)) z t run (ix2 r (hc e x))) ((Real.exp (Z - sp Z - (∑ y : Fin 128, if x < y then T (hc e y) else 0) - R) : ℝ) : EReal) := by
  have hs : wgt128 (k0_pay44 (F := Ideal)) z t run (ix2 r (hc e x)) =
      Ideal.exp ((show EReal from z (ix2 r (hc e x))) - soft128 z (ix2 r (hc e x)) - cum128 (k0_pay44 (F := Ideal)) t (ix2 r (hc e x)) - run (ix3 (0 : Fin 1) r (hc e x))) := by
    pointwise [wgt128]
  rw [hs, soft128_apply z r _ hZ, cum128_apply _ t r T h, hZ, hR]
  have hc' : ∑ y : Fin 128, (T (hc e y) : EReal) * k0_pay44 (F := Ideal) (ix2 (hc 0 y) (hc 0 x)) = ((∑ y : Fin 128, if x < y then T (hc e y) else 0 : ℝ) : EReal) := by
    rw [← coe_sum]
    refine Finset.sum_congr rfl fun y _ => ?_
    rw [tri_cum]
    by_cases hxy : x < y
    · rw [if_pos hxy, if_pos hxy, mul_one]
    · rw [if_neg hxy, if_neg hxy, mul_zero]; rfl
  rw [hc', ← EReal.coe_sub, ← EReal.coe_sub, ← EReal.coe_sub, Ideal.exp_coe]

/-- The output after the block, over the reals. -/
theorem nacc128_real (a : FVec Ideal S128x256 .f32) (acc : Vec Ideal S128x128 .f32) (v : Vec Ideal S1x1x256x128 .bf16) (r : Fin 128) (l : Fin 128) (A V : Fin 256 → ℝ)
    {C : ℝ} (hC : @Eq EReal (acc (ix2 r l)) C) (hA : ∀ c, @Eq EReal (a (ix2 r c)) (A c)) (hV : ∀ c, @Eq EReal (v (ix4 (0 : Fin 1) (0 : Fin 1) c l)) (V c)) :
    @Eq EReal (nacc128 a acc v (ix2 r l)) ((C + ∑ c : Fin 256, A c * V c : ℝ) : EReal) := by
  have hs : nacc128 a acc v (ix2 r l) = (show EReal from acc (ix2 r l)) + ∑ c : Fin 256, (show EReal from a (ix2 r c)) * v (ix4 (0 : Fin 1) (0 : Fin 1) c l) := by
    pointwise [nacc128]
  rw [hs, EReal.coe_add, ← coe_sum]
  refine congrArg₂ _ hC (Finset.sum_congr rfl fun c _ => ?_)
  rw [hA, hV, EReal.coe_mul]
end

/-! ## The diagonal's masks -/

/-- A square of the diagonal in which the upper 128 rows are masked. -/
def msk256 (t : FVec Ideal S256x256 .f32) : FVec Ideal S256x256 .f32 :=
  concatenate S256x256 0 [⟨S128x256, select causal (extractStridedSlice S128x256 ![0, 0] t slices_S256x256_o0_0_S128x256) (broadcast S128x256 (Scalar.ofBits .f32 0x00000000#32))⟩,
    ⟨S128x256, extractStridedSlice S128x256 ![128, 0] t slices_S256x256_o128_0_S128x256⟩] concatenates_S128x256_S128x256_S256x256_d0

/-- A square of the diagonal whose 128 rows are all masked. -/
def msk128 (t : FVec Ideal S128x256 .f32) : FVec Ideal S128x256 .f32 :=
  select causal t (broadcast S128x256 (Scalar.ofBits .f32 0x00000000#32))

theorem msk128_apply (t : FVec Ideal S128x256 .f32) (r : Fin 128) (c : Fin 256) :
    @Eq EReal (msk128 t (ix2 r c)) (if c.val % 128 < r.val then t (ix2 r c) else 0) := by
  pointwise [msk128]
  rw [causal_apply]
  by_cases h : c.val % 128 < r.val
  · rw [if_pos h, if_pos h]; rfl
  · rw [if_neg h, if_neg h]; rfl

theorem msk256_apply (t : FVec Ideal S256x256 .f32) (r : Fin 256) (c : Fin 256) :
    @Eq EReal (msk256 t (ix2 r c)) (if c.val % 128 < r.val then t (ix2 r c) else 0) := by
  pointwise [msk256]
  by_cases hr : r.val < 128
  · rw [dif_pos hr, causal_apply]
    by_cases h : c.val % 128 < r.val
    · rw [if_pos h, if_pos h]; rfl
    · rw [if_neg h, if_neg h]; rfl
  · rw [dif_neg hr]
    refine Eq.trans ?_ (if_pos (by omega)).symm
    exact congrArg (fun k => t (ix2 k c)) (Fin.ext (by show 128 + (r.val - 128) = r.val; omega))

end Cert.Proof.Sb
-- ==== Proof.SbTrip.lean ====
module

public import proofs.«01_k».proof.Proof.Gen.Kernel9Ideal
public import proofs.«01_k».proof.Proof.Gen.Kernel9Ideal.Launch
public import proofs.«01_k».proof.Proof.Gen.Kernel9Ideal.Skeleton
public import proofs.«01_k».proof.Proof.Gen.Kernel9Ideal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

/-! # Stick-breaking attention: a trip of the loop

One trip of the loop: what it writes over the running totals and the accumulator, and the call it comes to. -/

@[expose] public section

set_option maxRecDepth 16384

noncomputable section

namespace Cert.Proof.Sb

open Cert.Kernel9Ideal Cert.Kernel9Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The variants the kernel is run with: the naturals, the loop's trips still to run. -/
abbrev 𝒱 : Variants := Variants.nat

/-- The loop's test at the carried counter and least running total. -/
abbrev loopCond (i : grid0.Coords) (j : BitVec 32) (w : F .f32) : BitVec 1 :=
  Scalar.andi (Scalar.cmpi .slt j (BitVec.ofNat 32 (i 2).val)) (Scalar.cmpf .olt w (Named.named κ "exp_zero" 0x42D00000#32))

set_option maxHeartbeats 1000000 in
/-- One trip of the loop, its test passed and its two key blocks inside the buffers: with the prepared keys and values at
    `xs0` and `xs1`, the running totals at `xr` and the accumulator at `xa`, the trip writes the pieces found here over the totals
    and the accumulator and comes to the loop's own call at the next counter and at the least total found here. -/
noncomputable def tripRun (c : Dev nD) (i : grid0.Coords) (v8 : FVec F S256x512 .bf16) (v34 : FVec F S256x256 .bf16)
    (arg7 : Memref sig .tc .vmem S4x32x256x128 .bf16) (harg7 : arg7.IsWhole) (arg8 : Memref sig .tc .vmem S4x32x256x128 .bf16) (harg8 : arg8.IsWhole)
    (arg9 : Memref sig .tc .vmem S4x256x256 .f32) (harg9 : arg9.IsWhole) (arg10 : Memref sig .tc .vmem S256x512 .f32) (harg10 : arg10.IsWhole)
    (j : BitVec 32) (w : F .f32) (hc : loopCond i j w = 1#1) (hw : k0_chk1 i j)
    (xs0 xs1 : Vec F S4x32x256x128 .bf16) (xr : Vec F S4x256x256 .f32) (xa : Vec F S256x512 .f32) :
    Σ' (L2 : List (View.Piece (Elt F) S4x256x256 .f32)), Σ' (L3 : List (View.Piece (Elt F) S256x512 .f32)), { mn : F .f32 //
      ∀ (E : Set ℕ) (b : Option ℕ) (K : BitVec 32 × F .f32 → sProp 𝕄),
        iprop(owns (c : Thread nD τ) arg7 fullShare xs0 ∗ owns (c : Thread nD τ) arg8 fullShare xs1 ∗ owns (c : Thread nD τ) arg9 fullShare xr ∗ owns (c : Thread nD τ) arg10 fullShare xa
            ∗ (iprop(owns (c : Thread nD τ) arg7 fullShare xs0 ∗ owns (c : Thread nD τ) arg8 fullShare xs1
                ∗ (∃ f, arg9.view.loc (c : Thread nD τ) ↦[arg9.view.set]{fullShare} arg9.view.writes (Elt F) f L2)
                ∗ (∃ f, arg10.view.loc (c : Thread nD τ) ↦[arg10.view.set]{fullShare} arg10.view.writes (Elt F) f L3))
              -∗ wp frame (wpE (defs₀ (F := F)) 𝒱 c b) E
                (Prog.op (.call (1 : (Λ₀ F).Label) ⟨i, v8, arg7, harg7, v34, arg9, harg9, arg10, harg10, arg8, harg8, Scalar.addi j 1#32, mn⟩) Prog.ret) K))
          ⊢ wp frame (wpE (defs₀ (F := F)) 𝒱 c b) E (cc0_while1 i v8 arg7 harg7 v34 arg9 harg9 arg10 harg10 arg8 harg8 j w) K } := by
  refine ⟨?_, ?_, ?_, fun E b K => ?run⟩
  case run =>
    simp only [cc0_while1_eq_skeleton]; unfold cc0_while1_skel
    simp only [k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
    unfold owns
    iintro ⟨⟨%fs0, %hfs0, HS0⟩, ⟨%fs1, %hfs1, HS1⟩, ⟨%fs2, %hfs2, HS2⟩, ⟨%fs3, %hfs3, HS3⟩, Hk⟩
    obtain rfl := harg7.eq_unread hfs0; obtain rfl := harg8.eq_unread hfs1; obtain rfl := harg9.eq_unread hfs2; obtain rfl := harg10.eq_unread hfs3
    sl_exec (disch := first | sl_exact hc | sl_exact hw)
    iapply Hk
    isplitl [HS0]
    · iexists _; isplitr; · ipureintro; exact harg7.read_unread _
      iexact HS0
    isplitl [HS1]
    · iexists _; isplitr; · ipureintro; exact harg8.read_unread _
      iexact HS1
    isplitl [HS2]; · iexists _; iexact HS2
    iexists _; iexact HS3

end Cert.Proof.Sb

end
-- ==== Proof.SbSweep.lean ====
module

public import proofs.«01_k».proof.Proof.Gen.Kernel9Ideal
public import proofs.«01_k».proof.Proof.Gen.Kernel9Ideal.Launch
public import proofs.«01_k».proof.Proof.Gen.Kernel9Ideal.Skeleton
public import proofs.«01_k».proof.Proof.Gen.Kernel9Ideal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim
public import proofs.«01_k».proof.Proof.SbTrip

/-! # Stick-breaking attention: the loop

The loop from any counter to its end, by induction on the trips still to run. -/

@[expose] public section

set_option maxRecDepth 16384

noncomputable section

namespace Cert.Proof.Sb

open Cert.Kernel9Ideal Cert.Kernel9Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The query tile of a grid point is one of sixteen. -/
theorem tile_lt (i : grid0.Coords) : (i 2).val < 16 := (i 2).isLt

/-- At a counter below the query tile's number the trip's two key blocks lie inside the prepared buffers. -/
theorem chk_of_lt (i : grid0.Coords) (j : ℕ) (hj : j < (i 2).val) : k0_chk1 i (BitVec.ofNat 32 j) := by
  have hn := tile_lt i
  have key : ∀ n < 16, ∀ j < n, ∀ r : Fin 2,
      (Scalar.indexCast (Scalar.addi (Scalar.muli (Scalar.subi (Scalar.subi (BitVec.ofNat 32 n) 1#32) (BitVec.ofNat 32 j)) 2#32) (BitVec.ofNat 32 r.val))).toNat + 1 ≤ 32 := by
    decide +kernel
  have hk := key _ hn _ hj
  refine ⟨fun r a => ?_, fun r a => ?_, fun r a => ?_, fun r a => ?_⟩ <;>
    (fin_cases a <;> first | exact hk r | exact Nat.le_of_ble_eq_true rfl)

/-- The loop's counter after one more trip. -/
theorem addi_succ (j : ℕ) (hj : j < 16) : Scalar.addi (BitVec.ofNat 32 j) 1#32 = BitVec.ofNat 32 (j + 1) := by
  have key : ∀ j < 16, Scalar.addi (BitVec.ofNat 32 j) 1#32 = BitVec.ofNat 32 (j + 1) := by decide
  exact key j hj

/-- The test at the query tile's own number fails. -/
theorem loopCond_self (i : grid0.Coords) (w : F .f32) : ¬ loopCond i (BitVec.ofNat 32 (i 2).val) w = 1#1 := by
  have key : ∀ n < 16, Scalar.cmpi .slt (BitVec.ofNat 32 n) (BitVec.ofNat 32 n) = 0#1 := by decide
  have z : ∀ b : BitVec 1, ¬ Scalar.andi 0#1 b = 1#1 := by decide
  unfold loopCond
  rw [key _ (tile_lt i)]
  exact z _

/-- The running totals and the accumulator, as views: what they hold is stated through them. -/
abbrev VR : View sig .tc .vmem S4x256x256 .f32 := (Memref.whole cc0_scratch2 : Memref sig .tc .vmem S4x256x256 .f32).view
abbrev VA : View sig .tc .vmem S256x512 .f32 := (Memref.whole cc0_scratch3 : Memref sig .tc .vmem S256x512 .f32).view

section Label

variable (c : Dev nD) (i : grid0.Coords) (v8 : FVec F S256x512 .bf16) (v34 : FVec F S256x256 .bf16)
    (arg7 : Memref sig .tc .vmem S4x32x256x128 .bf16) (harg7 : arg7.IsWhole) (arg8 : Memref sig .tc .vmem S4x32x256x128 .bf16) (harg8 : arg8.IsWhole)
    (arg9 : Memref sig .tc .vmem S4x256x256 .f32) (harg9 : arg9.IsWhole) (arg10 : Memref sig .tc .vmem S256x512 .f32) (harg10 : arg10.IsWhole)
    (xs0 xs1 : Vec F S4x32x256x128 .bf16)

/-- A trip writes the running totals of all four lane groups, -/
theorem tripCoverR (j : BitVec 32) (w : F .f32) (hc : loopCond i j w = 1#1) (hw : k0_chk1 i j) (xr : Vec F S4x256x256 .f32) (xa : Vec F S256x512 .f32) (y : S4x256x256.Idx) :
    ∃ pc ∈ (tripRun c i v8 v34 arg7 harg7 arg8 harg8 arg9 harg9 arg10 harg10 j w hc hw xs0 xs1 xr xa).1, y ∈ pc.1.set :=
  View.cover_of_tiledL (tripRun c i v8 v34 arg7 harg7 arg8 harg8 arg9 harg9 arg10 harg10 j w hc hw xs0 xs1 xr xa).1 S1x256x256.size (by sl_kernel_rfl) y

/-- and the accumulator's. -/
theorem tripCoverA (j : BitVec 32) (w : F .f32) (hc : loopCond i j w = 1#1) (hw : k0_chk1 i j) (xr : Vec F S4x256x256 .f32) (xa : Vec F S256x512 .f32) (y : S256x512.Idx) :
    ∃ pc ∈ (tripRun c i v8 v34 arg7 harg7 arg8 harg8 arg9 harg9 arg10 harg10 j w hc hw xs0 xs1 xr xa).2.1, y ∈ pc.1.set :=
  View.cover_of_tiledL (tripRun c i v8 v34 arg7 harg7 arg8 harg8 arg9 harg9 arg10 harg10 j w hc hw xs0 xs1 xr xa).2.1 S256x128.size (by sl_kernel_rfl) y

/-- The running totals after a trip, -/
def tripR (j : BitVec 32) (w : F .f32) (hc : loopCond i j w = 1#1) (hw : k0_chk1 i j) (xr : Vec F S4x256x256 .f32) (xa : Vec F S256x512 .f32) : Vec F S4x256x256 .f32 :=
  VR.read (Elt F) (VR.writes (Elt F) VR.junk (tripRun c i v8 v34 arg7 harg7 arg8 harg8 arg9 harg9 arg10 harg10 j w hc hw xs0 xs1 xr xa).1)

/-- the accumulator after it, -/
def tripA (j : BitVec 32) (w : F .f32) (hc : loopCond i j w = 1#1) (hw : k0_chk1 i j) (xr : Vec F S4x256x256 .f32) (xa : Vec F S256x512 .f32) : Vec F S256x512 .f32 :=
  VA.read (Elt F) (VA.writes (Elt F) VA.junk (tripRun c i v8 v34 arg7 harg7 arg8 harg8 arg9 harg9 arg10 harg10 j w hc hw xs0 xs1 xr xa).2.1)

/-- and the least running total the next test looks at. -/
def tripM (j : BitVec 32) (w : F .f32) (hc : loopCond i j w = 1#1) (hw : k0_chk1 i j) (xr : Vec F S4x256x256 .f32) (xa : Vec F S256x512 .f32) : F .f32 :=
  (tripRun c i v8 v34 arg7 harg7 arg8 harg8 arg9 harg9 arg10 harg10 j w hc hw xs0 xs1 xr xa).2.2.1

/-- The accumulator once the loop is done, with at most `k` trips to run after `j`: a trip for as long as the test passes. -/
def sweep : ℕ → ℕ → F .f32 → Vec F S4x256x256 .f32 → Vec F S256x512 .f32 → Vec F S256x512 .f32
  | 0, _, _, _, xa => xa
  | k + 1, j, w, xr, xa =>
    if h : loopCond i (BitVec.ofNat 32 j) w = 1#1 ∧ k0_chk1 i (BitVec.ofNat 32 j) then
      sweep k (j + 1) (tripM c i v8 v34 arg7 harg7 arg8 harg8 arg9 harg9 arg10 harg10 xs0 xs1 _ w h.1 h.2 xr xa) (tripR c i v8 v34 arg7 harg7 arg8 harg8 arg9 harg9 arg10 harg10 xs0 xs1 _ w h.1 h.2 xr xa)
        (tripA c i v8 v34 arg7 harg7 arg8 harg8 arg9 harg9 arg10 harg10 xs0 xs1 _ w h.1 h.2 xr xa)
    else xa

/-- What the loop's label holds on entry, -/
def heldIn (xr : Vec F S4x256x256 .f32) (xa : Vec F S256x512 .f32) : sProp 𝕄 :=
  iprop(owns (c : Thread nD τ) arg7 fullShare xs0 ∗ owns (c : Thread nD τ) arg8 fullShare xs1 ∗ owns (c : Thread nD τ) arg9 fullShare xr ∗ owns (c : Thread nD τ) arg10 fullShare xa)

/-- and on return: the prepared keys and values as they were, the totals at something, the accumulator at `xa`. -/
def heldOut (xa : Vec F S256x512 .f32) : sProp 𝕄 :=
  iprop(owns (c : Thread nD τ) arg7 fullShare xs0 ∗ owns (c : Thread nD τ) arg8 fullShare xs1 ∗ (∃ d, owns (c : Thread nD τ) arg9 fullShare d) ∗ owns (c : Thread nD τ) arg10 fullShare xa)

/-- The label's specification with at most `k` trips to run after `j`: it returns some counter and least total, and leaves
    the accumulator at `sweep`. -/
def spec (k j : ℕ) (w : F .f32) (xr : Vec F S4x256x256 .f32) (xa : Vec F S256x512 .f32) : sWPT 𝕄 (BitVec 32 × F .f32) := do
  sWPT.consume (heldIn c arg7 arg8 arg9 arg10 xs0 xs1 xr xa)
  let r ← sWPT.arbitrary
  sWPT.produce (heldOut c arg7 arg8 arg9 arg10 xs0 xs1 (sweep c i v8 v34 arg7 harg7 arg8 harg8 arg9 harg9 arg10 harg10 xs0 xs1 k j w xr xa))
  pure r

theorem spec_apply (k j : ℕ) (w : F .f32) (xr : Vec F S4x256x256 .f32) (xa : Vec F S256x512 .f32) (K : BitVec 32 × F .f32 → sProp 𝕄) :
    spec c i v8 v34 arg7 harg7 arg8 harg8 arg9 harg9 arg10 harg10 xs0 xs1 k j w xr xa K
      = iprop(heldIn c arg7 arg8 arg9 arg10 xs0 xs1 xr xa
          ∗ ∀ r : BitVec 32 × F .f32, (heldOut c arg7 arg8 arg9 arg10 xs0 xs1 (sweep c i v8 v34 arg7 harg7 arg8 harg8 arg9 harg9 arg10 harg10 xs0 xs1 k j w xr xa) -∗ K r)) := rfl

/-- The label's body meets its specification, by induction on the trips to run: the test failing it returns at once; passing,
    one trip leads to its own call, which the induction hypothesis answers. -/
theorem spec_le (E : Set ℕ) :
    ∀ k j, j + k = (i 2).val → ∀ (w : F .f32) (xr : Vec F S4x256x256 .f32) (xa : Vec F S256x512 .f32) (K : BitVec 32 × F .f32 → sProp 𝕄),
      spec c i v8 v34 arg7 harg7 arg8 harg8 arg9 harg9 arg10 harg10 xs0 xs1 k j w xr xa K
      ⊢ wp frame (wpE (defs₀ (F := F)) 𝒱 (c : Thread nD τ) (some k)) E
          (defs₀ (F := F) .tc 1 ⟨i, v8, arg7, harg7, v34, arg9, harg9, arg10, harg10, arg8, harg8, BitVec.ofNat 32 j, w⟩) K := by
  have stop : ∀ k j (w : F .f32) (xr : Vec F S4x256x256 .f32) (xa : Vec F S256x512 .f32) (K : BitVec 32 × F .f32 → sProp 𝕄),
      ¬ loopCond i (BitVec.ofNat 32 j) w = 1#1 →
      iprop(heldIn c arg7 arg8 arg9 arg10 xs0 xs1 xr xa ∗ ∀ r : BitVec 32 × F .f32, (heldOut c arg7 arg8 arg9 arg10 xs0 xs1 xa -∗ K r))
      ⊢ wp frame (wpE (defs₀ (F := F)) 𝒱 (c : Thread nD τ) (some k)) E
          (cc0_while1 i v8 arg7 harg7 v34 arg9 harg9 arg10 harg10 arg8 harg8 (BitVec.ofNat 32 j) w) K := by
    intro k j w xr xa K hc
    simp only [cc0_while1_eq_skeleton]; unfold cc0_while1_skel
    unfold heldIn heldOut
    iintro ⟨⟨H0, H1, H2, H3⟩, Hk⟩
    rw [if_neg hc]
    rw [Prog.pure_eq_ret, wp_ret]; imodintro
    iapply Hk
    isplitl [H0]; · iexact H0
    isplitl [H1]; · iexact H1
    isplitl [H2]; · iexists _; iexact H2
    iexact H3
  intro k
  induction k with
  | zero =>
    intro j hj w xr xa K
    rw [spec_apply]
    have hjn : j = (i 2).val := by omega
    exact stop 0 j w xr xa K (by rw [hjn]; exact loopCond_self i w)
  | succ k ih =>
    intro j hj w xr xa K
    have hn := tile_lt i
    rw [spec_apply]
    by_cases hc : loopCond i (BitVec.ofNat 32 j) w = 1#1
    · have hw : k0_chk1 i (BitVec.ofNat 32 j) := chk_of_lt i j (by omega)
      have hih : ∀ (w : F .f32) (xr : Vec F S4x256x256 .f32) (xa : Vec F S256x512 .f32),
          spec c i v8 v34 arg7 harg7 arg8 harg8 arg9 harg9 arg10 harg10 xs0 xs1 k (j + 1) w xr xa
          ≤ wp frame (wpE (defs₀ (F := F)) 𝒱 (c : Thread nD τ) (some k)) E
            (defs₀ (F := F) .tc 1 ⟨i, v8, arg7, harg7, v34, arg9, harg9, arg10, harg10, arg8, harg8, Scalar.addi (BitVec.ofNat 32 j) 1#32, w⟩) := by
        intro w xr xa
        rw [addi_succ j (by omega)]
        exact ih (j + 1) (by omega) w xr xa
      rw [sweep, dif_pos ⟨hc, hw⟩]
      show _ ⊢ wp frame (wpE (defs₀ (F := F)) 𝒱 (c : Thread nD τ) (some (k + 1))) E
          (cc0_while1 i v8 arg7 harg7 v34 arg9 harg9 arg10 harg10 arg8 harg8 (BitVec.ofNat 32 j) w) K
      unfold heldIn
      iintro ⟨⟨H0, H1, H2, H3⟩, Hk⟩
      iapply ((tripRun c i v8 v34 arg7 harg7 arg8 harg8 arg9 harg9 arg10 harg10 (BitVec.ofNat 32 j) w hc hw xs0 xs1 xr xa).2.2.2 E (some (k + 1)) K)
      isplitl [H0]; · iexact H0
      isplitl [H1]; · iexact H1
      isplitl [H2]; · iexact H2
      isplitl [H3]; · iexact H3
      iintro ⟨H0, H1, ⟨%f2, H2⟩, ⟨%f3, H3⟩⟩
      iapply (wp_call_spec 𝒱 (c : Thread nD τ) (some (k + 1)) E (spec c i v8 v34 arg7 harg7 arg8 harg8 arg9 harg9 arg10 harg10 xs0 xs1 k (j + 1)
        (tripM c i v8 v34 arg7 harg7 arg8 harg8 arg9 harg9 arg10 harg10 xs0 xs1 _ w hc hw xr xa) (tripR c i v8 v34 arg7 harg7 arg8 harg8 arg9 harg9 arg10 harg10 xs0 xs1 _ w hc hw xr xa)
        (tripA c i v8 v34 arg7 harg7 arg8 harg8 arg9 harg9 arg10 harg10 xs0 xs1 _ w hc hw xr xa)) k
        (fun u hu => by cases hu; exact Nat.lt_succ_self k) (hih _ _ _))
      rw [spec_apply]; unfold heldIn
      isplitl [H0 H1 H2 H3]
      · isplitl [H0]; · iexact H0
        isplitl [H1]; · iexact H1
        isplitl [H2]
        · unfold owns; iexists _; isplitr
          swap; · iexact H2
          ipureintro; exact View.read_writes_of_cover _ _ _ _ _ (tripCoverR c i v8 v34 arg7 harg7 arg8 harg8 arg9 harg9 arg10 harg10 xs0 xs1 _ w hc hw xr xa)
        unfold owns; iexists _; isplitr
        swap; · iexact H3
        ipureintro; exact View.read_writes_of_cover _ _ _ _ _ (tripCoverA c i v8 v34 arg7 harg7 arg8 harg8 arg9 harg9 arg10 harg10 xs0 xs1 _ w hc hw xr xa)
      iintro %r Ho
      rw [wp_ret]; imodintro
      iapply Hk
      iexact Ho
    · rw [sweep, dif_neg (fun h => hc h.1)]
      exact stop (k + 1) j w xr xa K hc

end Label

end Cert.Proof.Sb

end
-- ==== Proof.SbTripVal.lean ====
module

public import proofs.«01_k».proof.Proof.SbUnit
public import proofs.«01_k».proof.Proof.SbSweep
public import Idealize.ShloMosaic.Lib.Pipeline.ReadBack

/-! # Stick-breaking attention: what one trip of the loop leaves

A trip takes every pair of heads through two blocks of keys, the later block first. Read slab by slab, what it leaves is two
unmasked blocks met one after the other. -/

@[expose] public section

set_option maxRecDepth 16384

noncomputable section

namespace Cert.Proof.Sb

open Cert.Kernel9Ideal Cert.Kernel9Ideal.Gen
open Idealize.ShloMosaic Idealize.ShloMosaic.TcCoe Idealize.ShloMosaic.Tactic

/-- Reading a list of pieces through a rectangle. -/
theorem ld_canon {sp : Space} {s : Shape} {e : EltTy} (v : View sig .tc sp s e) (L : List (View.Piece (Elt Ideal) s e)) (r : Rect s) :
    View.ld (View.canon L) r = v.readCov L r.toLoadRect := (View.readCov_eq_canon' v L r.toLoadRect).symm

section
variable (c : Dev nD) (i : grid0.Coords) (v8 : FVec Ideal S256x512 .bf16) (v34 : FVec Ideal S256x256 .bf16)
  (arg7 : Memref sig .tc .vmem S4x32x256x128 .bf16) (harg7 : arg7.IsWhole) (arg8 : Memref sig .tc .vmem S4x32x256x128 .bf16) (harg8 : arg8.IsWhole)
  (arg9 : Memref sig .tc .vmem S4x256x256 .f32) (harg9 : arg9.IsWhole) (arg10 : Memref sig .tc .vmem S256x512 .f32) (harg10 : arg10.IsWhole)
  (xs0 xs1 : Vec Ideal S4x32x256x128 .bf16)
  (j : BitVec 32) (w : Ideal .f32) (hc : loopCond i j w = 1#1) (hw : k0_chk1 i j) (xr : Vec Ideal S4x256x256 .f32) (xa : Vec Ideal S256x512 .f32)

/-- The rectangle of one pair's block of prepared keys, or of prepared values. -/
abbrev kvR (off : Fin 4 → ℕ) (h : ∀ a, off a + S1x1x256x128.size a ≤ S4x32x256x128.size a) : Rect S4x32x256x128 := Rect.unit off S1x1x256x128.size h

/-- One pair's scores against block `b` of the trip's two. -/
abbrev tz (p : ℕ) (hs : S256x512.Slices ![0, p] S256x128) (off : Fin 4 → ℕ) (h : ∀ a, off a + S1x1x256x128.size a ≤ S4x32x256x128.size a) : FVec Ideal S256x256 .f32 :=
  sc256 (extractStridedSlice S256x128 ![0, p] v8 hs) (View.ld xs0 (kvR off h))

theorem tripR_slab0 (h1 : ∀ a, k0_off5 i j 1#32 a + S1x1x256x128.size a ≤ S4x32x256x128.size a) (h0 : ∀ a, k0_off5 i j 0#32 a + S1x1x256x128.size a ≤ S4x32x256x128.size a) :
    View.ld (tripR c i v8 v34 arg7 harg7 arg8 harg8 arg9 harg9 arg10 harg10 xs0 xs1 j w hc hw xr xa) (Rect.unit ![0, 0, 0] S1x256x256.size inb_S4x256x256_S1x256x256_0_0_0) =
      nrun256 v34 (soft256 (tz v8 xs0 0 slices_S256x512_o0_0_S256x128 (k0_off5 i j 0#32) h0))
        (nrun256 v34 (soft256 (tz v8 xs0 0 slices_S256x512_o0_0_S256x128 (k0_off5 i j 1#32) h1)) (View.ld xr (Rect.unit ![0, 0, 0] S1x256x256.size inb_S4x256x256_S1x256x256_0_0_0))) := by
  unfold tripR
  rw [View.read_writes_junk_eq_canon, ld_canon VR]
  show View.readCov VR (tripRun.sl.HS2_8 c i v8 v34 arg7 harg7 arg9 harg9 j hw xs0 xr) _ = _
  rw [tripRun.sl.HS2_8]
  rw [View.readCov_skip _ _ _ _ _ (by decide)]
  rw [tripRun.sl.HS2_7]
  rw [View.readCov_skip _ _ _ _ _ (by decide)]
  rw [tripRun.sl.HS2_6]
  rw [View.readCov_skip _ _ _ _ _ (by decide)]
  rw [tripRun.sl.HS2_5]
  rw [View.readCov_cons_toLoadRect]
  simp only [tripRun.sl.r, tripRun.sl.r_1, tripRun.sl.r_10, tripRun.sl.r_11, tripRun.sl.r_12, tripRun.sl.r_13, tripRun.sl.r_14, tripRun.sl.r_15, tripRun.sl.r_16, tripRun.sl.r_17, tripRun.sl.r_18, tripRun.sl.r_19, tripRun.sl.r_2, tripRun.sl.r_20, tripRun.sl.r_21, tripRun.sl.r_22, tripRun.sl.r_23, tripRun.sl.r_24, tripRun.sl.r_25, tripRun.sl.r_26, tripRun.sl.r_27, tripRun.sl.r_28, tripRun.sl.r_29, tripRun.sl.r_3, tripRun.sl.r_30, tripRun.sl.r_31, tripRun.sl.r_32, tripRun.sl.r_33, tripRun.sl.r_34, tripRun.sl.r_35, tripRun.sl.r_36, tripRun.sl.r_37, tripRun.sl.r_38, tripRun.sl.r_39, tripRun.sl.r_4, tripRun.sl.r_40, tripRun.sl.r_41, tripRun.sl.r_42, tripRun.sl.r_43, tripRun.sl.r_44, tripRun.sl.r_45, tripRun.sl.r_46, tripRun.sl.r_47, tripRun.sl.r_48, tripRun.sl.r_5, tripRun.sl.r_6, tripRun.sl.r_7, tripRun.sl.r_8, tripRun.sl.r_9, tripRun.sl.v675, tripRun.sl.v680, tripRun.sl.v728, tripRun.sl.v733, tripRun.sl.v781, tripRun.sl.v786]
  rw [tripRun.sl.v834]
  rw [tripRun.sl.HS2_4]
  rw [View.readCov_skip _ _ _ _ _ (by decide)]
  rw [View.readCov_skip _ _ _ _ _ (by decide)]
  rw [View.readCov_skip _ _ _ _ _ (by decide)]
  rw [View.readCov_cons_toLoadRect]
  simp only [View.readAt_eq_ld, harg9.read_unread, harg10.read_unread, harg8.read_unread, harg7.read_unread, tripRun.sl.r, tripRun.sl.r_1, tripRun.sl.r_10, tripRun.sl.r_11, tripRun.sl.r_12, tripRun.sl.r_13, tripRun.sl.r_14, tripRun.sl.r_15, tripRun.sl.r_16, tripRun.sl.r_17, tripRun.sl.r_18, tripRun.sl.r_19, tripRun.sl.r_2, tripRun.sl.r_20, tripRun.sl.r_21, tripRun.sl.r_22, tripRun.sl.r_23, tripRun.sl.r_24, tripRun.sl.r_25, tripRun.sl.r_26, tripRun.sl.r_27, tripRun.sl.r_28, tripRun.sl.r_29, tripRun.sl.r_3, tripRun.sl.r_30, tripRun.sl.r_31, tripRun.sl.r_32, tripRun.sl.r_33, tripRun.sl.r_34, tripRun.sl.r_35, tripRun.sl.r_36, tripRun.sl.r_37, tripRun.sl.r_38, tripRun.sl.r_39, tripRun.sl.r_4, tripRun.sl.r_40, tripRun.sl.r_41, tripRun.sl.r_42, tripRun.sl.r_43, tripRun.sl.r_44, tripRun.sl.r_45, tripRun.sl.r_46, tripRun.sl.r_47, tripRun.sl.r_48, tripRun.sl.r_5, tripRun.sl.r_6, tripRun.sl.r_7, tripRun.sl.r_8, tripRun.sl.r_9, tripRun.sl.v675, tripRun.sl.v680, tripRun.sl.v728, tripRun.sl.v733, tripRun.sl.v781, tripRun.sl.v786]
  rfl

theorem tripR_slab1 (h1 : ∀ a, k0_off6 i j 1#32 a + S1x1x256x128.size a ≤ S4x32x256x128.size a) (h0 : ∀ a, k0_off6 i j 0#32 a + S1x1x256x128.size a ≤ S4x32x256x128.size a) :
    View.ld (tripR c i v8 v34 arg7 harg7 arg8 harg8 arg9 harg9 arg10 harg10 xs0 xs1 j w hc hw xr xa) (Rect.unit ![1, 0, 0] S1x256x256.size inb_S4x256x256_S1x256x256_1_0_0) =
      nrun256 v34 (soft256 (tz v8 xs0 128 slices_S256x512_o0_128_S256x128 (k0_off6 i j 0#32) h0))
        (nrun256 v34 (soft256 (tz v8 xs0 128 slices_S256x512_o0_128_S256x128 (k0_off6 i j 1#32) h1)) (View.ld xr (Rect.unit ![1, 0, 0] S1x256x256.size inb_S4x256x256_S1x256x256_1_0_0))) := by
  unfold tripR
  rw [View.read_writes_junk_eq_canon, ld_canon VR]
  show View.readCov VR (tripRun.sl.HS2_8 c i v8 v34 arg7 harg7 arg9 harg9 j hw xs0 xr) _ = _
  rw [tripRun.sl.HS2_8]
  rw [View.readCov_skip _ _ _ _ _ (by decide)]
  rw [tripRun.sl.HS2_7]
  rw [View.readCov_skip _ _ _ _ _ (by decide)]
  rw [tripRun.sl.HS2_6]
  rw [View.readCov_cons_toLoadRect]
  simp only [tripRun.sl.r, tripRun.sl.r_1, tripRun.sl.r_10, tripRun.sl.r_11, tripRun.sl.r_12, tripRun.sl.r_13, tripRun.sl.r_14, tripRun.sl.r_15, tripRun.sl.r_16, tripRun.sl.r_17, tripRun.sl.r_18, tripRun.sl.r_19, tripRun.sl.r_2, tripRun.sl.r_20, tripRun.sl.r_21, tripRun.sl.r_22, tripRun.sl.r_23, tripRun.sl.r_24, tripRun.sl.r_25, tripRun.sl.r_26, tripRun.sl.r_27, tripRun.sl.r_28, tripRun.sl.r_29, tripRun.sl.r_3, tripRun.sl.r_30, tripRun.sl.r_31, tripRun.sl.r_32, tripRun.sl.r_33, tripRun.sl.r_34, tripRun.sl.r_35, tripRun.sl.r_36, tripRun.sl.r_37, tripRun.sl.r_38, tripRun.sl.r_39, tripRun.sl.r_4, tripRun.sl.r_40, tripRun.sl.r_41, tripRun.sl.r_42, tripRun.sl.r_43, tripRun.sl.r_44, tripRun.sl.r_45, tripRun.sl.r_46, tripRun.sl.r_47, tripRun.sl.r_48, tripRun.sl.r_5, tripRun.sl.r_6, tripRun.sl.r_7, tripRun.sl.r_8, tripRun.sl.r_9, tripRun.sl.v675, tripRun.sl.v680, tripRun.sl.v728, tripRun.sl.v733, tripRun.sl.v781, tripRun.sl.v786]
  rw [tripRun.sl.v887]
  rw [tripRun.sl.HS2_5, View.readCov_skip _ _ _ _ _ (by decide)]
  rw [tripRun.sl.HS2_4]
  rw [View.readCov_skip _ _ _ _ _ (by decide)]
  rw [View.readCov_skip _ _ _ _ _ (by decide)]
  rw [View.readCov_cons_toLoadRect]
  simp only [View.readAt_eq_ld, harg9.read_unread, harg10.read_unread, harg8.read_unread, harg7.read_unread, tripRun.sl.r, tripRun.sl.r_1, tripRun.sl.r_10, tripRun.sl.r_11, tripRun.sl.r_12, tripRun.sl.r_13, tripRun.sl.r_14, tripRun.sl.r_15, tripRun.sl.r_16, tripRun.sl.r_17, tripRun.sl.r_18, tripRun.sl.r_19, tripRun.sl.r_2, tripRun.sl.r_20, tripRun.sl.r_21, tripRun.sl.r_22, tripRun.sl.r_23, tripRun.sl.r_24, tripRun.sl.r_25, tripRun.sl.r_26, tripRun.sl.r_27, tripRun.sl.r_28, tripRun.sl.r_29, tripRun.sl.r_3, tripRun.sl.r_30, tripRun.sl.r_31, tripRun.sl.r_32, tripRun.sl.r_33, tripRun.sl.r_34, tripRun.sl.r_35, tripRun.sl.r_36, tripRun.sl.r_37, tripRun.sl.r_38, tripRun.sl.r_39, tripRun.sl.r_4, tripRun.sl.r_40, tripRun.sl.r_41, tripRun.sl.r_42, tripRun.sl.r_43, tripRun.sl.r_44, tripRun.sl.r_45, tripRun.sl.r_46, tripRun.sl.r_47, tripRun.sl.r_48, tripRun.sl.r_5, tripRun.sl.r_6, tripRun.sl.r_7, tripRun.sl.r_8, tripRun.sl.r_9, tripRun.sl.v675, tripRun.sl.v680, tripRun.sl.v728, tripRun.sl.v733, tripRun.sl.v781, tripRun.sl.v786]
  rfl

theorem tripR_slab2 (h1 : ∀ a, k0_off7 i j 1#32 a + S1x1x256x128.size a ≤ S4x32x256x128.size a) (h0 : ∀ a, k0_off7 i j 0#32 a + S1x1x256x128.size a ≤ S4x32x256x128.size a) :
    View.ld (tripR c i v8 v34 arg7 harg7 arg8 harg8 arg9 harg9 arg10 harg10 xs0 xs1 j w hc hw xr xa) (Rect.unit ![2, 0, 0] S1x256x256.size inb_S4x256x256_S1x256x256_2_0_0) =
      nrun256 v34 (soft256 (tz v8 xs0 256 slices_S256x512_o0_256_S256x128 (k0_off7 i j 0#32) h0))
        (nrun256 v34 (soft256 (tz v8 xs0 256 slices_S256x512_o0_256_S256x128 (k0_off7 i j 1#32) h1)) (View.ld xr (Rect.unit ![2, 0, 0] S1x256x256.size inb_S4x256x256_S1x256x256_2_0_0))) := by
  unfold tripR
  rw [View.read_writes_junk_eq_canon, ld_canon VR]
  show View.readCov VR (tripRun.sl.HS2_8 c i v8 v34 arg7 harg7 arg9 harg9 j hw xs0 xr) _ = _
  rw [tripRun.sl.HS2_8]
  rw [View.readCov_skip _ _ _ _ _ (by decide)]
  rw [tripRun.sl.HS2_7]
  rw [View.readCov_cons_toLoadRect]
  simp only [tripRun.sl.r, tripRun.sl.r_1, tripRun.sl.r_10, tripRun.sl.r_11, tripRun.sl.r_12, tripRun.sl.r_13, tripRun.sl.r_14, tripRun.sl.r_15, tripRun.sl.r_16, tripRun.sl.r_17, tripRun.sl.r_18, tripRun.sl.r_19, tripRun.sl.r_2, tripRun.sl.r_20, tripRun.sl.r_21, tripRun.sl.r_22, tripRun.sl.r_23, tripRun.sl.r_24, tripRun.sl.r_25, tripRun.sl.r_26, tripRun.sl.r_27, tripRun.sl.r_28, tripRun.sl.r_29, tripRun.sl.r_3, tripRun.sl.r_30, tripRun.sl.r_31, tripRun.sl.r_32, tripRun.sl.r_33, tripRun.sl.r_34, tripRun.sl.r_35, tripRun.sl.r_36, tripRun.sl.r_37, tripRun.sl.r_38, tripRun.sl.r_39, tripRun.sl.r_4, tripRun.sl.r_40, tripRun.sl.r_41, tripRun.sl.r_42, tripRun.sl.r_43, tripRun.sl.r_44, tripRun.sl.r_45, tripRun.sl.r_46, tripRun.sl.r_47, tripRun.sl.r_48, tripRun.sl.r_5, tripRun.sl.r_6, tripRun.sl.r_7, tripRun.sl.r_8, tripRun.sl.r_9, tripRun.sl.v675, tripRun.sl.v680, tripRun.sl.v728, tripRun.sl.v733, tripRun.sl.v781, tripRun.sl.v786]
  rw [tripRun.sl.v935]
  rw [tripRun.sl.HS2_6, View.readCov_skip _ _ _ _ _ (by decide)]
  rw [tripRun.sl.HS2_5, View.readCov_skip _ _ _ _ _ (by decide)]
  rw [tripRun.sl.HS2_4]
  rw [View.readCov_skip _ _ _ _ _ (by decide)]
  rw [View.readCov_cons_toLoadRect]
  simp only [View.readAt_eq_ld, harg9.read_unread, harg10.read_unread, harg8.read_unread, harg7.read_unread, tripRun.sl.r, tripRun.sl.r_1, tripRun.sl.r_10, tripRun.sl.r_11, tripRun.sl.r_12, tripRun.sl.r_13, tripRun.sl.r_14, tripRun.sl.r_15, tripRun.sl.r_16, tripRun.sl.r_17, tripRun.sl.r_18, tripRun.sl.r_19, tripRun.sl.r_2, tripRun.sl.r_20, tripRun.sl.r_21, tripRun.sl.r_22, tripRun.sl.r_23, tripRun.sl.r_24, tripRun.sl.r_25, tripRun.sl.r_26, tripRun.sl.r_27, tripRun.sl.r_28, tripRun.sl.r_29, tripRun.sl.r_3, tripRun.sl.r_30, tripRun.sl.r_31, tripRun.sl.r_32, tripRun.sl.r_33, tripRun.sl.r_34, tripRun.sl.r_35, tripRun.sl.r_36, tripRun.sl.r_37, tripRun.sl.r_38, tripRun.sl.r_39, tripRun.sl.r_4, tripRun.sl.r_40, tripRun.sl.r_41, tripRun.sl.r_42, tripRun.sl.r_43, tripRun.sl.r_44, tripRun.sl.r_45, tripRun.sl.r_46, tripRun.sl.r_47, tripRun.sl.r_48, tripRun.sl.r_5, tripRun.sl.r_6, tripRun.sl.r_7, tripRun.sl.r_8, tripRun.sl.r_9, tripRun.sl.v675, tripRun.sl.v680, tripRun.sl.v728, tripRun.sl.v733, tripRun.sl.v781, tripRun.sl.v786]
  rfl

theorem tripR_slab3 (h1 : ∀ a, k0_off8 i j 1#32 a + S1x1x256x128.size a ≤ S4x32x256x128.size a) (h0 : ∀ a, k0_off8 i j 0#32 a + S1x1x256x128.size a ≤ S4x32x256x128.size a) :
    View.ld (tripR c i v8 v34 arg7 harg7 arg8 harg8 arg9 harg9 arg10 harg10 xs0 xs1 j w hc hw xr xa) (Rect.unit ![3, 0, 0] S1x256x256.size inb_S4x256x256_S1x256x256_3_0_0) =
      nrun256 v34 (soft256 (tz v8 xs0 384 slices_S256x512_o0_384_S256x128 (k0_off8 i j 0#32) h0))
        (nrun256 v34 (soft256 (tz v8 xs0 384 slices_S256x512_o0_384_S256x128 (k0_off8 i j 1#32) h1)) (View.ld xr (Rect.unit ![3, 0, 0] S1x256x256.size inb_S4x256x256_S1x256x256_3_0_0))) := by
  unfold tripR
  rw [View.read_writes_junk_eq_canon, ld_canon VR]
  show View.readCov VR (tripRun.sl.HS2_8 c i v8 v34 arg7 harg7 arg9 harg9 j hw xs0 xr) _ = _
  rw [tripRun.sl.HS2_8]
  rw [View.readCov_cons_toLoadRect]
  simp only [tripRun.sl.r, tripRun.sl.r_1, tripRun.sl.r_10, tripRun.sl.r_11, tripRun.sl.r_12, tripRun.sl.r_13, tripRun.sl.r_14, tripRun.sl.r_15, tripRun.sl.r_16, tripRun.sl.r_17, tripRun.sl.r_18, tripRun.sl.r_19, tripRun.sl.r_2, tripRun.sl.r_20, tripRun.sl.r_21, tripRun.sl.r_22, tripRun.sl.r_23, tripRun.sl.r_24, tripRun.sl.r_25, tripRun.sl.r_26, tripRun.sl.r_27, tripRun.sl.r_28, tripRun.sl.r_29, tripRun.sl.r_3, tripRun.sl.r_30, tripRun.sl.r_31, tripRun.sl.r_32, tripRun.sl.r_33, tripRun.sl.r_34, tripRun.sl.r_35, tripRun.sl.r_36, tripRun.sl.r_37, tripRun.sl.r_38, tripRun.sl.r_39, tripRun.sl.r_4, tripRun.sl.r_40, tripRun.sl.r_41, tripRun.sl.r_42, tripRun.sl.r_43, tripRun.sl.r_44, tripRun.sl.r_45, tripRun.sl.r_46, tripRun.sl.r_47, tripRun.sl.r_48, tripRun.sl.r_5, tripRun.sl.r_6, tripRun.sl.r_7, tripRun.sl.r_8, tripRun.sl.r_9, tripRun.sl.v675, tripRun.sl.v680, tripRun.sl.v728, tripRun.sl.v733, tripRun.sl.v781, tripRun.sl.v786]
  rw [tripRun.sl.v960]
  rw [tripRun.sl.HS2_7, View.readCov_skip _ _ _ _ _ (by decide)]
  rw [tripRun.sl.HS2_6, View.readCov_skip _ _ _ _ _ (by decide)]
  rw [tripRun.sl.HS2_5, View.readCov_skip _ _ _ _ _ (by decide)]
  rw [tripRun.sl.HS2_4]
  rw [View.readCov_cons_toLoadRect]
  simp only [View.readAt_eq_ld, harg9.read_unread, harg10.read_unread, harg8.read_unread, harg7.read_unread, tripRun.sl.r, tripRun.sl.r_1, tripRun.sl.r_10, tripRun.sl.r_11, tripRun.sl.r_12, tripRun.sl.r_13, tripRun.sl.r_14, tripRun.sl.r_15, tripRun.sl.r_16, tripRun.sl.r_17, tripRun.sl.r_18, tripRun.sl.r_19, tripRun.sl.r_2, tripRun.sl.r_20, tripRun.sl.r_21, tripRun.sl.r_22, tripRun.sl.r_23, tripRun.sl.r_24, tripRun.sl.r_25, tripRun.sl.r_26, tripRun.sl.r_27, tripRun.sl.r_28, tripRun.sl.r_29, tripRun.sl.r_3, tripRun.sl.r_30, tripRun.sl.r_31, tripRun.sl.r_32, tripRun.sl.r_33, tripRun.sl.r_34, tripRun.sl.r_35, tripRun.sl.r_36, tripRun.sl.r_37, tripRun.sl.r_38, tripRun.sl.r_39, tripRun.sl.r_4, tripRun.sl.r_40, tripRun.sl.r_41, tripRun.sl.r_42, tripRun.sl.r_43, tripRun.sl.r_44, tripRun.sl.r_45, tripRun.sl.r_46, tripRun.sl.r_47, tripRun.sl.r_48, tripRun.sl.r_5, tripRun.sl.r_6, tripRun.sl.r_7, tripRun.sl.r_8, tripRun.sl.r_9, tripRun.sl.v675, tripRun.sl.v680, tripRun.sl.v728, tripRun.sl.v733, tripRun.sl.v781, tripRun.sl.v786]
  rfl

theorem tripA_slab0 (h1 : ∀ a, k0_off5 i j 1#32 a + S1x1x256x128.size a ≤ S4x32x256x128.size a) (h0 : ∀ a, k0_off5 i j 0#32 a + S1x1x256x128.size a ≤ S4x32x256x128.size a) :
    View.ld (tripA c i v8 v34 arg7 harg7 arg8 harg8 arg9 harg9 arg10 harg10 xs0 xs1 j w hc hw xr xa) (Rect.unit ![0, 0] S256x128.size inb_S256x512_S256x128_0_0) =
      nacc256 (wgt256 v34 (tz v8 xs0 0 slices_S256x512_o0_0_S256x128 (k0_off5 i j 0#32) h0) (soft256 (tz v8 xs0 0 slices_S256x512_o0_0_S256x128 (k0_off5 i j 0#32) h0)) (nrun256 v34 (soft256 (tz v8 xs0 0 slices_S256x512_o0_0_S256x128 (k0_off5 i j 1#32) h1)) (View.ld xr (Rect.unit ![0, 0, 0] S1x256x256.size inb_S4x256x256_S1x256x256_0_0_0))))
        (nacc256 (wgt256 v34 (tz v8 xs0 0 slices_S256x512_o0_0_S256x128 (k0_off5 i j 1#32) h1) (soft256 (tz v8 xs0 0 slices_S256x512_o0_0_S256x128 (k0_off5 i j 1#32) h1)) (View.ld xr (Rect.unit ![0, 0, 0] S1x256x256.size inb_S4x256x256_S1x256x256_0_0_0))) (View.ld xa (Rect.unit ![0, 0] S256x128.size inb_S256x512_S256x128_0_0)) (View.ld xs1 (kvR (k0_off5 i j 1#32) h1))) (View.ld xs1 (kvR (k0_off5 i j 0#32) h0)) := by
  unfold tripA
  rw [View.read_writes_junk_eq_canon, ld_canon VA]
  show View.readCov VA (_ :: tripRun.sl.HS3_7 c i v8 v34 arg7 harg7 arg8 harg8 arg9 harg9 arg10 harg10 j hw xs0 xs1 xr xa) _ = _
  rw [View.readCov_skip _ _ _ _ _ (by decide)]
  rw [tripRun.sl.HS3_7]
  rw [View.readCov_skip _ _ _ _ _ (by decide)]
  rw [tripRun.sl.HS3_6]
  rw [View.readCov_skip _ _ _ _ _ (by decide)]
  rw [tripRun.sl.HS3_5]
  rw [View.readCov_cons_toLoadRect]
  simp only [tripRun.sl.r, tripRun.sl.r_1, tripRun.sl.r_10, tripRun.sl.r_11, tripRun.sl.r_12, tripRun.sl.r_13, tripRun.sl.r_14, tripRun.sl.r_15, tripRun.sl.r_16, tripRun.sl.r_17, tripRun.sl.r_18, tripRun.sl.r_19, tripRun.sl.r_2, tripRun.sl.r_20, tripRun.sl.r_21, tripRun.sl.r_22, tripRun.sl.r_23, tripRun.sl.r_24, tripRun.sl.r_25, tripRun.sl.r_26, tripRun.sl.r_27, tripRun.sl.r_28, tripRun.sl.r_29, tripRun.sl.r_3, tripRun.sl.r_30, tripRun.sl.r_31, tripRun.sl.r_32, tripRun.sl.r_33, tripRun.sl.r_34, tripRun.sl.r_35, tripRun.sl.r_36, tripRun.sl.r_37, tripRun.sl.r_38, tripRun.sl.r_39, tripRun.sl.r_4, tripRun.sl.r_40, tripRun.sl.r_41, tripRun.sl.r_42, tripRun.sl.r_43, tripRun.sl.r_44, tripRun.sl.r_45, tripRun.sl.r_46, tripRun.sl.r_47, tripRun.sl.r_48, tripRun.sl.r_5, tripRun.sl.r_6, tripRun.sl.r_7, tripRun.sl.r_8, tripRun.sl.r_9, tripRun.sl.v675, tripRun.sl.v680, tripRun.sl.v728, tripRun.sl.v733, tripRun.sl.v781, tripRun.sl.v786]
  rw [tripRun.sl.v839]
  rw [tripRun.sl.HS3_4]
  rw [View.readCov_skip _ _ _ _ _ (by decide)]
  rw [View.readCov_skip _ _ _ _ _ (by decide)]
  rw [View.readCov_skip _ _ _ _ _ (by decide)]
  rw [View.readCov_cons_toLoadRect]
  rw [tripRun.sl.v834]
  rw [tripRun.sl.HS2_4]
  rw [View.readCov_skip _ _ _ _ _ (by decide)]
  rw [View.readCov_skip _ _ _ _ _ (by decide)]
  rw [View.readCov_skip _ _ _ _ _ (by decide)]
  rw [View.readCov_cons_toLoadRect]
  simp only [View.readAt_eq_ld, harg9.read_unread, harg10.read_unread, harg8.read_unread, harg7.read_unread, tripRun.sl.r, tripRun.sl.r_1, tripRun.sl.r_10, tripRun.sl.r_11, tripRun.sl.r_12, tripRun.sl.r_13, tripRun.sl.r_14, tripRun.sl.r_15, tripRun.sl.r_16, tripRun.sl.r_17, tripRun.sl.r_18, tripRun.sl.r_19, tripRun.sl.r_2, tripRun.sl.r_20, tripRun.sl.r_21, tripRun.sl.r_22, tripRun.sl.r_23, tripRun.sl.r_24, tripRun.sl.r_25, tripRun.sl.r_26, tripRun.sl.r_27, tripRun.sl.r_28, tripRun.sl.r_29, tripRun.sl.r_3, tripRun.sl.r_30, tripRun.sl.r_31, tripRun.sl.r_32, tripRun.sl.r_33, tripRun.sl.r_34, tripRun.sl.r_35, tripRun.sl.r_36, tripRun.sl.r_37, tripRun.sl.r_38, tripRun.sl.r_39, tripRun.sl.r_4, tripRun.sl.r_40, tripRun.sl.r_41, tripRun.sl.r_42, tripRun.sl.r_43, tripRun.sl.r_44, tripRun.sl.r_45, tripRun.sl.r_46, tripRun.sl.r_47, tripRun.sl.r_48, tripRun.sl.r_5, tripRun.sl.r_6, tripRun.sl.r_7, tripRun.sl.r_8, tripRun.sl.r_9, tripRun.sl.v675, tripRun.sl.v680, tripRun.sl.v728, tripRun.sl.v733, tripRun.sl.v781, tripRun.sl.v786]
  rfl

theorem tripA_slab1 (h1 : ∀ a, k0_off6 i j 1#32 a + S1x1x256x128.size a ≤ S4x32x256x128.size a) (h0 : ∀ a, k0_off6 i j 0#32 a + S1x1x256x128.size a ≤ S4x32x256x128.size a) :
    View.ld (tripA c i v8 v34 arg7 harg7 arg8 harg8 arg9 harg9 arg10 harg10 xs0 xs1 j w hc hw xr xa) (Rect.unit ![0, 128] S256x128.size inb_S256x512_S256x128_0_128) =
      nacc256 (wgt256 v34 (tz v8 xs0 128 slices_S256x512_o0_128_S256x128 (k0_off6 i j 0#32) h0) (soft256 (tz v8 xs0 128 slices_S256x512_o0_128_S256x128 (k0_off6 i j 0#32) h0)) (nrun256 v34 (soft256 (tz v8 xs0 128 slices_S256x512_o0_128_S256x128 (k0_off6 i j 1#32) h1)) (View.ld xr (Rect.unit ![1, 0, 0] S1x256x256.size inb_S4x256x256_S1x256x256_1_0_0))))
        (nacc256 (wgt256 v34 (tz v8 xs0 128 slices_S256x512_o0_128_S256x128 (k0_off6 i j 1#32) h1) (soft256 (tz v8 xs0 128 slices_S256x512_o0_128_S256x128 (k0_off6 i j 1#32) h1)) (View.ld xr (Rect.unit ![1, 0, 0] S1x256x256.size inb_S4x256x256_S1x256x256_1_0_0))) (View.ld xa (Rect.unit ![0, 128] S256x128.size inb_S256x512_S256x128_0_128)) (View.ld xs1 (kvR (k0_off6 i j 1#32) h1))) (View.ld xs1 (kvR (k0_off6 i j 0#32) h0)) := by
  unfold tripA
  rw [View.read_writes_junk_eq_canon, ld_canon VA]
  show View.readCov VA (_ :: tripRun.sl.HS3_7 c i v8 v34 arg7 harg7 arg8 harg8 arg9 harg9 arg10 harg10 j hw xs0 xs1 xr xa) _ = _
  rw [View.readCov_skip _ _ _ _ _ (by decide)]
  rw [tripRun.sl.HS3_7]
  rw [View.readCov_skip _ _ _ _ _ (by decide)]
  rw [tripRun.sl.HS3_6]
  rw [View.readCov_cons_toLoadRect]
  simp only [tripRun.sl.r, tripRun.sl.r_1, tripRun.sl.r_10, tripRun.sl.r_11, tripRun.sl.r_12, tripRun.sl.r_13, tripRun.sl.r_14, tripRun.sl.r_15, tripRun.sl.r_16, tripRun.sl.r_17, tripRun.sl.r_18, tripRun.sl.r_19, tripRun.sl.r_2, tripRun.sl.r_20, tripRun.sl.r_21, tripRun.sl.r_22, tripRun.sl.r_23, tripRun.sl.r_24, tripRun.sl.r_25, tripRun.sl.r_26, tripRun.sl.r_27, tripRun.sl.r_28, tripRun.sl.r_29, tripRun.sl.r_3, tripRun.sl.r_30, tripRun.sl.r_31, tripRun.sl.r_32, tripRun.sl.r_33, tripRun.sl.r_34, tripRun.sl.r_35, tripRun.sl.r_36, tripRun.sl.r_37, tripRun.sl.r_38, tripRun.sl.r_39, tripRun.sl.r_4, tripRun.sl.r_40, tripRun.sl.r_41, tripRun.sl.r_42, tripRun.sl.r_43, tripRun.sl.r_44, tripRun.sl.r_45, tripRun.sl.r_46, tripRun.sl.r_47, tripRun.sl.r_48, tripRun.sl.r_5, tripRun.sl.r_6, tripRun.sl.r_7, tripRun.sl.r_8, tripRun.sl.r_9, tripRun.sl.v675, tripRun.sl.v680, tripRun.sl.v728, tripRun.sl.v733, tripRun.sl.v781, tripRun.sl.v786]
  rw [tripRun.sl.v892]
  rw [tripRun.sl.HS3_5, View.readCov_skip _ _ _ _ _ (by decide)]
  rw [tripRun.sl.HS3_4]
  rw [View.readCov_skip _ _ _ _ _ (by decide)]
  rw [View.readCov_skip _ _ _ _ _ (by decide)]
  rw [View.readCov_cons_toLoadRect]
  rw [tripRun.sl.v887]
  rw [tripRun.sl.HS2_5, View.readCov_skip _ _ _ _ _ (by decide)]
  rw [tripRun.sl.HS2_4]
  rw [View.readCov_skip _ _ _ _ _ (by decide)]
  rw [View.readCov_skip _ _ _ _ _ (by decide)]
  rw [View.readCov_cons_toLoadRect]
  simp only [View.readAt_eq_ld, harg9.read_unread, harg10.read_unread, harg8.read_unread, harg7.read_unread, tripRun.sl.r, tripRun.sl.r_1, tripRun.sl.r_10, tripRun.sl.r_11, tripRun.sl.r_12, tripRun.sl.r_13, tripRun.sl.r_14, tripRun.sl.r_15, tripRun.sl.r_16, tripRun.sl.r_17, tripRun.sl.r_18, tripRun.sl.r_19, tripRun.sl.r_2, tripRun.sl.r_20, tripRun.sl.r_21, tripRun.sl.r_22, tripRun.sl.r_23, tripRun.sl.r_24, tripRun.sl.r_25, tripRun.sl.r_26, tripRun.sl.r_27, tripRun.sl.r_28, tripRun.sl.r_29, tripRun.sl.r_3, tripRun.sl.r_30, tripRun.sl.r_31, tripRun.sl.r_32, tripRun.sl.r_33, tripRun.sl.r_34, tripRun.sl.r_35, tripRun.sl.r_36, tripRun.sl.r_37, tripRun.sl.r_38, tripRun.sl.r_39, tripRun.sl.r_4, tripRun.sl.r_40, tripRun.sl.r_41, tripRun.sl.r_42, tripRun.sl.r_43, tripRun.sl.r_44, tripRun.sl.r_45, tripRun.sl.r_46, tripRun.sl.r_47, tripRun.sl.r_48, tripRun.sl.r_5, tripRun.sl.r_6, tripRun.sl.r_7, tripRun.sl.r_8, tripRun.sl.r_9, tripRun.sl.v675, tripRun.sl.v680, tripRun.sl.v728, tripRun.sl.v733, tripRun.sl.v781, tripRun.sl.v786]
  rfl

theorem tripA_slab2 (h1 : ∀ a, k0_off7 i j 1#32 a + S1x1x256x128.size a ≤ S4x32x256x128.size a) (h0 : ∀ a, k0_off7 i j 0#32 a + S1x1x256x128.size a ≤ S4x32x256x128.size a) :
    View.ld (tripA c i v8 v34 arg7 harg7 arg8 harg8 arg9 harg9 arg10 harg10 xs0 xs1 j w hc hw xr xa) (Rect.unit ![0, 256] S256x128.size inb_S256x512_S256x128_0_256) =
      nacc256 (wgt256 v34 (tz v8 xs0 256 slices_S256x512_o0_256_S256x128 (k0_off7 i j 0#32) h0) (soft256 (tz v8 xs0 256 slices_S256x512_o0_256_S256x128 (k0_off7 i j 0#32) h0)) (nrun256 v34 (soft256 (tz v8 xs0 256 slices_S256x512_o0_256_S256x128 (k0_off7 i j 1#32) h1)) (View.ld xr (Rect.unit ![2, 0, 0] S1x256x256.size inb_S4x256x256_S1x256x256_2_0_0))))
        (nacc256 (wgt256 v34 (tz v8 xs0 256 slices_S256x512_o0_256_S256x128 (k0_off7 i j 1#32) h1) (soft256 (tz v8 xs0 256 slices_S256x512_o0_256_S256x128 (k0_off7 i j 1#32) h1)) (View.ld xr (Rect.unit ![2, 0, 0] S1x256x256.size inb_S4x256x256_S1x256x256_2_0_0))) (View.ld xa (Rect.unit ![0, 256] S256x128.size inb_S256x512_S256x128_0_256)) (View.ld xs1 (kvR (k0_off7 i j 1#32) h1))) (View.ld xs1 (kvR (k0_off7 i j 0#32) h0)) := by
  unfold tripA
  rw [View.read_writes_junk_eq_canon, ld_canon VA]
  show View.readCov VA (_ :: tripRun.sl.HS3_7 c i v8 v34 arg7 harg7 arg8 harg8 arg9 harg9 arg10 harg10 j hw xs0 xs1 xr xa) _ = _
  rw [View.readCov_skip _ _ _ _ _ (by decide)]
  rw [tripRun.sl.HS3_7]
  rw [View.readCov_cons_toLoadRect]
  simp only [tripRun.sl.r, tripRun.sl.r_1, tripRun.sl.r_10, tripRun.sl.r_11, tripRun.sl.r_12, tripRun.sl.r_13, tripRun.sl.r_14, tripRun.sl.r_15, tripRun.sl.r_16, tripRun.sl.r_17, tripRun.sl.r_18, tripRun.sl.r_19, tripRun.sl.r_2, tripRun.sl.r_20, tripRun.sl.r_21, tripRun.sl.r_22, tripRun.sl.r_23, tripRun.sl.r_24, tripRun.sl.r_25, tripRun.sl.r_26, tripRun.sl.r_27, tripRun.sl.r_28, tripRun.sl.r_29, tripRun.sl.r_3, tripRun.sl.r_30, tripRun.sl.r_31, tripRun.sl.r_32, tripRun.sl.r_33, tripRun.sl.r_34, tripRun.sl.r_35, tripRun.sl.r_36, tripRun.sl.r_37, tripRun.sl.r_38, tripRun.sl.r_39, tripRun.sl.r_4, tripRun.sl.r_40, tripRun.sl.r_41, tripRun.sl.r_42, tripRun.sl.r_43, tripRun.sl.r_44, tripRun.sl.r_45, tripRun.sl.r_46, tripRun.sl.r_47, tripRun.sl.r_48, tripRun.sl.r_5, tripRun.sl.r_6, tripRun.sl.r_7, tripRun.sl.r_8, tripRun.sl.r_9, tripRun.sl.v675, tripRun.sl.v680, tripRun.sl.v728, tripRun.sl.v733, tripRun.sl.v781, tripRun.sl.v786]
  rw [tripRun.sl.v940]
  rw [tripRun.sl.HS3_6, View.readCov_skip _ _ _ _ _ (by decide)]
  rw [tripRun.sl.HS3_5, View.readCov_skip _ _ _ _ _ (by decide)]
  rw [tripRun.sl.HS3_4]
  rw [View.readCov_skip _ _ _ _ _ (by decide)]
  rw [View.readCov_cons_toLoadRect]
  rw [tripRun.sl.v935]
  rw [tripRun.sl.HS2_6, View.readCov_skip _ _ _ _ _ (by decide)]
  rw [tripRun.sl.HS2_5, View.readCov_skip _ _ _ _ _ (by decide)]
  rw [tripRun.sl.HS2_4]
  rw [View.readCov_skip _ _ _ _ _ (by decide)]
  rw [View.readCov_cons_toLoadRect]
  simp only [View.readAt_eq_ld, harg9.read_unread, harg10.read_unread, harg8.read_unread, harg7.read_unread, tripRun.sl.r, tripRun.sl.r_1, tripRun.sl.r_10, tripRun.sl.r_11, tripRun.sl.r_12, tripRun.sl.r_13, tripRun.sl.r_14, tripRun.sl.r_15, tripRun.sl.r_16, tripRun.sl.r_17, tripRun.sl.r_18, tripRun.sl.r_19, tripRun.sl.r_2, tripRun.sl.r_20, tripRun.sl.r_21, tripRun.sl.r_22, tripRun.sl.r_23, tripRun.sl.r_24, tripRun.sl.r_25, tripRun.sl.r_26, tripRun.sl.r_27, tripRun.sl.r_28, tripRun.sl.r_29, tripRun.sl.r_3, tripRun.sl.r_30, tripRun.sl.r_31, tripRun.sl.r_32, tripRun.sl.r_33, tripRun.sl.r_34, tripRun.sl.r_35, tripRun.sl.r_36, tripRun.sl.r_37, tripRun.sl.r_38, tripRun.sl.r_39, tripRun.sl.r_4, tripRun.sl.r_40, tripRun.sl.r_41, tripRun.sl.r_42, tripRun.sl.r_43, tripRun.sl.r_44, tripRun.sl.r_45, tripRun.sl.r_46, tripRun.sl.r_47, tripRun.sl.r_48, tripRun.sl.r_5, tripRun.sl.r_6, tripRun.sl.r_7, tripRun.sl.r_8, tripRun.sl.r_9, tripRun.sl.v675, tripRun.sl.v680, tripRun.sl.v728, tripRun.sl.v733, tripRun.sl.v781, tripRun.sl.v786]
  rfl

theorem tripA_slab3 (h1 : ∀ a, k0_off8 i j 1#32 a + S1x1x256x128.size a ≤ S4x32x256x128.size a) (h0 : ∀ a, k0_off8 i j 0#32 a + S1x1x256x128.size a ≤ S4x32x256x128.size a) :
    View.ld (tripA c i v8 v34 arg7 harg7 arg8 harg8 arg9 harg9 arg10 harg10 xs0 xs1 j w hc hw xr xa) (Rect.unit ![0, 384] S256x128.size inb_S256x512_S256x128_0_384) =
      nacc256 (wgt256 v34 (tz v8 xs0 384 slices_S256x512_o0_384_S256x128 (k0_off8 i j 0#32) h0) (soft256 (tz v8 xs0 384 slices_S256x512_o0_384_S256x128 (k0_off8 i j 0#32) h0)) (nrun256 v34 (soft256 (tz v8 xs0 384 slices_S256x512_o0_384_S256x128 (k0_off8 i j 1#32) h1)) (View.ld xr (Rect.unit ![3, 0, 0] S1x256x256.size inb_S4x256x256_S1x256x256_3_0_0))))
        (nacc256 (wgt256 v34 (tz v8 xs0 384 slices_S256x512_o0_384_S256x128 (k0_off8 i j 1#32) h1) (soft256 (tz v8 xs0 384 slices_S256x512_o0_384_S256x128 (k0_off8 i j 1#32) h1)) (View.ld xr (Rect.unit ![3, 0, 0] S1x256x256.size inb_S4x256x256_S1x256x256_3_0_0))) (View.ld xa (Rect.unit ![0, 384] S256x128.size inb_S256x512_S256x128_0_384)) (View.ld xs1 (kvR (k0_off8 i j 1#32) h1))) (View.ld xs1 (kvR (k0_off8 i j 0#32) h0)) := by
  unfold tripA
  rw [View.read_writes_junk_eq_canon, ld_canon VA]
  show View.readCov VA (_ :: tripRun.sl.HS3_7 c i v8 v34 arg7 harg7 arg8 harg8 arg9 harg9 arg10 harg10 j hw xs0 xs1 xr xa) _ = _
  rw [View.readCov_cons_toLoadRect]
  simp only [tripRun.sl.r, tripRun.sl.r_1, tripRun.sl.r_10, tripRun.sl.r_11, tripRun.sl.r_12, tripRun.sl.r_13, tripRun.sl.r_14, tripRun.sl.r_15, tripRun.sl.r_16, tripRun.sl.r_17, tripRun.sl.r_18, tripRun.sl.r_19, tripRun.sl.r_2, tripRun.sl.r_20, tripRun.sl.r_21, tripRun.sl.r_22, tripRun.sl.r_23, tripRun.sl.r_24, tripRun.sl.r_25, tripRun.sl.r_26, tripRun.sl.r_27, tripRun.sl.r_28, tripRun.sl.r_29, tripRun.sl.r_3, tripRun.sl.r_30, tripRun.sl.r_31, tripRun.sl.r_32, tripRun.sl.r_33, tripRun.sl.r_34, tripRun.sl.r_35, tripRun.sl.r_36, tripRun.sl.r_37, tripRun.sl.r_38, tripRun.sl.r_39, tripRun.sl.r_4, tripRun.sl.r_40, tripRun.sl.r_41, tripRun.sl.r_42, tripRun.sl.r_43, tripRun.sl.r_44, tripRun.sl.r_45, tripRun.sl.r_46, tripRun.sl.r_47, tripRun.sl.r_48, tripRun.sl.r_5, tripRun.sl.r_6, tripRun.sl.r_7, tripRun.sl.r_8, tripRun.sl.r_9, tripRun.sl.v675, tripRun.sl.v680, tripRun.sl.v728, tripRun.sl.v733, tripRun.sl.v781, tripRun.sl.v786]
  rw [tripRun.sl.v965]
  rw [tripRun.sl.HS3_7, View.readCov_skip _ _ _ _ _ (by decide)]
  rw [tripRun.sl.HS3_6, View.readCov_skip _ _ _ _ _ (by decide)]
  rw [tripRun.sl.HS3_5, View.readCov_skip _ _ _ _ _ (by decide)]
  rw [tripRun.sl.HS3_4]
  rw [View.readCov_cons_toLoadRect]
  rw [tripRun.sl.v960]
  rw [tripRun.sl.HS2_7, View.readCov_skip _ _ _ _ _ (by decide)]
  rw [tripRun.sl.HS2_6, View.readCov_skip _ _ _ _ _ (by decide)]
  rw [tripRun.sl.HS2_5, View.readCov_skip _ _ _ _ _ (by decide)]
  rw [tripRun.sl.HS2_4]
  rw [View.readCov_cons_toLoadRect]
  simp only [View.readAt_eq_ld, harg9.read_unread, harg10.read_unread, harg8.read_unread, harg7.read_unread, tripRun.sl.r, tripRun.sl.r_1, tripRun.sl.r_10, tripRun.sl.r_11, tripRun.sl.r_12, tripRun.sl.r_13, tripRun.sl.r_14, tripRun.sl.r_15, tripRun.sl.r_16, tripRun.sl.r_17, tripRun.sl.r_18, tripRun.sl.r_19, tripRun.sl.r_2, tripRun.sl.r_20, tripRun.sl.r_21, tripRun.sl.r_22, tripRun.sl.r_23, tripRun.sl.r_24, tripRun.sl.r_25, tripRun.sl.r_26, tripRun.sl.r_27, tripRun.sl.r_28, tripRun.sl.r_29, tripRun.sl.r_3, tripRun.sl.r_30, tripRun.sl.r_31, tripRun.sl.r_32, tripRun.sl.r_33, tripRun.sl.r_34, tripRun.sl.r_35, tripRun.sl.r_36, tripRun.sl.r_37, tripRun.sl.r_38, tripRun.sl.r_39, tripRun.sl.r_4, tripRun.sl.r_40, tripRun.sl.r_41, tripRun.sl.r_42, tripRun.sl.r_43, tripRun.sl.r_44, tripRun.sl.r_45, tripRun.sl.r_46, tripRun.sl.r_47, tripRun.sl.r_48, tripRun.sl.r_5, tripRun.sl.r_6, tripRun.sl.r_7, tripRun.sl.r_8, tripRun.sl.r_9, tripRun.sl.v675, tripRun.sl.v680, tripRun.sl.v728, tripRun.sl.v733, tripRun.sl.v781, tripRun.sl.v786]
  rfl

end

end Cert.Proof.Sb
-- ==== Proof.SbRuns.lean ====
module

public import proofs.«01_k».proof.Proof.Gen.Kernel9Ideal
public import proofs.«01_k».proof.Proof.Gen.Kernel9Ideal.Launch
public import proofs.«01_k».proof.Proof.Gen.Kernel9Ideal.Skeleton
public import proofs.«01_k».proof.Proof.Gen.Kernel9Ideal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim
public import proofs.«01_k».proof.Proof.SbSweep

/-! # Stick-breaking attention: a point up to its loop

The kernel's function at a grid point up to its loop: at the first point of a sequence and pair of head groups, and at a later one. -/

@[expose] public section

set_option maxRecDepth 16384

noncomputable section

namespace Cert.Proof.Sb

open Cert.Kernel9Ideal Cert.Kernel9Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The condition under which a grid point prepares the keys and values: it is the first query tile of its batch and group. -/
abbrev first (i : grid0.Coords) : Prop := (Scalar.cmpi .ne (Scalar.extui (Scalar.cmpi .eq (BitVec.ofNat 32 (i 2).val) 0#32)) 0#32) = 1#1

/-- What the kernel does once its loop is done: the accumulator goes to the output block. -/
abbrev rest (arg6 : Memref sig .tc .vmem S256x512 .bf16) (harg6 : arg6.IsWhole) (arg10 : Memref sig .tc .vmem S256x512 .f32) (harg10 : arg10.IsWhole) :
    Prog (TpuEff nD τ sig (Elt F) (Λ₀ F) .tc) PUnit := do
  let v547 : Vec F S256x512 .f32 ← Prog.lift (.load arg10 (Rect.unit (s := S256x512) ![0, 0] S256x512.size inb_S256x512_S256x512_0_0).toLoadRect (View.loadsAt_vmem h_S256x512))
  let v549 : Vec F S256x512 .bf16 ← Prog.lift (.load arg6 (Rect.unit (s := S256x512) ![0, 0] S256x512.size inb_S256x512_S256x512_0_0).toLoadRect (View.loadsAt_vmem h_S256x512))
  Prog.lift (.store arg6 (Rect.unit (s := S256x512) ![0, 0] S256x512.size inb_S256x512_S256x512_0_0) (k0_pay3 v547) Finset.univ (View.stores_vmem h_S256x512 (harg6.storeExact_slice rfl _ packedbf16_S256x512_S256x512_0_0) (fun _ => rfl)) (.inl rfl))
  pure ⟨⟩

set_option maxHeartbeats 1000000 in
/-- The kernel up to its loop at the first query tile: the prepared keys and values, the running totals and the
    accumulator are written with the pieces found here, and the loop's label is called at counter 0 and least total 0. -/
noncomputable def runFirst (c : Dev nD) (i : grid0.Coords)
    (arg3 : Memref sig .tc .vmem S256x512 .bf16) (harg3 : arg3.IsWhole) (arg4 : Memref sig .tc .vmem S4096x512 .bf16) (harg4 : arg4.IsWhole)
    (arg5 : Memref sig .tc .vmem S4096x512 .bf16) (harg5 : arg5.IsWhole) (arg6 : Memref sig .tc .vmem S256x512 .bf16) (harg6 : arg6.IsWhole)
    (arg7 : Memref sig .tc .vmem S4x32x256x128 .bf16) (harg7 : arg7.IsWhole) (arg8 : Memref sig .tc .vmem S4x32x256x128 .bf16) (harg8 : arg8.IsWhole)
    (arg9 : Memref sig .tc .vmem S4x256x256 .f32) (harg9 : arg9.IsWhole) (arg10 : Memref sig .tc .vmem S256x512 .f32) (harg10 : arg10.IsWhole) (hc0 : first i)
    (x0 : Vec F S256x512 .bf16) (x1 : Vec F S4096x512 .bf16) (x2 : Vec F S4096x512 .bf16) :
    Σ' (v8 : FVec F S256x512 .bf16), Σ' (v34 : FVec F S256x256 .bf16), Σ' (LS0 : List (View.Piece (Elt F) S4x32x256x128 .bf16)), Σ' (LS1 : List (View.Piece (Elt F) S4x32x256x128 .bf16)),
    Σ' (LT2 : List (View.Piece (Elt F) S4x256x256 .f32)), { LT3 : List (View.Piece (Elt F) S256x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LT2) ∗ (∃ f, arg10.view.loc (c : Thread nD τ) ↦[arg10.view.set]{fullShare} arg10.view.writes (Elt F) f LT3))
              -∗ wp frame (wpE (defs₀ (F := F)) 𝒱 c none) E
                (Prog.op (.call (1 : (Λ₀ F).Label) ⟨i, v8, arg7, harg7, v34, arg9, harg9, arg10, harg10, arg8, harg8, 0#32, Scalar.ofBits .f32 0x00000000#32⟩) fun _ => rest arg6 harg6 arg10 harg10) K))
          ⊢ wp frame (wpE (defs₀ (F := F)) 𝒱 c none) E (cc0_sb_attention i arg3 harg3 arg4 harg4 arg5 harg5 arg6 harg6 arg7 harg7 arg8 harg8 arg9 harg9 arg10 harg10) K } := by
  refine ⟨?_, ?_, ?_, ?_, ?_, ?_, fun E K => ?run⟩
  case run =>
    simp only [cc0_sb_attention_eq_skeleton]; unfold cc0_sb_attention_skel
    simp only [k0_part4_eq_skeleton, k0_part1_eq_skeleton, k0_part2_eq_skeleton, k0_part3_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨⟨%f0, %hf0, H0⟩, ⟨%f1, %hf1, H1⟩, ⟨%f2, %hf2, H2⟩, ⟨%ds0, %fs0, -, HS0⟩, ⟨%ds1, %fs1, -, HS1⟩, ⟨%ds2, %fs2, -, HS2⟩, ⟨%ds3, %fs3, -, HS3⟩, Hk⟩
    obtain rfl := harg3.eq_unread hf0; obtain rfl := harg4.eq_unread hf1; obtain rfl := harg5.eq_unread hf2
    sl_exec (disch := first | sl_exact hc0)
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [HS0]; · iexists _; iexact HS0
    isplitl [HS1]; · iexists _; iexact HS1
    isplitl [HS2]; · iexists _; iexact HS2
    iexists _; iexact HS3

set_option maxHeartbeats 1000000 in
/-- The kernel up to its loop at a later query tile: the prepared keys and values are as the tile before left them. -/
noncomputable def runLater (c : Dev nD) (i : grid0.Coords)
    (arg3 : Memref sig .tc .vmem S256x512 .bf16) (harg3 : arg3.IsWhole) (arg4 : Memref sig .tc .vmem S4096x512 .bf16) (harg4 : arg4.IsWhole)
    (arg5 : Memref sig .tc .vmem S4096x512 .bf16) (harg5 : arg5.IsWhole) (arg6 : Memref sig .tc .vmem S256x512 .bf16) (harg6 : arg6.IsWhole)
    (arg7 : Memref sig .tc .vmem S4x32x256x128 .bf16) (harg7 : arg7.IsWhole) (arg8 : Memref sig .tc .vmem S4x32x256x128 .bf16) (harg8 : arg8.IsWhole)
    (arg9 : Memref sig .tc .vmem S4x256x256 .f32) (harg9 : arg9.IsWhole) (arg10 : Memref sig .tc .vmem S256x512 .f32) (harg10 : arg10.IsWhole) (hc0 : ¬first i)
    (x0 : Vec F S256x512 .bf16) (x1 : Vec F S4096x512 .bf16) (x2 : Vec F S4096x512 .bf16) (xs0 xs1 : Vec F S4x32x256x128 .bf16) :
    Σ' (v8 : FVec F S256x512 .bf16), Σ' (v34 : FVec F S256x256 .bf16),
    Σ' (LT2 : List (View.Piece (Elt F) S4x256x256 .f32)), { LT3 : List (View.Piece (Elt F) S256x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg7 fullShare xs0 ∗ owns (c : Thread nD τ) arg8 fullShare xs1 ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg7 fullShare xs0 ∗ owns (c : Thread nD τ) arg8 fullShare xs1 ∗ (∃ f, arg9.view.loc (c : Thread nD τ) ↦[arg9.view.set]{fullShare} arg9.view.writes (Elt F) f LT2) ∗ (∃ f, arg10.view.loc (c : Thread nD τ) ↦[arg10.view.set]{fullShare} arg10.view.writes (Elt F) f LT3))
              -∗ wp frame (wpE (defs₀ (F := F)) 𝒱 c none) E
                (Prog.op (.call (1 : (Λ₀ F).Label) ⟨i, v8, arg7, harg7, v34, arg9, harg9, arg10, harg10, arg8, harg8, 0#32, Scalar.ofBits .f32 0x00000000#32⟩) fun _ => rest arg6 harg6 arg10 harg10) K))
          ⊢ wp frame (wpE (defs₀ (F := F)) 𝒱 c none) E (cc0_sb_attention i arg3 harg3 arg4 harg4 arg5 harg5 arg6 harg6 arg7 harg7 arg8 harg8 arg9 harg9 arg10 harg10) K } := by
  refine ⟨?_, ?_, ?_, ?_, fun E K => ?run⟩
  case run =>
    simp only [cc0_sb_attention_eq_skeleton]; unfold cc0_sb_attention_skel
    simp only [k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨⟨%f0, %hf0, H0⟩, ⟨%f1, %hf1, H1⟩, ⟨%f2, %hf2, H2⟩, ⟨%fs0, %hfs0, HS0⟩, ⟨%fs1, %hfs1, HS1⟩, ⟨%ds2, %fs2, -, HS2⟩, ⟨%ds3, %fs3, -, HS3⟩, Hk⟩
    obtain rfl := harg3.eq_unread hf0; obtain rfl := harg4.eq_unread hf1; obtain rfl := harg5.eq_unread hf2; obtain rfl := harg7.eq_unread hfs0; obtain rfl := harg8.eq_unread hfs1
    sl_exec (disch := first | sl_exact hc0)
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [HS0]
    · iexists _; isplitr; · ipureintro; exact harg7.read_unread _
      iexact HS0
    isplitl [HS1]
    · iexists _; isplitr; · ipureintro; exact harg8.read_unread _
      iexact HS1
    isplitl [HS2]; · iexists _; iexact HS2
    iexists _; iexact HS3

end Cert.Proof.Sb

end
-- ==== Proof.SbDiagVal.lean ====
module

public import proofs.«01_k».proof.Proof.SbTripVal
public import proofs.«01_k».proof.Proof.SbRuns

/-! # Stick-breaking attention: what a tile has met when its loop is reached

The tile's own 256 keys are met first: the later 128 by the tile's lower half alone, then the earlier 128 by the whole tile,
each under the causal mask. -/

@[expose] public section

set_option maxRecDepth 16384

noncomputable section

namespace Cert.Proof.Sb

open Cert.Kernel9Ideal Cert.Kernel9Ideal.Gen
open Idealize.ShloMosaic Idealize.ShloMosaic.TcCoe Idealize.ShloMosaic.Tactic

/-- A slab of running sums whose lower 128 rows were written last. -/
def joinR (lo : Vec Ideal S1x256x256 .f32) (h : Vec Ideal S1x128x256 .f32) : Vec Ideal S1x256x256 .f32 :=
  fun y => if hy : 128 ≤ (y 1).val then h (ix3 (0 : Fin 1) ⟨(y 1).val - 128, by have := (y 1).isLt; change _ < 256 at this; omega⟩ (y 2)) else lo y

/-- A slab of the output whose lower 128 rows were written last. -/
def joinA (lo : Vec Ideal S256x128 .f32) (h : Vec Ideal S128x128 .f32) : Vec Ideal S256x128 .f32 :=
  fun y => if hy : 128 ≤ (y 0).val then h (ix2 ⟨(y 0).val - 128, by have := (y 0).isLt; change _ < 256 at this; omega⟩ (y 1)) else lo y

theorem readCov_joinR (v : View sig .tc .vmem S4x256x256 .f32) (p : ℕ) (i1 : ∀ a, (![p, 128, 0] : Fin 3 → ℕ) a + S1x128x256.size a ≤ S4x256x256.size a)
    (i2 : ∀ a, (![p, 0, 0] : Fin 3 → ℕ) a + S1x256x256.size a ≤ S4x256x256.size a) (h : Vec Ideal S1x128x256 .f32) (L : List (View.Piece (Elt Ideal) S4x256x256 .f32)) :
    v.readCov (⟨Rect.unit (s := S4x256x256) ![p, 128, 0] S1x128x256.size i1, h⟩ :: L) (Rect.unit (s := S4x256x256) ![p, 0, 0] S1x256x256.size i2).toLoadRect =
      joinR (v.readCov L (Rect.unit (s := S4x256x256) ![p, 0, 0] S1x256x256.size i2).toLoadRect) h := by
  rw [View.readCov_eq_canon', View.readCov_eq_canon']
  funext y
  unfold joinR
  by_cases hy : 128 ≤ (y 1).val
  · rw [dif_pos hy]
    refine (congrArg (View.canon _) ?_).trans (View.canon_cons_emb (Rect.unit (s := S4x256x256) ![p, 128, 0] S1x128x256.size i1) h L _)
    funext a
    apply Fin.ext
    match a with
    | ⟨0, _⟩ => show p + 1 * (y 0).val = p + 1 * 0; have := (y 0).isLt; change _ < 1 at this; omega
    | ⟨1, _⟩ => show 0 + 1 * (y 1).val = 128 + 1 * ((y 1).val - 128); omega
    | ⟨2, _⟩ => show 0 + 1 * (y 2).val = 0 + 1 * (y 2).val; rfl
  · rw [dif_neg hy]
    refine View.canon_cons_of_not_mem _ L fun hm => hy ?_
    obtain ⟨k, _, hk⟩ := (LoadRect.mem_set _).mp hm (1 : Fin 3)
    change 0 + 1 * (y 1).val = 128 + 1 * k at hk
    omega

theorem readCov_joinA (v : View sig .tc .vmem S256x512 .f32) (p : ℕ) (i1 : ∀ a, (![128, p] : Fin 2 → ℕ) a + S128x128.size a ≤ S256x512.size a)
    (i2 : ∀ a, (![0, p] : Fin 2 → ℕ) a + S256x128.size a ≤ S256x512.size a) (h : Vec Ideal S128x128 .f32) (L : List (View.Piece (Elt Ideal) S256x512 .f32)) :
    v.readCov (⟨Rect.unit (s := S256x512) ![128, p] S128x128.size i1, h⟩ :: L) (Rect.unit (s := S256x512) ![0, p] S256x128.size i2).toLoadRect =
      joinA (v.readCov L (Rect.unit (s := S256x512) ![0, p] S256x128.size i2).toLoadRect) h := by
  rw [View.readCov_eq_canon', View.readCov_eq_canon']
  funext y
  unfold joinA
  by_cases hy : 128 ≤ (y 0).val
  · rw [dif_pos hy]
    refine (congrArg (View.canon _) ?_).trans (View.canon_cons_emb (Rect.unit (s := S256x512) ![128, p] S128x128.size i1) h L _)
    funext a
    apply Fin.ext
    match a with
    | ⟨0, _⟩ => show 0 + 1 * (y 0).val = 128 + 1 * ((y 0).val - 128); omega
    | ⟨1, _⟩ => show p + 1 * (y 1).val = p + 1 * (y 1).val; rfl
  · rw [dif_neg hy]
    refine View.canon_cons_of_not_mem _ L fun hm => hy ?_
    obtain ⟨k, _, hk⟩ := (LoadRect.mem_set _).mp hm (0 : Fin 2)
    change 0 + 1 * (y 0).val = 128 + 1 * k at hk
    omega

section
variable (x0 : Vec Ideal S256x512 .bf16) (xs0 xs1 : Vec Ideal S4x32x256x128 .bf16)

/-- The tile's queries, scaled. -/
abbrev qs : FVec Ideal S256x512 .bf16 := k0_pay43 (F := Ideal) (View.ld x0 (Rect.unit ![0, 0] S256x512.size inb_S256x512_S256x512_0_0))

/-- One pair's scores of the lower half against a block of keys. -/
abbrev hz (p : ℕ) (hs : S256x512.Slices ![128, p] S128x128) (off : Fin 4 → ℕ) (h : ∀ a, off a + S1x1x256x128.size a ≤ S4x32x256x128.size a) : FVec Ideal S128x256 .f32 :=
  sc128 (extractStridedSlice S128x128 ![128, p] (qs x0) hs) (View.ld xs0 (kvR off h))

/-- The lower half's sums after the later of the tile's own two blocks. -/
def halfR (z : FVec Ideal S128x256 .f32) (p : ℕ) (i : ∀ a, (![p, 128, 0] : Fin 3 → ℕ) a + S1x128x256.size a ≤ S4x256x256.size a) : Vec Ideal S1x128x256 .f32 :=
  nrun128 (k0_pay44 (F := Ideal)) (msk128 (soft128 z)) (View.ld (k0_pay46 (F := Ideal)) (Rect.unit (s := S4x256x256) ![p, 128, 0] S1x128x256.size i))

/-- The tile's sums then. -/
def midR (z : FVec Ideal S128x256 .f32) (p : ℕ) (i : ∀ a, (![p, 128, 0] : Fin 3 → ℕ) a + S1x128x256.size a ≤ S4x256x256.size a)
    (i' : ∀ a, (![p, 0, 0] : Fin 3 → ℕ) a + S1x256x256.size a ≤ S4x256x256.size a) : Vec Ideal S1x256x256 .f32 :=
  joinR (View.ld (k0_pay46 (F := Ideal)) (Rect.unit (s := S4x256x256) ![p, 0, 0] S1x256x256.size i')) (halfR z p i)

/-- The tile's output then. -/
def midA (z : FVec Ideal S128x256 .f32) (v : Vec Ideal S1x1x256x128 .bf16) (p q : ℕ) (i : ∀ a, (![p, 128, 0] : Fin 3 → ℕ) a + S1x128x256.size a ≤ S4x256x256.size a)
    (j : ∀ a, (![128, q] : Fin 2 → ℕ) a + S128x128.size a ≤ S256x512.size a) (j' : ∀ a, (![0, q] : Fin 2 → ℕ) a + S256x128.size a ≤ S256x512.size a) : Vec Ideal S256x128 .f32 :=
  joinA (View.ld (k0_pay47 (F := Ideal)) (Rect.unit (s := S256x512) ![0, q] S256x128.size j'))
    (nacc128 (msk128 (wgt128 (k0_pay44 (F := Ideal)) z (msk128 (soft128 z)) (View.ld (k0_pay46 (F := Ideal)) (Rect.unit (s := S4x256x256) ![p, 128, 0] S1x128x256.size i))))
      (View.ld (k0_pay47 (F := Ideal)) (Rect.unit (s := S256x512) ![128, q] S128x128.size j)) v)

/-- The tile's sums after both blocks. -/
def diagR (z : FVec Ideal S256x256 .f32) (run : Vec Ideal S1x256x256 .f32) : Vec Ideal S1x256x256 .f32 :=
  nrun256 (k0_pay44 (F := Ideal)) (msk256 (soft256 z)) run

/-- The tile's output after both blocks. -/
def diagA (z : FVec Ideal S256x256 .f32) (run : Vec Ideal S1x256x256 .f32) (acc : Vec Ideal S256x128 .f32) (v : Vec Ideal S1x1x256x128 .bf16) : Vec Ideal S256x128 .f32 :=
  nacc256 (msk256 (wgt256 (k0_pay44 (F := Ideal)) z (msk256 (soft256 z)) run)) acc v

end

section
variable (c : Dev nD) (i : grid0.Coords)
  (arg3 : Memref sig .tc .vmem S256x512 .bf16) (harg3 : arg3.IsWhole) (arg4 : Memref sig .tc .vmem S4096x512 .bf16) (harg4 : arg4.IsWhole)
  (arg5 : Memref sig .tc .vmem S4096x512 .bf16) (harg5 : arg5.IsWhole) (arg6 : Memref sig .tc .vmem S256x512 .bf16) (harg6 : arg6.IsWhole)
  (arg7 : Memref sig .tc .vmem S4x32x256x128 .bf16) (harg7 : arg7.IsWhole) (arg8 : Memref sig .tc .vmem S4x32x256x128 .bf16) (harg8 : arg8.IsWhole)
  (arg9 : Memref sig .tc .vmem S4x256x256 .f32) (harg9 : arg9.IsWhole) (arg10 : Memref sig .tc .vmem S256x512 .f32) (harg10 : arg10.IsWhole)
  (x0 : Vec Ideal S256x512 .bf16) (x1 : Vec Ideal S4096x512 .bf16) (x2 : Vec Ideal S4096x512 .bf16) (xs0 xs1 : Vec Ideal S4x32x256x128 .bf16)

section
open runLater.sl

theorem runLaterR_slab0 (hc0 : ¬first i) (h1 : ∀ a, k0_off1 i 1#32 a + S1x1x256x128.size a ≤ S4x32x256x128.size a) (h0 : ∀ a, k0_off1 i 0#32 a + S1x1x256x128.size a ≤ S4x32x256x128.size a) :
    View.ld (View.canon (runLater c i arg3 harg3 arg4 harg4 arg5 harg5 arg6 harg6 arg7 harg7 arg8 harg8 arg9 harg9 arg10 harg10 hc0 x0 x1 x2 xs0 xs1).2.2.1) (Rect.unit ![0, 0, 0] S1x256x256.size inb_S4x256x256_S1x256x256_0_0_0) = diagR (tz (qs x0) xs0 0 slices_S256x512_o0_0_S256x128 (k0_off1 i 0#32) h0) (midR (hz x0 xs0 0 slices_S256x512_o128_0_S128x128 (k0_off1 i 1#32) h1) 0 inb_S4x256x256_S1x128x256_0_128_0 inb_S4x256x256_S1x256x256_0_0_0) := by
  rw [ld_canon VR]
  show View.readCov VR (_ :: runLater.sl.HS2_8 c i arg3 harg3 arg7 harg7 arg9 x0 xs0) _ = _
  rw [View.readCov_skip _ _ _ _ _ (by decide)]
  rw [runLater.sl.HS2_8]
  rw [View.readCov_skip _ _ _ _ _ (by decide)]
  rw [runLater.sl.HS2_7]
  rw [View.readCov_skip _ _ _ _ _ (by decide)]
  rw [runLater.sl.HS2_6]
  rw [View.readCov_cons_toLoadRect]
  simp only [cst_164, cst_94, r, r_1, r_10, r_11, r_12, r_13, r_14, r_15, r_16, r_17, r_18, r_19, r_2, r_20, r_21, r_22, r_23, r_24, r_25, r_26, r_27, r_28, r_29, r_3, r_30, r_31, r_32, r_33, r_34, r_35, r_36, r_37, r_38, r_39, r_4, r_40, r_41, r_42, r_43, r_44, r_45, r_46, r_47, r_48, r_49, r_5, r_50, r_51, r_52, r_53, r_54, r_55, r_56, r_57, r_58, r_59, r_6, r_60, r_7, r_8, r_9, v35, v36]
  rw [runLater.sl.v371]
  rw [runLater.sl.HS2_5, View.readCov_skip _ _ _ _ _ (by decide)]
  rw [runLater.sl.HS2_4, View.readCov_skip _ _ _ _ _ (by decide)]
  rw [runLater.sl.HS2_3, View.readCov_skip _ _ _ _ _ (by decide)]
  rw [runLater.sl.HS2_2, readCov_joinR]
  rw [runLater.sl.HS2_1, View.readCov_fill _ _ _ _ _ (by decide)]
  simp only [cst_164, cst_94, r, r_1, r_10, r_11, r_12, r_13, r_14, r_15, r_16, r_17, r_18, r_19, r_2, r_20, r_21, r_22, r_23, r_24, r_25, r_26, r_27, r_28, r_29, r_3, r_30, r_31, r_32, r_33, r_34, r_35, r_36, r_37, r_38, r_39, r_4, r_40, r_41, r_42, r_43, r_44, r_45, r_46, r_47, r_48, r_49, r_5, r_50, r_51, r_52, r_53, r_54, r_55, r_56, r_57, r_58, r_59, r_6, r_60, r_7, r_8, r_9, v35, v36]
  rw [runLater.sl.v137]
  rw [runLater.sl.HS2_1, View.readCov_fill _ _ _ _ _ (by decide)]
  simp only [View.readAt_eq_ld, harg3.read_unread, harg7.read_unread, harg8.read_unread]
  rfl

theorem runLaterA_slab0 (hc0 : ¬first i) (h1 : ∀ a, k0_off1 i 1#32 a + S1x1x256x128.size a ≤ S4x32x256x128.size a) (h0 : ∀ a, k0_off1 i 0#32 a + S1x1x256x128.size a ≤ S4x32x256x128.size a) :
    View.ld (View.canon (runLater c i arg3 harg3 arg4 harg4 arg5 harg5 arg6 harg6 arg7 harg7 arg8 harg8 arg9 harg9 arg10 harg10 hc0 x0 x1 x2 xs0 xs1).2.2.2.1) (Rect.unit ![0, 0] S256x128.size inb_S256x512_S256x128_0_0) = diagA (tz (qs x0) xs0 0 slices_S256x512_o0_0_S256x128 (k0_off1 i 0#32) h0) (midR (hz x0 xs0 0 slices_S256x512_o128_0_S128x128 (k0_off1 i 1#32) h1) 0 inb_S4x256x256_S1x128x256_0_128_0 inb_S4x256x256_S1x256x256_0_0_0) (midA (hz x0 xs0 0 slices_S256x512_o128_0_S128x128 (k0_off1 i 1#32) h1) (View.ld xs1 (kvR (k0_off1 i 1#32) h1)) 0 0 inb_S4x256x256_S1x128x256_0_128_0 inb_S256x512_S128x128_128_0 inb_S256x512_S256x128_0_0) (View.ld xs1 (kvR (k0_off1 i 0#32) h0)) := by
  rw [ld_canon VA]
  show View.readCov VA (_ :: runLater.sl.HS3_8 c i arg3 harg3 arg7 harg7 arg8 harg8 arg9 arg10 x0 xs0 xs1) _ = _
  rw [View.readCov_skip _ _ _ _ _ (by decide)]
  rw [runLater.sl.HS3_8]
  rw [View.readCov_skip _ _ _ _ _ (by decide)]
  rw [runLater.sl.HS3_7]
  rw [View.readCov_skip _ _ _ _ _ (by decide)]
  rw [runLater.sl.HS3_6]
  rw [View.readCov_cons_toLoadRect]
  simp only [cst_164, cst_94, r, r_1, r_10, r_11, r_12, r_13, r_14, r_15, r_16, r_17, r_18, r_19, r_2, r_20, r_21, r_22, r_23, r_24, r_25, r_26, r_27, r_28, r_29, r_3, r_30, r_31, r_32, r_33, r_34, r_35, r_36, r_37, r_38, r_39, r_4, r_40, r_41, r_42, r_43, r_44, r_45, r_46, r_47, r_48, r_49, r_5, r_50, r_51, r_52, r_53, r_54, r_55, r_56, r_57, r_58, r_59, r_6, r_60, r_7, r_8, r_9, v35, v36]
  rw [runLater.sl.v381]
  rw [runLater.sl.HS3_5, View.readCov_skip _ _ _ _ _ (by decide)]
  rw [runLater.sl.HS3_4, View.readCov_skip _ _ _ _ _ (by decide)]
  rw [runLater.sl.HS3_3, View.readCov_skip _ _ _ _ _ (by decide)]
  rw [runLater.sl.HS3_2, readCov_joinA]
  rw [runLater.sl.HS3_1, View.readCov_fill _ _ _ _ _ (by decide)]
  simp only [cst_164, cst_94, r, r_1, r_10, r_11, r_12, r_13, r_14, r_15, r_16, r_17, r_18, r_19, r_2, r_20, r_21, r_22, r_23, r_24, r_25, r_26, r_27, r_28, r_29, r_3, r_30, r_31, r_32, r_33, r_34, r_35, r_36, r_37, r_38, r_39, r_4, r_40, r_41, r_42, r_43, r_44, r_45, r_46, r_47, r_48, r_49, r_5, r_50, r_51, r_52, r_53, r_54, r_55, r_56, r_57, r_58, r_59, r_6, r_60, r_7, r_8, r_9, v35, v36]
  rw [runLater.sl.v144]
  rw [runLater.sl.HS3_1, View.readCov_fill _ _ _ _ _ (by decide)]
  rw [runLater.sl.v371]
  rw [runLater.sl.HS2_5, View.readCov_skip _ _ _ _ _ (by decide)]
  rw [runLater.sl.HS2_4, View.readCov_skip _ _ _ _ _ (by decide)]
  rw [runLater.sl.HS2_3, View.readCov_skip _ _ _ _ _ (by decide)]
  rw [runLater.sl.HS2_2, readCov_joinR]
  rw [runLater.sl.HS2_1, View.readCov_fill _ _ _ _ _ (by decide)]
  simp only [cst_164, cst_94, r, r_1, r_10, r_11, r_12, r_13, r_14, r_15, r_16, r_17, r_18, r_19, r_2, r_20, r_21, r_22, r_23, r_24, r_25, r_26, r_27, r_28, r_29, r_3, r_30, r_31, r_32, r_33, r_34, r_35, r_36, r_37, r_38, r_39, r_4, r_40, r_41, r_42, r_43, r_44, r_45, r_46, r_47, r_48, r_49, r_5, r_50, r_51, r_52, r_53, r_54, r_55, r_56, r_57, r_58, r_59, r_6, r_60, r_7, r_8, r_9, v35, v36]
  rw [runLater.sl.v137]
  rw [runLater.sl.HS2_1, View.readCov_fill _ _ _ _ _ (by decide)]
  simp only [View.readAt_eq_ld, harg3.read_unread, harg7.read_unread, harg8.read_unread]
  rfl

theorem runLaterR_slab1 (hc0 : ¬first i) (h1 : ∀ a, k0_off2 i 1#32 a + S1x1x256x128.size a ≤ S4x32x256x128.size a) (h0 : ∀ a, k0_off2 i 0#32 a + S1x1x256x128.size a ≤ S4x32x256x128.size a) :
    View.ld (View.canon (runLater c i arg3 harg3 arg4 harg4 arg5 harg5 arg6 harg6 arg7 harg7 arg8 harg8 arg9 harg9 arg10 harg10 hc0 x0 x1 x2 xs0 xs1).2.2.1) (Rect.unit ![1, 0, 0] S1x256x256.size inb_S4x256x256_S1x256x256_1_0_0) = diagR (tz (qs x0) xs0 128 slices_S256x512_o0_128_S256x128 (k0_off2 i 0#32) h0) (midR (hz x0 xs0 128 slices_S256x512_o128_128_S128x128 (k0_off2 i 1#32) h1) 1 inb_S4x256x256_S1x128x256_1_128_0 inb_S4x256x256_S1x256x256_1_0_0) := by
  rw [ld_canon VR]
  show View.readCov VR (_ :: runLater.sl.HS2_8 c i arg3 harg3 arg7 harg7 arg9 x0 xs0) _ = _
  rw [View.readCov_skip _ _ _ _ _ (by decide)]
  rw [runLater.sl.HS2_8]
  rw [View.readCov_skip _ _ _ _ _ (by decide)]
  rw [runLater.sl.HS2_7]
  rw [View.readCov_cons_toLoadRect]
  simp only [cst_164, cst_94, r, r_1, r_10, r_11, r_12, r_13, r_14, r_15, r_16, r_17, r_18, r_19, r_2, r_20, r_21, r_22, r_23, r_24, r_25, r_26, r_27, r_28, r_29, r_3, r_30, r_31, r_32, r_33, r_34, r_35, r_36, r_37, r_38, r_39, r_4, r_40, r_41, r_42, r_43, r_44, r_45, r_46, r_47, r_48, r_49, r_5, r_50, r_51, r_52, r_53, r_54, r_55, r_56, r_57, r_58, r_59, r_6, r_60, r_7, r_8, r_9, v35, v36]
  rw [runLater.sl.v434]
  rw [runLater.sl.HS2_6, View.readCov_skip _ _ _ _ _ (by decide)]
  rw [runLater.sl.HS2_5, View.readCov_skip _ _ _ _ _ (by decide)]
  rw [runLater.sl.HS2_4, View.readCov_skip _ _ _ _ _ (by decide)]
  rw [runLater.sl.HS2_3, readCov_joinR]
  rw [runLater.sl.HS2_2, View.readCov_skip _ _ _ _ _ (by decide)]
  rw [runLater.sl.HS2_1, View.readCov_fill _ _ _ _ _ (by decide)]
  simp only [cst_164, cst_94, r, r_1, r_10, r_11, r_12, r_13, r_14, r_15, r_16, r_17, r_18, r_19, r_2, r_20, r_21, r_22, r_23, r_24, r_25, r_26, r_27, r_28, r_29, r_3, r_30, r_31, r_32, r_33, r_34, r_35, r_36, r_37, r_38, r_39, r_4, r_40, r_41, r_42, r_43, r_44, r_45, r_46, r_47, r_48, r_49, r_5, r_50, r_51, r_52, r_53, r_54, r_55, r_56, r_57, r_58, r_59, r_6, r_60, r_7, r_8, r_9, v35, v36]
  rw [runLater.sl.v194]
  rw [runLater.sl.HS2_2, View.readCov_skip _ _ _ _ _ (by decide)]
  rw [runLater.sl.HS2_1, View.readCov_fill _ _ _ _ _ (by decide)]
  simp only [View.readAt_eq_ld, harg3.read_unread, harg7.read_unread, harg8.read_unread]
  rfl

theorem runLaterA_slab1 (hc0 : ¬first i) (h1 : ∀ a, k0_off2 i 1#32 a + S1x1x256x128.size a ≤ S4x32x256x128.size a) (h0 : ∀ a, k0_off2 i 0#32 a + S1x1x256x128.size a ≤ S4x32x256x128.size a) :
    View.ld (View.canon (runLater c i arg3 harg3 arg4 harg4 arg5 harg5 arg6 harg6 arg7 harg7 arg8 harg8 arg9 harg9 arg10 harg10 hc0 x0 x1 x2 xs0 xs1).2.2.2.1) (Rect.unit ![0, 128] S256x128.size inb_S256x512_S256x128_0_128) = diagA (tz (qs x0) xs0 128 slices_S256x512_o0_128_S256x128 (k0_off2 i 0#32) h0) (midR (hz x0 xs0 128 slices_S256x512_o128_128_S128x128 (k0_off2 i 1#32) h1) 1 inb_S4x256x256_S1x128x256_1_128_0 inb_S4x256x256_S1x256x256_1_0_0) (midA (hz x0 xs0 128 slices_S256x512_o128_128_S128x128 (k0_off2 i 1#32) h1) (View.ld xs1 (kvR (k0_off2 i 1#32) h1)) 1 128 inb_S4x256x256_S1x128x256_1_128_0 inb_S256x512_S128x128_128_128 inb_S256x512_S256x128_0_128) (View.ld xs1 (kvR (k0_off2 i 0#32) h0)) := by
  rw [ld_canon VA]
  show View.readCov VA (_ :: runLater.sl.HS3_8 c i arg3 harg3 arg7 harg7 arg8 harg8 arg9 arg10 x0 xs0 xs1) _ = _
  rw [View.readCov_skip _ _ _ _ _ (by decide)]
  rw [runLater.sl.HS3_8]
  rw [View.readCov_skip _ _ _ _ _ (by decide)]
  rw [runLater.sl.HS3_7]
  rw [View.readCov_cons_toLoadRect]
  simp only [cst_164, cst_94, r, r_1, r_10, r_11, r_12, r_13, r_14, r_15, r_16, r_17, r_18, r_19, r_2, r_20, r_21, r_22, r_23, r_24, r_25, r_26, r_27, r_28, r_29, r_3, r_30, r_31, r_32, r_33, r_34, r_35, r_36, r_37, r_38, r_39, r_4, r_40, r_41, r_42, r_43, r_44, r_45, r_46, r_47, r_48, r_49, r_5, r_50, r_51, r_52, r_53, r_54, r_55, r_56, r_57, r_58, r_59, r_6, r_60, r_7, r_8, r_9, v35, v36]
  rw [runLater.sl.v444]
  rw [runLater.sl.HS3_6, View.readCov_skip _ _ _ _ _ (by decide)]
  rw [runLater.sl.HS3_5, View.readCov_skip _ _ _ _ _ (by decide)]
  rw [runLater.sl.HS3_4, View.readCov_skip _ _ _ _ _ (by decide)]
  rw [runLater.sl.HS3_3, readCov_joinA]
  rw [runLater.sl.HS3_2, View.readCov_skip _ _ _ _ _ (by decide)]
  rw [runLater.sl.HS3_1, View.readCov_fill _ _ _ _ _ (by decide)]
  simp only [cst_164, cst_94, r, r_1, r_10, r_11, r_12, r_13, r_14, r_15, r_16, r_17, r_18, r_19, r_2, r_20, r_21, r_22, r_23, r_24, r_25, r_26, r_27, r_28, r_29, r_3, r_30, r_31, r_32, r_33, r_34, r_35, r_36, r_37, r_38, r_39, r_4, r_40, r_41, r_42, r_43, r_44, r_45, r_46, r_47, r_48, r_49, r_5, r_50, r_51, r_52, r_53, r_54, r_55, r_56, r_57, r_58, r_59, r_6, r_60, r_7, r_8, r_9, v35, v36]
  rw [runLater.sl.v201]
  rw [runLater.sl.HS3_2, View.readCov_skip _ _ _ _ _ (by decide)]
  rw [runLater.sl.HS3_1, View.readCov_fill _ _ _ _ _ (by decide)]
  rw [runLater.sl.v434]
  rw [runLater.sl.HS2_6, View.readCov_skip _ _ _ _ _ (by decide)]
  rw [runLater.sl.HS2_5, View.readCov_skip _ _ _ _ _ (by decide)]
  rw [runLater.sl.HS2_4, View.readCov_skip _ _ _ _ _ (by decide)]
  rw [runLater.sl.HS2_3, readCov_joinR]
  rw [runLater.sl.HS2_2, View.readCov_skip _ _ _ _ _ (by decide)]
  rw [runLater.sl.HS2_1, View.readCov_fill _ _ _ _ _ (by decide)]
  simp only [cst_164, cst_94, r, r_1, r_10, r_11, r_12, r_13, r_14, r_15, r_16, r_17, r_18, r_19, r_2, r_20, r_21, r_22, r_23, r_24, r_25, r_26, r_27, r_28, r_29, r_3, r_30, r_31, r_32, r_33, r_34, r_35, r_36, r_37, r_38, r_39, r_4, r_40, r_41, r_42, r_43, r_44, r_45, r_46, r_47, r_48, r_49, r_5, r_50, r_51, r_52, r_53, r_54, r_55, r_56, r_57, r_58, r_59, r_6, r_60, r_7, r_8, r_9, v35, v36]
  rw [runLater.sl.v194]
  rw [runLater.sl.HS2_2, View.readCov_skip _ _ _ _ _ (by decide)]
  rw [runLater.sl.HS2_1, View.readCov_fill _ _ _ _ _ (by decide)]
  simp only [View.readAt_eq_ld, harg3.read_unread, harg7.read_unread, harg8.read_unread]
  rfl

theorem runLaterR_slab2 (hc0 : ¬first i) (h1 : ∀ a, k0_off3 i 1#32 a + S1x1x256x128.size a ≤ S4x32x256x128.size a) (h0 : ∀ a, k0_off3 i 0#32 a + S1x1x256x128.size a ≤ S4x32x256x128.size a) :
    View.ld (View.canon (runLater c i arg3 harg3 arg4 harg4 arg5 harg5 arg6 harg6 arg7 harg7 arg8 harg8 arg9 harg9 arg10 harg10 hc0 x0 x1 x2 xs0 xs1).2.2.1) (Rect.unit ![2, 0, 0] S1x256x256.size inb_S4x256x256_S1x256x256_2_0_0) = diagR (tz (qs x0) xs0 256 slices_S256x512_o0_256_S256x128 (k0_off3 i 0#32) h0) (midR (hz x0 xs0 256 slices_S256x512_o128_256_S128x128 (k0_off3 i 1#32) h1) 2 inb_S4x256x256_S1x128x256_2_128_0 inb_S4x256x256_S1x256x256_2_0_0) := by
  rw [ld_canon VR]
  show View.readCov VR (_ :: runLater.sl.HS2_8 c i arg3 harg3 arg7 harg7 arg9 x0 xs0) _ = _
  rw [View.readCov_skip _ _ _ _ _ (by decide)]
  rw [runLater.sl.HS2_8]
  rw [View.readCov_cons_toLoadRect]
  simp only [cst_164, cst_94, r, r_1, r_10, r_11, r_12, r_13, r_14, r_15, r_16, r_17, r_18, r_19, r_2, r_20, r_21, r_22, r_23, r_24, r_25, r_26, r_27, r_28, r_29, r_3, r_30, r_31, r_32, r_33, r_34, r_35, r_36, r_37, r_38, r_39, r_4, r_40, r_41, r_42, r_43, r_44, r_45, r_46, r_47, r_48, r_49, r_5, r_50, r_51, r_52, r_53, r_54, r_55, r_56, r_57, r_58, r_59, r_6, r_60, r_7, r_8, r_9, v35, v36]
  rw [runLater.sl.v492]
  rw [runLater.sl.HS2_7, View.readCov_skip _ _ _ _ _ (by decide)]
  rw [runLater.sl.HS2_6, View.readCov_skip _ _ _ _ _ (by decide)]
  rw [runLater.sl.HS2_5, View.readCov_skip _ _ _ _ _ (by decide)]
  rw [runLater.sl.HS2_4, readCov_joinR]
  rw [runLater.sl.HS2_3, View.readCov_skip _ _ _ _ _ (by decide)]
  rw [runLater.sl.HS2_2, View.readCov_skip _ _ _ _ _ (by decide)]
  rw [runLater.sl.HS2_1, View.readCov_fill _ _ _ _ _ (by decide)]
  simp only [cst_164, cst_94, r, r_1, r_10, r_11, r_12, r_13, r_14, r_15, r_16, r_17, r_18, r_19, r_2, r_20, r_21, r_22, r_23, r_24, r_25, r_26, r_27, r_28, r_29, r_3, r_30, r_31, r_32, r_33, r_34, r_35, r_36, r_37, r_38, r_39, r_4, r_40, r_41, r_42, r_43, r_44, r_45, r_46, r_47, r_48, r_49, r_5, r_50, r_51, r_52, r_53, r_54, r_55, r_56, r_57, r_58, r_59, r_6, r_60, r_7, r_8, r_9, v35, v36]
  rw [runLater.sl.v251]
  rw [runLater.sl.HS2_3, View.readCov_skip _ _ _ _ _ (by decide)]
  rw [runLater.sl.HS2_2, View.readCov_skip _ _ _ _ _ (by decide)]
  rw [runLater.sl.HS2_1, View.readCov_fill _ _ _ _ _ (by decide)]
  simp only [View.readAt_eq_ld, harg3.read_unread, harg7.read_unread, harg8.read_unread]
  rfl

theorem runLaterA_slab2 (hc0 : ¬first i) (h1 : ∀ a, k0_off3 i 1#32 a + S1x1x256x128.size a ≤ S4x32x256x128.size a) (h0 : ∀ a, k0_off3 i 0#32 a + S1x1x256x128.size a ≤ S4x32x256x128.size a) :
    View.ld (View.canon (runLater c i arg3 harg3 arg4 harg4 arg5 harg5 arg6 harg6 arg7 harg7 arg8 harg8 arg9 harg9 arg10 harg10 hc0 x0 x1 x2 xs0 xs1).2.2.2.1) (Rect.unit ![0, 256] S256x128.size inb_S256x512_S256x128_0_256) = diagA (tz (qs x0) xs0 256 slices_S256x512_o0_256_S256x128 (k0_off3 i 0#32) h0) (midR (hz x0 xs0 256 slices_S256x512_o128_256_S128x128 (k0_off3 i 1#32) h1) 2 inb_S4x256x256_S1x128x256_2_128_0 inb_S4x256x256_S1x256x256_2_0_0) (midA (hz x0 xs0 256 slices_S256x512_o128_256_S128x128 (k0_off3 i 1#32) h1) (View.ld xs1 (kvR (k0_off3 i 1#32) h1)) 2 256 inb_S4x256x256_S1x128x256_2_128_0 inb_S256x512_S128x128_128_256 inb_S256x512_S256x128_0_256) (View.ld xs1 (kvR (k0_off3 i 0#32) h0)) := by
  rw [ld_canon VA]
  show View.readCov VA (_ :: runLater.sl.HS3_8 c i arg3 harg3 arg7 harg7 arg8 harg8 arg9 arg10 x0 xs0 xs1) _ = _
  rw [View.readCov_skip _ _ _ _ _ (by decide)]
  rw [runLater.sl.HS3_8]
  rw [View.readCov_cons_toLoadRect]
  simp only [cst_164, cst_94, r, r_1, r_10, r_11, r_12, r_13, r_14, r_15, r_16, r_17, r_18, r_19, r_2, r_20, r_21, r_22, r_23, r_24, r_25, r_26, r_27, r_28, r_29, r_3, r_30, r_31, r_32, r_33, r_34, r_35, r_36, r_37, r_38, r_39, r_4, r_40, r_41, r_42, r_43, r_44, r_45, r_46, r_47, r_48, r_49, r_5, r_50, r_51, r_52, r_53, r_54, r_55, r_56, r_57, r_58, r_59, r_6, r_60, r_7, r_8, r_9, v35, v36]
  rw [runLater.sl.v502]
  rw [runLater.sl.HS3_7, View.readCov_skip _ _ _ _ _ (by decide)]
  rw [runLater.sl.HS3_6, View.readCov_skip _ _ _ _ _ (by decide)]
  rw [runLater.sl.HS3_5, View.readCov_skip _ _ _ _ _ (by decide)]
  rw [runLater.sl.HS3_4, readCov_joinA]
  rw [runLater.sl.HS3_3, View.readCov_skip _ _ _ _ _ (by decide)]
  rw [runLater.sl.HS3_2, View.readCov_skip _ _ _ _ _ (by decide)]
  rw [runLater.sl.HS3_1, View.readCov_fill _ _ _ _ _ (by decide)]
  simp only [cst_164, cst_94, r, r_1, r_10, r_11, r_12, r_13, r_14, r_15, r_16, r_17, r_18, r_19, r_2, r_20, r_21, r_22, r_23, r_24, r_25, r_26, r_27, r_28, r_29, r_3, r_30, r_31, r_32, r_33, r_34, r_35, r_36, r_37, r_38, r_39, r_4, r_40, r_41, r_42, r_43, r_44, r_45, r_46, r_47, r_48, r_49, r_5, r_50, r_51, r_52, r_53, r_54, r_55, r_56, r_57, r_58, r_59, r_6, r_60, r_7, r_8, r_9, v35, v36]
  rw [runLater.sl.v258]
  rw [runLater.sl.HS3_3, View.readCov_skip _ _ _ _ _ (by decide)]
  rw [runLater.sl.HS3_2, View.readCov_skip _ _ _ _ _ (by decide)]
  rw [runLater.sl.HS3_1, View.readCov_fill _ _ _ _ _ (by decide)]
  rw [runLater.sl.v492]
  rw [runLater.sl.HS2_7, View.readCov_skip _ _ _ _ _ (by decide)]
  rw [runLater.sl.HS2_6, View.readCov_skip _ _ _ _ _ (by decide)]
  rw [runLater.sl.HS2_5, View.readCov_skip _ _ _ _ _ (by decide)]
  rw [runLater.sl.HS2_4, readCov_joinR]
  rw [runLater.sl.HS2_3, View.readCov_skip _ _ _ _ _ (by decide)]
  rw [runLater.sl.HS2_2, View.readCov_skip _ _ _ _ _ (by decide)]
  rw [runLater.sl.HS2_1, View.readCov_fill _ _ _ _ _ (by decide)]
  simp only [cst_164, cst_94, r, r_1, r_10, r_11, r_12, r_13, r_14, r_15, r_16, r_17, r_18, r_19, r_2, r_20, r_21, r_22, r_23, r_24, r_25, r_26, r_27, r_28, r_29, r_3, r_30, r_31, r_32, r_33, r_34, r_35, r_36, r_37, r_38, r_39, r_4, r_40, r_41, r_42, r_43, r_44, r_45, r_46, r_47, r_48, r_49, r_5, r_50, r_51, r_52, r_53, r_54, r_55, r_56, r_57, r_58, r_59, r_6, r_60, r_7, r_8, r_9, v35, v36]
  rw [runLater.sl.v251]
  rw [runLater.sl.HS2_3, View.readCov_skip _ _ _ _ _ (by decide)]
  rw [runLater.sl.HS2_2, View.readCov_skip _ _ _ _ _ (by decide)]
  rw [runLater.sl.HS2_1, View.readCov_fill _ _ _ _ _ (by decide)]
  simp only [View.readAt_eq_ld, harg3.read_unread, harg7.read_unread, harg8.read_unread]
  rfl

theorem runLaterR_slab3 (hc0 : ¬first i) (h1 : ∀ a, k0_off4 i 1#32 a + S1x1x256x128.size a ≤ S4x32x256x128.size a) (h0 : ∀ a, k0_off4 i 0#32 a + S1x1x256x128.size a ≤ S4x32x256x128.size a) :
    View.ld (View.canon (runLater c i arg3 harg3 arg4 harg4 arg5 harg5 arg6 harg6 arg7 harg7 arg8 harg8 arg9 harg9 arg10 harg10 hc0 x0 x1 x2 xs0 xs1).2.2.1) (Rect.unit ![3, 0, 0] S1x256x256.size inb_S4x256x256_S1x256x256_3_0_0) = diagR (tz (qs x0) xs0 384 slices_S256x512_o0_384_S256x128 (k0_off4 i 0#32) h0) (midR (hz x0 xs0 384 slices_S256x512_o128_384_S128x128 (k0_off4 i 1#32) h1) 3 inb_S4x256x256_S1x128x256_3_128_0 inb_S4x256x256_S1x256x256_3_0_0) := by
  rw [ld_canon VR]
  show View.readCov VR (_ :: runLater.sl.HS2_8 c i arg3 harg3 arg7 harg7 arg9 x0 xs0) _ = _
  rw [View.readCov_cons_toLoadRect]
  simp only [cst_164, cst_94, r, r_1, r_10, r_11, r_12, r_13, r_14, r_15, r_16, r_17, r_18, r_19, r_2, r_20, r_21, r_22, r_23, r_24, r_25, r_26, r_27, r_28, r_29, r_3, r_30, r_31, r_32, r_33, r_34, r_35, r_36, r_37, r_38, r_39, r_4, r_40, r_41, r_42, r_43, r_44, r_45, r_46, r_47, r_48, r_49, r_5, r_50, r_51, r_52, r_53, r_54, r_55, r_56, r_57, r_58, r_59, r_6, r_60, r_7, r_8, r_9, v35, v36]
  rw [runLater.sl.v522]
  rw [runLater.sl.HS2_8, View.readCov_skip _ _ _ _ _ (by decide)]
  rw [runLater.sl.HS2_7, View.readCov_skip _ _ _ _ _ (by decide)]
  rw [runLater.sl.HS2_6, View.readCov_skip _ _ _ _ _ (by decide)]
  rw [runLater.sl.HS2_5, readCov_joinR]
  rw [runLater.sl.HS2_4, View.readCov_skip _ _ _ _ _ (by decide)]
  rw [runLater.sl.HS2_3, View.readCov_skip _ _ _ _ _ (by decide)]
  rw [runLater.sl.HS2_2, View.readCov_skip _ _ _ _ _ (by decide)]
  rw [runLater.sl.HS2_1, View.readCov_fill _ _ _ _ _ (by decide)]
  simp only [cst_164, cst_94, r, r_1, r_10, r_11, r_12, r_13, r_14, r_15, r_16, r_17, r_18, r_19, r_2, r_20, r_21, r_22, r_23, r_24, r_25, r_26, r_27, r_28, r_29, r_3, r_30, r_31, r_32, r_33, r_34, r_35, r_36, r_37, r_38, r_39, r_4, r_40, r_41, r_42, r_43, r_44, r_45, r_46, r_47, r_48, r_49, r_5, r_50, r_51, r_52, r_53, r_54, r_55, r_56, r_57, r_58, r_59, r_6, r_60, r_7, r_8, r_9, v35, v36]
  rw [runLater.sl.v311]
  rw [runLater.sl.HS2_4, View.readCov_skip _ _ _ _ _ (by decide)]
  rw [runLater.sl.HS2_3, View.readCov_skip _ _ _ _ _ (by decide)]
  rw [runLater.sl.HS2_2, View.readCov_skip _ _ _ _ _ (by decide)]
  rw [runLater.sl.HS2_1, View.readCov_fill _ _ _ _ _ (by decide)]
  simp only [View.readAt_eq_ld, harg3.read_unread, harg7.read_unread, harg8.read_unread]
  rfl

theorem runLaterA_slab3 (hc0 : ¬first i) (h1 : ∀ a, k0_off4 i 1#32 a + S1x1x256x128.size a ≤ S4x32x256x128.size a) (h0 : ∀ a, k0_off4 i 0#32 a + S1x1x256x128.size a ≤ S4x32x256x128.size a) :
    View.ld (View.canon (runLater c i arg3 harg3 arg4 harg4 arg5 harg5 arg6 harg6 arg7 harg7 arg8 harg8 arg9 harg9 arg10 harg10 hc0 x0 x1 x2 xs0 xs1).2.2.2.1) (Rect.unit ![0, 384] S256x128.size inb_S256x512_S256x128_0_384) = diagA (tz (qs x0) xs0 384 slices_S256x512_o0_384_S256x128 (k0_off4 i 0#32) h0) (midR (hz x0 xs0 384 slices_S256x512_o128_384_S128x128 (k0_off4 i 1#32) h1) 3 inb_S4x256x256_S1x128x256_3_128_0 inb_S4x256x256_S1x256x256_3_0_0) (midA (hz x0 xs0 384 slices_S256x512_o128_384_S128x128 (k0_off4 i 1#32) h1) (View.ld xs1 (kvR (k0_off4 i 1#32) h1)) 3 384 inb_S4x256x256_S1x128x256_3_128_0 inb_S256x512_S128x128_128_384 inb_S256x512_S256x128_0_384) (View.ld xs1 (kvR (k0_off4 i 0#32) h0)) := by
  rw [ld_canon VA]
  show View.readCov VA (_ :: runLater.sl.HS3_8 c i arg3 harg3 arg7 harg7 arg8 harg8 arg9 arg10 x0 xs0 xs1) _ = _
  rw [View.readCov_cons_toLoadRect]
  simp only [cst_164, cst_94, r, r_1, r_10, r_11, r_12, r_13, r_14, r_15, r_16, r_17, r_18, r_19, r_2, r_20, r_21, r_22, r_23, r_24, r_25, r_26, r_27, r_28, r_29, r_3, r_30, r_31, r_32, r_33, r_34, r_35, r_36, r_37, r_38, r_39, r_4, r_40, r_41, r_42, r_43, r_44, r_45, r_46, r_47, r_48, r_49, r_5, r_50, r_51, r_52, r_53, r_54, r_55, r_56, r_57, r_58, r_59, r_6, r_60, r_7, r_8, r_9, v35, v36]
  rw [runLater.sl.v532]
  rw [runLater.sl.HS3_8, View.readCov_skip _ _ _ _ _ (by decide)]
  rw [runLater.sl.HS3_7, View.readCov_skip _ _ _ _ _ (by decide)]
  rw [runLater.sl.HS3_6, View.readCov_skip _ _ _ _ _ (by decide)]
  rw [runLater.sl.HS3_5, readCov_joinA]
  rw [runLater.sl.HS3_4, View.readCov_skip _ _ _ _ _ (by decide)]
  rw [runLater.sl.HS3_3, View.readCov_skip _ _ _ _ _ (by decide)]
  rw [runLater.sl.HS3_2, View.readCov_skip _ _ _ _ _ (by decide)]
  rw [runLater.sl.HS3_1, View.readCov_fill _ _ _ _ _ (by decide)]
  simp only [cst_164, cst_94, r, r_1, r_10, r_11, r_12, r_13, r_14, r_15, r_16, r_17, r_18, r_19, r_2, r_20, r_21, r_22, r_23, r_24, r_25, r_26, r_27, r_28, r_29, r_3, r_30, r_31, r_32, r_33, r_34, r_35, r_36, r_37, r_38, r_39, r_4, r_40, r_41, r_42, r_43, r_44, r_45, r_46, r_47, r_48, r_49, r_5, r_50, r_51, r_52, r_53, r_54, r_55, r_56, r_57, r_58, r_59, r_6, r_60, r_7, r_8, r_9, v35, v36]
  rw [runLater.sl.v318]
  rw [runLater.sl.HS3_4, View.readCov_skip _ _ _ _ _ (by decide)]
  rw [runLater.sl.HS3_3, View.readCov_skip _ _ _ _ _ (by decide)]
  rw [runLater.sl.HS3_2, View.readCov_skip _ _ _ _ _ (by decide)]
  rw [runLater.sl.HS3_1, View.readCov_fill _ _ _ _ _ (by decide)]
  rw [runLater.sl.v522]
  rw [runLater.sl.HS2_8, View.readCov_skip _ _ _ _ _ (by decide)]
  rw [runLater.sl.HS2_7, View.readCov_skip _ _ _ _ _ (by decide)]
  rw [runLater.sl.HS2_6, View.readCov_skip _ _ _ _ _ (by decide)]
  rw [runLater.sl.HS2_5, readCov_joinR]
  rw [runLater.sl.HS2_4, View.readCov_skip _ _ _ _ _ (by decide)]
  rw [runLater.sl.HS2_3, View.readCov_skip _ _ _ _ _ (by decide)]
  rw [runLater.sl.HS2_2, View.readCov_skip _ _ _ _ _ (by decide)]
  rw [runLater.sl.HS2_1, View.readCov_fill _ _ _ _ _ (by decide)]
  simp only [cst_164, cst_94, r, r_1, r_10, r_11, r_12, r_13, r_14, r_15, r_16, r_17, r_18, r_19, r_2, r_20, r_21, r_22, r_23, r_24, r_25, r_26, r_27, r_28, r_29, r_3, r_30, r_31, r_32, r_33, r_34, r_35, r_36, r_37, r_38, r_39, r_4, r_40, r_41, r_42, r_43, r_44, r_45, r_46, r_47, r_48, r_49, r_5, r_50, r_51, r_52, r_53, r_54, r_55, r_56, r_57, r_58, r_59, r_6, r_60, r_7, r_8, r_9, v35, v36]
  rw [runLater.sl.v311]
  rw [runLater.sl.HS2_4, View.readCov_skip _ _ _ _ _ (by decide)]
  rw [runLater.sl.HS2_3, View.readCov_skip _ _ _ _ _ (by decide)]
  rw [runLater.sl.HS2_2, View.readCov_skip _ _ _ _ _ (by decide)]
  rw [runLater.sl.HS2_1, View.readCov_fill _ _ _ _ _ (by decide)]
  simp only [View.readAt_eq_ld, harg3.read_unread, harg7.read_unread, harg8.read_unread]
  rfl

end

section
open runFirst.sl

theorem runFirstR_slab0 (hc0 : first i) (h1 : ∀ a, k0_off1 i 1#32 a + S1x1x256x128.size a ≤ S4x32x256x128.size a) (h0 : ∀ a, k0_off1 i 0#32 a + S1x1x256x128.size a ≤ S4x32x256x128.size a) :
    View.ld (View.canon (runFirst c i arg3 harg3 arg4 harg4 arg5 harg5 arg6 harg6 arg7 harg7 arg8 harg8 arg9 harg9 arg10 harg10 hc0 x0 x1 x2).2.2.2.2.1) (Rect.unit ![0, 0, 0] S1x256x256.size inb_S4x256x256_S1x256x256_0_0_0) = diagR (tz (qs x0) (View.canon (runFirst.sl.HS0_8 c arg4 harg4 x1)) 0 slices_S256x512_o0_0_S256x128 (k0_off1 i 0#32) h0) (midR (hz x0 (View.canon (runFirst.sl.HS0_8 c arg4 harg4 x1)) 0 slices_S256x512_o128_0_S128x128 (k0_off1 i 1#32) h1) 0 inb_S4x256x256_S1x128x256_0_128_0 inb_S4x256x256_S1x256x256_0_0_0) := by
  rw [ld_canon VR]
  show View.readCov VR (_ :: runFirst.sl.HS2_8 c i arg3 harg3 arg4 harg4 arg7 arg9 x0 x1) _ = _
  rw [View.readCov_skip _ _ _ _ _ (by decide)]
  rw [runFirst.sl.HS2_8]
  rw [View.readCov_skip _ _ _ _ _ (by decide)]
  rw [runFirst.sl.HS2_7]
  rw [View.readCov_skip _ _ _ _ _ (by decide)]
  rw [runFirst.sl.HS2_6]
  rw [View.readCov_cons_toLoadRect]
  simp only [cst_164, cst_94, r, r_1, r_10, r_11, r_12, r_13, r_14, r_15, r_16, r_17, r_18, r_19, r_2, r_20, r_21, r_22, r_23, r_24, r_25, r_26, r_27, r_28, r_29, r_3, r_30, r_31, r_32, r_33, r_34, r_35, r_36, r_37, r_38, r_39, r_4, r_40, r_41, r_42, r_43, r_44, r_45, r_46, r_47, r_48, r_49, r_5, r_50, r_51, r_52, r_53, r_54, r_55, r_56, r_57, r_58, r_59, r_6, r_60, r_7, r_8, r_9, v35, v36, v68, v73, v103, v147, v160, v204, v217, v261, v274, v321, v334, v384, v397, v447, v505, v535]
  rw [runFirst.sl.v371]
  rw [runFirst.sl.HS2_5, View.readCov_skip _ _ _ _ _ (by decide)]
  rw [runFirst.sl.HS2_4, View.readCov_skip _ _ _ _ _ (by decide)]
  rw [runFirst.sl.HS2_3, View.readCov_skip _ _ _ _ _ (by decide)]
  rw [runFirst.sl.HS2_2, readCov_joinR]
  rw [runFirst.sl.HS2_1, View.readCov_fill _ _ _ _ _ (by decide)]
  simp only [cst_164, cst_94, r, r_1, r_10, r_11, r_12, r_13, r_14, r_15, r_16, r_17, r_18, r_19, r_2, r_20, r_21, r_22, r_23, r_24, r_25, r_26, r_27, r_28, r_29, r_3, r_30, r_31, r_32, r_33, r_34, r_35, r_36, r_37, r_38, r_39, r_4, r_40, r_41, r_42, r_43, r_44, r_45, r_46, r_47, r_48, r_49, r_5, r_50, r_51, r_52, r_53, r_54, r_55, r_56, r_57, r_58, r_59, r_6, r_60, r_7, r_8, r_9, v35, v36, v68, v73, v103, v147, v160, v204, v217, v261, v274, v321, v334, v384, v397, v447, v505, v535]
  rw [runFirst.sl.v137]
  rw [runFirst.sl.HS2_1, View.readCov_fill _ _ _ _ _ (by decide)]
  simp only [View.readAt_eq_ld, harg3.read_unread, View.read_writes_junk_eq_canon]
  rfl

theorem runFirstA_slab0 (hc0 : first i) (h1 : ∀ a, k0_off1 i 1#32 a + S1x1x256x128.size a ≤ S4x32x256x128.size a) (h0 : ∀ a, k0_off1 i 0#32 a + S1x1x256x128.size a ≤ S4x32x256x128.size a) :
    View.ld (View.canon (runFirst c i arg3 harg3 arg4 harg4 arg5 harg5 arg6 harg6 arg7 harg7 arg8 harg8 arg9 harg9 arg10 harg10 hc0 x0 x1 x2).2.2.2.2.2.1) (Rect.unit ![0, 0] S256x128.size inb_S256x512_S256x128_0_0) = diagA (tz (qs x0) (View.canon (runFirst.sl.HS0_8 c arg4 harg4 x1)) 0 slices_S256x512_o0_0_S256x128 (k0_off1 i 0#32) h0) (midR (hz x0 (View.canon (runFirst.sl.HS0_8 c arg4 harg4 x1)) 0 slices_S256x512_o128_0_S128x128 (k0_off1 i 1#32) h1) 0 inb_S4x256x256_S1x128x256_0_128_0 inb_S4x256x256_S1x256x256_0_0_0) (midA (hz x0 (View.canon (runFirst.sl.HS0_8 c arg4 harg4 x1)) 0 slices_S256x512_o128_0_S128x128 (k0_off1 i 1#32) h1) (View.ld (View.canon (runFirst.sl.HS1_8 c arg5 harg5 x2)) (kvR (k0_off1 i 1#32) h1)) 0 0 inb_S4x256x256_S1x128x256_0_128_0 inb_S256x512_S128x128_128_0 inb_S256x512_S256x128_0_0) (View.ld (View.canon (runFirst.sl.HS1_8 c arg5 harg5 x2)) (kvR (k0_off1 i 0#32) h0)) := by
  rw [ld_canon VA]
  show View.readCov VA (_ :: runFirst.sl.HS3_8 c i arg3 harg3 arg4 harg4 arg5 harg5 arg7 arg8 arg9 arg10 x0 x1 x2) _ = _
  rw [View.readCov_skip _ _ _ _ _ (by decide)]
  rw [runFirst.sl.HS3_8]
  rw [View.readCov_skip _ _ _ _ _ (by decide)]
  rw [runFirst.sl.HS3_7]
  rw [View.readCov_skip _ _ _ _ _ (by decide)]
  rw [runFirst.sl.HS3_6]
  rw [View.readCov_cons_toLoadRect]
  simp only [cst_164, cst_94, r, r_1, r_10, r_11, r_12, r_13, r_14, r_15, r_16, r_17, r_18, r_19, r_2, r_20, r_21, r_22, r_23, r_24, r_25, r_26, r_27, r_28, r_29, r_3, r_30, r_31, r_32, r_33, r_34, r_35, r_36, r_37, r_38, r_39, r_4, r_40, r_41, r_42, r_43, r_44, r_45, r_46, r_47, r_48, r_49, r_5, r_50, r_51, r_52, r_53, r_54, r_55, r_56, r_57, r_58, r_59, r_6, r_60, r_7, r_8, r_9, v35, v36, v68, v73, v103, v147, v160, v204, v217, v261, v274, v321, v334, v384, v397, v447, v505, v535]
  rw [runFirst.sl.v381]
  rw [runFirst.sl.HS3_5, View.readCov_skip _ _ _ _ _ (by decide)]
  rw [runFirst.sl.HS3_4, View.readCov_skip _ _ _ _ _ (by decide)]
  rw [runFirst.sl.HS3_3, View.readCov_skip _ _ _ _ _ (by decide)]
  rw [runFirst.sl.HS3_2, readCov_joinA]
  rw [runFirst.sl.HS3_1, View.readCov_fill _ _ _ _ _ (by decide)]
  simp only [cst_164, cst_94, r, r_1, r_10, r_11, r_12, r_13, r_14, r_15, r_16, r_17, r_18, r_19, r_2, r_20, r_21, r_22, r_23, r_24, r_25, r_26, r_27, r_28, r_29, r_3, r_30, r_31, r_32, r_33, r_34, r_35, r_36, r_37, r_38, r_39, r_4, r_40, r_41, r_42, r_43, r_44, r_45, r_46, r_47, r_48, r_49, r_5, r_50, r_51, r_52, r_53, r_54, r_55, r_56, r_57, r_58, r_59, r_6, r_60, r_7, r_8, r_9, v35, v36, v68, v73, v103, v147, v160, v204, v217, v261, v274, v321, v334, v384, v397, v447, v505, v535]
  rw [runFirst.sl.v144]
  rw [runFirst.sl.HS3_1, View.readCov_fill _ _ _ _ _ (by decide)]
  rw [runFirst.sl.v371]
  rw [runFirst.sl.HS2_5, View.readCov_skip _ _ _ _ _ (by decide)]
  rw [runFirst.sl.HS2_4, View.readCov_skip _ _ _ _ _ (by decide)]
  rw [runFirst.sl.HS2_3, View.readCov_skip _ _ _ _ _ (by decide)]
  rw [runFirst.sl.HS2_2, readCov_joinR]
  rw [runFirst.sl.HS2_1, View.readCov_fill _ _ _ _ _ (by decide)]
  simp only [cst_164, cst_94, r, r_1, r_10, r_11, r_12, r_13, r_14, r_15, r_16, r_17, r_18, r_19, r_2, r_20, r_21, r_22, r_23, r_24, r_25, r_26, r_27, r_28, r_29, r_3, r_30, r_31, r_32, r_33, r_34, r_35, r_36, r_37, r_38, r_39, r_4, r_40, r_41, r_42, r_43, r_44, r_45, r_46, r_47, r_48, r_49, r_5, r_50, r_51, r_52, r_53, r_54, r_55, r_56, r_57, r_58, r_59, r_6, r_60, r_7, r_8, r_9, v35, v36, v68, v73, v103, v147, v160, v204, v217, v261, v274, v321, v334, v384, v397, v447, v505, v535]
  rw [runFirst.sl.v137]
  rw [runFirst.sl.HS2_1, View.readCov_fill _ _ _ _ _ (by decide)]
  simp only [View.readAt_eq_ld, harg3.read_unread, View.read_writes_junk_eq_canon]
  rfl

theorem runFirstR_slab1 (hc0 : first i) (h1 : ∀ a, k0_off2 i 1#32 a + S1x1x256x128.size a ≤ S4x32x256x128.size a) (h0 : ∀ a, k0_off2 i 0#32 a + S1x1x256x128.size a ≤ S4x32x256x128.size a) :
    View.ld (View.canon (runFirst c i arg3 harg3 arg4 harg4 arg5 harg5 arg6 harg6 arg7 harg7 arg8 harg8 arg9 harg9 arg10 harg10 hc0 x0 x1 x2).2.2.2.2.1) (Rect.unit ![1, 0, 0] S1x256x256.size inb_S4x256x256_S1x256x256_1_0_0) = diagR (tz (qs x0) (View.canon (runFirst.sl.HS0_8 c arg4 harg4 x1)) 128 slices_S256x512_o0_128_S256x128 (k0_off2 i 0#32) h0) (midR (hz x0 (View.canon (runFirst.sl.HS0_8 c arg4 harg4 x1)) 128 slices_S256x512_o128_128_S128x128 (k0_off2 i 1#32) h1) 1 inb_S4x256x256_S1x128x256_1_128_0 inb_S4x256x256_S1x256x256_1_0_0) := by
  rw [ld_canon VR]
  show View.readCov VR (_ :: runFirst.sl.HS2_8 c i arg3 harg3 arg4 harg4 arg7 arg9 x0 x1) _ = _
  rw [View.readCov_skip _ _ _ _ _ (by decide)]
  rw [runFirst.sl.HS2_8]
  rw [View.readCov_skip _ _ _ _ _ (by decide)]
  rw [runFirst.sl.HS2_7]
  rw [View.readCov_cons_toLoadRect]
  simp only [cst_164, cst_94, r, r_1, r_10, r_11, r_12, r_13, r_14, r_15, r_16, r_17, r_18, r_19, r_2, r_20, r_21, r_22, r_23, r_24, r_25, r_26, r_27, r_28, r_29, r_3, r_30, r_31, r_32, r_33, r_34, r_35, r_36, r_37, r_38, r_39, r_4, r_40, r_41, r_42, r_43, r_44, r_45, r_46, r_47, r_48, r_49, r_5, r_50, r_51, r_52, r_53, r_54, r_55, r_56, r_57, r_58, r_59, r_6, r_60, r_7, r_8, r_9, v35, v36, v68, v73, v103, v147, v160, v204, v217, v261, v274, v321, v334, v384, v397, v447, v505, v535]
  rw [runFirst.sl.v434]
  rw [runFirst.sl.HS2_6, View.readCov_skip _ _ _ _ _ (by decide)]
  rw [runFirst.sl.HS2_5, View.readCov_skip _ _ _ _ _ (by decide)]
  rw [runFirst.sl.HS2_4, View.readCov_skip _ _ _ _ _ (by decide)]
  rw [runFirst.sl.HS2_3, readCov_joinR]
  rw [runFirst.sl.HS2_2, View.readCov_skip _ _ _ _ _ (by decide)]
  rw [runFirst.sl.HS2_1, View.readCov_fill _ _ _ _ _ (by decide)]
  simp only [cst_164, cst_94, r, r_1, r_10, r_11, r_12, r_13, r_14, r_15, r_16, r_17, r_18, r_19, r_2, r_20, r_21, r_22, r_23, r_24, r_25, r_26, r_27, r_28, r_29, r_3, r_30, r_31, r_32, r_33, r_34, r_35, r_36, r_37, r_38, r_39, r_4, r_40, r_41, r_42, r_43, r_44, r_45, r_46, r_47, r_48, r_49, r_5, r_50, r_51, r_52, r_53, r_54, r_55, r_56, r_57, r_58, r_59, r_6, r_60, r_7, r_8, r_9, v35, v36, v68, v73, v103, v147, v160, v204, v217, v261, v274, v321, v334, v384, v397, v447, v505, v535]
  rw [runFirst.sl.v194]
  rw [runFirst.sl.HS2_2, View.readCov_skip _ _ _ _ _ (by decide)]
  rw [runFirst.sl.HS2_1, View.readCov_fill _ _ _ _ _ (by decide)]
  simp only [View.readAt_eq_ld, harg3.read_unread, View.read_writes_junk_eq_canon]
  rfl

theorem runFirstA_slab1 (hc0 : first i) (h1 : ∀ a, k0_off2 i 1#32 a + S1x1x256x128.size a ≤ S4x32x256x128.size a) (h0 : ∀ a, k0_off2 i 0#32 a + S1x1x256x128.size a ≤ S4x32x256x128.size a) :
    View.ld (View.canon (runFirst c i arg3 harg3 arg4 harg4 arg5 harg5 arg6 harg6 arg7 harg7 arg8 harg8 arg9 harg9 arg10 harg10 hc0 x0 x1 x2).2.2.2.2.2.1) (Rect.unit ![0, 128] S256x128.size inb_S256x512_S256x128_0_128) = diagA (tz (qs x0) (View.canon (runFirst.sl.HS0_8 c arg4 harg4 x1)) 128 slices_S256x512_o0_128_S256x128 (k0_off2 i 0#32) h0) (midR (hz x0 (View.canon (runFirst.sl.HS0_8 c arg4 harg4 x1)) 128 slices_S256x512_o128_128_S128x128 (k0_off2 i 1#32) h1) 1 inb_S4x256x256_S1x128x256_1_128_0 inb_S4x256x256_S1x256x256_1_0_0) (midA (hz x0 (View.canon (runFirst.sl.HS0_8 c arg4 harg4 x1)) 128 slices_S256x512_o128_128_S128x128 (k0_off2 i 1#32) h1) (View.ld (View.canon (runFirst.sl.HS1_8 c arg5 harg5 x2)) (kvR (k0_off2 i 1#32) h1)) 1 128 inb_S4x256x256_S1x128x256_1_128_0 inb_S256x512_S128x128_128_128 inb_S256x512_S256x128_0_128) (View.ld (View.canon (runFirst.sl.HS1_8 c arg5 harg5 x2)) (kvR (k0_off2 i 0#32) h0)) := by
  rw [ld_canon VA]
  show View.readCov VA (_ :: runFirst.sl.HS3_8 c i arg3 harg3 arg4 harg4 arg5 harg5 arg7 arg8 arg9 arg10 x0 x1 x2) _ = _
  rw [View.readCov_skip _ _ _ _ _ (by decide)]
  rw [runFirst.sl.HS3_8]
  rw [View.readCov_skip _ _ _ _ _ (by decide)]
  rw [runFirst.sl.HS3_7]
  rw [View.readCov_cons_toLoadRect]
  simp only [cst_164, cst_94, r, r_1, r_10, r_11, r_12, r_13, r_14, r_15, r_16, r_17, r_18, r_19, r_2, r_20, r_21, r_22, r_23, r_24, r_25, r_26, r_27, r_28, r_29, r_3, r_30, r_31, r_32, r_33, r_34, r_35, r_36, r_37, r_38, r_39, r_4, r_40, r_41, r_42, r_43, r_44, r_45, r_46, r_47, r_48, r_49, r_5, r_50, r_51, r_52, r_53, r_54, r_55, r_56, r_57, r_58, r_59, r_6, r_60, r_7, r_8, r_9, v35, v36, v68, v73, v103, v147, v160, v204, v217, v261, v274, v321, v334, v384, v397, v447, v505, v535]
  rw [runFirst.sl.v444]
  rw [runFirst.sl.HS3_6, View.readCov_skip _ _ _ _ _ (by decide)]
  rw [runFirst.sl.HS3_5, View.readCov_skip _ _ _ _ _ (by decide)]
  rw [runFirst.sl.HS3_4, View.readCov_skip _ _ _ _ _ (by decide)]
  rw [runFirst.sl.HS3_3, readCov_joinA]
  rw [runFirst.sl.HS3_2, View.readCov_skip _ _ _ _ _ (by decide)]
  rw [runFirst.sl.HS3_1, View.readCov_fill _ _ _ _ _ (by decide)]
  simp only [cst_164, cst_94, r, r_1, r_10, r_11, r_12, r_13, r_14, r_15, r_16, r_17, r_18, r_19, r_2, r_20, r_21, r_22, r_23, r_24, r_25, r_26, r_27, r_28, r_29, r_3, r_30, r_31, r_32, r_33, r_34, r_35, r_36, r_37, r_38, r_39, r_4, r_40, r_41, r_42, r_43, r_44, r_45, r_46, r_47, r_48, r_49, r_5, r_50, r_51, r_52, r_53, r_54, r_55, r_56, r_57, r_58, r_59, r_6, r_60, r_7, r_8, r_9, v35, v36, v68, v73, v103, v147, v160, v204, v217, v261, v274, v321, v334, v384, v397, v447, v505, v535]
  rw [runFirst.sl.v201]
  rw [runFirst.sl.HS3_2, View.readCov_skip _ _ _ _ _ (by decide)]
  rw [runFirst.sl.HS3_1, View.readCov_fill _ _ _ _ _ (by decide)]
  rw [runFirst.sl.v434]
  rw [runFirst.sl.HS2_6, View.readCov_skip _ _ _ _ _ (by decide)]
  rw [runFirst.sl.HS2_5, View.readCov_skip _ _ _ _ _ (by decide)]
  rw [runFirst.sl.HS2_4, View.readCov_skip _ _ _ _ _ (by decide)]
  rw [runFirst.sl.HS2_3, readCov_joinR]
  rw [runFirst.sl.HS2_2, View.readCov_skip _ _ _ _ _ (by decide)]
  rw [runFirst.sl.HS2_1, View.readCov_fill _ _ _ _ _ (by decide)]
  simp only [cst_164, cst_94, r, r_1, r_10, r_11, r_12, r_13, r_14, r_15, r_16, r_17, r_18, r_19, r_2, r_20, r_21, r_22, r_23, r_24, r_25, r_26, r_27, r_28, r_29, r_3, r_30, r_31, r_32, r_33, r_34, r_35, r_36, r_37, r_38, r_39, r_4, r_40, r_41, r_42, r_43, r_44, r_45, r_46, r_47, r_48, r_49, r_5, r_50, r_51, r_52, r_53, r_54, r_55, r_56, r_57, r_58, r_59, r_6, r_60, r_7, r_8, r_9, v35, v36, v68, v73, v103, v147, v160, v204, v217, v261, v274, v321, v334, v384, v397, v447, v505, v535]
  rw [runFirst.sl.v194]
  rw [runFirst.sl.HS2_2, View.readCov_skip _ _ _ _ _ (by decide)]
  rw [runFirst.sl.HS2_1, View.readCov_fill _ _ _ _ _ (by decide)]
  simp only [View.readAt_eq_ld, harg3.read_unread, View.read_writes_junk_eq_canon]
  rfl

theorem runFirstR_slab2 (hc0 : first i) (h1 : ∀ a, k0_off3 i 1#32 a + S1x1x256x128.size a ≤ S4x32x256x128.size a) (h0 : ∀ a, k0_off3 i 0#32 a + S1x1x256x128.size a ≤ S4x32x256x128.size a) :
    View.ld (View.canon (runFirst c i arg3 harg3 arg4 harg4 arg5 harg5 arg6 harg6 arg7 harg7 arg8 harg8 arg9 harg9 arg10 harg10 hc0 x0 x1 x2).2.2.2.2.1) (Rect.unit ![2, 0, 0] S1x256x256.size inb_S4x256x256_S1x256x256_2_0_0) = diagR (tz (qs x0) (View.canon (runFirst.sl.HS0_8 c arg4 harg4 x1)) 256 slices_S256x512_o0_256_S256x128 (k0_off3 i 0#32) h0) (midR (hz x0 (View.canon (runFirst.sl.HS0_8 c arg4 harg4 x1)) 256 slices_S256x512_o128_256_S128x128 (k0_off3 i 1#32) h1) 2 inb_S4x256x256_S1x128x256_2_128_0 inb_S4x256x256_S1x256x256_2_0_0) := by
  rw [ld_canon VR]
  show View.readCov VR (_ :: runFirst.sl.HS2_8 c i arg3 harg3 arg4 harg4 arg7 arg9 x0 x1) _ = _
  rw [View.readCov_skip _ _ _ _ _ (by decide)]
  rw [runFirst.sl.HS2_8]
  rw [View.readCov_cons_toLoadRect]
  simp only [cst_164, cst_94, r, r_1, r_10, r_11, r_12, r_13, r_14, r_15, r_16, r_17, r_18, r_19, r_2, r_20, r_21, r_22, r_23, r_24, r_25, r_26, r_27, r_28, r_29, r_3, r_30, r_31, r_32, r_33, r_34, r_35, r_36, r_37, r_38, r_39, r_4, r_40, r_41, r_42, r_43, r_44, r_45, r_46, r_47, r_48, r_49, r_5, r_50, r_51, r_52, r_53, r_54, r_55, r_56, r_57, r_58, r_59, r_6, r_60, r_7, r_8, r_9, v35, v36, v68, v73, v103, v147, v160, v204, v217, v261, v274, v321, v334, v384, v397, v447, v505, v535]
  rw [runFirst.sl.v492]
  rw [runFirst.sl.HS2_7, View.readCov_skip _ _ _ _ _ (by decide)]
  rw [runFirst.sl.HS2_6, View.readCov_skip _ _ _ _ _ (by decide)]
  rw [runFirst.sl.HS2_5, View.readCov_skip _ _ _ _ _ (by decide)]
  rw [runFirst.sl.HS2_4, readCov_joinR]
  rw [runFirst.sl.HS2_3, View.readCov_skip _ _ _ _ _ (by decide)]
  rw [runFirst.sl.HS2_2, View.readCov_skip _ _ _ _ _ (by decide)]
  rw [runFirst.sl.HS2_1, View.readCov_fill _ _ _ _ _ (by decide)]
  simp only [cst_164, cst_94, r, r_1, r_10, r_11, r_12, r_13, r_14, r_15, r_16, r_17, r_18, r_19, r_2, r_20, r_21, r_22, r_23, r_24, r_25, r_26, r_27, r_28, r_29, r_3, r_30, r_31, r_32, r_33, r_34, r_35, r_36, r_37, r_38, r_39, r_4, r_40, r_41, r_42, r_43, r_44, r_45, r_46, r_47, r_48, r_49, r_5, r_50, r_51, r_52, r_53, r_54, r_55, r_56, r_57, r_58, r_59, r_6, r_60, r_7, r_8, r_9, v35, v36, v68, v73, v103, v147, v160, v204, v217, v261, v274, v321, v334, v384, v397, v447, v505, v535]
  rw [runFirst.sl.v251]
  rw [runFirst.sl.HS2_3, View.readCov_skip _ _ _ _ _ (by decide)]
  rw [runFirst.sl.HS2_2, View.readCov_skip _ _ _ _ _ (by decide)]
  rw [runFirst.sl.HS2_1, View.readCov_fill _ _ _ _ _ (by decide)]
  simp only [View.readAt_eq_ld, harg3.read_unread, View.read_writes_junk_eq_canon]
  rfl

theorem runFirstA_slab2 (hc0 : first i) (h1 : ∀ a, k0_off3 i 1#32 a + S1x1x256x128.size a ≤ S4x32x256x128.size a) (h0 : ∀ a, k0_off3 i 0#32 a + S1x1x256x128.size a ≤ S4x32x256x128.size a) :
    View.ld (View.canon (runFirst c i arg3 harg3 arg4 harg4 arg5 harg5 arg6 harg6 arg7 harg7 arg8 harg8 arg9 harg9 arg10 harg10 hc0 x0 x1 x2).2.2.2.2.2.1) (Rect.unit ![0, 256] S256x128.size inb_S256x512_S256x128_0_256) = diagA (tz (qs x0) (View.canon (runFirst.sl.HS0_8 c arg4 harg4 x1)) 256 slices_S256x512_o0_256_S256x128 (k0_off3 i 0#32) h0) (midR (hz x0 (View.canon (runFirst.sl.HS0_8 c arg4 harg4 x1)) 256 slices_S256x512_o128_256_S128x128 (k0_off3 i 1#32) h1) 2 inb_S4x256x256_S1x128x256_2_128_0 inb_S4x256x256_S1x256x256_2_0_0) (midA (hz x0 (View.canon (runFirst.sl.HS0_8 c arg4 harg4 x1)) 256 slices_S256x512_o128_256_S128x128 (k0_off3 i 1#32) h1) (View.ld (View.canon (runFirst.sl.HS1_8 c arg5 harg5 x2)) (kvR (k0_off3 i 1#32) h1)) 2 256 inb_S4x256x256_S1x128x256_2_128_0 inb_S256x512_S128x128_128_256 inb_S256x512_S256x128_0_256) (View.ld (View.canon (runFirst.sl.HS1_8 c arg5 harg5 x2)) (kvR (k0_off3 i 0#32) h0)) := by
  rw [ld_canon VA]
  show View.readCov VA (_ :: runFirst.sl.HS3_8 c i arg3 harg3 arg4 harg4 arg5 harg5 arg7 arg8 arg9 arg10 x0 x1 x2) _ = _
  rw [View.readCov_skip _ _ _ _ _ (by decide)]
  rw [runFirst.sl.HS3_8]
  rw [View.readCov_cons_toLoadRect]
  simp only [cst_164, cst_94, r, r_1, r_10, r_11, r_12, r_13, r_14, r_15, r_16, r_17, r_18, r_19, r_2, r_20, r_21, r_22, r_23, r_24, r_25, r_26, r_27, r_28, r_29, r_3, r_30, r_31, r_32, r_33, r_34, r_35, r_36, r_37, r_38, r_39, r_4, r_40, r_41, r_42, r_43, r_44, r_45, r_46, r_47, r_48, r_49, r_5, r_50, r_51, r_52, r_53, r_54, r_55, r_56, r_57, r_58, r_59, r_6, r_60, r_7, r_8, r_9, v35, v36, v68, v73, v103, v147, v160, v204, v217, v261, v274, v321, v334, v384, v397, v447, v505, v535]
  rw [runFirst.sl.v502]
  rw [runFirst.sl.HS3_7, View.readCov_skip _ _ _ _ _ (by decide)]
  rw [runFirst.sl.HS3_6, View.readCov_skip _ _ _ _ _ (by decide)]
  rw [runFirst.sl.HS3_5, View.readCov_skip _ _ _ _ _ (by decide)]
  rw [runFirst.sl.HS3_4, readCov_joinA]
  rw [runFirst.sl.HS3_3, View.readCov_skip _ _ _ _ _ (by decide)]
  rw [runFirst.sl.HS3_2, View.readCov_skip _ _ _ _ _ (by decide)]
  rw [runFirst.sl.HS3_1, View.readCov_fill _ _ _ _ _ (by decide)]
  simp only [cst_164, cst_94, r, r_1, r_10, r_11, r_12, r_13, r_14, r_15, r_16, r_17, r_18, r_19, r_2, r_20, r_21, r_22, r_23, r_24, r_25, r_26, r_27, r_28, r_29, r_3, r_30, r_31, r_32, r_33, r_34, r_35, r_36, r_37, r_38, r_39, r_4, r_40, r_41, r_42, r_43, r_44, r_45, r_46, r_47, r_48, r_49, r_5, r_50, r_51, r_52, r_53, r_54, r_55, r_56, r_57, r_58, r_59, r_6, r_60, r_7, r_8, r_9, v35, v36, v68, v73, v103, v147, v160, v204, v217, v261, v274, v321, v334, v384, v397, v447, v505, v535]
  rw [runFirst.sl.v258]
  rw [runFirst.sl.HS3_3, View.readCov_skip _ _ _ _ _ (by decide)]
  rw [runFirst.sl.HS3_2, View.readCov_skip _ _ _ _ _ (by decide)]
  rw [runFirst.sl.HS3_1, View.readCov_fill _ _ _ _ _ (by decide)]
  rw [runFirst.sl.v492]
  rw [runFirst.sl.HS2_7, View.readCov_skip _ _ _ _ _ (by decide)]
  rw [runFirst.sl.HS2_6, View.readCov_skip _ _ _ _ _ (by decide)]
  rw [runFirst.sl.HS2_5, View.readCov_skip _ _ _ _ _ (by decide)]
  rw [runFirst.sl.HS2_4, readCov_joinR]
  rw [runFirst.sl.HS2_3, View.readCov_skip _ _ _ _ _ (by decide)]
  rw [runFirst.sl.HS2_2, View.readCov_skip _ _ _ _ _ (by decide)]
  rw [runFirst.sl.HS2_1, View.readCov_fill _ _ _ _ _ (by decide)]
  simp only [cst_164, cst_94, r, r_1, r_10, r_11, r_12, r_13, r_14, r_15, r_16, r_17, r_18, r_19, r_2, r_20, r_21, r_22, r_23, r_24, r_25, r_26, r_27, r_28, r_29, r_3, r_30, r_31, r_32, r_33, r_34, r_35, r_36, r_37, r_38, r_39, r_4, r_40, r_41, r_42, r_43, r_44, r_45, r_46, r_47, r_48, r_49, r_5, r_50, r_51, r_52, r_53, r_54, r_55, r_56, r_57, r_58, r_59, r_6, r_60, r_7, r_8, r_9, v35, v36, v68, v73, v103, v147, v160, v204, v217, v261, v274, v321, v334, v384, v397, v447, v505, v535]
  rw [runFirst.sl.v251]
  rw [runFirst.sl.HS2_3, View.readCov_skip _ _ _ _ _ (by decide)]
  rw [runFirst.sl.HS2_2, View.readCov_skip _ _ _ _ _ (by decide)]
  rw [runFirst.sl.HS2_1, View.readCov_fill _ _ _ _ _ (by decide)]
  simp only [View.readAt_eq_ld, harg3.read_unread, View.read_writes_junk_eq_canon]
  rfl

theorem runFirstR_slab3 (hc0 : first i) (h1 : ∀ a, k0_off4 i 1#32 a + S1x1x256x128.size a ≤ S4x32x256x128.size a) (h0 : ∀ a, k0_off4 i 0#32 a + S1x1x256x128.size a ≤ S4x32x256x128.size a) :
    View.ld (View.canon (runFirst c i arg3 harg3 arg4 harg4 arg5 harg5 arg6 harg6 arg7 harg7 arg8 harg8 arg9 harg9 arg10 harg10 hc0 x0 x1 x2).2.2.2.2.1) (Rect.unit ![3, 0, 0] S1x256x256.size inb_S4x256x256_S1x256x256_3_0_0) = diagR (tz (qs x0) (View.canon (runFirst.sl.HS0_8 c arg4 harg4 x1)) 384 slices_S256x512_o0_384_S256x128 (k0_off4 i 0#32) h0) (midR (hz x0 (View.canon (runFirst.sl.HS0_8 c arg4 harg4 x1)) 384 slices_S256x512_o128_384_S128x128 (k0_off4 i 1#32) h1) 3 inb_S4x256x256_S1x128x256_3_128_0 inb_S4x256x256_S1x256x256_3_0_0) := by
  rw [ld_canon VR]
  show View.readCov VR (_ :: runFirst.sl.HS2_8 c i arg3 harg3 arg4 harg4 arg7 arg9 x0 x1) _ = _
  rw [View.readCov_cons_toLoadRect]
  simp only [cst_164, cst_94, r, r_1, r_10, r_11, r_12, r_13, r_14, r_15, r_16, r_17, r_18, r_19, r_2, r_20, r_21, r_22, r_23, r_24, r_25, r_26, r_27, r_28, r_29, r_3, r_30, r_31, r_32, r_33, r_34, r_35, r_36, r_37, r_38, r_39, r_4, r_40, r_41, r_42, r_43, r_44, r_45, r_46, r_47, r_48, r_49, r_5, r_50, r_51, r_52, r_53, r_54, r_55, r_56, r_57, r_58, r_59, r_6, r_60, r_7, r_8, r_9, v35, v36, v68, v73, v103, v147, v160, v204, v217, v261, v274, v321, v334, v384, v397, v447, v505, v535]
  rw [runFirst.sl.v522]
  rw [runFirst.sl.HS2_8, View.readCov_skip _ _ _ _ _ (by decide)]
  rw [runFirst.sl.HS2_7, View.readCov_skip _ _ _ _ _ (by decide)]
  rw [runFirst.sl.HS2_6, View.readCov_skip _ _ _ _ _ (by decide)]
  rw [runFirst.sl.HS2_5, readCov_joinR]
  rw [runFirst.sl.HS2_4, View.readCov_skip _ _ _ _ _ (by decide)]
  rw [runFirst.sl.HS2_3, View.readCov_skip _ _ _ _ _ (by decide)]
  rw [runFirst.sl.HS2_2, View.readCov_skip _ _ _ _ _ (by decide)]
  rw [runFirst.sl.HS2_1, View.readCov_fill _ _ _ _ _ (by decide)]
  simp only [cst_164, cst_94, r, r_1, r_10, r_11, r_12, r_13, r_14, r_15, r_16, r_17, r_18, r_19, r_2, r_20, r_21, r_22, r_23, r_24, r_25, r_26, r_27, r_28, r_29, r_3, r_30, r_31, r_32, r_33, r_34, r_35, r_36, r_37, r_38, r_39, r_4, r_40, r_41, r_42, r_43, r_44, r_45, r_46, r_47, r_48, r_49, r_5, r_50, r_51, r_52, r_53, r_54, r_55, r_56, r_57, r_58, r_59, r_6, r_60, r_7, r_8, r_9, v35, v36, v68, v73, v103, v147, v160, v204, v217, v261, v274, v321, v334, v384, v397, v447, v505, v535]
  rw [runFirst.sl.v311]
  rw [runFirst.sl.HS2_4, View.readCov_skip _ _ _ _ _ (by decide)]
  rw [runFirst.sl.HS2_3, View.readCov_skip _ _ _ _ _ (by decide)]
  rw [runFirst.sl.HS2_2, View.readCov_skip _ _ _ _ _ (by decide)]
  rw [runFirst.sl.HS2_1, View.readCov_fill _ _ _ _ _ (by decide)]
  simp only [View.readAt_eq_ld, harg3.read_unread, View.read_writes_junk_eq_canon]
  rfl

theorem runFirstA_slab3 (hc0 : first i) (h1 : ∀ a, k0_off4 i 1#32 a + S1x1x256x128.size a ≤ S4x32x256x128.size a) (h0 : ∀ a, k0_off4 i 0#32 a + S1x1x256x128.size a ≤ S4x32x256x128.size a) :
    View.ld (View.canon (runFirst c i arg3 harg3 arg4 harg4 arg5 harg5 arg6 harg6 arg7 harg7 arg8 harg8 arg9 harg9 arg10 harg10 hc0 x0 x1 x2).2.2.2.2.2.1) (Rect.unit ![0, 384] S256x128.size inb_S256x512_S256x128_0_384) = diagA (tz (qs x0) (View.canon (runFirst.sl.HS0_8 c arg4 harg4 x1)) 384 slices_S256x512_o0_384_S256x128 (k0_off4 i 0#32) h0) (midR (hz x0 (View.canon (runFirst.sl.HS0_8 c arg4 harg4 x1)) 384 slices_S256x512_o128_384_S128x128 (k0_off4 i 1#32) h1) 3 inb_S4x256x256_S1x128x256_3_128_0 inb_S4x256x256_S1x256x256_3_0_0) (midA (hz x0 (View.canon (runFirst.sl.HS0_8 c arg4 harg4 x1)) 384 slices_S256x512_o128_384_S128x128 (k0_off4 i 1#32) h1) (View.ld (View.canon (runFirst.sl.HS1_8 c arg5 harg5 x2)) (kvR (k0_off4 i 1#32) h1)) 3 384 inb_S4x256x256_S1x128x256_3_128_0 inb_S256x512_S128x128_128_384 inb_S256x512_S256x128_0_384) (View.ld (View.canon (runFirst.sl.HS1_8 c arg5 harg5 x2)) (kvR (k0_off4 i 0#32) h0)) := by
  rw [ld_canon VA]
  show View.readCov VA (_ :: runFirst.sl.HS3_8 c i arg3 harg3 arg4 harg4 arg5 harg5 arg7 arg8 arg9 arg10 x0 x1 x2) _ = _
  rw [View.readCov_cons_toLoadRect]
  simp only [cst_164, cst_94, r, r_1, r_10, r_11, r_12, r_13, r_14, r_15, r_16, r_17, r_18, r_19, r_2, r_20, r_21, r_22, r_23, r_24, r_25, r_26, r_27, r_28, r_29, r_3, r_30, r_31, r_32, r_33, r_34, r_35, r_36, r_37, r_38, r_39, r_4, r_40, r_41, r_42, r_43, r_44, r_45, r_46, r_47, r_48, r_49, r_5, r_50, r_51, r_52, r_53, r_54, r_55, r_56, r_57, r_58, r_59, r_6, r_60, r_7, r_8, r_9, v35, v36, v68, v73, v103, v147, v160, v204, v217, v261, v274, v321, v334, v384, v397, v447, v505, v535]
  rw [runFirst.sl.v532]
  rw [runFirst.sl.HS3_8, View.readCov_skip _ _ _ _ _ (by decide)]
  rw [runFirst.sl.HS3_7, View.readCov_skip _ _ _ _ _ (by decide)]
  rw [runFirst.sl.HS3_6, View.readCov_skip _ _ _ _ _ (by decide)]
  rw [runFirst.sl.HS3_5, readCov_joinA]
  rw [runFirst.sl.HS3_4, View.readCov_skip _ _ _ _ _ (by decide)]
  rw [runFirst.sl.HS3_3, View.readCov_skip _ _ _ _ _ (by decide)]
  rw [runFirst.sl.HS3_2, View.readCov_skip _ _ _ _ _ (by decide)]
  rw [runFirst.sl.HS3_1, View.readCov_fill _ _ _ _ _ (by decide)]
  simp only [cst_164, cst_94, r, r_1, r_10, r_11, r_12, r_13, r_14, r_15, r_16, r_17, r_18, r_19, r_2, r_20, r_21, r_22, r_23, r_24, r_25, r_26, r_27, r_28, r_29, r_3, r_30, r_31, r_32, r_33, r_34, r_35, r_36, r_37, r_38, r_39, r_4, r_40, r_41, r_42, r_43, r_44, r_45, r_46, r_47, r_48, r_49, r_5, r_50, r_51, r_52, r_53, r_54, r_55, r_56, r_57, r_58, r_59, r_6, r_60, r_7, r_8, r_9, v35, v36, v68, v73, v103, v147, v160, v204, v217, v261, v274, v321, v334, v384, v397, v447, v505, v535]
  rw [runFirst.sl.v318]
  rw [runFirst.sl.HS3_4, View.readCov_skip _ _ _ _ _ (by decide)]
  rw [runFirst.sl.HS3_3, View.readCov_skip _ _ _ _ _ (by decide)]
  rw [runFirst.sl.HS3_2, View.readCov_skip _ _ _ _ _ (by decide)]
  rw [runFirst.sl.HS3_1, View.readCov_fill _ _ _ _ _ (by decide)]
  rw [runFirst.sl.v522]
  rw [runFirst.sl.HS2_8, View.readCov_skip _ _ _ _ _ (by decide)]
  rw [runFirst.sl.HS2_7, View.readCov_skip _ _ _ _ _ (by decide)]
  rw [runFirst.sl.HS2_6, View.readCov_skip _ _ _ _ _ (by decide)]
  rw [runFirst.sl.HS2_5, readCov_joinR]
  rw [runFirst.sl.HS2_4, View.readCov_skip _ _ _ _ _ (by decide)]
  rw [runFirst.sl.HS2_3, View.readCov_skip _ _ _ _ _ (by decide)]
  rw [runFirst.sl.HS2_2, View.readCov_skip _ _ _ _ _ (by decide)]
  rw [runFirst.sl.HS2_1, View.readCov_fill _ _ _ _ _ (by decide)]
  simp only [cst_164, cst_94, r, r_1, r_10, r_11, r_12, r_13, r_14, r_15, r_16, r_17, r_18, r_19, r_2, r_20, r_21, r_22, r_23, r_24, r_25, r_26, r_27, r_28, r_29, r_3, r_30, r_31, r_32, r_33, r_34, r_35, r_36, r_37, r_38, r_39, r_4, r_40, r_41, r_42, r_43, r_44, r_45, r_46, r_47, r_48, r_49, r_5, r_50, r_51, r_52, r_53, r_54, r_55, r_56, r_57, r_58, r_59, r_6, r_60, r_7, r_8, r_9, v35, v36, v68, v73, v103, v147, v160, v204, v217, v261, v274, v321, v334, v384, v397, v447, v505, v535]
  rw [runFirst.sl.v311]
  rw [runFirst.sl.HS2_4, View.readCov_skip _ _ _ _ _ (by decide)]
  rw [runFirst.sl.HS2_3, View.readCov_skip _ _ _ _ _ (by decide)]
  rw [runFirst.sl.HS2_2, View.readCov_skip _ _ _ _ _ (by decide)]
  rw [runFirst.sl.HS2_1, View.readCov_fill _ _ _ _ _ (by decide)]
  simp only [View.readAt_eq_ld, harg3.read_unread, View.read_writes_junk_eq_canon]
  rfl

end

end

end Cert.Proof.Sb
-- ==== Proof.SbSpec.lean ====
module

public import proofs.«01_k».proof.Proof.SbDiagVal

/-! # Stick-breaking attention: a row's weights, over the reals

A row meets its keys from the last to the first. With `z s` its score against key `s` and `t` its own place, a key before it
leaves `log (1 + e^z)`; what later keys have left is subtracted from a key's own score. -/

@[expose] public section

set_option maxRecDepth 16384

noncomputable section

namespace Cert.Proof.Sb

open Cert.Kernel9Ideal Cert.Kernel9Ideal.Gen
open Idealize.ShloMosaic Idealize.ShloMosaic.TcCoe Idealize.ShloMosaic.Tactic

/-- What key `s` leaves to earlier keys of row `t`. -/
def Lft (t : ℕ) (z : ℕ → ℝ) (s : ℕ) : ℝ := if s < t then sp (z s) else 0

/-- What the keys from `m` on leave. -/
def Suf (t : ℕ) (z : ℕ → ℝ) (m : ℕ) : ℝ := ∑ s ∈ Finset.Ico m 4096, Lft t z s

/-- The weight of key `s`. -/
def Wgt (t : ℕ) (z : ℕ → ℝ) (s : ℕ) : ℝ := if s < t then Real.exp (z s - sp (z s) - Suf t z (s + 1)) else 0

/-- The weighted sum over the keys from `m` on. -/
def Out (t : ℕ) (z v : ℕ → ℝ) (m : ℕ) : ℝ := ∑ s ∈ Finset.Ico m 4096, Wgt t z s * v s

theorem Ico_block (f : ℕ → ℝ) (kb : ℕ) (h : kb < 32) :
    ∑ s ∈ Finset.Ico (128 * kb) 4096, f s = ∑ s ∈ Finset.Ico (128 * (kb + 1)) 4096, f s + ∑ y : Fin 128, f (128 * kb + y.val) := by
  rw [← Finset.sum_Ico_consecutive f (show 128 * kb ≤ 128 * (kb + 1) by omega) (show 128 * (kb + 1) ≤ 4096 by omega), add_comm]
  refine congrArg₂ _ rfl ?_
  rw [Finset.sum_Ico_eq_sum_range, show 128 * (kb + 1) - 128 * kb = 128 by omega, Finset.sum_range]

theorem Ico_within (f : ℕ → ℝ) (kb : ℕ) (h : kb < 32) (x : Fin 128) :
    (∑ y : Fin 128, if x < y then f (128 * kb + y.val) else 0) + ∑ s ∈ Finset.Ico (128 * (kb + 1)) 4096, f s = ∑ s ∈ Finset.Ico (128 * kb + x.val + 1) 4096, f s := by
  have hx := x.isLt
  rw [← Finset.sum_Ico_consecutive f (show 128 * kb + x.val + 1 ≤ 128 * (kb + 1) by omega) (show 128 * (kb + 1) ≤ 4096 by omega)]
  refine congrArg₂ _ ?_ rfl
  rw [show (∑ y : Fin 128, if x < y then f (128 * kb + y.val) else 0) = ∑ y : Fin 128, (fun n => if x.val < n then f (128 * kb + n) else 0) y.val from rfl,
    ← Finset.sum_range (fun n => if x.val < n then f (128 * kb + n) else 0), ← Finset.sum_filter]
  refine Finset.sum_bij (fun n _ => 128 * kb + n) (fun n hn => ?_) (fun _ _ _ _ e => by omega) (fun s hs => ?_) (fun _ _ => rfl)
  · rw [Finset.mem_filter, Finset.mem_range] at hn
    rw [Finset.mem_Ico]
    omega
  · rw [Finset.mem_Ico] at hs
    exact ⟨s - 128 * kb, by rw [Finset.mem_filter, Finset.mem_range]; omega, by omega⟩

theorem Suf_late (t : ℕ) (z : ℕ → ℝ) (m : ℕ) (h : t ≤ m) : Suf t z m = 0 :=
  Finset.sum_eq_zero fun s hs => by
    rw [Finset.mem_Ico] at hs
    exact if_neg (by omega)

theorem Out_late (t : ℕ) (z v : ℕ → ℝ) (m : ℕ) (h : t ≤ m) : Out t z v m = 0 :=
  Finset.sum_eq_zero fun s hs => by
    rw [Finset.mem_Ico] at hs
    rw [Wgt, if_neg (by omega), zero_mul]

/-- The head of a pair a lane belongs to. -/
def lh (l : Fin 128) : Fin 2 := ⟨l.val / 64, by omega⟩

/-- A function of head and key at the columns of a block. -/
def cols (f : Fin 2 → ℕ → ℝ) (kb : ℕ) (c : Fin 256) : ℝ := f ⟨c.val / 128, by omega⟩ (128 * kb + c.val % 128)

theorem cols_hc (f : Fin 2 → ℕ → ℝ) (kb : ℕ) (e : Fin 2) (y : Fin 128) : cols f kb (hc e y) = f e (128 * kb + y.val) := by
  unfold cols
  have he : (⟨(hc e y).val / 128, by omega⟩ : Fin 2) = e := Fin.ext (show (128 * e.val + y.val) / 128 = e.val by omega)
  have hy : 128 * kb + (hc e y).val % 128 = 128 * kb + y.val := by
    show 128 * kb + (128 * e.val + y.val) % 128 = _
    omega
  rw [he, hy]

/-- A statement about every column is one about every head and key of the block. -/
theorem at_cols {P : Fin 256 → EReal} {f : Fin 2 → ℕ → ℝ} {kb : ℕ} (h : ∀ e y, P (hc e y) = (f e (128 * kb + y.val) : ℝ)) (c : Fin 256) : P c = (cols f kb c : ℝ) := by
  obtain ⟨e, y, rfl⟩ := hc_surj c
  rw [h, cols_hc]

theorem sum_cols (f : Fin 2 → ℕ → ℝ) (v : ℕ → ℝ) (kb : ℕ) (l : Fin 128) :
    ∑ c : Fin 256, cols f kb c * cols (fun e s => if l.val / 64 = e.val then v s else 0) kb c = ∑ y : Fin 128, f (lh l) (128 * kb + y.val) * v (128 * kb + y.val) := by
  rw [sum_halves]
  have h0 : ∀ y : Fin 128, (⟨y.val, by omega⟩ : Fin 256) = hc 0 y := fun y => Fin.ext (by simp [hc])
  have h1 : ∀ y : Fin 128, (⟨128 + y.val, by omega⟩ : Fin 256) = hc 1 y := fun y => Fin.ext (by simp [hc])
  simp only [h0, h1, cols_hc]
  rcases (by omega : l.val / 64 = 0 ∨ l.val / 64 = 1) with h | h
  · have e : lh l = 0 := Fin.ext h
    rw [e]
    simp [h]
  · have e : lh l = 1 := Fin.ext h
    rw [e]
    simp [h]

section
variable (t : ℕ) (z : Fin 2 → ℕ → ℝ) (kb : ℕ) (hkb : kb < 32) (r : Fin 256) (run : Vec Ideal S1x256x256 .f32) (zb tb : FVec Ideal S256x256 .f32)
  (hr : ∀ e x, @Eq EReal (run (ix3 (0 : Fin 1) r (hc e x))) (Suf t (z e) (128 * (kb + 1)) : ℝ))
  (ht : ∀ e (y : Fin 128), @Eq EReal (tb (ix2 r (hc e y))) (Lft t (z e) (128 * kb + y.val) : ℝ))
include hkb hr ht

/-- A row's sums after a block. -/
theorem run256_row (e : Fin 2) (x : Fin 128) : @Eq EReal (nrun256 (k0_pay44 (F := Ideal)) tb run (ix3 (0 : Fin 1) r (hc e x))) (Suf t (z e) (128 * kb) : ℝ) := by
  rw [nrun256_real tb run r e x (cols (fun e => Lft t (z e)) kb) (at_cols ht) (hr e x)]
  refine congrArg _ ?_
  rw [Suf, Suf, Ico_block _ kb hkb]
  simp only [cols_hc]

/-- A row's weights in a block. -/
theorem wgt256_row (hz : ∀ e (y : Fin 128), @Eq EReal (zb (ix2 r (hc e y))) (z e (128 * kb + y.val) : ℝ)) (e : Fin 2) (x : Fin 128) :
    @Eq EReal (wgt256 (k0_pay44 (F := Ideal)) zb tb run (ix2 r (hc e x)))
      ((Real.exp (z e (128 * kb + x.val) - sp (z e (128 * kb + x.val)) - Suf t (z e) (128 * kb + x.val + 1)) : ℝ) : EReal) := by
  rw [wgt256_real zb tb run r e x (cols (fun e => Lft t (z e)) kb) (at_cols ht) (hr e x) (hz e x)]
  refine congrArg _ (congrArg _ ?_)
  simp only [cols_hc]
  rw [sub_sub, Suf, Suf, Ico_within _ kb hkb]
end

/-- A row's output after a block. -/
theorem acc256_row (t : ℕ) (z : Fin 2 → ℕ → ℝ) (kb : ℕ) (hkb : kb < 32) (r : Fin 256) (l : Fin 128) (v : ℕ → ℝ) (a : FVec Ideal S256x256 .f32) (acc : Vec Ideal S256x128 .f32)
    (vx : Vec Ideal S1x1x256x128 .bf16) (ha : ∀ e (y : Fin 128), @Eq EReal (a (ix2 r (hc e y))) (Wgt t (z e) (128 * kb + y.val) : ℝ))
    (hv : ∀ (e : Fin 2) (y : Fin 128), @Eq EReal (vx (ix4 (0 : Fin 1) (0 : Fin 1) (hc e y) l)) ((if l.val / 64 = e.val then v (128 * kb + y.val) else 0 : ℝ) : EReal))
    (hA : @Eq EReal (acc (ix2 r l)) (Out t (z (lh l)) v (128 * (kb + 1)) : ℝ)) :
    @Eq EReal (nacc256 a acc vx (ix2 r l)) (Out t (z (lh l)) v (128 * kb) : ℝ) := by
  rw [nacc256_real a acc vx r l (cols (fun e => Wgt t (z e)) kb) (cols (fun e s => if l.val / 64 = e.val then v s else 0) kb) hA (at_cols ha) (at_cols hv)]
  refine congrArg _ ?_
  rw [sum_cols, Out, Out, Ico_block _ kb hkb]

section
variable (t : ℕ) (z : Fin 2 → ℕ → ℝ) (kb : ℕ) (hkb : kb < 32) (r : Fin 128) (run : Vec Ideal S1x128x256 .f32) (zb tb : FVec Ideal S128x256 .f32)
  (hr : ∀ e x, @Eq EReal (run (ix3 (0 : Fin 1) r (hc e x))) (Suf t (z e) (128 * (kb + 1)) : ℝ))
  (ht : ∀ e (y : Fin 128), @Eq EReal (tb (ix2 r (hc e y))) (Lft t (z e) (128 * kb + y.val) : ℝ))
include hkb hr ht

/-- A row's sums after a block. -/
theorem run128_row (e : Fin 2) (x : Fin 128) : @Eq EReal (nrun128 (k0_pay44 (F := Ideal)) tb run (ix3 (0 : Fin 1) r (hc e x))) (Suf t (z e) (128 * kb) : ℝ) := by
  rw [nrun128_real tb run r e x (cols (fun e => Lft t (z e)) kb) (at_cols ht) (hr e x)]
  refine congrArg _ ?_
  rw [Suf, Suf, Ico_block _ kb hkb]
  simp only [cols_hc]

/-- A row's weights in a block. -/
theorem wgt128_row (hz : ∀ e (y : Fin 128), @Eq EReal (zb (ix2 r (hc e y))) (z e (128 * kb + y.val) : ℝ)) (e : Fin 2) (x : Fin 128) :
    @Eq EReal (wgt128 (k0_pay44 (F := Ideal)) zb tb run (ix2 r (hc e x)))
      ((Real.exp (z e (128 * kb + x.val) - sp (z e (128 * kb + x.val)) - Suf t (z e) (128 * kb + x.val + 1)) : ℝ) : EReal) := by
  rw [wgt128_real zb tb run r e x (cols (fun e => Lft t (z e)) kb) (at_cols ht) (hr e x) (hz e x)]
  refine congrArg _ (congrArg _ ?_)
  simp only [cols_hc]
  rw [sub_sub, Suf, Suf, Ico_within _ kb hkb]
end

/-- A row's output after a block. -/
theorem acc128_row (t : ℕ) (z : Fin 2 → ℕ → ℝ) (kb : ℕ) (hkb : kb < 32) (r : Fin 128) (l : Fin 128) (v : ℕ → ℝ) (a : FVec Ideal S128x256 .f32) (acc : Vec Ideal S128x128 .f32)
    (vx : Vec Ideal S1x1x256x128 .bf16) (ha : ∀ e (y : Fin 128), @Eq EReal (a (ix2 r (hc e y))) (Wgt t (z e) (128 * kb + y.val) : ℝ))
    (hv : ∀ (e : Fin 2) (y : Fin 128), @Eq EReal (vx (ix4 (0 : Fin 1) (0 : Fin 1) (hc e y) l)) ((if l.val / 64 = e.val then v (128 * kb + y.val) else 0 : ℝ) : EReal))
    (hA : @Eq EReal (acc (ix2 r l)) (Out t (z (lh l)) v (128 * (kb + 1)) : ℝ)) :
    @Eq EReal (nacc128 a acc vx (ix2 r l)) (Out t (z (lh l)) v (128 * kb) : ℝ) := by
  rw [nacc128_real a acc vx r l (cols (fun e => Wgt t (z e)) kb) (cols (fun e s => if l.val / 64 = e.val then v s else 0) kb) hA (at_cols ha) (at_cols hv)]
  refine congrArg _ ?_
  rw [sum_cols, Out, Out, Ico_block _ kb hkb]

end Cert.Proof.Sb
-- ==== Proof.SbSlab.lean ====
module

public import proofs.«01_k».proof.Proof.SbSpec

/-! # Stick-breaking attention: one pair of heads of one tile

What a tile holds of a pair of heads once every key from `m` on has been met, and that meeting one more block of keys keeps it
so: a block before the tile, and the two blocks of the tile's own keys. -/

@[expose] public section

set_option maxRecDepth 16384

noncomputable section

namespace Cert.Proof.Sb

open Cert.Kernel9Ideal Cert.Kernel9Ideal.Gen
open Idealize.ShloMosaic Idealize.ShloMosaic.TcCoe Idealize.ShloMosaic.Tactic

/-- A tile whose first row is row `T`, with scores `z` and values `v`: its running sums and its output over the keys from `m` on. -/
structure Slab (T : ℕ) (z : Fin 2 → Fin 256 → ℕ → ℝ) (v : Fin 128 → ℕ → ℝ) (m : ℕ) (R : Vec Ideal S1x256x256 .f32) (A : Vec Ideal S256x128 .f32) : Prop where
  run : ∀ r e x, @Eq EReal (R (ix3 (0 : Fin 1) r (hc e x))) (Suf (T + r.val) (z e r) m : ℝ)
  acc : ∀ r l, @Eq EReal (A (ix2 r l)) (Out (T + r.val) (z (lh l) r) (v l) m : ℝ)

/-- The values of a block: a lane's value in the rows of its own head, zero in the other's. -/
def VBlk (v : Fin 128 → ℕ → ℝ) (kb : ℕ) (vx : Vec Ideal S1x1x256x128 .bf16) : Prop :=
  ∀ (e : Fin 2) (y : Fin 128) (l : Fin 128), @Eq EReal (vx (ix4 (0 : Fin 1) (0 : Fin 1) (hc e y) l)) ((if l.val / 64 = e.val then v l (128 * kb + y.val) else 0 : ℝ) : EReal)

section
variable {T : ℕ} {z : Fin 2 → Fin 256 → ℕ → ℝ} {v : Fin 128 → ℕ → ℝ} {kb : ℕ}

theorem Slab.of_eq {m m' : ℕ} {R R' : Vec Ideal S1x256x256 .f32} {A A' : Vec Ideal S256x128 .f32} (S : Slab T z v m R A) (em : m' = m) (eR : R' = R) (eA : A' = A) :
    Slab T z v m' R' A' := by
  rw [em, eR, eA]
  exact S

/-- One block of keys, given the terms it leaves and the weights it takes. -/
theorem Slab.step (hkb : kb < 32) {R : Vec Ideal S1x256x256 .f32} {A : Vec Ideal S256x128 .f32} (h : Slab T z v (128 * (kb + 1)) R A)
    {tb a : FVec Ideal S256x256 .f32} {vx : Vec Ideal S1x1x256x128 .bf16}
    (ht : ∀ r e (y : Fin 128), @Eq EReal (tb (ix2 r (hc e y))) (Lft (T + r.val) (z e r) (128 * kb + y.val) : ℝ))
    (ha : ∀ r e (y : Fin 128), @Eq EReal (a (ix2 r (hc e y))) (Wgt (T + r.val) (z e r) (128 * kb + y.val) : ℝ)) (hv : VBlk v kb vx) :
    Slab T z v (128 * kb) (nrun256 (k0_pay44 (F := Ideal)) tb R) (nacc256 a A vx) where
  run r e x := run256_row (T + r.val) (fun e => z e r) kb hkb r R tb (fun e x => h.run r e x) (fun e y => ht r e y) e x
  acc r l := acc256_row (T + r.val) (fun e => z e r) kb hkb r l (v l) a A vx (fun e y => ha r e y) (fun e y => hv e y l) (h.acc r l)

/-- A block before the tile. -/
theorem Slab.trip (hkb : kb < 32) (hT : 128 * (kb + 1) ≤ T) {R : Vec Ideal S1x256x256 .f32} {A : Vec Ideal S256x128 .f32} (h : Slab T z v (128 * (kb + 1)) R A)
    {zb : FVec Ideal S256x256 .f32} {vx : Vec Ideal S1x1x256x128 .bf16}
    (hz : ∀ r e (y : Fin 128), @Eq EReal (zb (ix2 r (hc e y))) (z e r (128 * kb + y.val) : ℝ)) (hv : VBlk v kb vx) :
    Slab T z v (128 * kb) (nrun256 (k0_pay44 (F := Ideal)) (soft256 zb) R) (nacc256 (wgt256 (k0_pay44 (F := Ideal)) zb (soft256 zb) R) A vx) := by
  have ht : ∀ r e (y : Fin 128), @Eq EReal (soft256 zb (ix2 r (hc e y))) (Lft (T + r.val) (z e r) (128 * kb + y.val) : ℝ) := fun r e y => by
    rw [soft256_apply zb r _ (hz r e y), Lft, if_pos (by omega)]
  refine h.step hkb ht (fun r e y => ?_) hv
  rw [wgt256_row (T + r.val) (fun e => z e r) kb hkb r R zb _ (fun e x => h.run r e x) (fun e y => ht r e y) (fun e y => hz r e y) e y, Wgt, if_pos (by omega)]

theorem hc_mod (e : Fin 2) (y : Fin 128) : (hc e y).val % 128 = y.val := by
  show (128 * e.val + y.val) % 128 = _
  omega

/-- The earlier of the tile's own two blocks. -/
theorem Slab.diag {n : ℕ} (hn : n < 16) {R : Vec Ideal S1x256x256 .f32} {A : Vec Ideal S256x128 .f32} (h : Slab (256 * n) z v (128 * (2 * n + 1)) R A)
    {zb : FVec Ideal S256x256 .f32} {vx : Vec Ideal S1x1x256x128 .bf16}
    (hz : ∀ r e (y : Fin 128), @Eq EReal (zb (ix2 r (hc e y))) (z e r (128 * (2 * n) + y.val) : ℝ)) (hv : VBlk v (2 * n) vx) :
    Slab (256 * n) z v (128 * (2 * n)) (diagR zb R) (diagA zb R A vx) := by
  have ht : ∀ r e (y : Fin 128), @Eq EReal (msk256 (soft256 zb) (ix2 r (hc e y))) (Lft (256 * n + r.val) (z e r) (128 * (2 * n) + y.val) : ℝ) := fun r e y => by
    rw [msk256_apply, hc_mod, soft256_apply zb r _ (hz r e y), Lft]
    by_cases hy : y.val < r.val
    · rw [if_pos hy, if_pos (by omega)]
    · rw [if_neg hy, if_neg (by omega)]; rfl
  refine h.step (by omega) ht (fun r e y => ?_) hv
  rw [msk256_apply, hc_mod, wgt256_row (256 * n + r.val) (fun e => z e r) (2 * n) (by omega) r R zb _ (fun e x => h.run r e x) (fun e y => ht r e y) (fun e y => hz r e y) e y, Wgt]
  by_cases hy : y.val < r.val
  · rw [if_pos hy, if_pos (by omega)]
  · rw [if_neg hy, if_neg (by omega)]; rfl

theorem pay46_zero (i) : @Eq EReal (k0_pay46 (F := Ideal) i) 0 := Ideal.ofBits_zero_f32
theorem pay47_zero (i) : @Eq EReal (k0_pay47 (F := Ideal) i) 0 := Ideal.ofBits_zero_f32

/-- The later of them, which only the tile's lower half has keys in. -/
theorem Slab.mid {n : ℕ} (hn : n < 16) (p q : ℕ) (i : ∀ a, (![p, 128, 0] : Fin 3 → ℕ) a + S1x128x256.size a ≤ S4x256x256.size a)
    (i' : ∀ a, (![p, 0, 0] : Fin 3 → ℕ) a + S1x256x256.size a ≤ S4x256x256.size a)
    (j : ∀ a, (![128, q] : Fin 2 → ℕ) a + S128x128.size a ≤ S256x512.size a) (j' : ∀ a, (![0, q] : Fin 2 → ℕ) a + S256x128.size a ≤ S256x512.size a)
    {zb : FVec Ideal S128x256 .f32} {vx : Vec Ideal S1x1x256x128 .bf16}
    (hz : ∀ (r : Fin 128) e (y : Fin 128), @Eq EReal (zb (ix2 r (hc e y))) (z e ⟨128 + r.val, by omega⟩ (128 * (2 * n + 1) + y.val) : ℝ)) (hv : VBlk v (2 * n + 1) vx) :
    Slab (256 * n) z v (128 * (2 * n + 1)) (midR zb p i i') (midA zb vx p q i j j') := by
  have h0 : ∀ (r : Fin 128) e x, @Eq EReal ((View.ld (k0_pay46 (F := Ideal)) (Rect.unit (s := S4x256x256) ![p, 128, 0] S1x128x256.size i) : Vec Ideal S1x128x256 .f32) (ix3 (0 : Fin 1) r (hc e x)))
      (Suf (256 * n + (128 + r.val)) (z e ⟨128 + r.val, by omega⟩) (128 * (2 * n + 1 + 1)) : ℝ) := fun r e x => by
    rw [Suf_late _ _ _ (by omega)]
    exact pay46_zero _
  have ht : ∀ (r : Fin 128) e (y : Fin 128), @Eq EReal (msk128 (soft128 zb) (ix2 r (hc e y))) (Lft (256 * n + (128 + r.val)) (z e ⟨128 + r.val, by omega⟩) (128 * (2 * n + 1) + y.val) : ℝ) := fun r e y => by
    rw [msk128_apply, hc_mod, soft128_apply zb r _ (hz r e y), Lft]
    by_cases hy : y.val < r.val
    · rw [if_pos hy, if_pos (by omega)]
    · rw [if_neg hy, if_neg (by omega)]; rfl
  refine ⟨fun r e x => ?_, fun r l => ?_⟩
  · unfold midR joinR
    by_cases hr : 128 ≤ r.val
    · rw [dif_pos (show 128 ≤ (ix3 (0 : Fin 1) r (hc e x) 1).val from hr)]
      have hr' : r = ⟨128 + (r.val - 128), by omega⟩ := Fin.ext (by show r.val = 128 + (r.val - 128); omega)
      refine (run128_row (256 * n + (128 + (r.val - 128))) (fun e => z e ⟨128 + (r.val - 128), by omega⟩) (2 * n + 1) (by omega) ⟨r.val - 128, by omega⟩ _ _
        (fun e x => h0 ⟨r.val - 128, by omega⟩ e x) (fun e y => ht ⟨r.val - 128, by omega⟩ e y) e x).trans ?_
      rw [← hr', show 128 + (r.val - 128) = r.val by omega]
    · rw [dif_neg (show ¬ 128 ≤ (ix3 (0 : Fin 1) r (hc e x) 1).val from hr), Suf_late _ _ _ (by omega)]
      exact pay46_zero _
  · unfold midA joinA
    by_cases hr : 128 ≤ r.val
    · rw [dif_pos (show 128 ≤ (ix2 r l 0).val from hr)]
      have hr' : r = ⟨128 + (r.val - 128), by omega⟩ := Fin.ext (by show r.val = 128 + (r.val - 128); omega)
      refine (acc128_row (256 * n + (128 + (r.val - 128))) (fun e => z e ⟨128 + (r.val - 128), by omega⟩) (2 * n + 1) (by omega) ⟨r.val - 128, by omega⟩ l (v l) _ _ vx
        (fun e y => ?_) (fun e y => hv e y l) ?_).trans ?_
      · rw [msk128_apply, hc_mod, wgt128_row (256 * n + (128 + (r.val - 128))) (fun e => z e ⟨128 + (r.val - 128), by omega⟩) (2 * n + 1) (by omega) ⟨r.val - 128, by omega⟩ _ zb _
          (fun e x => h0 ⟨r.val - 128, by omega⟩ e x) (fun e y => ht ⟨r.val - 128, by omega⟩ e y) (fun e y => hz ⟨r.val - 128, by omega⟩ e y) e y, Wgt]
        by_cases hy : y.val < r.val - 128
        · rw [if_pos hy, if_pos (by omega)]
        · rw [if_neg hy, if_neg (by omega)]; rfl
      · rw [Out_late _ _ _ _ (by omega)]
        exact pay47_zero _
      · rw [← hr', show 128 + (r.val - 128) = r.val by omega]
    · rw [dif_neg (show ¬ 128 ≤ (ix2 r l 0).val from hr), Out_late _ _ _ _ (by omega)]
      exact pay47_zero _
end

end Cert.Proof.Sb
-- ==== Proof.SbTile.lean ====
module

public import proofs.«01_k».proof.Proof.SbSlab

/-! # Stick-breaking attention: a tile's loop

The tile's own blocks and then the loop's trips, for all four pairs of heads. The least running sum is a real number, so the
loop's early exit, taken only once every weight still to come is zero, is never taken, and the trips reach the first key. -/

@[expose] public section

set_option maxRecDepth 16384

noncomputable section

namespace Cert.Proof.Sb

open Cert.Kernel9Ideal Cert.Kernel9Ideal.Gen
open Idealize.ShloMosaic Idealize.ShloMosaic.TcCoe Idealize.ShloMosaic.Tactic

/-! ## Scores -/

/-- Lane `l` of pair `p`. -/
def ln (p : Fin 4) (l : Fin 128) : Fin 512 := ⟨128 * p.val + l.val, by omega⟩

/-- The prepared keys, or values: a lane's number in the rows of its own head, zero in the other's. -/
def Prep (K : Fin 4 → Fin 128 → ℕ → ℝ) (kx : Vec Ideal S4x32x256x128 .bf16) : Prop :=
  ∀ (p : Fin 4) (kb : Fin 32) (e : Fin 2) (y l : Fin 128), @Eq EReal (kx (ix4 p kb (hc e y) l)) ((if l.val / 64 = e.val then K p l (128 * kb.val + y.val) else 0 : ℝ) : EReal)

/-- The score of row `r` against key `s` under head `e` of pair `p`. -/
def zS (Q : Fin 256 → Fin 512 → ℝ) (K : Fin 4 → Fin 128 → ℕ → ℝ) (p : Fin 4) (e : Fin 2) (r : Fin 256) (s : ℕ) : ℝ :=
  ∑ d : Fin 128, Q r (ln p d) * (1 / 8) * (if d.val / 64 = e.val then K p d s else 0)

theorem eighth_bf16 : Ideal.ofBits .bf16 0x3E00#16 = ((1 / 8 : ℝ) : EReal) := by
  simp [Ideal.ofBits, Ideal.ieee]
  rw [← EReal.coe_mul]
  norm_num

theorem qs_apply (x0 : Vec Ideal S256x512 .bf16) (Q : Fin 256 → Fin 512 → ℝ) (hQ : ∀ r j, @Eq EReal (x0 (ix2 r j)) (Q r j)) (r : Fin 256) (j : Fin 512) :
    @Eq EReal (qs x0 (ix2 r j)) ((Q r j * (1 / 8) : ℝ) : EReal) := by
  have h : @Eq EReal (qs x0 (ix2 r j)) ((show EReal from View.ld x0 (Rect.unit ![0, 0] S256x512.size inb_S256x512_S256x512_0_0) (ix2 r j)) * Ideal.ofBits .bf16 0x3E00#16) := rfl
  have hl : View.ld x0 (Rect.unit ![0, 0] S256x512.size inb_S256x512_S256x512_0_0) (ix2 r j) = x0 (ix2 r j) := by
    refine congrArg x0 (funext fun k => Fin.ext ?_)
    match k with
    | ⟨0, _⟩ => show 0 + 1 * r.val = r.val; omega
    | ⟨1, _⟩ => show 0 + 1 * j.val = j.val; omega
  rw [h, hl, hQ, eighth_bf16, ← EReal.coe_mul]

theorem ld_kv (xs : Vec Ideal S4x32x256x128 .bf16) (off : Fin 4 → ℕ) (h) (p : Fin 4) (kb : Fin 32) (ho : off = ![p.val, kb.val, 0, 0]) (c : Fin 256) (d : Fin 128) :
    View.ld xs (kvR off h) (ix4 (0 : Fin 1) (0 : Fin 1) c d) = xs (ix4 p kb c d) := by
  subst ho
  refine congrArg xs (funext fun k => Fin.ext ?_)
  match k with
  | ⟨0, _⟩ => show p.val + 1 * 0 = p.val; omega
  | ⟨1, _⟩ => show kb.val + 1 * 0 = kb.val; omega
  | ⟨2, _⟩ => show 0 + 1 * c.val = c.val; omega
  | ⟨3, _⟩ => show 0 + 1 * d.val = d.val; omega

section
variable {x0 : Vec Ideal S256x512 .bf16} {Q : Fin 256 → Fin 512 → ℝ} (hQ : ∀ r j, @Eq EReal (x0 (ix2 r j)) (Q r j))
  {K : Fin 4 → Fin 128 → ℕ → ℝ} {kx : Vec Ideal S4x32x256x128 .bf16} (hK : Prep K kx)
include hQ hK

theorem score_sum (p : Fin 4) (kb : Fin 32) (e : Fin 2) (r : Fin 256) (y : Fin 128) :
    ∑ d : Fin 128, (show EReal from qs x0 (ix2 r (ln p d))) * kx (ix4 p kb (hc e y) d) = (zS Q K p e r (128 * kb.val + y.val) : ℝ) := by
  rw [zS, ← coe_sum]
  refine Finset.sum_congr rfl fun d _ => ?_
  rw [EReal.coe_mul]
  exact congrArg₂ _ (qs_apply x0 Q hQ r _) (hK p kb e y d)

theorem tz_real (p : Fin 4) (kb : Fin 32) (hs) (off : Fin 4 → ℕ) (h) (ho : off = ![p.val, kb.val, 0, 0]) (r : Fin 256) (e : Fin 2) (y : Fin 128) :
    @Eq EReal (tz (qs x0) kx (128 * p.val) hs off h (ix2 r (hc e y))) (zS Q K p e r (128 * kb.val + y.val) : ℝ) := by
  refine (sc256_apply _ _ r _).trans ?_
  rw [← score_sum hQ hK p kb e r y]
  refine Finset.sum_congr rfl fun d _ => congrArg₂ _ (congrArg (qs x0) (funext fun k => Fin.ext ?_)) (ld_kv kx off h p kb ho _ d)
  match k with
  | ⟨0, _⟩ => show 0 + r.val = r.val; omega
  | ⟨1, _⟩ => rfl

theorem hz_real (p : Fin 4) (kb : Fin 32) (hs) (off : Fin 4 → ℕ) (h) (ho : off = ![p.val, kb.val, 0, 0]) (r : Fin 128) (e : Fin 2) (y : Fin 128) :
    @Eq EReal (hz x0 kx (128 * p.val) hs off h (ix2 r (hc e y))) (zS Q K p e ⟨128 + r.val, by omega⟩ (128 * kb.val + y.val) : ℝ) := by
  refine (sc128_apply _ _ r _).trans ?_
  rw [← score_sum hQ hK p kb e ⟨128 + r.val, by omega⟩ y]
  refine Finset.sum_congr rfl fun d _ => congrArg₂ _ (congrArg (qs x0) (funext fun k => Fin.ext ?_)) (ld_kv kx off h p kb ho _ d)
  match k with
  | ⟨0, _⟩ => rfl
  | ⟨1, _⟩ => rfl
end

theorem vblk_of_prep {V : Fin 4 → Fin 128 → ℕ → ℝ} {vx : Vec Ideal S4x32x256x128 .bf16} (hV : Prep V vx) (p : Fin 4) (kb : Fin 32) (off : Fin 4 → ℕ) (h)
    (ho : off = ![p.val, kb.val, 0, 0]) : VBlk (V p) kb.val (View.ld vx (kvR off h)) := fun e y l => by
  rw [ld_kv vx off h p kb ho]
  exact hV p kb e y l

/-! ## All four pairs -/

theorem inR (p : Fin 4) : ∀ a, (![p.val, 0, 0] : Fin 3 → ℕ) a + S1x256x256.size a ≤ S4x256x256.size a := fun a => by
  have := p.isLt
  match a with
  | ⟨0, _⟩ => show p.val + 1 ≤ 4; omega
  | ⟨1, _⟩ => show 0 + 256 ≤ 256; omega
  | ⟨2, _⟩ => show 0 + 256 ≤ 256; omega

theorem inA (p : Fin 4) : ∀ a, (![0, 128 * p.val] : Fin 2 → ℕ) a + S256x128.size a ≤ S256x512.size a := fun a => by
  have := p.isLt
  match a with
  | ⟨0, _⟩ => show 0 + 256 ≤ 256; omega
  | ⟨1, _⟩ => show 128 * p.val + 128 ≤ 512; omega

/-- What a tile whose first row is row `T` holds, for all four pairs of heads. -/
def Tile (T : ℕ) (Q : Fin 256 → Fin 512 → ℝ) (K V : Fin 4 → Fin 128 → ℕ → ℝ) (m : ℕ) (R : Vec Ideal S4x256x256 .f32) (A : Vec Ideal S256x512 .f32) : Prop :=
  ∀ p : Fin 4, Slab T (fun e r => zS Q K p e r) (V p) m (View.ld R (Rect.unit (s := S4x256x256) ![p.val, 0, 0] S1x256x256.size (inR p))) (View.ld A (Rect.unit (s := S256x512) ![0, 128 * p.val] S256x128.size (inA p)))

theorem Tile.run {T : ℕ} {Q : Fin 256 → Fin 512 → ℝ} {K V : Fin 4 → Fin 128 → ℕ → ℝ} {m : ℕ} {R : Vec Ideal S4x256x256 .f32} {A : Vec Ideal S256x512 .f32} (h : Tile T Q K V m R A)
    (p : Fin 4) (r : Fin 256) (e : Fin 2) (x : Fin 128) : @Eq EReal (R (ix3 p r (hc e x))) (Suf (T + r.val) (zS Q K p e r) m : ℝ) := by
  refine (congrArg R (funext fun k => Fin.ext ?_)).trans ((h p).run r e x)
  match k with
  | ⟨0, _⟩ => show p.val = p.val + 1 * 0; omega
  | ⟨1, _⟩ => show r.val = 0 + 1 * r.val; omega
  | ⟨2, _⟩ => show (hc e x).val = 0 + 1 * (hc e x).val; omega

theorem Tile.acc {T : ℕ} {Q : Fin 256 → Fin 512 → ℝ} {K V : Fin 4 → Fin 128 → ℕ → ℝ} {m : ℕ} {R : Vec Ideal S4x256x256 .f32} {A : Vec Ideal S256x512 .f32} (h : Tile T Q K V m R A)
    (p : Fin 4) (r : Fin 256) (l : Fin 128) : @Eq EReal (A (ix2 r (ln p l))) (Out (T + r.val) (zS Q K p (lh l) r) (V p l) m : ℝ) := by
  refine (congrArg A (funext fun k => Fin.ext ?_)).trans ((h p).acc r l)
  match k with
  | ⟨0, _⟩ => show r.val = 0 + 1 * r.val; omega
  | ⟨1, _⟩ => show 128 * p.val + l.val = 128 * p.val + 1 * l.val; omega

/-! ## Where the blocks are -/

theorem own_hi (n : ℕ) (hn : n < 16) : (Scalar.indexCast (Scalar.addi (Scalar.muli (BitVec.ofNat 32 n) 2#32) 1#32)).toNat = 2 * n + 1 := by
  have key : ∀ n < 16, (Scalar.indexCast (Scalar.addi (Scalar.muli (BitVec.ofNat 32 n) 2#32) 1#32)).toNat = 2 * n + 1 := by decide +kernel
  exact key n hn

theorem own_lo (n : ℕ) (hn : n < 16) : (Scalar.indexCast (Scalar.addi (Scalar.muli (BitVec.ofNat 32 n) 2#32) 0#32)).toNat = 2 * n := by
  have key : ∀ n < 16, (Scalar.indexCast (Scalar.addi (Scalar.muli (BitVec.ofNat 32 n) 2#32) 0#32)).toNat = 2 * n := by decide +kernel
  exact key n hn

theorem trip_at (n j : ℕ) (hn : n < 16) (hj : j < n) (b : Fin 2) :
    (Scalar.indexCast (Scalar.addi (Scalar.muli (Scalar.subi (Scalar.subi (BitVec.ofNat 32 n) 1#32) (BitVec.ofNat 32 j)) 2#32) (BitVec.ofNat 32 b.val))).toNat = 2 * (n - 1 - j) + b.val := by
  have key : ∀ n < 16, ∀ j < n, ∀ b : Fin 2,
      (Scalar.indexCast (Scalar.addi (Scalar.muli (Scalar.subi (Scalar.subi (BitVec.ofNat 32 n) 1#32) (BitVec.ofNat 32 j)) 2#32) (BitVec.ofNat 32 b.val))).toNat = 2 * (n - 1 - j) + b.val := by
    decide +kernel
  exact key n hn j hj b

/-- A tile once its own keys are met: a later tile of its group. -/
theorem tile_ownLater (c : Dev nD) (i : grid0.Coords)
    (arg3 : Memref sig .tc .vmem S256x512 .bf16) (harg3 : arg3.IsWhole) (arg4 : Memref sig .tc .vmem S4096x512 .bf16) (harg4 : arg4.IsWhole)
    (arg5 : Memref sig .tc .vmem S4096x512 .bf16) (harg5 : arg5.IsWhole) (arg6 : Memref sig .tc .vmem S256x512 .bf16) (harg6 : arg6.IsWhole)
    (arg7 : Memref sig .tc .vmem S4x32x256x128 .bf16) (harg7 : arg7.IsWhole) (arg8 : Memref sig .tc .vmem S4x32x256x128 .bf16) (harg8 : arg8.IsWhole)
    (arg9 : Memref sig .tc .vmem S4x256x256 .f32) (harg9 : arg9.IsWhole) (arg10 : Memref sig .tc .vmem S256x512 .f32) (harg10 : arg10.IsWhole) (hc0 : ¬first i)
    (x0 : Vec Ideal S256x512 .bf16) (x1 x2 : Vec Ideal S4096x512 .bf16) (xs0 xs1 : Vec Ideal S4x32x256x128 .bf16)
    {Q : Fin 256 → Fin 512 → ℝ} (hQ : ∀ r j, @Eq EReal (x0 (ix2 r j)) (Q r j)) {K V : Fin 4 → Fin 128 → ℕ → ℝ}
    (hK : Prep K xs0) (hV : Prep V xs1) :
    Tile (256 * (i 2).val) Q K V (256 * (i 2).val) (View.canon (runLater c i arg3 harg3 arg4 harg4 arg5 harg5 arg6 harg6 arg7 harg7 arg8 harg8 arg9 harg9 arg10 harg10 hc0 x0 x1 x2 xs0 xs1).2.2.1) (View.canon (runLater c i arg3 harg3 arg4 harg4 arg5 harg5 arg6 harg6 arg7 harg7 arg8 harg8 arg9 harg9 arg10 harg10 hc0 x0 x1 x2 xs0 xs1).2.2.2.1) := by
  have hn := tile_lt i
  have b1 : 2 * (i 2).val + 1 < 32 := by omega
  have b0 : 2 * (i 2).val < 32 := by omega
  have em : 256 * (i 2).val = 128 * (2 * (i 2).val) := by omega
  intro p
  match p with
  | 0 =>
    have o1 : k0_off1 i 1#32 = ![((0 : Fin 4)).val, ((⟨2 * (i 2).val + 1, b1⟩ : Fin 32)).val, 0, 0] := congrArg (fun k => ![0, k, 0, 0]) (own_hi _ hn)
    have o0 : k0_off1 i 0#32 = ![((0 : Fin 4)).val, ((⟨2 * (i 2).val, b0⟩ : Fin 32)).val, 0, 0] := congrArg (fun k => ![0, k, 0, 0]) (own_lo _ hn)
    have h1 : ∀ a, k0_off1 i 1#32 a + S1x1x256x128.size a ≤ S4x32x256x128.size a := k0_off1_inb i 1
    have h0 : ∀ a, k0_off1 i 0#32 a + S1x1x256x128.size a ≤ S4x32x256x128.size a := k0_off1_inb i 0
    have eR := runLaterR_slab0 c i arg3 harg3 arg4 harg4 arg5 harg5 arg6 harg6 arg7 harg7 arg8 harg8 arg9 harg9 arg10 harg10 x0 x1 x2 xs0 xs1 hc0 h1 h0
    have eA := runLaterA_slab0 c i arg3 harg3 arg4 harg4 arg5 harg5 arg6 harg6 arg7 harg7 arg8 harg8 arg9 harg9 arg10 harg10 x0 x1 x2 xs0 xs1 hc0 h1 h0
    have S := Slab.diag hn (Slab.mid hn 0 0 inb_S4x256x256_S1x128x256_0_128_0 inb_S4x256x256_S1x256x256_0_0_0 inb_S256x512_S128x128_128_0 inb_S256x512_S256x128_0_0
      (fun r e y => hz_real hQ hK 0 ⟨2 * (i 2).val + 1, b1⟩ slices_S256x512_o128_0_S128x128 _ h1 o1 r e y) (vblk_of_prep hV 0 ⟨2 * (i 2).val + 1, b1⟩ _ h1 o1))
      (fun r e y => tz_real hQ hK 0 ⟨2 * (i 2).val, b0⟩ slices_S256x512_o0_0_S256x128 _ h0 o0 r e y) (vblk_of_prep hV 0 ⟨2 * (i 2).val, b0⟩ _ h0 o0)
    exact S.of_eq em eR eA
  | 1 =>
    have o1 : k0_off2 i 1#32 = ![((1 : Fin 4)).val, ((⟨2 * (i 2).val + 1, b1⟩ : Fin 32)).val, 0, 0] := congrArg (fun k => ![1, k, 0, 0]) (own_hi _ hn)
    have o0 : k0_off2 i 0#32 = ![((1 : Fin 4)).val, ((⟨2 * (i 2).val, b0⟩ : Fin 32)).val, 0, 0] := congrArg (fun k => ![1, k, 0, 0]) (own_lo _ hn)
    have h1 : ∀ a, k0_off2 i 1#32 a + S1x1x256x128.size a ≤ S4x32x256x128.size a := k0_off2_inb i 1
    have h0 : ∀ a, k0_off2 i 0#32 a + S1x1x256x128.size a ≤ S4x32x256x128.size a := k0_off2_inb i 0
    have eR := runLaterR_slab1 c i arg3 harg3 arg4 harg4 arg5 harg5 arg6 harg6 arg7 harg7 arg8 harg8 arg9 harg9 arg10 harg10 x0 x1 x2 xs0 xs1 hc0 h1 h0
    have eA := runLaterA_slab1 c i arg3 harg3 arg4 harg4 arg5 harg5 arg6 harg6 arg7 harg7 arg8 harg8 arg9 harg9 arg10 harg10 x0 x1 x2 xs0 xs1 hc0 h1 h0
    have S := Slab.diag hn (Slab.mid hn 1 128 inb_S4x256x256_S1x128x256_1_128_0 inb_S4x256x256_S1x256x256_1_0_0 inb_S256x512_S128x128_128_128 inb_S256x512_S256x128_0_128
      (fun r e y => hz_real hQ hK 1 ⟨2 * (i 2).val + 1, b1⟩ slices_S256x512_o128_128_S128x128 _ h1 o1 r e y) (vblk_of_prep hV 1 ⟨2 * (i 2).val + 1, b1⟩ _ h1 o1))
      (fun r e y => tz_real hQ hK 1 ⟨2 * (i 2).val, b0⟩ slices_S256x512_o0_128_S256x128 _ h0 o0 r e y) (vblk_of_prep hV 1 ⟨2 * (i 2).val, b0⟩ _ h0 o0)
    exact S.of_eq em eR eA
  | 2 =>
    have o1 : k0_off3 i 1#32 = ![((2 : Fin 4)).val, ((⟨2 * (i 2).val + 1, b1⟩ : Fin 32)).val, 0, 0] := congrArg (fun k => ![2, k, 0, 0]) (own_hi _ hn)
    have o0 : k0_off3 i 0#32 = ![((2 : Fin 4)).val, ((⟨2 * (i 2).val, b0⟩ : Fin 32)).val, 0, 0] := congrArg (fun k => ![2, k, 0, 0]) (own_lo _ hn)
    have h1 : ∀ a, k0_off3 i 1#32 a + S1x1x256x128.size a ≤ S4x32x256x128.size a := k0_off3_inb i 1
    have h0 : ∀ a, k0_off3 i 0#32 a + S1x1x256x128.size a ≤ S4x32x256x128.size a := k0_off3_inb i 0
    have eR := runLaterR_slab2 c i arg3 harg3 arg4 harg4 arg5 harg5 arg6 harg6 arg7 harg7 arg8 harg8 arg9 harg9 arg10 harg10 x0 x1 x2 xs0 xs1 hc0 h1 h0
    have eA := runLaterA_slab2 c i arg3 harg3 arg4 harg4 arg5 harg5 arg6 harg6 arg7 harg7 arg8 harg8 arg9 harg9 arg10 harg10 x0 x1 x2 xs0 xs1 hc0 h1 h0
    have S := Slab.diag hn (Slab.mid hn 2 256 inb_S4x256x256_S1x128x256_2_128_0 inb_S4x256x256_S1x256x256_2_0_0 inb_S256x512_S128x128_128_256 inb_S256x512_S256x128_0_256
      (fun r e y => hz_real hQ hK 2 ⟨2 * (i 2).val + 1, b1⟩ slices_S256x512_o128_256_S128x128 _ h1 o1 r e y) (vblk_of_prep hV 2 ⟨2 * (i 2).val + 1, b1⟩ _ h1 o1))
      (fun r e y => tz_real hQ hK 2 ⟨2 * (i 2).val, b0⟩ slices_S256x512_o0_256_S256x128 _ h0 o0 r e y) (vblk_of_prep hV 2 ⟨2 * (i 2).val, b0⟩ _ h0 o0)
    exact S.of_eq em eR eA
  | 3 =>
    have o1 : k0_off4 i 1#32 = ![((3 : Fin 4)).val, ((⟨2 * (i 2).val + 1, b1⟩ : Fin 32)).val, 0, 0] := congrArg (fun k => ![3, k, 0, 0]) (own_hi _ hn)
    have o0 : k0_off4 i 0#32 = ![((3 : Fin 4)).val, ((⟨2 * (i 2).val, b0⟩ : Fin 32)).val, 0, 0] := congrArg (fun k => ![3, k, 0, 0]) (own_lo _ hn)
    have h1 : ∀ a, k0_off4 i 1#32 a + S1x1x256x128.size a ≤ S4x32x256x128.size a := k0_off4_inb i 1
    have h0 : ∀ a, k0_off4 i 0#32 a + S1x1x256x128.size a ≤ S4x32x256x128.size a := k0_off4_inb i 0
    have eR := runLaterR_slab3 c i arg3 harg3 arg4 harg4 arg5 harg5 arg6 harg6 arg7 harg7 arg8 harg8 arg9 harg9 arg10 harg10 x0 x1 x2 xs0 xs1 hc0 h1 h0
    have eA := runLaterA_slab3 c i arg3 harg3 arg4 harg4 arg5 harg5 arg6 harg6 arg7 harg7 arg8 harg8 arg9 harg9 arg10 harg10 x0 x1 x2 xs0 xs1 hc0 h1 h0
    have S := Slab.diag hn (Slab.mid hn 3 384 inb_S4x256x256_S1x128x256_3_128_0 inb_S4x256x256_S1x256x256_3_0_0 inb_S256x512_S128x128_128_384 inb_S256x512_S256x128_0_384
      (fun r e y => hz_real hQ hK 3 ⟨2 * (i 2).val + 1, b1⟩ slices_S256x512_o128_384_S128x128 _ h1 o1 r e y) (vblk_of_prep hV 3 ⟨2 * (i 2).val + 1, b1⟩ _ h1 o1))
      (fun r e y => tz_real hQ hK 3 ⟨2 * (i 2).val, b0⟩ slices_S256x512_o0_384_S256x128 _ h0 o0 r e y) (vblk_of_prep hV 3 ⟨2 * (i 2).val, b0⟩ _ h0 o0)
    exact S.of_eq em eR eA

/-- A tile once its own keys are met: the first tile of a group. -/
theorem tile_ownFirst (c : Dev nD) (i : grid0.Coords)
    (arg3 : Memref sig .tc .vmem S256x512 .bf16) (harg3 : arg3.IsWhole) (arg4 : Memref sig .tc .vmem S4096x512 .bf16) (harg4 : arg4.IsWhole)
    (arg5 : Memref sig .tc .vmem S4096x512 .bf16) (harg5 : arg5.IsWhole) (arg6 : Memref sig .tc .vmem S256x512 .bf16) (harg6 : arg6.IsWhole)
    (arg7 : Memref sig .tc .vmem S4x32x256x128 .bf16) (harg7 : arg7.IsWhole) (arg8 : Memref sig .tc .vmem S4x32x256x128 .bf16) (harg8 : arg8.IsWhole)
    (arg9 : Memref sig .tc .vmem S4x256x256 .f32) (harg9 : arg9.IsWhole) (arg10 : Memref sig .tc .vmem S256x512 .f32) (harg10 : arg10.IsWhole) (hc0 : first i)
    (x0 : Vec Ideal S256x512 .bf16) (x1 x2 : Vec Ideal S4096x512 .bf16)
    {Q : Fin 256 → Fin 512 → ℝ} (hQ : ∀ r j, @Eq EReal (x0 (ix2 r j)) (Q r j)) {K V : Fin 4 → Fin 128 → ℕ → ℝ}
    (hK : Prep K (View.canon (runFirst.sl.HS0_8 c arg4 harg4 x1))) (hV : Prep V (View.canon (runFirst.sl.HS1_8 c arg5 harg5 x2))) :
    Tile (256 * (i 2).val) Q K V (256 * (i 2).val) (View.canon (runFirst c i arg3 harg3 arg4 harg4 arg5 harg5 arg6 harg6 arg7 harg7 arg8 harg8 arg9 harg9 arg10 harg10 hc0 x0 x1 x2).2.2.2.2.1) (View.canon (runFirst c i arg3 harg3 arg4 harg4 arg5 harg5 arg6 harg6 arg7 harg7 arg8 harg8 arg9 harg9 arg10 harg10 hc0 x0 x1 x2).2.2.2.2.2.1) := by
  have hn := tile_lt i
  have b1 : 2 * (i 2).val + 1 < 32 := by omega
  have b0 : 2 * (i 2).val < 32 := by omega
  have em : 256 * (i 2).val = 128 * (2 * (i 2).val) := by omega
  intro p
  match p with
  | 0 =>
    have o1 : k0_off1 i 1#32 = ![((0 : Fin 4)).val, ((⟨2 * (i 2).val + 1, b1⟩ : Fin 32)).val, 0, 0] := congrArg (fun k => ![0, k, 0, 0]) (own_hi _ hn)
    have o0 : k0_off1 i 0#32 = ![((0 : Fin 4)).val, ((⟨2 * (i 2).val, b0⟩ : Fin 32)).val, 0, 0] := congrArg (fun k => ![0, k, 0, 0]) (own_lo _ hn)
    have h1 : ∀ a, k0_off1 i 1#32 a + S1x1x256x128.size a ≤ S4x32x256x128.size a := k0_off1_inb i 1
    have h0 : ∀ a, k0_off1 i 0#32 a + S1x1x256x128.size a ≤ S4x32x256x128.size a := k0_off1_inb i 0
    have eR := runFirstR_slab0 c i arg3 harg3 arg4 harg4 arg5 harg5 arg6 harg6 arg7 harg7 arg8 harg8 arg9 harg9 arg10 harg10 x0 x1 x2 hc0 h1 h0
    have eA := runFirstA_slab0 c i arg3 harg3 arg4 harg4 arg5 harg5 arg6 harg6 arg7 harg7 arg8 harg8 arg9 harg9 arg10 harg10 x0 x1 x2 hc0 h1 h0
    have S := Slab.diag hn (Slab.mid hn 0 0 inb_S4x256x256_S1x128x256_0_128_0 inb_S4x256x256_S1x256x256_0_0_0 inb_S256x512_S128x128_128_0 inb_S256x512_S256x128_0_0
      (fun r e y => hz_real hQ hK 0 ⟨2 * (i 2).val + 1, b1⟩ slices_S256x512_o128_0_S128x128 _ h1 o1 r e y) (vblk_of_prep hV 0 ⟨2 * (i 2).val + 1, b1⟩ _ h1 o1))
      (fun r e y => tz_real hQ hK 0 ⟨2 * (i 2).val, b0⟩ slices_S256x512_o0_0_S256x128 _ h0 o0 r e y) (vblk_of_prep hV 0 ⟨2 * (i 2).val, b0⟩ _ h0 o0)
    exact S.of_eq em eR eA
  | 1 =>
    have o1 : k0_off2 i 1#32 = ![((1 : Fin 4)).val, ((⟨2 * (i 2).val + 1, b1⟩ : Fin 32)).val, 0, 0] := congrArg (fun k => ![1, k, 0, 0]) (own_hi _ hn)
    have o0 : k0_off2 i 0#32 = ![((1 : Fin 4)).val, ((⟨2 * (i 2).val, b0⟩ : Fin 32)).val, 0, 0] := congrArg (fun k => ![1, k, 0, 0]) (own_lo _ hn)
    have h1 : ∀ a, k0_off2 i 1#32 a + S1x1x256x128.size a ≤ S4x32x256x128.size a := k0_off2_inb i 1
    have h0 : ∀ a, k0_off2 i 0#32 a + S1x1x256x128.size a ≤ S4x32x256x128.size a := k0_off2_inb i 0
    have eR := runFirstR_slab1 c i arg3 harg3 arg4 harg4 arg5 harg5 arg6 harg6 arg7 harg7 arg8 harg8 arg9 harg9 arg10 harg10 x0 x1 x2 hc0 h1 h0
    have eA := runFirstA_slab1 c i arg3 harg3 arg4 harg4 arg5 harg5 arg6 harg6 arg7 harg7 arg8 harg8 arg9 harg9 arg10 harg10 x0 x1 x2 hc0 h1 h0
    have S := Slab.diag hn (Slab.mid hn 1 128 inb_S4x256x256_S1x128x256_1_128_0 inb_S4x256x256_S1x256x256_1_0_0 inb_S256x512_S128x128_128_128 inb_S256x512_S256x128_0_128
      (fun r e y => hz_real hQ hK 1 ⟨2 * (i 2).val + 1, b1⟩ slices_S256x512_o128_128_S128x128 _ h1 o1 r e y) (vblk_of_prep hV 1 ⟨2 * (i 2).val + 1, b1⟩ _ h1 o1))
      (fun r e y => tz_real hQ hK 1 ⟨2 * (i 2).val, b0⟩ slices_S256x512_o0_128_S256x128 _ h0 o0 r e y) (vblk_of_prep hV 1 ⟨2 * (i 2).val, b0⟩ _ h0 o0)
    exact S.of_eq em eR eA
  | 2 =>
    have o1 : k0_off3 i 1#32 = ![((2 : Fin 4)).val, ((⟨2 * (i 2).val + 1, b1⟩ : Fin 32)).val, 0, 0] := congrArg (fun k => ![2, k, 0, 0]) (own_hi _ hn)
    have o0 : k0_off3 i 0#32 = ![((2 : Fin 4)).val, ((⟨2 * (i 2).val, b0⟩ : Fin 32)).val, 0, 0] := congrArg (fun k => ![2, k, 0, 0]) (own_lo _ hn)
    have h1 : ∀ a, k0_off3 i 1#32 a + S1x1x256x128.size a ≤ S4x32x256x128.size a := k0_off3_inb i 1
    have h0 : ∀ a, k0_off3 i 0#32 a + S1x1x256x128.size a ≤ S4x32x256x128.size a := k0_off3_inb i 0
    have eR := runFirstR_slab2 c i arg3 harg3 arg4 harg4 arg5 harg5 arg6 harg6 arg7 harg7 arg8 harg8 arg9 harg9 arg10 harg10 x0 x1 x2 hc0 h1 h0
    have eA := runFirstA_slab2 c i arg3 harg3 arg4 harg4 arg5 harg5 arg6 harg6 arg7 harg7 arg8 harg8 arg9 harg9 arg10 harg10 x0 x1 x2 hc0 h1 h0
    have S := Slab.diag hn (Slab.mid hn 2 256 inb_S4x256x256_S1x128x256_2_128_0 inb_S4x256x256_S1x256x256_2_0_0 inb_S256x512_S128x128_128_256 inb_S256x512_S256x128_0_256
      (fun r e y => hz_real hQ hK 2 ⟨2 * (i 2).val + 1, b1⟩ slices_S256x512_o128_256_S128x128 _ h1 o1 r e y) (vblk_of_prep hV 2 ⟨2 * (i 2).val + 1, b1⟩ _ h1 o1))
      (fun r e y => tz_real hQ hK 2 ⟨2 * (i 2).val, b0⟩ slices_S256x512_o0_256_S256x128 _ h0 o0 r e y) (vblk_of_prep hV 2 ⟨2 * (i 2).val, b0⟩ _ h0 o0)
    exact S.of_eq em eR eA
  | 3 =>
    have o1 : k0_off4 i 1#32 = ![((3 : Fin 4)).val, ((⟨2 * (i 2).val + 1, b1⟩ : Fin 32)).val, 0, 0] := congrArg (fun k => ![3, k, 0, 0]) (own_hi _ hn)
    have o0 : k0_off4 i 0#32 = ![((3 : Fin 4)).val, ((⟨2 * (i 2).val, b0⟩ : Fin 32)).val, 0, 0] := congrArg (fun k => ![3, k, 0, 0]) (own_lo _ hn)
    have h1 : ∀ a, k0_off4 i 1#32 a + S1x1x256x128.size a ≤ S4x32x256x128.size a := k0_off4_inb i 1
    have h0 : ∀ a, k0_off4 i 0#32 a + S1x1x256x128.size a ≤ S4x32x256x128.size a := k0_off4_inb i 0
    have eR := runFirstR_slab3 c i arg3 harg3 arg4 harg4 arg5 harg5 arg6 harg6 arg7 harg7 arg8 harg8 arg9 harg9 arg10 harg10 x0 x1 x2 hc0 h1 h0
    have eA := runFirstA_slab3 c i arg3 harg3 arg4 harg4 arg5 harg5 arg6 harg6 arg7 harg7 arg8 harg8 arg9 harg9 arg10 harg10 x0 x1 x2 hc0 h1 h0
    have S := Slab.diag hn (Slab.mid hn 3 384 inb_S4x256x256_S1x128x256_3_128_0 inb_S4x256x256_S1x256x256_3_0_0 inb_S256x512_S128x128_128_384 inb_S256x512_S256x128_0_384
      (fun r e y => hz_real hQ hK 3 ⟨2 * (i 2).val + 1, b1⟩ slices_S256x512_o128_384_S128x128 _ h1 o1 r e y) (vblk_of_prep hV 3 ⟨2 * (i 2).val + 1, b1⟩ _ h1 o1))
      (fun r e y => tz_real hQ hK 3 ⟨2 * (i 2).val, b0⟩ slices_S256x512_o0_384_S256x128 _ h0 o0 r e y) (vblk_of_prep hV 3 ⟨2 * (i 2).val, b0⟩ _ h0 o0)
    exact S.of_eq em eR eA

/-! ## The trips -/

section
variable (c : Dev nD) (i : grid0.Coords)
  (arg7 : Memref sig .tc .vmem S4x32x256x128 .bf16) (harg7 : arg7.IsWhole) (arg8 : Memref sig .tc .vmem S4x32x256x128 .bf16) (harg8 : arg8.IsWhole)
  (arg9 : Memref sig .tc .vmem S4x256x256 .f32) (harg9 : arg9.IsWhole) (arg10 : Memref sig .tc .vmem S256x512 .f32) (harg10 : arg10.IsWhole)
  (x0 : Vec Ideal S256x512 .bf16) (xs0 xs1 : Vec Ideal S4x32x256x128 .bf16)
  {Q : Fin 256 → Fin 512 → ℝ} (hQ : ∀ r j, @Eq EReal (x0 (ix2 r j)) (Q r j)) {K V : Fin 4 → Fin 128 → ℕ → ℝ} (hK : Prep K xs0) (hV : Prep V xs1)
include hQ hK hV

/-- One trip. -/
theorem tile_trip (j : ℕ) (hj : j < (i 2).val) (w : Ideal .f32) (hc : loopCond i (BitVec.ofNat 32 j) w = 1#1) (hw : k0_chk1 i (BitVec.ofNat 32 j)) (xr : Vec Ideal S4x256x256 .f32) (xa : Vec Ideal S256x512 .f32)
    (h : Tile (256 * (i 2).val) Q K V (256 * ((i 2).val - j)) xr xa) :
    Tile (256 * (i 2).val) Q K V (256 * ((i 2).val - (j + 1)))
      (tripR c i (qs x0) (k0_pay44 (F := Ideal)) arg7 harg7 arg8 harg8 arg9 harg9 arg10 harg10 xs0 xs1 _ w hc hw xr xa)
      (tripA c i (qs x0) (k0_pay44 (F := Ideal)) arg7 harg7 arg8 harg8 arg9 harg9 arg10 harg10 xs0 xs1 _ w hc hw xr xa) := by
  have hn := tile_lt i
  have b1 : 2 * ((i 2).val - 1 - j) + 1 < 32 := by omega
  have b0 : 2 * ((i 2).val - 1 - j) < 32 := by omega
  intro p
  have e1 : 128 * (2 * ((i 2).val - 1 - j) + 1 + 1) = 256 * ((i 2).val - j) := by omega
  have e0 : 256 * ((i 2).val - (j + 1)) = 128 * (2 * ((i 2).val - 1 - j)) := by omega
  match p with
  | 0 =>
    have o1 : k0_off5 i (BitVec.ofNat 32 j) 1#32 = ![((0 : Fin 4)).val, ((⟨2 * ((i 2).val - 1 - j) + 1, b1⟩ : Fin 32)).val, 0, 0] := congrArg (fun k => ![0, k, 0, 0]) (trip_at _ _ hn hj 1)
    have o0 : k0_off5 i (BitVec.ofNat 32 j) 0#32 = ![((0 : Fin 4)).val, ((⟨2 * ((i 2).val - 1 - j), b0⟩ : Fin 32)).val, 0, 0] := congrArg (fun k => ![0, k, 0, 0]) (trip_at _ _ hn hj 0)
    have h1 : ∀ a, k0_off5 i (BitVec.ofNat 32 j) 1#32 a + S1x1x256x128.size a ≤ S4x32x256x128.size a := k0_off5_inb i _ hw 1
    have h0 : ∀ a, k0_off5 i (BitVec.ofNat 32 j) 0#32 a + S1x1x256x128.size a ≤ S4x32x256x128.size a := k0_off5_inb i _ hw 0
    have eR := tripR_slab0 c i (qs x0) (k0_pay44 (F := Ideal)) arg7 harg7 arg8 harg8 arg9 harg9 arg10 harg10 xs0 xs1 _ w hc hw xr xa h1 h0
    have eA := tripA_slab0 c i (qs x0) (k0_pay44 (F := Ideal)) arg7 harg7 arg8 harg8 arg9 harg9 arg10 harg10 xs0 xs1 _ w hc hw xr xa h1 h0
    have S := Slab.trip b0 (by omega) (Slab.trip b1 (by omega) ((h 0).of_eq e1 rfl rfl)
      (fun r e y => tz_real hQ hK 0 ⟨2 * ((i 2).val - 1 - j) + 1, b1⟩ slices_S256x512_o0_0_S256x128 _ h1 o1 r e y) (vblk_of_prep hV 0 ⟨2 * ((i 2).val - 1 - j) + 1, b1⟩ _ h1 o1))
      (fun r e y => tz_real hQ hK 0 ⟨2 * ((i 2).val - 1 - j), b0⟩ slices_S256x512_o0_0_S256x128 _ h0 o0 r e y) (vblk_of_prep hV 0 ⟨2 * ((i 2).val - 1 - j), b0⟩ _ h0 o0)
    exact S.of_eq e0 eR eA
  | 1 =>
    have o1 : k0_off6 i (BitVec.ofNat 32 j) 1#32 = ![((1 : Fin 4)).val, ((⟨2 * ((i 2).val - 1 - j) + 1, b1⟩ : Fin 32)).val, 0, 0] := congrArg (fun k => ![1, k, 0, 0]) (trip_at _ _ hn hj 1)
    have o0 : k0_off6 i (BitVec.ofNat 32 j) 0#32 = ![((1 : Fin 4)).val, ((⟨2 * ((i 2).val - 1 - j), b0⟩ : Fin 32)).val, 0, 0] := congrArg (fun k => ![1, k, 0, 0]) (trip_at _ _ hn hj 0)
    have h1 : ∀ a, k0_off6 i (BitVec.ofNat 32 j) 1#32 a + S1x1x256x128.size a ≤ S4x32x256x128.size a := k0_off6_inb i _ hw 1
    have h0 : ∀ a, k0_off6 i (BitVec.ofNat 32 j) 0#32 a + S1x1x256x128.size a ≤ S4x32x256x128.size a := k0_off6_inb i _ hw 0
    have eR := tripR_slab1 c i (qs x0) (k0_pay44 (F := Ideal)) arg7 harg7 arg8 harg8 arg9 harg9 arg10 harg10 xs0 xs1 _ w hc hw xr xa h1 h0
    have eA := tripA_slab1 c i (qs x0) (k0_pay44 (F := Ideal)) arg7 harg7 arg8 harg8 arg9 harg9 arg10 harg10 xs0 xs1 _ w hc hw xr xa h1 h0
    have S := Slab.trip b0 (by omega) (Slab.trip b1 (by omega) ((h 1).of_eq e1 rfl rfl)
      (fun r e y => tz_real hQ hK 1 ⟨2 * ((i 2).val - 1 - j) + 1, b1⟩ slices_S256x512_o0_128_S256x128 _ h1 o1 r e y) (vblk_of_prep hV 1 ⟨2 * ((i 2).val - 1 - j) + 1, b1⟩ _ h1 o1))
      (fun r e y => tz_real hQ hK 1 ⟨2 * ((i 2).val - 1 - j), b0⟩ slices_S256x512_o0_128_S256x128 _ h0 o0 r e y) (vblk_of_prep hV 1 ⟨2 * ((i 2).val - 1 - j), b0⟩ _ h0 o0)
    exact S.of_eq e0 eR eA
  | 2 =>
    have o1 : k0_off7 i (BitVec.ofNat 32 j) 1#32 = ![((2 : Fin 4)).val, ((⟨2 * ((i 2).val - 1 - j) + 1, b1⟩ : Fin 32)).val, 0, 0] := congrArg (fun k => ![2, k, 0, 0]) (trip_at _ _ hn hj 1)
    have o0 : k0_off7 i (BitVec.ofNat 32 j) 0#32 = ![((2 : Fin 4)).val, ((⟨2 * ((i 2).val - 1 - j), b0⟩ : Fin 32)).val, 0, 0] := congrArg (fun k => ![2, k, 0, 0]) (trip_at _ _ hn hj 0)
    have h1 : ∀ a, k0_off7 i (BitVec.ofNat 32 j) 1#32 a + S1x1x256x128.size a ≤ S4x32x256x128.size a := k0_off7_inb i _ hw 1
    have h0 : ∀ a, k0_off7 i (BitVec.ofNat 32 j) 0#32 a + S1x1x256x128.size a ≤ S4x32x256x128.size a := k0_off7_inb i _ hw 0
    have eR := tripR_slab2 c i (qs x0) (k0_pay44 (F := Ideal)) arg7 harg7 arg8 harg8 arg9 harg9 arg10 harg10 xs0 xs1 _ w hc hw xr xa h1 h0
    have eA := tripA_slab2 c i (qs x0) (k0_pay44 (F := Ideal)) arg7 harg7 arg8 harg8 arg9 harg9 arg10 harg10 xs0 xs1 _ w hc hw xr xa h1 h0
    have S := Slab.trip b0 (by omega) (Slab.trip b1 (by omega) ((h 2).of_eq e1 rfl rfl)
      (fun r e y => tz_real hQ hK 2 ⟨2 * ((i 2).val - 1 - j) + 1, b1⟩ slices_S256x512_o0_256_S256x128 _ h1 o1 r e y) (vblk_of_prep hV 2 ⟨2 * ((i 2).val - 1 - j) + 1, b1⟩ _ h1 o1))
      (fun r e y => tz_real hQ hK 2 ⟨2 * ((i 2).val - 1 - j), b0⟩ slices_S256x512_o0_256_S256x128 _ h0 o0 r e y) (vblk_of_prep hV 2 ⟨2 * ((i 2).val - 1 - j), b0⟩ _ h0 o0)
    exact S.of_eq e0 eR eA
  | 3 =>
    have o1 : k0_off8 i (BitVec.ofNat 32 j) 1#32 = ![((3 : Fin 4)).val, ((⟨2 * ((i 2).val - 1 - j) + 1, b1⟩ : Fin 32)).val, 0, 0] := congrArg (fun k => ![3, k, 0, 0]) (trip_at _ _ hn hj 1)
    have o0 : k0_off8 i (BitVec.ofNat 32 j) 0#32 = ![((3 : Fin 4)).val, ((⟨2 * ((i 2).val - 1 - j), b0⟩ : Fin 32)).val, 0, 0] := congrArg (fun k => ![3, k, 0, 0]) (trip_at _ _ hn hj 0)
    have h1 : ∀ a, k0_off8 i (BitVec.ofNat 32 j) 1#32 a + S1x1x256x128.size a ≤ S4x32x256x128.size a := k0_off8_inb i _ hw 1
    have h0 : ∀ a, k0_off8 i (BitVec.ofNat 32 j) 0#32 a + S1x1x256x128.size a ≤ S4x32x256x128.size a := k0_off8_inb i _ hw 0
    have eR := tripR_slab3 c i (qs x0) (k0_pay44 (F := Ideal)) arg7 harg7 arg8 harg8 arg9 harg9 arg10 harg10 xs0 xs1 _ w hc hw xr xa h1 h0
    have eA := tripA_slab3 c i (qs x0) (k0_pay44 (F := Ideal)) arg7 harg7 arg8 harg8 arg9 harg9 arg10 harg10 xs0 xs1 _ w hc hw xr xa h1 h0
    have S := Slab.trip b0 (by omega) (Slab.trip b1 (by omega) ((h 3).of_eq e1 rfl rfl)
      (fun r e y => tz_real hQ hK 3 ⟨2 * ((i 2).val - 1 - j) + 1, b1⟩ slices_S256x512_o0_384_S256x128 _ h1 o1 r e y) (vblk_of_prep hV 3 ⟨2 * ((i 2).val - 1 - j) + 1, b1⟩ _ h1 o1))
      (fun r e y => tz_real hQ hK 3 ⟨2 * ((i 2).val - 1 - j), b0⟩ slices_S256x512_o0_384_S256x128 _ h0 o0 r e y) (vblk_of_prep hV 3 ⟨2 * ((i 2).val - 1 - j), b0⟩ _ h0 o0)
    exact S.of_eq e0 eR eA

omit hQ hK hV in
/-- The least running sum after a trip is over the sums the trip leaves. -/
theorem tripM_eq (j : BitVec 32) (w : Ideal .f32) (hc : loopCond i j w = 1#1) (hw : k0_chk1 i j) (xr : Vec Ideal S4x256x256 .f32) (xa : Vec Ideal S256x512 .f32) :
    tripM c i (qs x0) (k0_pay44 (F := Ideal)) arg7 harg7 arg8 harg8 arg9 harg9 arg10 harg10 xs0 xs1 j w hc hw xr xa =
      k0_pay7 (View.ld (tripR c i (qs x0) (k0_pay44 (F := Ideal)) arg7 harg7 arg8 harg8 arg9 harg9 arg10 harg10 xs0 xs1 j w hc hw xr xa) (Rect.unit ![0, 0, 0] S4x256x256.size inb_S4x256x256_S4x256x256_0_0_0)) := by
  unfold tripR
  rw [View.read_writes_junk_eq_canon]
  have e : tripM c i (qs x0) (k0_pay44 (F := Ideal)) arg7 harg7 arg8 harg8 arg9 harg9 arg10 harg10 xs0 xs1 j w hc hw xr xa =
      k0_pay7 (F := Ideal) (tripRun.sl.v980 c i (qs x0) (k0_pay44 (F := Ideal)) arg7 harg7 arg9 harg9 j hw xs0 xr) := by
    delta tripM tripRun
    dsimp only
  refine e.trans (congrArg (k0_pay7 (F := Ideal)) ?_)
  rw [ld_canon arg9.view, tripRun.sl.v980]
  rfl

omit hQ hK hV in
theorem foldl_min_le {α : Type*} (g : α → EReal) : ∀ (l : List α) (b : EReal), l.foldl (fun r n => min r (g n)) b ≤ b ∧ ∀ n ∈ l, l.foldl (fun r n => min r (g n)) b ≤ g n
  | [], b => ⟨le_rfl, fun n h => absurd h (List.not_mem_nil)⟩
  | a :: l, b => by
      have ih := foldl_min_le g l (min b (g a))
      refine ⟨ih.1.trans (min_le_left _ _), fun n h => ?_⟩
      rcases List.mem_cons.mp h with rfl | h
      · exact ih.1.trans (min_le_right _ _)
      · exact ih.2 n h

omit hQ hK hV in
theorem reduceFold_min_lt {s t : Shape} {axes : List (Fin s.rank)} (h : s.Reduces axes t) (b : EReal) (x : s.Idx → EReal) (i : s.Idx) (j : t.Idx) (hij : h.drop i = j) (hx : x i < ⊤) :
    reduceFold h min b x j < ⊤ := by
  unfold reduceFold
  refine lt_of_le_of_lt ((foldl_min_le (fun n => x (s.rowMajor.symm n)) _ b).2 (s.rowMajor i) ?_) ?_
  · exact List.mem_filter.mpr ⟨List.mem_finRange _, decide_eq_true (by rw [Equiv.symm_apply_apply]; exact hij)⟩
  · show x (s.rowMajor.symm (s.rowMajor i)) < ⊤
    rw [Equiv.symm_apply_apply]
    exact hx

omit hQ hK hV in
/-- The least of finitely many real numbers is below infinity. -/
theorem least_lt (X : Vec Ideal S4x256x256 .f32) (h : ∀ y, @LT.lt EReal _ (X y) ⊤) : @LT.lt EReal _ (k0_pay7 (F := Ideal) X) ⊤ := by
  have hs : ∀ a b : S1.Idx, a = b := fun a b => funext fun k => Fin.ext (by
    have ha := (a k).isLt
    have hb := (b k).isLt
    match k with
    | ⟨0, _⟩ => change _ < 1 at ha hb; omega)
  have hc' : ∀ y, @LT.lt EReal _ (shapeCast S1x4x256x256 X shapeCasts_S4x256x256_S1x4x256x256 y) ⊤ := fun y => by
    unfold shapeCast
    exact h _
  dsimp only [k0_pay7]
  generalize hX : shapeCast S1x4x256x256 X shapeCasts_S4x256x256_S1x4x256x256 = Y at hc' ⊢
  clear hX
  have hY : ∀ j, @LT.lt EReal _ (multiReduction (F := Ideal) (φ := .f32) .minimumf [1, 2, 3] S1 Y 0x7F800000#32 reduces_S1x4x256x256_S1 (.inl rfl) rfl j) ⊤ := fun j =>
    reduceFold_min_lt reduces_S1x4x256x256_S1 _ Y (ix4 (0 : Fin 1) (0 : Fin 4) (0 : Fin 256) (0 : Fin 256)) j (hs _ _) (hc' _)
  generalize multiReduction (F := Ideal) (φ := .f32) .minimumf [1, 2, 3] S1 Y 0x7F800000#32 reduces_S1x4x256x256_S1 (.inl rfl) rfl = Z at hY ⊢
  unfold extractAt shapeCast
  exact hY _

omit hQ hK hV in
/-- A running sum is below infinity. -/
theorem whole_lt {T m : ℕ} {R : Vec Ideal S4x256x256 .f32} {A : Vec Ideal S256x512 .f32} (h : Tile T Q K V m R A) (y : S4x256x256.Idx) :
    @LT.lt EReal _ ((View.ld R (Rect.unit ![0, 0, 0] S4x256x256.size inb_S4x256x256_S4x256x256_0_0_0) : Vec Ideal S4x256x256 .f32) y) ⊤ := by
  obtain ⟨e, x, he⟩ := hc_surj (y 2)
  have hy : (Rect.unit ![0, 0, 0] S4x256x256.size inb_S4x256x256_S4x256x256_0_0_0 : Rect S4x256x256).idx y = ix3 (y 0) (y 1) (hc e x) := by
    refine funext fun k => Fin.ext ?_
    match k with
    | ⟨0, _⟩ => show 0 + 1 * (y 0).val = (y 0).val; omega
    | ⟨1, _⟩ => show 0 + 1 * (y 1).val = (y 1).val; omega
    | ⟨2, _⟩ => show 0 + 1 * (y 2).val = (hc e x).val; rw [← he]; omega
  exact lt_of_eq_of_lt ((congrArg R hy).trans (h.run (y 0) (y 1) e x)) (EReal.coe_lt_top _)

omit hQ hK hV in
/-- The loop's test passes before the tile's own number, at a least sum below infinity. -/
theorem test_passes (j : ℕ) (hj : j < (i 2).val) (w : Ideal .f32) (hw : @LT.lt EReal _ w ⊤) : loopCond (F := Ideal) i (BitVec.ofNat 32 j) w = 1#1 := by
  have hn := tile_lt i
  have h1 : Scalar.cmpi .slt (BitVec.ofNat 32 j) (BitVec.ofNat 32 (i 2).val) = 1#1 := (slt_small j (i 2).val (by omega) (by omega)).trans (if_pos hj)
  have hT : Named.named (F := Ideal) κ "exp_zero" (φ := .f32) 0x42D00000#32 = (⊤ : EReal) := IdealRules.named_const.ideal_named_scalar _ _ _ _ rfl
  have h2 : Scalar.cmpf .olt w (Named.named (F := Ideal) κ "exp_zero" 0x42D00000#32) = 1#1 := by
    rw [hT]
    exact congrArg BitVec.ofBool (decide_eq_true hw)
  unfold loopCond
  rw [h1, h2]
  rfl

/-- The loop meets every key before the tile's own. -/
theorem tile_sweep : ∀ (k j : ℕ) (w : Ideal .f32) (xr : Vec Ideal S4x256x256 .f32) (xa : Vec Ideal S256x512 .f32), j + k = (i 2).val → @LT.lt EReal _ w ⊤ →
    Tile (256 * (i 2).val) Q K V (256 * ((i 2).val - j)) xr xa →
    ∃ R, Tile (256 * (i 2).val) Q K V 0 R (sweep c i (qs x0) (k0_pay44 (F := Ideal)) arg7 harg7 arg8 harg8 arg9 harg9 arg10 harg10 xs0 xs1 k j w xr xa) := by
  intro k
  induction k with
  | zero =>
    intro j w xr xa e _ h
    have e0 : 256 * ((i 2).val - j) = 0 := by omega
    rw [e0] at h
    exact ⟨xr, h⟩
  | succ k ih =>
    intro j w xr xa e hw h
    have hj : j < (i 2).val := by omega
    have hc : loopCond (F := Ideal) i (BitVec.ofNat 32 j) w = 1#1 ∧ k0_chk1 i (BitVec.ofNat 32 j) := ⟨test_passes i j hj w hw, chk_of_lt i j hj⟩
    rw [sweep, dif_pos hc]
    have h' := tile_trip c i arg7 harg7 arg8 harg8 arg9 harg9 arg10 harg10 x0 xs0 xs1 hQ hK hV j hj w hc.1 hc.2 xr xa h
    refine ih (j + 1) _ _ _ (by omega) ?_ h'
    rw [tripM_eq]
    exact least_lt _ fun y => whole_lt h' y

end

end Cert.Proof.Sb
-- ==== Proof.SbFrame.lean ====
module

public import proofs.«01_k».proof.Proof.Gen.Kernel9Ideal
public import proofs.«01_k».proof.Proof.Gen.Kernel9Ideal.Launch
public import proofs.«01_k».proof.Proof.Gen.Kernel9Ideal.Skeleton
public import proofs.«01_k».proof.Proof.Gen.Kernel9Ideal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim
public import proofs.«01_k».proof.Proof.SbRuns

/-! # Stick-breaking attention: the frame

What the buffers hold at every grid point, and the run of the whole program. -/

@[expose] public section

set_option maxRecDepth 16384

noncomputable section

namespace Cert.Proof.Sb

open Cert.Kernel9Ideal Cert.Kernel9Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The buffers of a core when the grid is entered: as launched. -/
abbrev V (c : Dev nD) (b : Ref sig .tc) : Buf (Elt F) ((c : Thread nD τ).loc b) := m ((c : Thread nD τ).loc b)

/-- The program is the grid alone. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block at point `t`. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-! An input's staging buffer holds its block at every point, fetched there or not. -/

theorem before0_0_of {c : Dev nD} (dat : Dat τ (Elt F) Unit ℕ (UR sig nD τ) ℕ (cfg0 (F := F)) c) (hA : dat.A 0 = V m c (Pipeline.arrRef spec0 0))
    (hafter : ∀ t, dat.after 0 t = iblk m c 0 t) (t : Fin (cfg0 (F := F)).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ (cfg0 (F := F)) c) (hA : dat.A 1 = V m c (Pipeline.arrRef spec0 1))
    (hafter : ∀ t, dat.after 1 t = iblk m c 1 t) (t : Fin (cfg0 (F := F)).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ (cfg0 (F := F)) c) (hA : dat.A 2 = V m c (Pipeline.arrRef spec0 2))
    (hafter : ∀ t, dat.after 2 t = iblk m c 2 t) (t : Fin (cfg0 (F := F)).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- A point is the first query tile of its batch and group when it is a multiple of sixteen. -/
theorem first_iff : ∀ t : Fin (cfg0 (F := F)).N, first (grid0.coords t) ↔ t.val % 16 = 0 :=
  (fun t => by
    have ht : t.val < 128 := Nat.lt_of_lt_of_eq t.isLt N_0
    have e2 : (grid0.coords t 2).val = t.val / 1 % 16 := Pipeline.Grid.coords_val t 2 (by decide) rfl
    simp only [first, e2]
    word_cmp
   : ∀ t : Fin grid0.N, first (grid0.coords t) ↔ t.val % 16 = 0)

/-! The windows' staging buffers at a point, and the kernel's own buffers. -/

abbrev ms0_0 (t : Fin (cfg0 (F := F)).N) : Memref sig .tc .vmem S256x512 .bf16 := win0_0.stage ((cfg0 (F := F)).slots t 0)
abbrev hs0_0 (t : Fin (cfg0 (F := F)).N) : (ms0_0 t).IsWhole := hstage0_0 (((cfg0 (F := F)).slots t 0).cast nbuf0_0)
abbrev ms0_1 (t : Fin (cfg0 (F := F)).N) : Memref sig .tc .vmem S4096x512 .bf16 := win0_1.stage ((cfg0 (F := F)).slots t 1)
abbrev hs0_1 (t : Fin (cfg0 (F := F)).N) : (ms0_1 t).IsWhole := hstage0_1 (((cfg0 (F := F)).slots t 1).cast nbuf0_1)
abbrev ms0_2 (t : Fin (cfg0 (F := F)).N) : Memref sig .tc .vmem S4096x512 .bf16 := win0_2.stage ((cfg0 (F := F)).slots t 2)
abbrev hs0_2 (t : Fin (cfg0 (F := F)).N) : (ms0_2 t).IsWhole := hstage0_2 (((cfg0 (F := F)).slots t 2).cast nbuf0_2)
abbrev ms0_3 (t : Fin (cfg0 (F := F)).N) : Memref sig .tc .vmem S256x512 .bf16 := win0_3.stage ((cfg0 (F := F)).slots t 3)
abbrev hs0_3 (t : Fin (cfg0 (F := F)).N) : (ms0_3 t).IsWhole := hstage0_3 (((cfg0 (F := F)).slots t 3).cast nbuf0_3)
abbrev scM0_0 : Memref sig .tc .vmem S4x32x256x128 .bf16 := Memref.whole cc0_scratch0
abbrev scM0_1 : Memref sig .tc .vmem S4x32x256x128 .bf16 := Memref.whole cc0_scratch1
abbrev scM0_2 : Memref sig .tc .vmem S4x256x256 .f32 := Memref.whole cc0_scratch2
abbrev scM0_3 : Memref sig .tc .vmem S256x512 .f32 := Memref.whole cc0_scratch3
abbrev VK : View sig .tc .vmem S4x32x256x128 .bf16 := scM0_0.view
abbrev VV : View sig .tc .vmem S4x32x256x128 .bf16 := scM0_1.view
abbrev VO : View sig .tc .vmem S256x512 .bf16 := (Memref.whole cc0_stg3_0 : Memref sig .tc .vmem S256x512 .bf16).view

/-- The invariant a launch hands over: the kernel's own buffers at anything, and the generator's register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-! ## What the buffers hold -/

/-- The end of the kernel writes the pieces found here over the output block. -/
noncomputable def restRun (c : Dev nD) (arg6 : Memref sig .tc .vmem S256x512 .bf16) (harg6 : arg6.IsWhole) (arg10 : Memref sig .tc .vmem S256x512 .f32) (harg10 : arg10.IsWhole)
    (xa : Vec F S256x512 .f32) :
    { L : List (View.Piece (Elt F) S256x512 .bf16) // ∀ (E : Set ℕ) (K : PUnit → sProp 𝕄),
      iprop((∃ d, owns (c : Thread nD τ) arg6 fullShare d) ∗ owns (c : Thread nD τ) arg10 fullShare xa
        ∗ (iprop((∃ f, arg6.view.loc (c : Thread nD τ) ↦[arg6.view.set]{fullShare} arg6.view.writes (Elt F) f L) ∗ owns (c : Thread nD τ) arg10 fullShare xa) -∗ K ⟨⟩))
      ⊢ wp frame (wpE (defs₀ (F := F)) 𝒱 c none) E (rest arg6 harg6 arg10 harg10) K } := by
  refine ⟨?_, fun E K => ?run⟩
  case run =>
    unfold rest owns
    iintro ⟨⟨%d3, %f3, -, H3⟩, ⟨%fs3, %hfs3, HS3⟩, Hk⟩
    obtain rfl := harg10.eq_unread hfs3
    sl_exec
    sl_step
    iapply Hk
    isplitl [H3]; · iexists _; iexact H3
    iexists _; isplitr; · ipureintro; exact harg10.read_unread _
    iexact HS3

theorem restCover (c : Dev nD) (arg6 : Memref sig .tc .vmem S256x512 .bf16) (harg6 : arg6.IsWhole) (arg10 : Memref sig .tc .vmem S256x512 .f32) (harg10 : arg10.IsWhole)
    (xa : Vec F S256x512 .f32) (y : S256x512.Idx) : ∃ pc ∈ (restRun c arg6 harg6 arg10 harg10 xa).1, y ∈ pc.1.set :=
  View.cover_of_tiledL (restRun c arg6 harg6 arg10 harg10 xa).1 S256x512.size (by sl_kernel_rfl) y

/-- The output block once the accumulator holds `xa`. -/
def outOf (c : Dev nD) (t : Fin (cfg0 (F := F)).N) (xa : Vec F S256x512 .f32) : Vec F S256x512 .bf16 :=
  VO.read (Elt F) (VO.writes (Elt F) VO.junk (restRun c (ms0_3 t) (hs0_3 t) scM0_3 (Memref.isWhole_whole _) xa).1)

section First

variable (c : Dev nD) (t : Fin (cfg0 (F := F)).N) (h : first (grid0.coords t))

theorem firstCoverK (y : S4x32x256x128.Idx) : ∃ pc ∈ (runFirst c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) h (iblk m c 0 t) (iblk m c 1 t) (iblk m c 2 t)).2.2.1, y ∈ pc.1.set :=
  View.cover_of_tiledL (runFirst c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) h (iblk m c 0 t) (iblk m c 1 t) (iblk m c 2 t)).2.2.1 S1x32x128x128.size (by sl_kernel_rfl) y
theorem firstCoverV (y : S4x32x256x128.Idx) : ∃ pc ∈ (runFirst c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) h (iblk m c 0 t) (iblk m c 1 t) (iblk m c 2 t)).2.2.2.1, y ∈ pc.1.set :=
  View.cover_of_tiledL (runFirst c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) h (iblk m c 0 t) (iblk m c 1 t) (iblk m c 2 t)).2.2.2.1 S1x32x128x128.size (by sl_kernel_rfl) y
theorem firstCoverR (y : S4x256x256.Idx) : ∃ pc ∈ (runFirst c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) h (iblk m c 0 t) (iblk m c 1 t) (iblk m c 2 t)).2.2.2.2.1, y ∈ pc.1.set :=
  View.cover_of_tiledL (runFirst c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) h (iblk m c 0 t) (iblk m c 1 t) (iblk m c 2 t)).2.2.2.2.1 S1x256x256.size (by sl_kernel_rfl) y
theorem firstCoverA (y : S256x512.Idx) : ∃ pc ∈ (runFirst c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) h (iblk m c 0 t) (iblk m c 1 t) (iblk m c 2 t)).2.2.2.2.2.1, y ∈ pc.1.set :=
  View.cover_of_tiledL (runFirst c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) h (iblk m c 0 t) (iblk m c 1 t) (iblk m c 2 t)).2.2.2.2.2.1 S256x128.size (by sl_kernel_rfl) y

/-- The keys prepared at a first query tile, -/
def kxF : Vec F S4x32x256x128 .bf16 := VK.read (Elt F) (VK.writes (Elt F) VK.junk (runFirst c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) h (iblk m c 0 t) (iblk m c 1 t) (iblk m c 2 t)).2.2.1)
/-- the values, -/
def vxF : Vec F S4x32x256x128 .bf16 := VV.read (Elt F) (VV.writes (Elt F) VV.junk (runFirst c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) h (iblk m c 0 t) (iblk m c 1 t) (iblk m c 2 t)).2.2.2.1)
/-- the running totals when the loop is reached, -/
def rF : Vec F S4x256x256 .f32 := VR.read (Elt F) (VR.writes (Elt F) VR.junk (runFirst c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) h (iblk m c 0 t) (iblk m c 1 t) (iblk m c 2 t)).2.2.2.2.1)
/-- the accumulator then, -/
def aF : Vec F S256x512 .f32 := VA.read (Elt F) (VA.writes (Elt F) VA.junk (runFirst c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) h (iblk m c 0 t) (iblk m c 1 t) (iblk m c 2 t)).2.2.2.2.2.1)
/-- and the accumulator after the loop. -/
def accF : Vec F S256x512 .f32 :=
  sweep c (grid0.coords t) (runFirst c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) h (iblk m c 0 t) (iblk m c 1 t) (iblk m c 2 t)).1 (runFirst c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) h (iblk m c 0 t) (iblk m c 1 t) (iblk m c 2 t)).2.1 scM0_0 (Memref.isWhole_whole _) scM0_1 (Memref.isWhole_whole _) scM0_2 (Memref.isWhole_whole _) scM0_3 (Memref.isWhole_whole _) (kxF m c t h) (vxF m c t h)
    (grid0.coords t 2).val 0 (Scalar.ofBits .f32 0x00000000#32) (rF m c t h) (aF m c t h)

end First

/-- The first query tile of a point's batch and group. -/
def base (t : Fin (cfg0 (F := F)).N) : Fin (cfg0 (F := F)).N := ⟨16 * (t.val / 16), by have := t.isLt; omega⟩

theorem base_first (t : Fin (cfg0 (F := F)).N) : first (grid0.coords (base t)) := (first_iff _).mpr (by show 16 * (t.val / 16) % 16 = 0; omega)

/-- The prepared keys a point finds or leaves, -/
def kxAt (c : Dev nD) (t : Fin (cfg0 (F := F)).N) : Vec F S4x32x256x128 .bf16 := kxF m c (base t) (base_first t)
/-- and the values. -/
def vxAt (c : Dev nD) (t : Fin (cfg0 (F := F)).N) : Vec F S4x32x256x128 .bf16 := vxF m c (base t) (base_first t)

theorem base_of_first (t : Fin (cfg0 (F := F)).N) (h : t.val % 16 = 0) : base t = t := Fin.ext (by show 16 * (t.val / 16) = t.val; omega)

theorem kxF_congr (c : Dev nD) {t t' : Fin (cfg0 (F := F)).N} (e : t = t') (h : first (grid0.coords t)) (h' : first (grid0.coords t')) : kxF m c t h = kxF m c t' h' := by
  subst e; rfl
theorem vxF_congr (c : Dev nD) {t t' : Fin (cfg0 (F := F)).N} (e : t = t') (h : first (grid0.coords t)) (h' : first (grid0.coords t')) : vxF m c t h = vxF m c t' h' := by
  subst e; rfl

section Later

variable (c : Dev nD) (t : Fin (cfg0 (F := F)).N) (h : ¬first (grid0.coords t))

theorem laterCoverR (y : S4x256x256.Idx) : ∃ pc ∈ (runLater c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) h (iblk m c 0 t) (iblk m c 1 t) (iblk m c 2 t) (kxAt m c t) (vxAt m c t)).2.2.1, y ∈ pc.1.set :=
  View.cover_of_tiledL (runLater c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) h (iblk m c 0 t) (iblk m c 1 t) (iblk m c 2 t) (kxAt m c t) (vxAt m c t)).2.2.1 S1x256x256.size (by sl_kernel_rfl) y
theorem laterCoverA (y : S256x512.Idx) : ∃ pc ∈ (runLater c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) h (iblk m c 0 t) (iblk m c 1 t) (iblk m c 2 t) (kxAt m c t) (vxAt m c t)).2.2.2.1, y ∈ pc.1.set :=
  View.cover_of_tiledL (runLater c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) h (iblk m c 0 t) (iblk m c 1 t) (iblk m c 2 t) (kxAt m c t) (vxAt m c t)).2.2.2.1 S256x128.size (by sl_kernel_rfl) y

/-- The running totals at a later query tile when the loop is reached, -/
def rL : Vec F S4x256x256 .f32 := VR.read (Elt F) (VR.writes (Elt F) VR.junk (runLater c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) h (iblk m c 0 t) (iblk m c 1 t) (iblk m c 2 t) (kxAt m c t) (vxAt m c t)).2.2.1)
/-- the accumulator then, -/
def aL : Vec F S256x512 .f32 := VA.read (Elt F) (VA.writes (Elt F) VA.junk (runLater c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) h (iblk m c 0 t) (iblk m c 1 t) (iblk m c 2 t) (kxAt m c t) (vxAt m c t)).2.2.2.1)
/-- and the accumulator after the loop. -/
def accL : Vec F S256x512 .f32 :=
  sweep c (grid0.coords t) (runLater c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) h (iblk m c 0 t) (iblk m c 1 t) (iblk m c 2 t) (kxAt m c t) (vxAt m c t)).1 (runLater c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) h (iblk m c 0 t) (iblk m c 1 t) (iblk m c 2 t) (kxAt m c t) (vxAt m c t)).2.1 scM0_0 (Memref.isWhole_whole _) scM0_1 (Memref.isWhole_whole _) scM0_2 (Memref.isWhole_whole _) scM0_3 (Memref.isWhole_whole _) (kxAt m c t) (vxAt m c t)
    (grid0.coords t 2).val 0 (Scalar.ofBits .f32 0x00000000#32) (rL m c t h) (aL m c t h)

end Later

/-- The output block after a point's body. -/
def outAt (c : Dev nD) (t : Fin (cfg0 (F := F)).N) : Vec F S256x512 .bf16 :=
  if h : first (grid0.coords t) then outOf c t (accF m c t h) else outOf c t (accL m c t h)

/-- The invariant before position `n`: before the first point the kernel's buffers at anything; afterwards the prepared keys
    and values at what the point before left. -/
def PhiS (c : Dev nD) : (n : ℕ) → n ≤ (cfg0 (F := F)).N → sProp 𝕄
  | 0, _ => Pipeline.ΦA spec0 c
  | n + 1, hn => iprop(iprop(owns (c : Thread nD τ) scM0_0 fullShare (kxAt m c ⟨n, hn⟩) ∗ owns (c : Thread nD τ) scM0_1 fullShare (vxAt m c ⟨n, hn⟩) ∗ (∃ d, owns (c : Thread nD τ) scM0_2 fullShare d) ∗ (∃ d, owns (c : Thread nD τ) scM0_3 fullShare d)) ∗ (∃ r, prngReg c r))

theorem PhiS_zero (c : Dev nD) (n : ℕ) (h : n ≤ (cfg0 (F := F)).N) (hz : n = 0) : PhiS m c n h = Pipeline.ΦA spec0 c := by
  subst hz; rfl

theorem PhiS_succ (c : Dev nD) (n : ℕ) (hn : n < (cfg0 (F := F)).N) :
    PhiS m c (n + 1) hn = iprop(iprop(owns (c : Thread nD τ) scM0_0 fullShare (kxAt m c ⟨n, hn⟩) ∗ owns (c : Thread nD τ) scM0_1 fullShare (vxAt m c ⟨n, hn⟩) ∗ (∃ d, owns (c : Thread nD τ) scM0_2 fullShare d) ∗ (∃ d, owns (c : Thread nD τ) scM0_3 fullShare d)) ∗ (∃ r, prngReg c r)) := rfl

theorem PhiS_pos (c : Dev nD) (n : ℕ) (h : n ≤ (cfg0 (F := F)).N) (hz : n ≠ 0) :
    PhiS m c n h = iprop(iprop(owns (c : Thread nD τ) scM0_0 fullShare (kxAt m c ⟨n - 1, by omega⟩) ∗ owns (c : Thread nD τ) scM0_1 fullShare (vxAt m c ⟨n - 1, by omega⟩) ∗ (∃ d, owns (c : Thread nD τ) scM0_2 fullShare d) ∗ (∃ d, owns (c : Thread nD τ) scM0_3 fullShare d)) ∗ (∃ r, prngReg c r)) := by
  cases n with
  | zero => exact absurd rfl hz
  | succ n => rfl

/-- The proof data of the grid on core `c`. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ t := PhiS m c t.val (Nat.le_of_lt_succ t.isLt)
  q w := Pipeline.shareOf spec0 w
  owed _ := 0

theorem A_eq (c : Dev nD) (w : Fin (cfg0 (F := F)).W) : (dats m 0 c).A w = V m c (Pipeline.arrRef spec0 w) := by
  dsimp only [dats]

theorem PhiS_castSucc (c : Dev nD) (t : Fin (cfg0 (F := F)).N) :
    (dats m 0 c).Φ t.castSucc = PhiS m c t.val (Nat.le_of_lt t.isLt) := by
  dsimp only [dats]; exact Pipeline.Dat.Φ_castSucc (PhiS m c) t

theorem after0_0 (c : Dev nD) (t : Fin (cfg0 (F := F)).N) : (dats m 0 c).after 0 t = iblk m c 0 t := by dsimp only [dats]; rfl
theorem after0_1 (c : Dev nD) (t : Fin (cfg0 (F := F)).N) : (dats m 0 c).after 1 t = iblk m c 1 t := by dsimp only [dats]; rfl
theorem after0_2 (c : Dev nD) (t : Fin (cfg0 (F := F)).N) : (dats m 0 c).after 2 t = iblk m c 2 t := by dsimp only [dats]; rfl
theorem after0_3 (c : Dev nD) (t : Fin (cfg0 (F := F)).N) : (dats m 0 c).after 3 t = outAt m c t := by dsimp only [dats]; rfl

theorem before0_0 (c : Dev nD) (t : Fin (cfg0 (F := F)).N) (d) : (dats m 0 c).before 0 t d = iblk m c 0 t :=
  before0_0_of m (dats m 0 c) (A_eq m c 0) (after0_0 m c) t d
theorem before0_1 (c : Dev nD) (t : Fin (cfg0 (F := F)).N) (d) : (dats m 0 c).before 1 t d = iblk m c 1 t :=
  before0_1_of m (dats m 0 c) (A_eq m c 1) (after0_1 m c) t d
theorem before0_2 (c : Dev nD) (t : Fin (cfg0 (F := F)).N) (d) : (dats m 0 c).before 2 t d = iblk m c 2 t :=
  before0_2_of m (dats m 0 c) (A_eq m c 2) (after0_2 m c) t d

/-! ## The body -/

/-- The kernel's own call of its loop and what follows it, from the prepared keys and values, the totals and the accumulator. -/
theorem after_call (c : Dev nD) (t : Fin (cfg0 (F := F)).N) (v8 : FVec F S256x512 .bf16) (v34 : FVec F S256x256 .bf16) (kx vx : Vec F S4x32x256x128 .bf16)
    (xr : Vec F S4x256x256 .f32) (xa : Vec F S256x512 .f32) (K : PUnit → sProp 𝕄) :
    iprop((∃ d, owns (c : Thread nD τ) (ms0_3 t) fullShare d) ∗ owns (c : Thread nD τ) scM0_0 fullShare kx ∗ owns (c : Thread nD τ) scM0_1 fullShare vx ∗ owns (c : Thread nD τ) scM0_2 fullShare xr ∗ owns (c : Thread nD τ) scM0_3 fullShare xa
      ∗ (iprop(owns (c : Thread nD τ) (ms0_3 t) fullShare (outOf c t (sweep c (grid0.coords t) v8 v34 scM0_0 (Memref.isWhole_whole _) scM0_1 (Memref.isWhole_whole _) scM0_2 (Memref.isWhole_whole _) scM0_3 (Memref.isWhole_whole _) kx vx
            (grid0.coords t 2).val 0 (Scalar.ofBits .f32 0x00000000#32) xr xa))
          ∗ owns (c : Thread nD τ) scM0_0 fullShare kx ∗ owns (c : Thread nD τ) scM0_1 fullShare vx ∗ (∃ d, owns (c : Thread nD τ) scM0_2 fullShare d) ∗ (∃ d, owns (c : Thread nD τ) scM0_3 fullShare d)) -∗ K ⟨⟩))
    ⊢ wp frame (wpE (defs₀ (F := F)) 𝒱 c none) Set.univ
        (Prog.op (.call (1 : (Λ₀ F).Label) ⟨grid0.coords t, v8, scM0_0, Memref.isWhole_whole _, v34, scM0_2, Memref.isWhole_whole _, scM0_3, Memref.isWhole_whole _, scM0_1, Memref.isWhole_whole _, 0#32, Scalar.ofBits .f32 0x00000000#32⟩)
          fun _ => rest (ms0_3 t) (hs0_3 t) scM0_3 (Memref.isWhole_whole _)) K := by
  iintro ⟨H3, HS0, HS1, HS2, HS3, Hk⟩
  iapply (wp_call_spec 𝒱 (c : Thread nD τ) none Set.univ (spec c (grid0.coords t) v8 v34 scM0_0 (Memref.isWhole_whole _) scM0_1 (Memref.isWhole_whole _) scM0_2 (Memref.isWhole_whole _) scM0_3 (Memref.isWhole_whole _) kx vx (grid0.coords t 2).val 0 (Scalar.ofBits .f32 0x00000000#32) xr xa)
    (grid0.coords t 2).val (fun u hu => nomatch hu) (spec_le c (grid0.coords t) v8 v34 scM0_0 (Memref.isWhole_whole _) scM0_1 (Memref.isWhole_whole _) scM0_2 (Memref.isWhole_whole _) scM0_3 (Memref.isWhole_whole _) kx vx Set.univ _ 0 (Nat.zero_add _) _ xr xa))
  rw [spec_apply]; unfold heldIn heldOut
  isplitl [HS0 HS1 HS2 HS3]
  · isplitl [HS0]; · iexact HS0
    isplitl [HS1]; · iexact HS1
    isplitl [HS2]; · iexact HS2
    iexact HS3
  iintro %r ⟨HS0, HS1, HS2, HS3⟩
  iapply ((restRun c (ms0_3 t) (hs0_3 t) scM0_3 (Memref.isWhole_whole _) _).2 Set.univ K)
  isplitl [H3]; · iexact H3
  isplitl [HS3]; · iexact HS3
  iintro ⟨⟨%f, H3⟩, HS3⟩
  iapply Hk
  isplitl [H3]
  · unfold owns; iexists _; isplitr
    swap; · iexact H3
    ipureintro; exact View.read_writes_of_cover _ _ _ _ _ (restCover c _ _ _ _ _)
  isplitl [HS0]; · iexact HS0
  isplitl [HS1]; · iexact HS1
  isplitl [HS2]; · iexact HS2
  iexists _; iexact HS3

/-- The body at a first query tile. -/
theorem body_first (c : Dev nD) (t : Fin (cfg0 (F := F)).N) (h : first (grid0.coords t)) (K : PUnit → sProp 𝕄) :
    iprop(owns (c : Thread nD τ) (ms0_0 t) fullShare (iblk m c 0 t) ∗ owns (c : Thread nD τ) (ms0_1 t) fullShare (iblk m c 1 t) ∗ owns (c : Thread nD τ) (ms0_2 t) fullShare (iblk m c 2 t)
      ∗ (∃ d, owns (c : Thread nD τ) (ms0_3 t) fullShare d) ∗ (∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)
      ∗ (iprop(owns (c : Thread nD τ) (ms0_0 t) fullShare (iblk m c 0 t) ∗ owns (c : Thread nD τ) (ms0_1 t) fullShare (iblk m c 1 t) ∗ owns (c : Thread nD τ) (ms0_2 t) fullShare (iblk m c 2 t)
          ∗ owns (c : Thread nD τ) (ms0_3 t) fullShare (outOf c t (accF m c t h)) ∗ owns (c : Thread nD τ) scM0_0 fullShare (kxF m c t h) ∗ owns (c : Thread nD τ) scM0_1 fullShare (vxF m c t h) ∗ (∃ d, owns (c : Thread nD τ) scM0_2 fullShare d) ∗ (∃ d, owns (c : Thread nD τ) scM0_3 fullShare d)) -∗ K ⟨⟩))
    ⊢ wp frame (wpE (defs₀ (F := F)) 𝒱 c none) Set.univ (bodyAt0 t) K := by
  unfold bodyAt0 accF
  iintro ⟨H0, H1, H2, H3, HS0, HS1, HS2, HS3, Hk⟩
  iapply ((runFirst c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) h (iblk m c 0 t) (iblk m c 1 t) (iblk m c 2 t)).2.2.2.2.2.2 Set.univ K)
  isplitl [H0]; · iexact H0
  isplitl [H1]; · iexact H1
  isplitl [H2]; · iexact H2
  isplitl [HS0]; · iexact HS0
  isplitl [HS1]; · iexact HS1
  isplitl [HS2]; · iexact HS2
  isplitl [HS3]; · iexact HS3
  iintro ⟨H0, H1, H2, ⟨%e0, HS0⟩, ⟨%e1, HS1⟩, ⟨%e2, HS2⟩, ⟨%e3, HS3⟩⟩
  iapply (after_call c t _ _ (kxF m c t h) (vxF m c t h) (rF m c t h) (aF m c t h) K)
  isplitl [H3]; · iexact H3
  isplitl [HS0]
  · unfold owns; iexists _; isplitr
    swap; · iexact HS0
    ipureintro; exact View.read_writes_of_cover _ _ _ _ _ (firstCoverK m c t h)
  isplitl [HS1]
  · unfold owns; iexists _; isplitr
    swap; · iexact HS1
    ipureintro; exact View.read_writes_of_cover _ _ _ _ _ (firstCoverV m c t h)
  isplitl [HS2]
  · unfold owns; iexists _; isplitr
    swap; · iexact HS2
    ipureintro; exact View.read_writes_of_cover _ _ _ _ _ (firstCoverR m c t h)
  isplitl [HS3]
  · unfold owns; iexists _; isplitr
    swap; · iexact HS3
    ipureintro; exact View.read_writes_of_cover _ _ _ _ _ (firstCoverA m c t h)
  iintro ⟨H3, HS0, HS1, HS2, HS3⟩
  iapply Hk
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  iexact HS3

/-- The body at a later query tile. -/
theorem body_later (c : Dev nD) (t : Fin (cfg0 (F := F)).N) (h : ¬first (grid0.coords t)) (K : PUnit → sProp 𝕄) :
    iprop(owns (c : Thread nD τ) (ms0_0 t) fullShare (iblk m c 0 t) ∗ owns (c : Thread nD τ) (ms0_1 t) fullShare (iblk m c 1 t) ∗ owns (c : Thread nD τ) (ms0_2 t) fullShare (iblk m c 2 t)
      ∗ (∃ d, owns (c : Thread nD τ) (ms0_3 t) fullShare d) ∗ owns (c : Thread nD τ) scM0_0 fullShare (kxAt m c t) ∗ owns (c : Thread nD τ) scM0_1 fullShare (vxAt m c t) ∗ (∃ d, owns (c : Thread nD τ) scM0_2 fullShare d) ∗ (∃ d, owns (c : Thread nD τ) scM0_3 fullShare d)
      ∗ (iprop(owns (c : Thread nD τ) (ms0_0 t) fullShare (iblk m c 0 t) ∗ owns (c : Thread nD τ) (ms0_1 t) fullShare (iblk m c 1 t) ∗ owns (c : Thread nD τ) (ms0_2 t) fullShare (iblk m c 2 t)
          ∗ owns (c : Thread nD τ) (ms0_3 t) fullShare (outOf c t (accL m c t h)) ∗ owns (c : Thread nD τ) scM0_0 fullShare (kxAt m c t) ∗ owns (c : Thread nD τ) scM0_1 fullShare (vxAt m c t) ∗ (∃ d, owns (c : Thread nD τ) scM0_2 fullShare d) ∗ (∃ d, owns (c : Thread nD τ) scM0_3 fullShare d)) -∗ K ⟨⟩))
    ⊢ wp frame (wpE (defs₀ (F := F)) 𝒱 c none) Set.univ (bodyAt0 t) K := by
  unfold bodyAt0 accL
  iintro ⟨H0, H1, H2, H3, HS0, HS1, HS2, HS3, Hk⟩
  iapply ((runLater c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) h (iblk m c 0 t) (iblk m c 1 t) (iblk m c 2 t) (kxAt m c t) (vxAt m c t)).2.2.2.2 Set.univ K)
  isplitl [H0]; · iexact H0
  isplitl [H1]; · iexact H1
  isplitl [H2]; · iexact H2
  isplitl [HS0]; · iexact HS0
  isplitl [HS1]; · iexact HS1
  isplitl [HS2]; · iexact HS2
  isplitl [HS3]; · iexact HS3
  iintro ⟨H0, H1, H2, HS0, HS1, ⟨%e2, HS2⟩, ⟨%e3, HS3⟩⟩
  iapply (after_call c t _ _ (kxAt m c t) (vxAt m c t) (rL m c t h) (aL m c t h) K)
  isplitl [H3]; · iexact H3
  isplitl [HS0]; · iexact HS0
  isplitl [HS1]; · iexact HS1
  isplitl [HS2]
  · unfold owns; iexists _; isplitr
    swap; · iexact HS2
    ipureintro; exact View.read_writes_of_cover _ _ _ _ _ (laterCoverR m c t h)
  isplitl [HS3]
  · unfold owns; iexists _; isplitr
    swap; · iexact HS3
    ipureintro; exact View.read_writes_of_cover _ _ _ _ _ (laterCoverA m c t h)
  iintro ⟨H3, HS0, HS1, HS2, HS3⟩
  iapply Hk
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  iexact HS3

/-- What the body is called with at a point, -/
def bodyPre (c : Dev nD) (t : Fin (cfg0 (F := F)).N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin (cfg0 (F := F)).N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

theorem sound_body (c : Dev nD) (t : Fin (cfg0 (F := F)).N) :
    bodyPre m c t ⊢ wp frame (wpE (defs₀ (F := F)) 𝒱 c none) Set.univ (bodyAt0 t) (fun _ => bodyPost m c t) := by
  unfold bodyPre bodyPost
  simp only [before0_0, before0_1, before0_2]
  rw [show (dats m 0 c).owesAt () t.succ = (dats m 0 c).owesAt () t.castSucc from rfl,
    after0_0, after0_1, after0_2, after0_3]
  rw [show (dats m 0 c).Φ t.succ = PhiS m c (t.val + 1) t.isLt from rfl, PhiS_succ]
  by_cases h : first (grid0.coords t)
  · have h0 : t.val % 16 = 0 := (first_iff t).mp h
    rw [show outAt m c t = outOf c t (accF m c t h) from dif_pos h,
      show kxAt m c ⟨t.val, t.isLt⟩ = kxF m c t h from kxF_congr m c (base_of_first t h0) _ _,
      show vxAt m c ⟨t.val, t.isLt⟩ = vxF m c t h from vxF_congr m c (base_of_first t h0) _ _]
    have hin : PhiS m c t.val (Nat.le_of_lt t.isLt) ⊢ iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
      by_cases hz : t.val = 0
      · rw [PhiS_zero m c _ _ hz, PhiA0_eq]
      · rw [PhiS_pos m c _ _ hz]
        iintro ⟨⟨HS0, HS1, HS2, HS3⟩, Hg⟩
        isplitl [HS0 HS1 HS2 HS3]
        · isplitl [HS0]; · iexists _; iexact HS0
          isplitl [HS1]; · iexists _; iexact HS1
          isplitl [HS2]; · iexact HS2
          iexact HS3
        iexact Hg
    rw [PhiS_castSucc m c t]
    refine (sep_mono_left hin).trans ?_
    iintro ⟨⟨⟨HS0, HS1, HS2, HS3⟩, Hg⟩, Ho, ⟨%d0, H0⟩, ⟨%d1, H1⟩, ⟨%d2, H2⟩, ⟨%d3, H3⟩⟩
    iapply (body_first m c t h _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    isplitl [HS3]; · iexact HS3
    iintro ⟨H0, H1, H2, H3, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    iexact H3
  · have h0 : ¬ t.val % 16 = 0 := fun e => h ((first_iff t).mpr e)
    have hz : t.val ≠ 0 := fun e => h0 (by rw [e])
    have hb : base ⟨t.val - 1, by have := t.isLt; omega⟩ = base t := Fin.ext (by show 16 * ((t.val - 1) / 16) = 16 * (t.val / 16); omega)
    rw [show outAt m c t = outOf c t (accL m c t h) from dif_neg h]
    rw [PhiS_castSucc m c t, PhiS_pos m c _ _ hz,
      show kxAt m c ⟨t.val - 1, _⟩ = kxAt m c t from kxF_congr m c hb _ _,
      show vxAt m c ⟨t.val - 1, _⟩ = vxAt m c t from vxF_congr m c hb _ _]
    iintro ⟨⟨⟨HS0, HS1, HS2, HS3⟩, Hg⟩, Ho, ⟨%d0, H0⟩, ⟨%d1, H1⟩, ⟨%d2, H2⟩, ⟨%d3, H3⟩⟩
    iapply (body_later m c t h _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    isplitl [HS3]; · iexact HS3
    iintro ⟨H0, H1, H2, H3, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    iexact H3

theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

theorem body_obligation (c : Dev nD) : BodyObligation (dats (F := F) m 0 c) (defs₀ (F := F)) 𝒱 () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]

theorem hout (c : Dev nD) : (dats m 0 c).Φ (Fin.last (cfg0 (F := F)).N) ⊢ Pipeline.ΦA spec0 c := by
  rw [show (dats m 0 c).Φ (Fin.last (cfg0 (F := F)).N) = PhiS m c (cfg0 (F := F)).N (Nat.le_refl _) from rfl,
    PhiS_pos m c _ _ (by have : (cfg0 (F := F)).N = 128 := N_0; omega), PhiA0_eq]
  iintro ⟨⟨HS0, HS1, HS2, HS3⟩, Hg⟩
  isplitl [HS0 HS1 HS2 HS3]
  · isplitl [HS0]; · iexists _; iexact HS0
    isplitl [HS1]; · iexists _; iexact HS1
    isplitl [HS2]; · iexact HS2
    iexact HS3
  iexact Hg

/-! ## The run -/

set_option backward.isDefEq.respectTransparency.types false in
/-- From any memory with zero counters the program ends with every array as the proof data says and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ 𝒱 m ρ main
    (hbody := fun c => (body_obligation m c).loose) (hq := fun _ _ _ => rfl)
    (howed := fun _ _ => rfl) (V := V m) (hmain := hmain m 𝒱) (hA := A_eq m) (hin := hin m) (hout := hout m)

/-- The frame claim: the argument ends as launched, and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun r h => ⟨fun c => ((h.1 c).1 2).trans (((dats m 0 c).arrAt_in 2 rfl _).trans ((A_eq m c 2).trans rfl)), h.2⟩)
    (run_quiescent m ρ)

end Cert.Proof.Sb

end
-- ==== Proof.SbPrep.lean ====
module

public import proofs.«01_k».proof.Proof.SbTile
public import proofs.«01_k».proof.Proof.SbFrame

/-! # Stick-breaking attention: the prepared keys and values

The first tile of a group lays the group's keys, and its values, out by pairs of heads: each block of 128 rows twice, once with
the odd head's lanes zero and once with the even head's. -/

@[expose] public section

set_option maxRecDepth 16384

noncomputable section

namespace Cert.Proof.Sb

open Cert.Kernel9Ideal Cert.Kernel9Ideal.Gen
open Idealize.ShloMosaic Idealize.ShloMosaic.TcCoe Idealize.ShloMosaic.Tactic

/-- A pair's rows with the odd head's lanes zero, -/
def evenPrep (k : Vec Ideal S4096x128 .bf16) : Vec Ideal S1x32x128x128 .bf16 :=
  shapeCast S1x32x128x128 (select k0_pay40 (shapeCast S32x128x128 k shapeCasts_S4096x128_S32x128x128) (broadcast S32x128x128 (Scalar.ofBits (F := Ideal) .bf16 0x0000#16))) shapeCasts_S32x128x128_S1x32x128x128

/-- and with the even head's. -/
def oddPrep (k : Vec Ideal S4096x128 .bf16) : Vec Ideal S1x32x128x128 .bf16 :=
  shapeCast S1x32x128x128 (select k0_pay40 (broadcast S32x128x128 (Scalar.ofBits (F := Ideal) .bf16 0x0000#16)) (shapeCast S32x128x128 k shapeCasts_S4096x128_S32x128x128)) shapeCasts_S32x128x128_S1x32x128x128

theorem lane_lt (b : Fin 32) (y l : Fin 128) : k0_pay40 (ix3 b y l) = if l.val < 64 then 1#1 else 0#1 := by
  pointwise [k0_pay40]
  exact slt_small l.val 64 (by omega) (by omega)

/-- Row `y` of block `b`. -/
def krow (b : Fin 32) (y : Fin 128) : Fin 4096 := ⟨b.val * 128 + y.val, by omega⟩

theorem evenPrep_apply (k : Vec Ideal S4096x128 .bf16) (b : Fin 32) (y l : Fin 128) :
    @Eq EReal (evenPrep k (ix4 (0 : Fin 1) b y l)) (if l.val < 64 then k (ix2 (krow b y) l) else 0) := by
  have h : @Eq EReal (evenPrep k (ix4 (0 : Fin 1) b y l)) (Scalar.select (k0_pay40 (ix3 b y l)) (show EReal from k (ix2 (krow b y) l)) 0) := by
    pointwise [evenPrep]
    rfl
  rw [h, lane_lt]
  by_cases hl : l.val < 64
  · rw [if_pos hl, if_pos hl]; rfl
  · rw [if_neg hl, if_neg hl]; rfl

theorem oddPrep_apply (k : Vec Ideal S4096x128 .bf16) (b : Fin 32) (y l : Fin 128) :
    @Eq EReal (oddPrep k (ix4 (0 : Fin 1) b y l)) (if l.val < 64 then 0 else k (ix2 (krow b y) l)) := by
  have h : @Eq EReal (oddPrep k (ix4 (0 : Fin 1) b y l)) (Scalar.select (k0_pay40 (ix3 b y l)) 0 (show EReal from k (ix2 (krow b y) l))) := by
    pointwise [oddPrep]
    rfl
  rw [h, lane_lt]
  by_cases hl : l.val < 64
  · rw [if_pos hl, if_pos hl]; rfl
  · rw [if_neg hl, if_neg hl]; rfl

section
variable (c : Dev nD) (arg : Memref sig .tc .vmem S4096x512 .bf16) (harg : arg.IsWhole) (x : Vec Ideal S4096x512 .bf16)

theorem slabK0l : View.ld (View.canon (runFirst.sl.HS0_8 c arg harg x)) (Rect.unit ![0, 0, 0, 0] S1x32x128x128.size inb_S4x32x256x128_S1x32x128x128_0_0_0_0) =
    evenPrep (View.ld x (Rect.unit ![0, 0] S4096x128.size inb_S4096x512_S4096x128_0_0)) := by
  rw [ld_canon VK, runFirst.sl.HS0_8]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_cons_toLoadRect]
  simp only [runFirst.sl.v551, runFirst.sl.v552, runFirst.sl.v553, runFirst.sl.v555, runFirst.sl.v556, runFirst.sl.v557, runFirst.sl.v558, runFirst.sl.v559, runFirst.sl.v560, runFirst.sl.v562, runFirst.sl.v564, runFirst.sl.v565, runFirst.sl.v566, runFirst.sl.v567, runFirst.sl.v568, runFirst.sl.v569, runFirst.sl.v570, runFirst.sl.v571, runFirst.sl.v573, runFirst.sl.v575, runFirst.sl.v576, runFirst.sl.v577, runFirst.sl.v578, runFirst.sl.v579, runFirst.sl.v580, runFirst.sl.v581, runFirst.sl.v582, runFirst.sl.v584, runFirst.sl.v586, runFirst.sl.v587, runFirst.sl.v588, runFirst.sl.v589, runFirst.sl.v590, runFirst.sl.v591, runFirst.sl.v592, runFirst.sl.v593, runFirst.sl.v595, runFirst.sl.v597, runFirst.sl.v599, runFirst.sl.v600, runFirst.sl.v601, runFirst.sl.v602, runFirst.sl.v603, runFirst.sl.v604, runFirst.sl.v606, runFirst.sl.v608, runFirst.sl.v609, runFirst.sl.v610, runFirst.sl.v611, runFirst.sl.v612, runFirst.sl.v613, runFirst.sl.v614, runFirst.sl.v615, runFirst.sl.v617, runFirst.sl.v619, runFirst.sl.v620, runFirst.sl.v621, runFirst.sl.v622, runFirst.sl.v623, runFirst.sl.v624, runFirst.sl.v625, runFirst.sl.v626, runFirst.sl.v628, runFirst.sl.v630, runFirst.sl.v631, View.readAt_eq_ld, harg.read_unread]
  rfl

theorem slabK0h : View.ld (View.canon (runFirst.sl.HS0_8 c arg harg x)) (Rect.unit ![0, 0, 128, 0] S1x32x128x128.size inb_S4x32x256x128_S1x32x128x128_0_0_128_0) =
    oddPrep (View.ld x (Rect.unit ![0, 0] S4096x128.size inb_S4096x512_S4096x128_0_0)) := by
  rw [ld_canon VK, runFirst.sl.HS0_8]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_cons_toLoadRect]
  simp only [runFirst.sl.v551, runFirst.sl.v552, runFirst.sl.v553, runFirst.sl.v555, runFirst.sl.v556, runFirst.sl.v557, runFirst.sl.v558, runFirst.sl.v559, runFirst.sl.v560, runFirst.sl.v562, runFirst.sl.v564, runFirst.sl.v565, runFirst.sl.v566, runFirst.sl.v567, runFirst.sl.v568, runFirst.sl.v569, runFirst.sl.v570, runFirst.sl.v571, runFirst.sl.v573, runFirst.sl.v575, runFirst.sl.v576, runFirst.sl.v577, runFirst.sl.v578, runFirst.sl.v579, runFirst.sl.v580, runFirst.sl.v581, runFirst.sl.v582, runFirst.sl.v584, runFirst.sl.v586, runFirst.sl.v587, runFirst.sl.v588, runFirst.sl.v589, runFirst.sl.v590, runFirst.sl.v591, runFirst.sl.v592, runFirst.sl.v593, runFirst.sl.v595, runFirst.sl.v597, runFirst.sl.v599, runFirst.sl.v600, runFirst.sl.v601, runFirst.sl.v602, runFirst.sl.v603, runFirst.sl.v604, runFirst.sl.v606, runFirst.sl.v608, runFirst.sl.v609, runFirst.sl.v610, runFirst.sl.v611, runFirst.sl.v612, runFirst.sl.v613, runFirst.sl.v614, runFirst.sl.v615, runFirst.sl.v617, runFirst.sl.v619, runFirst.sl.v620, runFirst.sl.v621, runFirst.sl.v622, runFirst.sl.v623, runFirst.sl.v624, runFirst.sl.v625, runFirst.sl.v626, runFirst.sl.v628, runFirst.sl.v630, runFirst.sl.v631, View.readAt_eq_ld, harg.read_unread]
  rfl

theorem slabK1l : View.ld (View.canon (runFirst.sl.HS0_8 c arg harg x)) (Rect.unit ![1, 0, 0, 0] S1x32x128x128.size inb_S4x32x256x128_S1x32x128x128_1_0_0_0) =
    evenPrep (View.ld x (Rect.unit ![0, 128] S4096x128.size inb_S4096x512_S4096x128_0_128)) := by
  rw [ld_canon VK, runFirst.sl.HS0_8]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_cons_toLoadRect]
  simp only [runFirst.sl.v551, runFirst.sl.v552, runFirst.sl.v553, runFirst.sl.v555, runFirst.sl.v556, runFirst.sl.v557, runFirst.sl.v558, runFirst.sl.v559, runFirst.sl.v560, runFirst.sl.v562, runFirst.sl.v564, runFirst.sl.v565, runFirst.sl.v566, runFirst.sl.v567, runFirst.sl.v568, runFirst.sl.v569, runFirst.sl.v570, runFirst.sl.v571, runFirst.sl.v573, runFirst.sl.v575, runFirst.sl.v576, runFirst.sl.v577, runFirst.sl.v578, runFirst.sl.v579, runFirst.sl.v580, runFirst.sl.v581, runFirst.sl.v582, runFirst.sl.v584, runFirst.sl.v586, runFirst.sl.v587, runFirst.sl.v588, runFirst.sl.v589, runFirst.sl.v590, runFirst.sl.v591, runFirst.sl.v592, runFirst.sl.v593, runFirst.sl.v595, runFirst.sl.v597, runFirst.sl.v599, runFirst.sl.v600, runFirst.sl.v601, runFirst.sl.v602, runFirst.sl.v603, runFirst.sl.v604, runFirst.sl.v606, runFirst.sl.v608, runFirst.sl.v609, runFirst.sl.v610, runFirst.sl.v611, runFirst.sl.v612, runFirst.sl.v613, runFirst.sl.v614, runFirst.sl.v615, runFirst.sl.v617, runFirst.sl.v619, runFirst.sl.v620, runFirst.sl.v621, runFirst.sl.v622, runFirst.sl.v623, runFirst.sl.v624, runFirst.sl.v625, runFirst.sl.v626, runFirst.sl.v628, runFirst.sl.v630, runFirst.sl.v631, View.readAt_eq_ld, harg.read_unread]
  rfl

theorem slabK1h : View.ld (View.canon (runFirst.sl.HS0_8 c arg harg x)) (Rect.unit ![1, 0, 128, 0] S1x32x128x128.size inb_S4x32x256x128_S1x32x128x128_1_0_128_0) =
    oddPrep (View.ld x (Rect.unit ![0, 128] S4096x128.size inb_S4096x512_S4096x128_0_128)) := by
  rw [ld_canon VK, runFirst.sl.HS0_8]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_cons_toLoadRect]
  simp only [runFirst.sl.v551, runFirst.sl.v552, runFirst.sl.v553, runFirst.sl.v555, runFirst.sl.v556, runFirst.sl.v557, runFirst.sl.v558, runFirst.sl.v559, runFirst.sl.v560, runFirst.sl.v562, runFirst.sl.v564, runFirst.sl.v565, runFirst.sl.v566, runFirst.sl.v567, runFirst.sl.v568, runFirst.sl.v569, runFirst.sl.v570, runFirst.sl.v571, runFirst.sl.v573, runFirst.sl.v575, runFirst.sl.v576, runFirst.sl.v577, runFirst.sl.v578, runFirst.sl.v579, runFirst.sl.v580, runFirst.sl.v581, runFirst.sl.v582, runFirst.sl.v584, runFirst.sl.v586, runFirst.sl.v587, runFirst.sl.v588, runFirst.sl.v589, runFirst.sl.v590, runFirst.sl.v591, runFirst.sl.v592, runFirst.sl.v593, runFirst.sl.v595, runFirst.sl.v597, runFirst.sl.v599, runFirst.sl.v600, runFirst.sl.v601, runFirst.sl.v602, runFirst.sl.v603, runFirst.sl.v604, runFirst.sl.v606, runFirst.sl.v608, runFirst.sl.v609, runFirst.sl.v610, runFirst.sl.v611, runFirst.sl.v612, runFirst.sl.v613, runFirst.sl.v614, runFirst.sl.v615, runFirst.sl.v617, runFirst.sl.v619, runFirst.sl.v620, runFirst.sl.v621, runFirst.sl.v622, runFirst.sl.v623, runFirst.sl.v624, runFirst.sl.v625, runFirst.sl.v626, runFirst.sl.v628, runFirst.sl.v630, runFirst.sl.v631, View.readAt_eq_ld, harg.read_unread]
  rfl

theorem slabK2l : View.ld (View.canon (runFirst.sl.HS0_8 c arg harg x)) (Rect.unit ![2, 0, 0, 0] S1x32x128x128.size inb_S4x32x256x128_S1x32x128x128_2_0_0_0) =
    evenPrep (View.ld x (Rect.unit ![0, 256] S4096x128.size inb_S4096x512_S4096x128_0_256)) := by
  rw [ld_canon VK, runFirst.sl.HS0_8]
  rw [View.readCov_skip _ _ _ _ _ (by decide)]
  rw [View.readCov_skip _ _ _ _ _ (by decide)]
  rw [View.readCov_skip _ _ _ _ _ (by decide)]
  rw [View.readCov_cons_toLoadRect]
  simp only [runFirst.sl.v551, runFirst.sl.v552, runFirst.sl.v553, runFirst.sl.v555, runFirst.sl.v556, runFirst.sl.v557, runFirst.sl.v558, runFirst.sl.v559, runFirst.sl.v560, runFirst.sl.v562, runFirst.sl.v564, runFirst.sl.v565, runFirst.sl.v566, runFirst.sl.v567, runFirst.sl.v568, runFirst.sl.v569, runFirst.sl.v570, runFirst.sl.v571, runFirst.sl.v573, runFirst.sl.v575, runFirst.sl.v576, runFirst.sl.v577, runFirst.sl.v578, runFirst.sl.v579, runFirst.sl.v580, runFirst.sl.v581, runFirst.sl.v582, runFirst.sl.v584, runFirst.sl.v586, runFirst.sl.v587, runFirst.sl.v588, runFirst.sl.v589, runFirst.sl.v590, runFirst.sl.v591, runFirst.sl.v592, runFirst.sl.v593, runFirst.sl.v595, runFirst.sl.v597, runFirst.sl.v599, runFirst.sl.v600, runFirst.sl.v601, runFirst.sl.v602, runFirst.sl.v603, runFirst.sl.v604, runFirst.sl.v606, runFirst.sl.v608, runFirst.sl.v609, runFirst.sl.v610, runFirst.sl.v611, runFirst.sl.v612, runFirst.sl.v613, runFirst.sl.v614, runFirst.sl.v615, runFirst.sl.v617, runFirst.sl.v619, runFirst.sl.v620, runFirst.sl.v621, runFirst.sl.v622, runFirst.sl.v623, runFirst.sl.v624, runFirst.sl.v625, runFirst.sl.v626, runFirst.sl.v628, runFirst.sl.v630, runFirst.sl.v631, View.readAt_eq_ld, harg.read_unread]
  rfl

theorem slabK2h : View.ld (View.canon (runFirst.sl.HS0_8 c arg harg x)) (Rect.unit ![2, 0, 128, 0] S1x32x128x128.size inb_S4x32x256x128_S1x32x128x128_2_0_128_0) =
    oddPrep (View.ld x (Rect.unit ![0, 256] S4096x128.size inb_S4096x512_S4096x128_0_256)) := by
  rw [ld_canon VK, runFirst.sl.HS0_8]
  rw [View.readCov_skip _ _ _ _ _ (by decide)]
  rw [View.readCov_skip _ _ _ _ _ (by decide)]
  rw [View.readCov_cons_toLoadRect]
  simp only [runFirst.sl.v551, runFirst.sl.v552, runFirst.sl.v553, runFirst.sl.v555, runFirst.sl.v556, runFirst.sl.v557, runFirst.sl.v558, runFirst.sl.v559, runFirst.sl.v560, runFirst.sl.v562, runFirst.sl.v564, runFirst.sl.v565, runFirst.sl.v566, runFirst.sl.v567, runFirst.sl.v568, runFirst.sl.v569, runFirst.sl.v570, runFirst.sl.v571, runFirst.sl.v573, runFirst.sl.v575, runFirst.sl.v576, runFirst.sl.v577, runFirst.sl.v578, runFirst.sl.v579, runFirst.sl.v580, runFirst.sl.v581, runFirst.sl.v582, runFirst.sl.v584, runFirst.sl.v586, runFirst.sl.v587, runFirst.sl.v588, runFirst.sl.v589, runFirst.sl.v590, runFirst.sl.v591, runFirst.sl.v592, runFirst.sl.v593, runFirst.sl.v595, runFirst.sl.v597, runFirst.sl.v599, runFirst.sl.v600, runFirst.sl.v601, runFirst.sl.v602, runFirst.sl.v603, runFirst.sl.v604, runFirst.sl.v606, runFirst.sl.v608, runFirst.sl.v609, runFirst.sl.v610, runFirst.sl.v611, runFirst.sl.v612, runFirst.sl.v613, runFirst.sl.v614, runFirst.sl.v615, runFirst.sl.v617, runFirst.sl.v619, runFirst.sl.v620, runFirst.sl.v621, runFirst.sl.v622, runFirst.sl.v623, runFirst.sl.v624, runFirst.sl.v625, runFirst.sl.v626, runFirst.sl.v628, runFirst.sl.v630, runFirst.sl.v631, View.readAt_eq_ld, harg.read_unread]
  rfl

theorem slabK3l : View.ld (View.canon (runFirst.sl.HS0_8 c arg harg x)) (Rect.unit ![3, 0, 0, 0] S1x32x128x128.size inb_S4x32x256x128_S1x32x128x128_3_0_0_0) =
    evenPrep (View.ld x (Rect.unit ![0, 384] S4096x128.size inb_S4096x512_S4096x128_0_384)) := by
  rw [ld_canon VK, runFirst.sl.HS0_8]
  rw [View.readCov_skip _ _ _ _ _ (by decide)]
  rw [View.readCov_cons_toLoadRect]
  simp only [runFirst.sl.v551, runFirst.sl.v552, runFirst.sl.v553, runFirst.sl.v555, runFirst.sl.v556, runFirst.sl.v557, runFirst.sl.v558, runFirst.sl.v559, runFirst.sl.v560, runFirst.sl.v562, runFirst.sl.v564, runFirst.sl.v565, runFirst.sl.v566, runFirst.sl.v567, runFirst.sl.v568, runFirst.sl.v569, runFirst.sl.v570, runFirst.sl.v571, runFirst.sl.v573, runFirst.sl.v575, runFirst.sl.v576, runFirst.sl.v577, runFirst.sl.v578, runFirst.sl.v579, runFirst.sl.v580, runFirst.sl.v581, runFirst.sl.v582, runFirst.sl.v584, runFirst.sl.v586, runFirst.sl.v587, runFirst.sl.v588, runFirst.sl.v589, runFirst.sl.v590, runFirst.sl.v591, runFirst.sl.v592, runFirst.sl.v593, runFirst.sl.v595, runFirst.sl.v597, runFirst.sl.v599, runFirst.sl.v600, runFirst.sl.v601, runFirst.sl.v602, runFirst.sl.v603, runFirst.sl.v604, runFirst.sl.v606, runFirst.sl.v608, runFirst.sl.v609, runFirst.sl.v610, runFirst.sl.v611, runFirst.sl.v612, runFirst.sl.v613, runFirst.sl.v614, runFirst.sl.v615, runFirst.sl.v617, runFirst.sl.v619, runFirst.sl.v620, runFirst.sl.v621, runFirst.sl.v622, runFirst.sl.v623, runFirst.sl.v624, runFirst.sl.v625, runFirst.sl.v626, runFirst.sl.v628, runFirst.sl.v630, runFirst.sl.v631, View.readAt_eq_ld, harg.read_unread]
  rfl

theorem slabK3h : View.ld (View.canon (runFirst.sl.HS0_8 c arg harg x)) (Rect.unit ![3, 0, 128, 0] S1x32x128x128.size inb_S4x32x256x128_S1x32x128x128_3_0_128_0) =
    oddPrep (View.ld x (Rect.unit ![0, 384] S4096x128.size inb_S4096x512_S4096x128_0_384)) := by
  rw [ld_canon VK, runFirst.sl.HS0_8]
  rw [View.readCov_cons_toLoadRect]
  simp only [runFirst.sl.v551, runFirst.sl.v552, runFirst.sl.v553, runFirst.sl.v555, runFirst.sl.v556, runFirst.sl.v557, runFirst.sl.v558, runFirst.sl.v559, runFirst.sl.v560, runFirst.sl.v562, runFirst.sl.v564, runFirst.sl.v565, runFirst.sl.v566, runFirst.sl.v567, runFirst.sl.v568, runFirst.sl.v569, runFirst.sl.v570, runFirst.sl.v571, runFirst.sl.v573, runFirst.sl.v575, runFirst.sl.v576, runFirst.sl.v577, runFirst.sl.v578, runFirst.sl.v579, runFirst.sl.v580, runFirst.sl.v581, runFirst.sl.v582, runFirst.sl.v584, runFirst.sl.v586, runFirst.sl.v587, runFirst.sl.v588, runFirst.sl.v589, runFirst.sl.v590, runFirst.sl.v591, runFirst.sl.v592, runFirst.sl.v593, runFirst.sl.v595, runFirst.sl.v597, runFirst.sl.v599, runFirst.sl.v600, runFirst.sl.v601, runFirst.sl.v602, runFirst.sl.v603, runFirst.sl.v604, runFirst.sl.v606, runFirst.sl.v608, runFirst.sl.v609, runFirst.sl.v610, runFirst.sl.v611, runFirst.sl.v612, runFirst.sl.v613, runFirst.sl.v614, runFirst.sl.v615, runFirst.sl.v617, runFirst.sl.v619, runFirst.sl.v620, runFirst.sl.v621, runFirst.sl.v622, runFirst.sl.v623, runFirst.sl.v624, runFirst.sl.v625, runFirst.sl.v626, runFirst.sl.v628, runFirst.sl.v630, runFirst.sl.v631, View.readAt_eq_ld, harg.read_unread]
  rfl

theorem slabV0l : View.ld (View.canon (runFirst.sl.HS1_8 c arg harg x)) (Rect.unit ![0, 0, 0, 0] S1x32x128x128.size inb_S4x32x256x128_S1x32x128x128_0_0_0_0) =
    evenPrep (View.ld x (Rect.unit ![0, 0] S4096x128.size inb_S4096x512_S4096x128_0_0)) := by
  rw [ld_canon VK, runFirst.sl.HS1_8]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_cons_toLoadRect]
  simp only [runFirst.sl.v551, runFirst.sl.v552, runFirst.sl.v553, runFirst.sl.v555, runFirst.sl.v556, runFirst.sl.v557, runFirst.sl.v558, runFirst.sl.v559, runFirst.sl.v560, runFirst.sl.v562, runFirst.sl.v564, runFirst.sl.v565, runFirst.sl.v566, runFirst.sl.v567, runFirst.sl.v568, runFirst.sl.v569, runFirst.sl.v570, runFirst.sl.v571, runFirst.sl.v573, runFirst.sl.v575, runFirst.sl.v576, runFirst.sl.v577, runFirst.sl.v578, runFirst.sl.v579, runFirst.sl.v580, runFirst.sl.v581, runFirst.sl.v582, runFirst.sl.v584, runFirst.sl.v586, runFirst.sl.v587, runFirst.sl.v588, runFirst.sl.v589, runFirst.sl.v590, runFirst.sl.v591, runFirst.sl.v592, runFirst.sl.v593, runFirst.sl.v595, runFirst.sl.v597, runFirst.sl.v599, runFirst.sl.v600, runFirst.sl.v601, runFirst.sl.v602, runFirst.sl.v603, runFirst.sl.v604, runFirst.sl.v606, runFirst.sl.v608, runFirst.sl.v609, runFirst.sl.v610, runFirst.sl.v611, runFirst.sl.v612, runFirst.sl.v613, runFirst.sl.v614, runFirst.sl.v615, runFirst.sl.v617, runFirst.sl.v619, runFirst.sl.v620, runFirst.sl.v621, runFirst.sl.v622, runFirst.sl.v623, runFirst.sl.v624, runFirst.sl.v625, runFirst.sl.v626, runFirst.sl.v628, runFirst.sl.v630, runFirst.sl.v631, View.readAt_eq_ld, harg.read_unread]
  rfl

theorem slabV0h : View.ld (View.canon (runFirst.sl.HS1_8 c arg harg x)) (Rect.unit ![0, 0, 128, 0] S1x32x128x128.size inb_S4x32x256x128_S1x32x128x128_0_0_128_0) =
    oddPrep (View.ld x (Rect.unit ![0, 0] S4096x128.size inb_S4096x512_S4096x128_0_0)) := by
  rw [ld_canon VK, runFirst.sl.HS1_8]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_cons_toLoadRect]
  simp only [runFirst.sl.v551, runFirst.sl.v552, runFirst.sl.v553, runFirst.sl.v555, runFirst.sl.v556, runFirst.sl.v557, runFirst.sl.v558, runFirst.sl.v559, runFirst.sl.v560, runFirst.sl.v562, runFirst.sl.v564, runFirst.sl.v565, runFirst.sl.v566, runFirst.sl.v567, runFirst.sl.v568, runFirst.sl.v569, runFirst.sl.v570, runFirst.sl.v571, runFirst.sl.v573, runFirst.sl.v575, runFirst.sl.v576, runFirst.sl.v577, runFirst.sl.v578, runFirst.sl.v579, runFirst.sl.v580, runFirst.sl.v581, runFirst.sl.v582, runFirst.sl.v584, runFirst.sl.v586, runFirst.sl.v587, runFirst.sl.v588, runFirst.sl.v589, runFirst.sl.v590, runFirst.sl.v591, runFirst.sl.v592, runFirst.sl.v593, runFirst.sl.v595, runFirst.sl.v597, runFirst.sl.v599, runFirst.sl.v600, runFirst.sl.v601, runFirst.sl.v602, runFirst.sl.v603, runFirst.sl.v604, runFirst.sl.v606, runFirst.sl.v608, runFirst.sl.v609, runFirst.sl.v610, runFirst.sl.v611, runFirst.sl.v612, runFirst.sl.v613, runFirst.sl.v614, runFirst.sl.v615, runFirst.sl.v617, runFirst.sl.v619, runFirst.sl.v620, runFirst.sl.v621, runFirst.sl.v622, runFirst.sl.v623, runFirst.sl.v624, runFirst.sl.v625, runFirst.sl.v626, runFirst.sl.v628, runFirst.sl.v630, runFirst.sl.v631, View.readAt_eq_ld, harg.read_unread]
  rfl

theorem slabV1l : View.ld (View.canon (runFirst.sl.HS1_8 c arg harg x)) (Rect.unit ![1, 0, 0, 0] S1x32x128x128.size inb_S4x32x256x128_S1x32x128x128_1_0_0_0) =
    evenPrep (View.ld x (Rect.unit ![0, 128] S4096x128.size inb_S4096x512_S4096x128_0_128)) := by
  rw [ld_canon VK, runFirst.sl.HS1_8]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_cons_toLoadRect]
  simp only [runFirst.sl.v551, runFirst.sl.v552, runFirst.sl.v553, runFirst.sl.v555, runFirst.sl.v556, runFirst.sl.v557, runFirst.sl.v558, runFirst.sl.v559, runFirst.sl.v560, runFirst.sl.v562, runFirst.sl.v564, runFirst.sl.v565, runFirst.sl.v566, runFirst.sl.v567, runFirst.sl.v568, runFirst.sl.v569, runFirst.sl.v570, runFirst.sl.v571, runFirst.sl.v573, runFirst.sl.v575, runFirst.sl.v576, runFirst.sl.v577, runFirst.sl.v578, runFirst.sl.v579, runFirst.sl.v580, runFirst.sl.v581, runFirst.sl.v582, runFirst.sl.v584, runFirst.sl.v586, runFirst.sl.v587, runFirst.sl.v588, runFirst.sl.v589, runFirst.sl.v590, runFirst.sl.v591, runFirst.sl.v592, runFirst.sl.v593, runFirst.sl.v595, runFirst.sl.v597, runFirst.sl.v599, runFirst.sl.v600, runFirst.sl.v601, runFirst.sl.v602, runFirst.sl.v603, runFirst.sl.v604, runFirst.sl.v606, runFirst.sl.v608, runFirst.sl.v609, runFirst.sl.v610, runFirst.sl.v611, runFirst.sl.v612, runFirst.sl.v613, runFirst.sl.v614, runFirst.sl.v615, runFirst.sl.v617, runFirst.sl.v619, runFirst.sl.v620, runFirst.sl.v621, runFirst.sl.v622, runFirst.sl.v623, runFirst.sl.v624, runFirst.sl.v625, runFirst.sl.v626, runFirst.sl.v628, runFirst.sl.v630, runFirst.sl.v631, View.readAt_eq_ld, harg.read_unread]
  rfl

theorem slabV1h : View.ld (View.canon (runFirst.sl.HS1_8 c arg harg x)) (Rect.unit ![1, 0, 128, 0] S1x32x128x128.size inb_S4x32x256x128_S1x32x128x128_1_0_128_0) =
    oddPrep (View.ld x (Rect.unit ![0, 128] S4096x128.size inb_S4096x512_S4096x128_0_128)) := by
  rw [ld_canon VK, runFirst.sl.HS1_8]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_cons_toLoadRect]
  simp only [runFirst.sl.v551, runFirst.sl.v552, runFirst.sl.v553, runFirst.sl.v555, runFirst.sl.v556, runFirst.sl.v557, runFirst.sl.v558, runFirst.sl.v559, runFirst.sl.v560, runFirst.sl.v562, runFirst.sl.v564, runFirst.sl.v565, runFirst.sl.v566, runFirst.sl.v567, runFirst.sl.v568, runFirst.sl.v569, runFirst.sl.v570, runFirst.sl.v571, runFirst.sl.v573, runFirst.sl.v575, runFirst.sl.v576, runFirst.sl.v577, runFirst.sl.v578, runFirst.sl.v579, runFirst.sl.v580, runFirst.sl.v581, runFirst.sl.v582, runFirst.sl.v584, runFirst.sl.v586, runFirst.sl.v587, runFirst.sl.v588, runFirst.sl.v589, runFirst.sl.v590, runFirst.sl.v591, runFirst.sl.v592, runFirst.sl.v593, runFirst.sl.v595, runFirst.sl.v597, runFirst.sl.v599, runFirst.sl.v600, runFirst.sl.v601, runFirst.sl.v602, runFirst.sl.v603, runFirst.sl.v604, runFirst.sl.v606, runFirst.sl.v608, runFirst.sl.v609, runFirst.sl.v610, runFirst.sl.v611, runFirst.sl.v612, runFirst.sl.v613, runFirst.sl.v614, runFirst.sl.v615, runFirst.sl.v617, runFirst.sl.v619, runFirst.sl.v620, runFirst.sl.v621, runFirst.sl.v622, runFirst.sl.v623, runFirst.sl.v624, runFirst.sl.v625, runFirst.sl.v626, runFirst.sl.v628, runFirst.sl.v630, runFirst.sl.v631, View.readAt_eq_ld, harg.read_unread]
  rfl

theorem slabV2l : View.ld (View.canon (runFirst.sl.HS1_8 c arg harg x)) (Rect.unit ![2, 0, 0, 0] S1x32x128x128.size inb_S4x32x256x128_S1x32x128x128_2_0_0_0) =
    evenPrep (View.ld x (Rect.unit ![0, 256] S4096x128.size inb_S4096x512_S4096x128_0_256)) := by
  rw [ld_canon VK, runFirst.sl.HS1_8]
  rw [View.readCov_skip _ _ _ _ _ (by decide)]
  rw [View.readCov_skip _ _ _ _ _ (by decide)]
  rw [View.readCov_skip _ _ _ _ _ (by decide)]
  rw [View.readCov_cons_toLoadRect]
  simp only [runFirst.sl.v551, runFirst.sl.v552, runFirst.sl.v553, runFirst.sl.v555, runFirst.sl.v556, runFirst.sl.v557, runFirst.sl.v558, runFirst.sl.v559, runFirst.sl.v560, runFirst.sl.v562, runFirst.sl.v564, runFirst.sl.v565, runFirst.sl.v566, runFirst.sl.v567, runFirst.sl.v568, runFirst.sl.v569, runFirst.sl.v570, runFirst.sl.v571, runFirst.sl.v573, runFirst.sl.v575, runFirst.sl.v576, runFirst.sl.v577, runFirst.sl.v578, runFirst.sl.v579, runFirst.sl.v580, runFirst.sl.v581, runFirst.sl.v582, runFirst.sl.v584, runFirst.sl.v586, runFirst.sl.v587, runFirst.sl.v588, runFirst.sl.v589, runFirst.sl.v590, runFirst.sl.v591, runFirst.sl.v592, runFirst.sl.v593, runFirst.sl.v595, runFirst.sl.v597, runFirst.sl.v599, runFirst.sl.v600, runFirst.sl.v601, runFirst.sl.v602, runFirst.sl.v603, runFirst.sl.v604, runFirst.sl.v606, runFirst.sl.v608, runFirst.sl.v609, runFirst.sl.v610, runFirst.sl.v611, runFirst.sl.v612, runFirst.sl.v613, runFirst.sl.v614, runFirst.sl.v615, runFirst.sl.v617, runFirst.sl.v619, runFirst.sl.v620, runFirst.sl.v621, runFirst.sl.v622, runFirst.sl.v623, runFirst.sl.v624, runFirst.sl.v625, runFirst.sl.v626, runFirst.sl.v628, runFirst.sl.v630, runFirst.sl.v631, View.readAt_eq_ld, harg.read_unread]
  rfl

theorem slabV2h : View.ld (View.canon (runFirst.sl.HS1_8 c arg harg x)) (Rect.unit ![2, 0, 128, 0] S1x32x128x128.size inb_S4x32x256x128_S1x32x128x128_2_0_128_0) =
    oddPrep (View.ld x (Rect.unit ![0, 256] S4096x128.size inb_S4096x512_S4096x128_0_256)) := by
  rw [ld_canon VK, runFirst.sl.HS1_8]
  rw [View.readCov_skip _ _ _ _ _ (by decide)]
  rw [View.readCov_skip _ _ _ _ _ (by decide)]
  rw [View.readCov_cons_toLoadRect]
  simp only [runFirst.sl.v551, runFirst.sl.v552, runFirst.sl.v553, runFirst.sl.v555, runFirst.sl.v556, runFirst.sl.v557, runFirst.sl.v558, runFirst.sl.v559, runFirst.sl.v560, runFirst.sl.v562, runFirst.sl.v564, runFirst.sl.v565, runFirst.sl.v566, runFirst.sl.v567, runFirst.sl.v568, runFirst.sl.v569, runFirst.sl.v570, runFirst.sl.v571, runFirst.sl.v573, runFirst.sl.v575, runFirst.sl.v576, runFirst.sl.v577, runFirst.sl.v578, runFirst.sl.v579, runFirst.sl.v580, runFirst.sl.v581, runFirst.sl.v582, runFirst.sl.v584, runFirst.sl.v586, runFirst.sl.v587, runFirst.sl.v588, runFirst.sl.v589, runFirst.sl.v590, runFirst.sl.v591, runFirst.sl.v592, runFirst.sl.v593, runFirst.sl.v595, runFirst.sl.v597, runFirst.sl.v599, runFirst.sl.v600, runFirst.sl.v601, runFirst.sl.v602, runFirst.sl.v603, runFirst.sl.v604, runFirst.sl.v606, runFirst.sl.v608, runFirst.sl.v609, runFirst.sl.v610, runFirst.sl.v611, runFirst.sl.v612, runFirst.sl.v613, runFirst.sl.v614, runFirst.sl.v615, runFirst.sl.v617, runFirst.sl.v619, runFirst.sl.v620, runFirst.sl.v621, runFirst.sl.v622, runFirst.sl.v623, runFirst.sl.v624, runFirst.sl.v625, runFirst.sl.v626, runFirst.sl.v628, runFirst.sl.v630, runFirst.sl.v631, View.readAt_eq_ld, harg.read_unread]
  rfl

theorem slabV3l : View.ld (View.canon (runFirst.sl.HS1_8 c arg harg x)) (Rect.unit ![3, 0, 0, 0] S1x32x128x128.size inb_S4x32x256x128_S1x32x128x128_3_0_0_0) =
    evenPrep (View.ld x (Rect.unit ![0, 384] S4096x128.size inb_S4096x512_S4096x128_0_384)) := by
  rw [ld_canon VK, runFirst.sl.HS1_8]
  rw [View.readCov_skip _ _ _ _ _ (by decide)]
  rw [View.readCov_cons_toLoadRect]
  simp only [runFirst.sl.v551, runFirst.sl.v552, runFirst.sl.v553, runFirst.sl.v555, runFirst.sl.v556, runFirst.sl.v557, runFirst.sl.v558, runFirst.sl.v559, runFirst.sl.v560, runFirst.sl.v562, runFirst.sl.v564, runFirst.sl.v565, runFirst.sl.v566, runFirst.sl.v567, runFirst.sl.v568, runFirst.sl.v569, runFirst.sl.v570, runFirst.sl.v571, runFirst.sl.v573, runFirst.sl.v575, runFirst.sl.v576, runFirst.sl.v577, runFirst.sl.v578, runFirst.sl.v579, runFirst.sl.v580, runFirst.sl.v581, runFirst.sl.v582, runFirst.sl.v584, runFirst.sl.v586, runFirst.sl.v587, runFirst.sl.v588, runFirst.sl.v589, runFirst.sl.v590, runFirst.sl.v591, runFirst.sl.v592, runFirst.sl.v593, runFirst.sl.v595, runFirst.sl.v597, runFirst.sl.v599, runFirst.sl.v600, runFirst.sl.v601, runFirst.sl.v602, runFirst.sl.v603, runFirst.sl.v604, runFirst.sl.v606, runFirst.sl.v608, runFirst.sl.v609, runFirst.sl.v610, runFirst.sl.v611, runFirst.sl.v612, runFirst.sl.v613, runFirst.sl.v614, runFirst.sl.v615, runFirst.sl.v617, runFirst.sl.v619, runFirst.sl.v620, runFirst.sl.v621, runFirst.sl.v622, runFirst.sl.v623, runFirst.sl.v624, runFirst.sl.v625, runFirst.sl.v626, runFirst.sl.v628, runFirst.sl.v630, runFirst.sl.v631, View.readAt_eq_ld, harg.read_unread]
  rfl

theorem slabV3h : View.ld (View.canon (runFirst.sl.HS1_8 c arg harg x)) (Rect.unit ![3, 0, 128, 0] S1x32x128x128.size inb_S4x32x256x128_S1x32x128x128_3_0_128_0) =
    oddPrep (View.ld x (Rect.unit ![0, 384] S4096x128.size inb_S4096x512_S4096x128_0_384)) := by
  rw [ld_canon VK, runFirst.sl.HS1_8]
  rw [View.readCov_cons_toLoadRect]
  simp only [runFirst.sl.v551, runFirst.sl.v552, runFirst.sl.v553, runFirst.sl.v555, runFirst.sl.v556, runFirst.sl.v557, runFirst.sl.v558, runFirst.sl.v559, runFirst.sl.v560, runFirst.sl.v562, runFirst.sl.v564, runFirst.sl.v565, runFirst.sl.v566, runFirst.sl.v567, runFirst.sl.v568, runFirst.sl.v569, runFirst.sl.v570, runFirst.sl.v571, runFirst.sl.v573, runFirst.sl.v575, runFirst.sl.v576, runFirst.sl.v577, runFirst.sl.v578, runFirst.sl.v579, runFirst.sl.v580, runFirst.sl.v581, runFirst.sl.v582, runFirst.sl.v584, runFirst.sl.v586, runFirst.sl.v587, runFirst.sl.v588, runFirst.sl.v589, runFirst.sl.v590, runFirst.sl.v591, runFirst.sl.v592, runFirst.sl.v593, runFirst.sl.v595, runFirst.sl.v597, runFirst.sl.v599, runFirst.sl.v600, runFirst.sl.v601, runFirst.sl.v602, runFirst.sl.v603, runFirst.sl.v604, runFirst.sl.v606, runFirst.sl.v608, runFirst.sl.v609, runFirst.sl.v610, runFirst.sl.v611, runFirst.sl.v612, runFirst.sl.v613, runFirst.sl.v614, runFirst.sl.v615, runFirst.sl.v617, runFirst.sl.v619, runFirst.sl.v620, runFirst.sl.v621, runFirst.sl.v622, runFirst.sl.v623, runFirst.sl.v624, runFirst.sl.v625, runFirst.sl.v626, runFirst.sl.v628, runFirst.sl.v630, runFirst.sl.v631, View.readAt_eq_ld, harg.read_unread]
  rfl
end

/-- A group's keys, or values, as a function of pair, lane and row. -/
def kOf (X : Fin 4096 → Fin 512 → ℝ) (p : Fin 4) (l : Fin 128) (s : ℕ) : ℝ := if h : s < 4096 then X ⟨s, h⟩ (ln p l) else 0

theorem even_real {x : Vec Ideal S4096x512 .bf16} {X : Fin 4096 → Fin 512 → ℝ} (hX : ∀ s j, @Eq EReal (x (ix2 s j)) (X s j)) (p : Fin 4) (i) (b : Fin 32) (y l : Fin 128) :
    @Eq EReal (evenPrep (View.ld x (Rect.unit (s := S4096x512) ![0, 128 * p.val] S4096x128.size i)) (ix4 (0 : Fin 1) b y l))
      ((if l.val / 64 = (0 : Fin 2).val then kOf X p l (128 * b.val + y.val) else 0 : ℝ) : EReal) := by
  rw [evenPrep_apply]
  by_cases hl : l.val < 64
  · rw [if_pos hl, if_pos (show l.val / 64 = (0 : Fin 2).val from (by omega : l.val / 64 = 0)), kOf, dif_pos (show 128 * b.val + y.val < 4096 by omega)]
    refine (congrArg x (funext fun k => Fin.ext ?_)).trans (hX _ _)
    match k with
    | ⟨0, _⟩ => show 0 + 1 * (b.val * 128 + y.val) = 128 * b.val + y.val; omega
    | ⟨1, _⟩ => show 128 * p.val + 1 * l.val = 128 * p.val + l.val; omega
  · rw [if_neg hl, if_neg (show ¬ l.val / 64 = (0 : Fin 2).val from (by omega : ¬ l.val / 64 = 0))]; rfl

theorem odd_real {x : Vec Ideal S4096x512 .bf16} {X : Fin 4096 → Fin 512 → ℝ} (hX : ∀ s j, @Eq EReal (x (ix2 s j)) (X s j)) (p : Fin 4) (i) (b : Fin 32) (y l : Fin 128) :
    @Eq EReal (oddPrep (View.ld x (Rect.unit (s := S4096x512) ![0, 128 * p.val] S4096x128.size i)) (ix4 (0 : Fin 1) b y l))
      ((if l.val / 64 = (1 : Fin 2).val then kOf X p l (128 * b.val + y.val) else 0 : ℝ) : EReal) := by
  rw [oddPrep_apply]
  by_cases hl : l.val < 64
  · rw [if_pos hl, if_neg (show ¬ l.val / 64 = (1 : Fin 2).val from (by omega : ¬ l.val / 64 = 1))]; rfl
  · rw [if_neg hl, if_pos (show l.val / 64 = (1 : Fin 2).val from (by omega : l.val / 64 = 1)), kOf, dif_pos (show 128 * b.val + y.val < 4096 by omega)]
    refine (congrArg x (funext fun k => Fin.ext ?_)).trans (hX _ _)
    match k with
    | ⟨0, _⟩ => show 0 + 1 * (b.val * 128 + y.val) = 128 * b.val + y.val; omega
    | ⟨1, _⟩ => show 128 * p.val + 1 * l.val = 128 * p.val + l.val; omega

/-- A load of one half's blocks at an index. -/
theorem ld_half (kx : Vec Ideal S4x32x256x128 .bf16) (p : Fin 4) (e : Fin 2) (i) (b : Fin 32) (y l : Fin 128) :
    kx (ix4 p b (hc e y) l) = (View.ld kx (Rect.unit (s := S4x32x256x128) ![p.val, 0, 128 * e.val, 0] S1x32x128x128.size i) : Vec Ideal S1x32x128x128 .bf16) (ix4 (0 : Fin 1) b y l) := by
  refine congrArg kx (funext fun k => Fin.ext ?_)
  match k with
  | ⟨0, _⟩ => show p.val = p.val + 1 * 0; omega
  | ⟨1, _⟩ => show b.val = 0 + 1 * b.val; omega
  | ⟨2, _⟩ => show 128 * e.val + y.val = 128 * e.val + 1 * y.val; omega
  | ⟨3, _⟩ => show l.val = 0 + 1 * l.val; omega

theorem prepK (c : Dev nD) (arg : Memref sig .tc .vmem S4096x512 .bf16) (harg : arg.IsWhole) {x : Vec Ideal S4096x512 .bf16} {X : Fin 4096 → Fin 512 → ℝ} (hX : ∀ s j, @Eq EReal (x (ix2 s j)) (X s j)) :
    Prep (kOf X) (View.canon (runFirst.sl.HS0_8 c arg harg x)) := fun p b e y l => by
  match p, e with
  | 0, 0 =>
    exact ((ld_half _ 0 0 inb_S4x32x256x128_S1x32x128x128_0_0_0_0 b y l).trans (congrFun (slabK0l c arg harg x) _)).trans (even_real hX 0 inb_S4096x512_S4096x128_0_0 b y l)
  | 0, 1 =>
    exact ((ld_half _ 0 1 inb_S4x32x256x128_S1x32x128x128_0_0_128_0 b y l).trans (congrFun (slabK0h c arg harg x) _)).trans (odd_real hX 0 inb_S4096x512_S4096x128_0_0 b y l)
  | 1, 0 =>
    exact ((ld_half _ 1 0 inb_S4x32x256x128_S1x32x128x128_1_0_0_0 b y l).trans (congrFun (slabK1l c arg harg x) _)).trans (even_real hX 1 inb_S4096x512_S4096x128_0_128 b y l)
  | 1, 1 =>
    exact ((ld_half _ 1 1 inb_S4x32x256x128_S1x32x128x128_1_0_128_0 b y l).trans (congrFun (slabK1h c arg harg x) _)).trans (odd_real hX 1 inb_S4096x512_S4096x128_0_128 b y l)
  | 2, 0 =>
    exact ((ld_half _ 2 0 inb_S4x32x256x128_S1x32x128x128_2_0_0_0 b y l).trans (congrFun (slabK2l c arg harg x) _)).trans (even_real hX 2 inb_S4096x512_S4096x128_0_256 b y l)
  | 2, 1 =>
    exact ((ld_half _ 2 1 inb_S4x32x256x128_S1x32x128x128_2_0_128_0 b y l).trans (congrFun (slabK2h c arg harg x) _)).trans (odd_real hX 2 inb_S4096x512_S4096x128_0_256 b y l)
  | 3, 0 =>
    exact ((ld_half _ 3 0 inb_S4x32x256x128_S1x32x128x128_3_0_0_0 b y l).trans (congrFun (slabK3l c arg harg x) _)).trans (even_real hX 3 inb_S4096x512_S4096x128_0_384 b y l)
  | 3, 1 =>
    exact ((ld_half _ 3 1 inb_S4x32x256x128_S1x32x128x128_3_0_128_0 b y l).trans (congrFun (slabK3h c arg harg x) _)).trans (odd_real hX 3 inb_S4096x512_S4096x128_0_384 b y l)

theorem prepV (c : Dev nD) (arg : Memref sig .tc .vmem S4096x512 .bf16) (harg : arg.IsWhole) {x : Vec Ideal S4096x512 .bf16} {X : Fin 4096 → Fin 512 → ℝ} (hX : ∀ s j, @Eq EReal (x (ix2 s j)) (X s j)) :
    Prep (kOf X) (View.canon (runFirst.sl.HS1_8 c arg harg x)) := fun p b e y l => by
  match p, e with
  | 0, 0 =>
    exact ((ld_half _ 0 0 inb_S4x32x256x128_S1x32x128x128_0_0_0_0 b y l).trans (congrFun (slabV0l c arg harg x) _)).trans (even_real hX 0 inb_S4096x512_S4096x128_0_0 b y l)
  | 0, 1 =>
    exact ((ld_half _ 0 1 inb_S4x32x256x128_S1x32x128x128_0_0_128_0 b y l).trans (congrFun (slabV0h c arg harg x) _)).trans (odd_real hX 0 inb_S4096x512_S4096x128_0_0 b y l)
  | 1, 0 =>
    exact ((ld_half _ 1 0 inb_S4x32x256x128_S1x32x128x128_1_0_0_0 b y l).trans (congrFun (slabV1l c arg harg x) _)).trans (even_real hX 1 inb_S4096x512_S4096x128_0_128 b y l)
  | 1, 1 =>
    exact ((ld_half _ 1 1 inb_S4x32x256x128_S1x32x128x128_1_0_128_0 b y l).trans (congrFun (slabV1h c arg harg x) _)).trans (odd_real hX 1 inb_S4096x512_S4096x128_0_128 b y l)
  | 2, 0 =>
    exact ((ld_half _ 2 0 inb_S4x32x256x128_S1x32x128x128_2_0_0_0 b y l).trans (congrFun (slabV2l c arg harg x) _)).trans (even_real hX 2 inb_S4096x512_S4096x128_0_256 b y l)
  | 2, 1 =>
    exact ((ld_half _ 2 1 inb_S4x32x256x128_S1x32x128x128_2_0_128_0 b y l).trans (congrFun (slabV2h c arg harg x) _)).trans (odd_real hX 2 inb_S4096x512_S4096x128_0_256 b y l)
  | 3, 0 =>
    exact ((ld_half _ 3 0 inb_S4x32x256x128_S1x32x128x128_3_0_0_0 b y l).trans (congrFun (slabV3l c arg harg x) _)).trans (even_real hX 3 inb_S4096x512_S4096x128_0_384 b y l)
  | 3, 1 =>
    exact ((ld_half _ 3 1 inb_S4x32x256x128_S1x32x128x128_3_0_128_0 b y l).trans (congrFun (slabV3h c arg harg x) _)).trans (odd_real hX 3 inb_S4096x512_S4096x128_0_384 b y l)

end Cert.Proof.Sb
-- ==== Proof.SbKernel.lean ====
module

public import proofs.«01_k».proof.Proof.SbPrep
public import proofs.«01_k».proof.Proof.SbFrame
public import Idealize.ShloMosaic.Lib.Pointwise
public import Idealize.ShloMosaic.Lib.Claim
public import Idealize.ShloMosaic.Lib.Pipeline.ReadBack
public import Idealize.ShloMosaic.Lib.Pipeline.ValueKit

/-! # Stick-breaking attention: what the kernel leaves -/

@[expose] public section

set_option maxRecDepth 16384

noncomputable section

namespace Cert.Proof.Sb

open Cert.Kernel9Ideal Cert.Kernel9Ideal.Gen
open Idealize.ShloMosaic Idealize.ShloMosaic.TcCoe Idealize.ShloMosaic.Tactic

/-- Entry `(R, C)` of the attention, from the numbers `x` of the fused queries, keys and values. -/
def Att (x : ℕ → ℕ → ℝ) (R C : ℕ) : ℝ :=
  Out (R % 4096) (fun s => ∑ d : Fin 64, x R (64 * (C / 64) + d.val) * (1 / 8) * x (4096 * (R / 4096) + s) (1024 + (64 * (C / 64) + d.val)))
    (fun s => x (4096 * (R / 4096) + s) (2048 + C)) 0

theorem Out_congr {t t' : ℕ} {z z' v v' : ℕ → ℝ} (ht : t = t') (hz : ∀ s < 4096, z s = z' s) (hv : ∀ s < 4096, v s = v' s) : Out t z v 0 = Out t' z' v' 0 := by
  subst ht
  have hL : ∀ s < 4096, Lft t z s = Lft t z' s := fun s hs => by unfold Lft; rw [hz s hs]
  have hS : ∀ n, Suf t z n = Suf t z' n := fun n => Finset.sum_congr rfl fun s hs => hL s (Finset.mem_Ico.mp hs).2
  refine Finset.sum_congr rfl fun s hs => ?_
  have h := (Finset.mem_Ico.mp hs).2
  unfold Wgt
  rw [hz s h, hv s h, hS]

theorem zS_half (Q : Fin 256 → Fin 512 → ℝ) (K : Fin 4 → Fin 128 → ℕ → ℝ) (p : Fin 4) (e : Fin 2) (r : Fin 256) (s : ℕ) :
    zS Q K p e r s = ∑ d : Fin 64, Q r (ln p ⟨64 * e.val + d.val, by omega⟩) * (1 / 8) * K p ⟨64 * e.val + d.val, by omega⟩ s := by
  unfold zS
  refine (Fin.sum_univ_add (a := 64) (b := 64) fun d : Fin 128 => Q r (ln p d) * (1 / 8) * (if d.val / 64 = e.val then K p d s else 0)).trans ?_
  match e with
  | 0 =>
    refine (congrArg₂ _ (Finset.sum_congr rfl fun d _ => ?_) (Finset.sum_eq_zero fun d _ => ?_)).trans (add_zero _)
    · rw [if_pos (show (Fin.castAdd 64 d).val / 64 = (0 : Fin 2).val by have := d.isLt; show d.val / 64 = 0; omega)]
      have h : (Fin.castAdd 64 d : Fin 128) = ⟨64 * (0 : Fin 2).val + d.val, by have := d.isLt; show 64 * 0 + d.val < 128; omega⟩ := Fin.ext (by show d.val = 64 * 0 + d.val; omega)
      rw [h]
    · rw [if_neg (show ¬(Fin.natAdd 64 d).val / 64 = (0 : Fin 2).val by have := d.isLt; show ¬(64 + d.val) / 64 = 0; omega), mul_zero]
  | 1 =>
    refine (congrArg₂ _ (Finset.sum_eq_zero fun d _ => ?_) (Finset.sum_congr rfl fun d _ => ?_)).trans (zero_add _)
    · rw [if_neg (show ¬(Fin.castAdd 64 d).val / 64 = (1 : Fin 2).val by have := d.isLt; show ¬d.val / 64 = 1; omega), mul_zero]
    · rw [if_pos (show (Fin.natAdd 64 d).val / 64 = (1 : Fin 2).val by have := d.isLt; show (64 + d.val) / 64 = 1; omega)]
      have h : (Fin.natAdd 64 d : Fin 128) = ⟨64 * (1 : Fin 2).val + d.val, by have := d.isLt; show 64 * 1 + d.val < 128; omega⟩ := Fin.ext (by show 64 + d.val = 64 * 1 + d.val; omega)
      rw [h]

/-! ## The blocks a point reads -/

theorem points : (cfg0 (F := Ideal)).N = 128 := by decide +kernel
theorem coord2 : ∀ t : Fin (cfg0 (F := Ideal)).N, (grid0.coords t 2).val = t.val % 16 :=
  (by decide +kernel : ∀ t : Fin grid0.N, (grid0.coords t 2).val = t.val % 16)
theorem idx0 : ∀ t : Fin (cfg0 (F := Ideal)).N, win0_0.index t (0 : Fin 2) = 16 * (t.val / 32) + t.val % 16 ∧ win0_0.index t (1 : Fin 2) = t.val / 16 % 2 :=
  (by decide +kernel : ∀ t : Fin grid0.N, _)
theorem idx1 : ∀ t : Fin (cfg0 (F := Ideal)).N, win0_1.index t (0 : Fin 2) = t.val / 32 ∧ win0_1.index t (1 : Fin 2) = 2 + t.val / 16 % 2 :=
  (by decide +kernel : ∀ t : Fin grid0.N, _)
theorem idx2 : ∀ t : Fin (cfg0 (F := Ideal)).N, win0_2.index t (0 : Fin 2) = t.val / 32 ∧ win0_2.index t (1 : Fin 2) = 4 + t.val / 16 % 2 :=
  (by decide +kernel : ∀ t : Fin grid0.N, _)
theorem idx3 : ∀ t : Fin (cfg0 (F := Ideal)).N, win0_3.index t (0 : Fin 2) = 16 * (t.val / 32) + t.val % 16 ∧ win0_3.index t (1 : Fin 2) = t.val / 16 % 2 :=
  (by decide +kernel : ∀ t : Fin grid0.N, _)

variable (m : (ℓ : Loc nD τ sig) → Buf (Elt Ideal) ℓ) (c : Dev nD)

theorem blk0 (t : Fin (cfg0 (F := Ideal)).N) (r : Fin 256) (j : Fin 512) (R : Fin 16384) (C : Fin 3072) (hR : R.val = 256 * (16 * (t.val / 32) + t.val % 16) + r.val) (hC : C.val = 512 * (t.val / 16 % 2) + j.val) :
    @Eq EReal (iblk m c 0 t (ix2 r j)) (m ((c : Thread nD τ).loc main_arg0) (ix2 R C)) := by
  obtain ⟨e0, e1⟩ := idx0 t
  blk_ext [iblk, V, e0, e1]
theorem blk1 (t : Fin (cfg0 (F := Ideal)).N) (s : Fin 4096) (j : Fin 512) (R : Fin 16384) (C : Fin 3072) (hR : R.val = 4096 * (t.val / 32) + s.val) (hC : C.val = 512 * (2 + t.val / 16 % 2) + j.val) :
    @Eq EReal (iblk m c 1 t (ix2 s j)) (m ((c : Thread nD τ).loc main_arg0) (ix2 R C)) := by
  obtain ⟨e0, e1⟩ := idx1 t
  blk_ext [iblk, V, e0, e1]
theorem blk2 (t : Fin (cfg0 (F := Ideal)).N) (s : Fin 4096) (j : Fin 512) (R : Fin 16384) (C : Fin 3072) (hR : R.val = 4096 * (t.val / 32) + s.val) (hC : C.val = 512 * (4 + t.val / 16 % 2) + j.val) :
    @Eq EReal (iblk m c 2 t (ix2 s j)) (m ((c : Thread nD τ).loc main_arg0) (ix2 R C)) := by
  obtain ⟨e0, e1⟩ := idx2 t
  blk_ext [iblk, V, e0, e1]

variable {x : ℕ → ℕ → ℝ} (hx : ∀ (R : Fin 16384) (C : Fin 3072), @Eq EReal (m ((c : Thread nD τ).loc main_arg0) (ix2 R C)) (x R.val C.val))

/-- The numbers of a point's queries, -/
def Qx (x : ℕ → ℕ → ℝ) (t : ℕ) (r : Fin 256) (j : Fin 512) : ℝ := x (256 * (16 * (t / 32) + t % 16) + r.val) (512 * (t / 16 % 2) + j.val)
/-- keys -/
def Kx (x : ℕ → ℕ → ℝ) (t : ℕ) (s : Fin 4096) (j : Fin 512) : ℝ := x (4096 * (t / 32) + s.val) (512 * (2 + t / 16 % 2) + j.val)
/-- and values. -/
def Vx (x : ℕ → ℕ → ℝ) (t : ℕ) (s : Fin 4096) (j : Fin 512) : ℝ := x (4096 * (t / 32) + s.val) (512 * (4 + t / 16 % 2) + j.val)

include hx

theorem blkQ (t : Fin (cfg0 (F := Ideal)).N) (r : Fin 256) (j : Fin 512) : @Eq EReal (iblk m c 0 t (ix2 r j)) (Qx x t.val r j) := by
  have ht : t.val < 128 := points ▸ t.isLt
  exact (blk0 m c t r j ⟨256 * (16 * (t.val / 32) + t.val % 16) + r.val, by omega⟩ ⟨512 * (t.val / 16 % 2) + j.val, by omega⟩ rfl rfl).trans (hx _ _)
theorem blkK (t : Fin (cfg0 (F := Ideal)).N) (s : Fin 4096) (j : Fin 512) : @Eq EReal (iblk m c 1 t (ix2 s j)) (Kx x t.val s j) := by
  have ht : t.val < 128 := points ▸ t.isLt
  exact (blk1 m c t s j ⟨4096 * (t.val / 32) + s.val, by omega⟩ ⟨512 * (2 + t.val / 16 % 2) + j.val, by omega⟩ rfl rfl).trans (hx _ _)
theorem blkV (t : Fin (cfg0 (F := Ideal)).N) (s : Fin 4096) (j : Fin 512) : @Eq EReal (iblk m c 2 t (ix2 s j)) (Vx x t.val s j) := by
  have ht : t.val < 128 := points ▸ t.isLt
  exact (blk2 m c t s j ⟨4096 * (t.val / 32) + s.val, by omega⟩ ⟨512 * (4 + t.val / 16 % 2) + j.val, by omega⟩ rfl rfl).trans (hx _ _)

omit hx in
theorem Kx_base (t : ℕ) : Kx x (16 * (t / 16)) = Kx x t := by
  unfold Kx
  rw [show 16 * (t / 16) / 32 = t / 32 by omega, show 16 * (t / 16) / 16 = t / 16 by omega]
omit hx in
theorem Vx_base (t : ℕ) : Vx x (16 * (t / 16)) = Vx x t := by
  unfold Vx
  rw [show 16 * (t / 16) / 32 = t / 32 by omega, show 16 * (t / 16) / 16 = t / 16 by omega]

theorem prep_kxF (t : Fin (cfg0 (F := Ideal)).N) (h : first (grid0.coords t)) : Prep (kOf (Kx x t.val)) (kxF m c t h) := by
  have e : kxF m c t h = View.canon (runFirst.sl.HS0_8 c (ms0_1 t) (hs0_1 t) (iblk m c 1 t)) := View.read_writes_junk_eq_canon VK _
  rw [e]
  exact prepK c _ _ (blkK m c hx t)
theorem prep_vxF (t : Fin (cfg0 (F := Ideal)).N) (h : first (grid0.coords t)) : Prep (kOf (Vx x t.val)) (vxF m c t h) := by
  have e : vxF m c t h = View.canon (runFirst.sl.HS1_8 c (ms0_2 t) (hs0_2 t) (iblk m c 2 t)) := View.read_writes_junk_eq_canon VV _
  rw [e]
  exact prepV c _ _ (blkV m c hx t)

theorem prep_kxAt (t : Fin (cfg0 (F := Ideal)).N) : Prep (kOf (Kx x t.val)) (kxAt m c t) := by
  have h := prep_kxF m c hx (base t) (base_first t)
  rwa [show Kx x (base t).val = Kx x t.val from Kx_base t.val] at h
theorem prep_vxAt (t : Fin (cfg0 (F := Ideal)).N) : Prep (kOf (Vx x t.val)) (vxAt m c t) := by
  have h := prep_vxF m c hx (base t) (base_first t)
  rwa [show Vx x (base t).val = Vx x t.val from Vx_base t.val] at h

omit hx in
theorem zero_lt_top : @LT.lt EReal _ (Scalar.ofBits (F := Ideal) .f32 0x00000000#32 : EReal) ⊤ := by
  have h : (Scalar.ofBits (F := Ideal) .f32 0x00000000#32 : EReal) = 0 := Ideal.ofBits_zero_f32
  rw [h]
  exact EReal.zero_lt_top

set_option maxHeartbeats 4000000 in
/-- The accumulator once the loop is done, at a group's first tile, -/
theorem accF_tile (t : Fin (cfg0 (F := Ideal)).N) (h : first (grid0.coords t)) :
    ∃ R, Tile (256 * (grid0.coords t 2).val) (Qx x t.val) (kOf (Kx x t.val)) (kOf (Vx x t.val)) 0 R (accF m c t h) := by
  have hK := prep_kxF m c hx t h
  have hV := prep_vxF m c hx t h
  have own := tile_ownFirst c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) h
    (iblk m c 0 t) (iblk m c 1 t) (iblk m c 2 t) (blkQ m c hx t) (prepK c _ _ (blkK m c hx t)) (prepV c _ _ (blkV m c hx t))
  have eR : rF m c t h = View.canon (runFirst c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) h (iblk m c 0 t) (iblk m c 1 t) (iblk m c 2 t)).2.2.2.2.1 := View.read_writes_junk_eq_canon VR _
  have eA : aF m c t h = View.canon (runFirst c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) h (iblk m c 0 t) (iblk m c 1 t) (iblk m c 2 t)).2.2.2.2.2.1 := View.read_writes_junk_eq_canon VA _
  rw [← eR, ← eA] at own
  have e8 : (runFirst c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) h (iblk m c 0 t) (iblk m c 1 t) (iblk m c 2 t)).1 = qs (iblk m c 0 t) :=
    congrArg k0_pay43 (by rw [View.readAt_eq_ld, (hs0_0 t).read_unread])
  have e44 : (runFirst c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) h (iblk m c 0 t) (iblk m c 1 t) (iblk m c 2 t)).2.1 = k0_pay44 (F := Ideal) := rfl
  have e : accF m c t h = sweep c (grid0.coords t) (qs (iblk m c 0 t)) (k0_pay44 (F := Ideal)) scM0_0 (Memref.isWhole_whole _) scM0_1 (Memref.isWhole_whole _) scM0_2 (Memref.isWhole_whole _) scM0_3 (Memref.isWhole_whole _) (kxF m c t h) (vxF m c t h) (grid0.coords t 2).val 0 (Scalar.ofBits .f32 0x00000000#32) (rF m c t h) (aF m c t h) :=
    congrArg₂ (fun a b => sweep c (grid0.coords t) a b scM0_0 (Memref.isWhole_whole _) scM0_1 (Memref.isWhole_whole _) scM0_2 (Memref.isWhole_whole _) scM0_3 (Memref.isWhole_whole _) (kxF m c t h) (vxF m c t h) (grid0.coords t 2).val 0 (Scalar.ofBits .f32 0x00000000#32) (rF m c t h) (aF m c t h)) e8 e44
  rw [e]
  exact tile_sweep c (grid0.coords t) scM0_0 (Memref.isWhole_whole _) scM0_1 (Memref.isWhole_whole _) scM0_2 (Memref.isWhole_whole _) scM0_3 (Memref.isWhole_whole _) (iblk m c 0 t) (kxF m c t h) (vxF m c t h) (blkQ m c hx t) hK hV
    (grid0.coords t 2).val 0 _ _ _ (Nat.zero_add _) zero_lt_top own

/-- and at a later tile. -/
theorem accL_tile (t : Fin (cfg0 (F := Ideal)).N) (h : ¬first (grid0.coords t)) :
    ∃ R, Tile (256 * (grid0.coords t 2).val) (Qx x t.val) (kOf (Kx x t.val)) (kOf (Vx x t.val)) 0 R (accL m c t h) := by
  have hK := prep_kxAt m c hx t
  have hV := prep_vxAt m c hx t
  have own := tile_ownLater c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) h
    (iblk m c 0 t) (iblk m c 1 t) (iblk m c 2 t) (kxAt m c t) (vxAt m c t) (blkQ m c hx t) hK hV
  have eR : rL m c t h = View.canon _ := View.read_writes_junk_eq_canon VR _
  have eA : aL m c t h = View.canon _ := View.read_writes_junk_eq_canon VA _
  rw [← eR, ← eA] at own
  have e8 : (runLater c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) h (iblk m c 0 t) (iblk m c 1 t) (iblk m c 2 t) (kxAt m c t) (vxAt m c t)).1 = qs (iblk m c 0 t) :=
    congrArg k0_pay43 (by rw [View.readAt_eq_ld, (hs0_0 t).read_unread])
  have e44 : (runLater c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) h (iblk m c 0 t) (iblk m c 1 t) (iblk m c 2 t) (kxAt m c t) (vxAt m c t)).2.1 = k0_pay44 (F := Ideal) := rfl
  have e : accL m c t h = sweep c (grid0.coords t) (qs (iblk m c 0 t)) (k0_pay44 (F := Ideal)) scM0_0 (Memref.isWhole_whole _) scM0_1 (Memref.isWhole_whole _) scM0_2 (Memref.isWhole_whole _) scM0_3 (Memref.isWhole_whole _) (kxAt m c t) (vxAt m c t) (grid0.coords t 2).val 0 (Scalar.ofBits .f32 0x00000000#32) (rL m c t h) (aL m c t h) :=
    congrArg₂ (fun a b => sweep c (grid0.coords t) a b scM0_0 (Memref.isWhole_whole _) scM0_1 (Memref.isWhole_whole _) scM0_2 (Memref.isWhole_whole _) scM0_3 (Memref.isWhole_whole _) (kxAt m c t) (vxAt m c t) (grid0.coords t 2).val 0 (Scalar.ofBits .f32 0x00000000#32) (rL m c t h) (aL m c t h)) e8 e44
  rw [e]
  exact tile_sweep c (grid0.coords t) scM0_0 (Memref.isWhole_whole _) scM0_1 (Memref.isWhole_whole _) scM0_2 (Memref.isWhole_whole _) scM0_3 (Memref.isWhole_whole _) (iblk m c 0 t) (kxAt m c t) (vxAt m c t) (blkQ m c hx t) hK hV
    (grid0.coords t 2).val 0 _ _ _ (Nat.zero_add _) zero_lt_top own

omit hx in
/-- The output block is the accumulator. -/
theorem outOf_apply (t : Fin (cfg0 (F := Ideal)).N) (xa : Vec Ideal S256x512 .f32) (r : Fin 256) (j : Fin 512) :
    @Eq EReal (outOf c t xa (ix2 r j)) (xa (ix2 r j)) := by
  unfold outOf
  rw [View.read_writes_junk_eq_canon]
  have hy : (Rect.unit (s := S256x512) ![0, 0] S256x512.size inb_S256x512_S256x512_0_0).idx (ix2 r j) = ix2 r j := by
    refine funext fun k => Fin.ext ?_
    match k with
    | ⟨0, _⟩ => show 0 + 1 * r.val = r.val; omega
    | ⟨1, _⟩ => show 0 + 1 * j.val = j.val; omega
  have e : View.canon (restRun c (ms0_3 t) (hs0_3 t) scM0_3 (Memref.isWhole_whole _) xa).1 ((Rect.unit (s := S256x512) ![0, 0] S256x512.size inb_S256x512_S256x512_0_0).idx (ix2 r j))
      = k0_pay3 (View.readAt (Elt Ideal) scM0_3.view (Rect.unit (s := S256x512) ![0, 0] S256x512.size inb_S256x512_S256x512_0_0).toLoadRect _) (ix2 r j) := View.canon_cons_emb _ _ _ _
  rw [hy] at e
  rw [e, View.readAt_eq_ld, (Memref.isWhole_whole _).read_unread]
  exact congrArg xa hy

/-- The accumulator of a tile is the attention. -/
theorem tile_att (t : Fin (cfg0 (F := Ideal)).N) {R : Vec Ideal S4x256x256 .f32} {A : Vec Ideal S256x512 .f32}
    (h : Tile (256 * (grid0.coords t 2).val) (Qx x t.val) (kOf (Kx x t.val)) (kOf (Vx x t.val)) 0 R A) (r : Fin 256) (j : Fin 512) :
    @Eq EReal (A (ix2 r j)) (Att x (256 * (16 * (t.val / 32) + t.val % 16) + r.val) (512 * (t.val / 16 % 2) + j.val) : ℝ) := by
  have ht : t.val < 128 := points ▸ t.isLt
  obtain ⟨p, l, rfl⟩ : ∃ (p : Fin 4) (l : Fin 128), j = ln p l := ⟨⟨j.val / 128, by omega⟩, ⟨j.val % 128, by omega⟩, Fin.ext (by show j.val = 128 * (j.val / 128) + j.val % 128; omega)⟩
  refine (h.acc p r l).trans (congrArg _ ?_)
  have hj : (ln p l).val = 128 * p.val + l.val := rfl
  have he : (lh l).val = l.val / 64 := rfl
  unfold Att
  refine Out_congr ?_ (fun s hs => ?_) (fun s hs => ?_)
  · rw [coord2]; omega
  · rw [zS_half]
    refine Finset.sum_congr rfl fun d _ => congrArg₂ _ (congrArg₂ _ ?_ rfl) ?_
    · show x _ (512 * (t.val / 16 % 2) + (128 * p.val + (64 * (lh l).val + d.val))) = _
      exact congrArg (x _) (by omega)
    · unfold kOf
      rw [dif_pos hs]
      show x (4096 * (t.val / 32) + s) (512 * (2 + t.val / 16 % 2) + (128 * p.val + (64 * (lh l).val + d.val))) = _
      exact congrArg₂ x (by omega) (by omega)
  · unfold kOf
    rw [dif_pos hs]
    show x (4096 * (t.val / 32) + s) (512 * (4 + t.val / 16 % 2) + (ln p l).val) = _
    exact congrArg₂ x (by omega) (by omega)

/-- What a point leaves in its block of the result. -/
theorem point (t : Fin (cfg0 (F := Ideal)).N) (r : Fin 256) (j : Fin 512) :
    @Eq EReal (outAt m c t (ix2 r j)) (Att x (256 * (16 * (t.val / 32) + t.val % 16) + r.val) (512 * (t.val / 16 % 2) + j.val) : ℝ) := by
  unfold outAt
  by_cases h : first (grid0.coords t)
  · rw [dif_pos h]
    obtain ⟨R, hR⟩ := accF_tile m c hx t h
    exact (outOf_apply c t _ r j).trans (tile_att m c hx t hR r j)
  · rw [dif_neg h]
    obtain ⟨R, hR⟩ := accL_tile m c hx t h
    exact (outOf_apply c t _ r j).trans (tile_att m c hx t hR r j)

omit hx in
/-- The array the attention is. -/
def GA (x : ℕ → ℕ → ℝ) : S16384x1024.Idx → EReal := fun i => (Att x (i 0).val (i 1).val : ℝ)

/-- The array the run leaves. -/
theorem final : (dats m 0 c).arrAt 3 (cfg0 (F := Ideal)).N = GA x := by
  refine (dats m 0 c).arrAt_eq_of_covers 3 _ (by decide +kernel) fun t hf y => ?_
  have ht : t.val < 128 := points ▸ t.isLt
  blk_simp
  rw [after0_3]
  obtain ⟨r, C, rfl⟩ : ∃ (r : Fin 256) (C : Fin 512), y = ix2 r C := ⟨_, _, eq_ix2 y⟩
  refine (point m c hx t r C).trans ?_
  have e : ((View.whole main_v0).slice (win0_3.rect t)).emb (ix2 r C) = ix2 (⟨256 * (16 * (t.val / 32) + t.val % 16) + r.val, by omega⟩ : Fin 16384) (⟨512 * (t.val / 16 % 2) + C.val, by omega⟩ : Fin 1024) := by
    obtain ⟨e0, e1⟩ := idx3 t
    blk_ext [e0, e1]
  show _ = GA x (((View.whole main_v0).slice (win0_3.rect t)).emb (ix2 r C))
  rw [e]
  rfl

end Cert.Proof.Sb

end
-- ==== Proof.SbRef.lean ====
module

public import proofs.«01_k».proof.Proof.SbKernel
public import proofs.«01_k».proof.Proof.Gen.Reference9Ideal.Run
public import Idealize.ShloMosaic.Lib.StableHlo.RunRead

/-! # Stick-breaking attention: what the reference leaves -/

@[expose] public section

set_option maxRecDepth 16384

noncomputable section

namespace Cert.Reference9Ideal.Sb

open Idealize.ShloMosaic Idealize.ShloMosaic.TcCoe Idealize.ShloMosaic.Tactic Idealize.ShloMosaic.StableHlo Idealize.SL.Sem
open Cert.Reference9Ideal Cert.Reference9Ideal.Gen Cert.Reference9Ideal.Value
open Cert.Proof.Sb (sp Lft Suf Wgt Out Att Out_congr coe_max coe_sum)

/-! ## The reference's arrays -/

/-- The queries, keys or values, by batch, head, position and lane. -/
def hd (X : FVec Ideal S16384x3072 .bf16) (o : Fin 5 → ℕ) (h : (S4x4096x3x16x64 : Shape).Slices o S4x4096x1x16x64) : FVec Ideal S4x16x4096x64 .f32 :=
  transpose S4x16x4096x64 [0, 2, 1, 3] (shapeCast S4x4096x16x64 (extractStridedSlice S4x4096x1x16x64 o (shapeCast S4x4096x3x16x64 (extf .f32 X bitsLt_bf16_f32) shapeCasts_S16384x3072_S4x4096x3x16x64) h) shapeCasts_S4x4096x1x16x64_S4x4096x16x64) transposes_S4x4096x16x64_S4x16x4096x64_0_2_1_3

/-- The zero array. -/
def zero4 : FVec Ideal S4x16x4096x4096 .f32 := broadcastInDim S4x16x4096x4096 ![] bcast_S_S4x16x4096x4096 (constant S_ .f32 0x00000000#32)

/-- The scores. -/
def zs (X : FVec Ideal S16384x3072 .bf16) : FVec Ideal S4x16x4096x4096 .f32 :=
  mulf (Host.dotGeneral dot_S4x16x4096x64_S4x16x4096x64_S4x16x4096x4096_3_3_2_2_01_01 none
      (hd X ![0, 0, 0, 0, 0] slices_S4x4096x3x16x64_S4x4096x1x16x64_0_0_0_0_0) (hd X ![0, 0, 1, 0, 0] slices_S4x4096x3x16x64_S4x4096x1x16x64_0_0_1_0_0))
    (broadcastInDim S4x16x4096x4096 ![] bcast_S_S4x16x4096x4096 (constant S_ .f32 0x3E000000#32))

/-- `log (1 + e^z)`. -/
def softp (z : FVec Ideal S4x16x4096x4096 .f32) : FVec Ideal S4x16x4096x4096 .f32 :=
  select (cmpf .une (subf z zero4) (subf z zero4)) (addf z zero4) (addf (maximumf z zero4) (Host.log1p (Host.exp (Host.negf (Host.absf (subf z zero4))))))

/-- The logarithm of the logistic function. -/
def logsig (z : FVec Ideal S4x16x4096x4096 .f32) : FVec Ideal S4x16x4096x4096 .f32 := Host.negf (softp (Host.negf z))

/-- Which keys are before the row. -/
def before : IVec S4x16x4096x4096 1 :=
  broadcastInDim S4x16x4096x4096 ![0, 1, 2, 3] bcast_S1x1x4096x4096_S4x16x4096x4096_0_1_2_3 (broadcastInDim S1x1x4096x4096 ![2, 3] bcast_S4096x4096_S1x1x4096x4096_2_3 (cmpi .slt (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0)))))

/-- What each key leaves, negated, in logarithm. -/
def left (z : FVec Ideal S4x16x4096x4096 .f32) : FVec Ideal S4x16x4096x4096 .f32 := select before (logsig (Host.negf z)) zero4

/-- Sums over a key and those after it. -/
def cum (L : FVec Ideal S4x16x4096x4096 .f32) : FVec Ideal S4x16x4096x4096 .f32 :=
  Host.reduceWindowAdd ![1, 1, 1, 4096] ![1, 1, 1, 1] ![0, 0, 0, 0] ![0, 0, 0, 4095] L (broadcastInDim S_ ![] bcast_S_S_ (constant S_ .f32 0x00000000#32)) reduceWindows_S4x16x4096x4096_S4x16x4096x4096_w1s1p0_0_w1s1p0_0_w1s1p0_0_w4096s1p0_4095 h_S_

/-- The weights. -/
def wts (z : FVec Ideal S4x16x4096x4096 .f32) : FVec Ideal S4x16x4096x4096 .f32 :=
  select before (Host.exp (addf (logsig z) (subf (cum (left z)) (left z)))) zero4

/-- The result. -/
def res (X : FVec Ideal S16384x3072 .bf16) : FVec Ideal S16384x1024 .bf16 :=
  truncf .bf16 (shapeCast S16384x1024 (transpose S4x4096x16x64 [0, 2, 1, 3]
    (Host.dotGeneral dot_S4x16x4096x4096_S4x16x4096x64_S4x16x4096x64_3_2_2_3_01_01 none (wts (zs X)) (hd X ![0, 0, 2, 0, 0] slices_S4x4096x3x16x64_S4x4096x1x16x64_0_0_2_0_0))
    transposes_S4x16x4096x64_S4x4096x16x64_0_2_1_3) shapeCasts_S4x4096x16x64_S16384x1024) bitsLt_bf16_f32

/-! ## Each at an index -/

theorem hd_apply (X : FVec Ideal S16384x3072 .bf16) (o : Fin 5 → ℕ) (k : Fin 3) (ho : o = ![0, 0, k.val, 0, 0]) (h) (b : Fin 4) (n : Fin 16) (t : Fin 4096) (d : Fin 64) (R : Fin 16384) (C : Fin 3072)
    (hR : R.val = 4096 * b.val + t.val) (hC : C.val = 1024 * k.val + (64 * n.val + d.val)) : @Eq EReal (hd X o h (ix4 b n t d)) (X (ix2 R C)) := by
  subst ho
  have e : @Eq EReal (hd X _ h (ix4 b n t d)) (X (ix2 (⟨b.val * 4096 + t.val, by omega⟩ : Fin 16384) (⟨(k.val * 16 + n.val) * 64 + d.val, by omega⟩ : Fin 3072))) := by
    pointwise [hd]
    exact congrArg X (congrArg (ix2 _) (Fin.ext (by show k.val * 1024 + n.val * 64 + d.val = (k.val * 16 + n.val) * 64 + d.val; omega)))
  rw [e]
  refine congrArg X (congrArg₂ _ (Fin.ext ?_) (Fin.ext ?_))
  · show b.val * 4096 + t.val = R.val; omega
  · show (k.val * 16 + n.val) * 64 + d.val = C.val; omega

theorem zero4_apply (i : S4x16x4096x4096.Idx) : @Eq EReal (zero4 i) 0 := Ideal.ofBits_zero_f32

theorem eighth_f32 : Ideal.ofBits .f32 0x3E000000#32 = ((1 / 8 : ℝ) : EReal) := by
  simp [Ideal.ofBits, Ideal.ieee]
  rw [← EReal.coe_mul]
  norm_num

theorem zs_apply (X : FVec Ideal S16384x3072 .bf16) (b : Fin 4) (n : Fin 16) (t s : Fin 4096) :
    @Eq EReal (zs X (ix4 b n t s)) ((∑ d : Fin 64, (show EReal from hd X ![0, 0, 0, 0, 0] slices_S4x4096x3x16x64_S4x4096x1x16x64_0_0_0_0_0 (ix4 b n t d)) * hd X ![0, 0, 1, 0, 0] slices_S4x4096x3x16x64_S4x4096x1x16x64_0_0_1_0_0 (ix4 b n s d)) * ((1 / 8 : ℝ) : EReal)) := by
  rw [← eighth_f32]
  unfold zs
  generalize hd X ![0, 0, 0, 0, 0] slices_S4x4096x3x16x64_S4x4096x1x16x64_0_0_0_0_0 = A
  generalize hd X ![0, 0, 1, 0, 0] slices_S4x4096x3x16x64_S4x4096x1x16x64_0_0_1_0_0 = B
  pointwise

theorem softp_apply (z : FVec Ideal S4x16x4096x4096 .f32) (i : S4x16x4096x4096.Idx) {a : ℝ} (h : @Eq EReal (z i) a) : @Eq EReal (softp z i) (sp a : ℝ) := by
  have e : @Eq EReal (softp z i) (Scalar.select (FloatOps.cmpf (F := Ideal) (φ := .f32) .une ((show EReal from z i) - zero4 i) ((show EReal from z i) - zero4 i)) ((show EReal from z i) + zero4 i)
      (max (show EReal from z i) (zero4 i) + Ideal.log1p (Ideal.exp (-(max ((show EReal from z i) - zero4 i) (-((show EReal from z i) - zero4 i))))))) := rfl
  have hc : ∀ y : EReal, FloatOps.cmpf (F := Ideal) (φ := .f32) .une y y = 0#1 := fun y => congrArg BitVec.ofBool (decide_eq_false fun h => h rfl)
  have h1 : max (a : EReal) (-(a : EReal)) = ((|a| : ℝ) : EReal) := by
    rw [← EReal.coe_neg, coe_max]
    rfl
  have hp : (0 : ℝ) < 1 + Real.exp (-|a|) := by positivity
  rw [e, hc, zero4_apply, h]
  show max (a : EReal) 0 + Ideal.log (1 + Ideal.exp (-(max ((a : EReal) - 0) (-((a : EReal) - 0))))) = _
  rw [sub_zero, h1, ← EReal.coe_neg, Ideal.exp_coe, ← EReal.coe_one, ← EReal.coe_add, Ideal.log_coe, if_neg (by linarith : ¬ _), ← EReal.coe_zero, coe_max, ← EReal.coe_add]
  rfl

theorem logsig_apply (z : FVec Ideal S4x16x4096x4096 .f32) (i : S4x16x4096x4096.Idx) {a : ℝ} (h : @Eq EReal (z i) a) : @Eq EReal (logsig z i) (-sp (-a) : ℝ) := by
  have h' : @Eq EReal (Host.negf z i) ((-a : ℝ) : EReal) := by
    have e : @Eq EReal (Host.negf z i) (-(show EReal from z i)) := rfl
    rw [e, h, ← EReal.coe_neg]
  have e : @Eq EReal (logsig z i) (-(show EReal from softp (Host.negf z) i)) := rfl
  rw [e, softp_apply _ _ h', ← EReal.coe_neg]

theorem sp_neg (a : ℝ) : -sp (-a) = a - sp a := by
  unfold sp
  rw [abs_neg]
  rcases le_total a 0 with h | h
  · rw [max_eq_left (by linarith), max_eq_right h]; ring
  · rw [max_eq_right (by linarith), max_eq_left h]; ring

theorem before_apply (b : Fin 4) (n : Fin 16) (t s : Fin 4096) : before (ix4 b n t s) = if s.val < t.val then 1#1 else 0#1 := by
  have e : before (ix4 b n t s) = IntOp.cmpi .slt (BitVec.ofNat 32 s.val) (BitVec.ofNat 32 t.val) := by
    pointwise [before]
  rw [e]
  show BitVec.ofBool (BitVec.slt _ _) = _
  have key : ∀ n < 4096, (BitVec.ofNat 32 n).toInt = n := fun n hn => by
    rw [BitVec.toInt_eq_toNat_cond, BitVec.toNat_ofNat, Nat.mod_eq_of_lt (by omega), if_pos (by omega)]
  rw [BitVec.slt_eq_decide, key _ s.isLt, key _ t.isLt]
  by_cases h : s.val < t.val
  · rw [if_pos h, decide_eq_true (by exact_mod_cast h)]; rfl
  · rw [if_neg h, decide_eq_false (by exact_mod_cast h)]; rfl

theorem select_before (A B : FVec Ideal S4x16x4096x4096 .f32) (b : Fin 4) (n : Fin 16) (t s : Fin 4096) :
    @Eq EReal (select before A B (ix4 b n t s)) (if s.val < t.val then A (ix4 b n t s) else B (ix4 b n t s)) := by
  have e : @Eq EReal (select before A B (ix4 b n t s)) (Scalar.select (before (ix4 b n t s)) (A (ix4 b n t s)) (B (ix4 b n t s))) := rfl
  rw [e, before_apply]
  by_cases h : s.val < t.val
  · rw [if_pos h, if_pos h]; rfl
  · rw [if_neg h, if_neg h]; rfl

theorem left_apply (z : FVec Ideal S4x16x4096x4096 .f32) (b : Fin 4) (n : Fin 16) (t s : Fin 4096) {a : ℕ → ℝ} (h : @Eq EReal (z (ix4 b n t s)) (a s.val)) :
    @Eq EReal (left z (ix4 b n t s)) (-Lft t.val a s.val : ℝ) := by
  have h' : @Eq EReal (Host.negf z (ix4 b n t s)) ((-a s.val : ℝ) : EReal) := by
    have e : @Eq EReal (Host.negf z (ix4 b n t s)) (-(show EReal from z (ix4 b n t s))) := rfl
    rw [e, h, ← EReal.coe_neg]
  refine (select_before _ _ b n t s).trans ?_
  unfold Lft
  by_cases hs : s.val < t.val
  · rw [if_pos hs, if_pos hs, logsig_apply _ _ h', neg_neg]
  · rw [if_neg hs, if_neg hs, zero4_apply, neg_zero, EReal.coe_zero]

/-! ### The sum over the later keys -/

theorem foldl_sum (k : ℕ) (g : Fin k → EReal) (v : EReal) : (List.finRange k).foldl (fun r n => r + g n) v = v + ∑ n, g n := by
  rw [Fin.sum_univ_def]
  generalize List.finRange k = l
  induction l generalizing v with
  | nil => simp
  | cons a l ih => rw [List.foldl_cons, ih, List.map_cons, List.sum_cons, add_assoc]

/-- A window one row long along the last axis, padded high: the sum from an entry to the row's end. -/
theorem window_apply {A B T N Nm1 : ℕ} (L : (⟨4, ![A, B, T, N]⟩ : Shape).Idx → EReal) (v : EReal) (hv : v = 0)
    (h : (⟨4, ![A, B, T, N]⟩ : Shape).ReduceWindows (![1, 1, 1, N] : Fin 4 → ℕ) ![1, 1, 1, 1] ![0, 0, 0, 0] ![0, 0, 0, Nm1] ⟨4, ![A, B, T, N]⟩)
    {s0 : Shape} (hu : 0 < s0.numel) (b : Fin A) (n : Fin B) (t : Fin T) (s : Fin N) :
    Host.reduceWindow (fun x y : EReal => x + y) ![1, 1, 1, N] ![1, 1, 1, 1] ![0, 0, 0, 0] ![0, 0, 0, Nm1] L (fun _ : s0.Idx => v) h hu (ix4 b n t s)
      = ∑ w : Fin N, if h : s.val + w.val < N then L (ix4 b n t ⟨s.val + w.val, h⟩) else 0 := by
  unfold Host.reduceWindow
  refine (foldl_sum _ _ _).trans ((congrArg₂ _ hv rfl).trans ((zero_add _).trans ?_))
  let W : Shape := ⟨4, ![1, 1, 1, N]⟩
  let G : W.Idx → EReal := fun i => if h : s.val + (i 3).val < N then L (ix4 b n t ⟨s.val + (i 3).val, h⟩) else 0
  have hG : ∑ w : Fin N, (if h : s.val + w.val < N then L (ix4 b n t ⟨s.val + w.val, h⟩) else 0) = ∑ k, G (W.rowMajor.symm k) := by
    refine Eq.symm ((Equiv.sum_comp W.rowMajor.symm G).trans ((sum_idx4 G).trans ?_))
    rw [Fin.sum_univ_one, Fin.sum_univ_one, Fin.sum_univ_one]
    rfl
  rw [hG]
  refine Finset.sum_congr rfl fun k _ => ?_
  have hb := b.isLt
  have hn := n.isLt
  have ht := t.isLt
  have h0 : (W.rowMajor.symm k 0).val < 1 := (W.rowMajor.symm k 0).isLt
  have h1 : (W.rowMajor.symm k 1).val < 1 := (W.rowMajor.symm k 1).isLt
  have h2 : (W.rowMajor.symm k 2).val < 1 := (W.rowMajor.symm k 2).isLt
  by_cases h : s.val + (W.rowMajor.symm k 3).val < N
  · have g : G (W.rowMajor.symm k) = L (ix4 b n t ⟨s.val + (W.rowMajor.symm k 3).val, h⟩) := dif_pos h
    refine (dif_pos (fun a => ?_)).trans ((congrArg L (funext fun a => Fin.ext ?_)).trans g.symm)
    · match a with
      | ⟨0, _⟩ => exact ⟨Nat.zero_le _, show b.val * 1 + (W.rowMajor.symm k 0).val - 0 < A by omega⟩
      | ⟨1, _⟩ => exact ⟨Nat.zero_le _, show n.val * 1 + (W.rowMajor.symm k 1).val - 0 < B by omega⟩
      | ⟨2, _⟩ => exact ⟨Nat.zero_le _, show t.val * 1 + (W.rowMajor.symm k 2).val - 0 < T by omega⟩
      | ⟨3, _⟩ => exact ⟨Nat.zero_le _, show s.val * 1 + (W.rowMajor.symm k 3).val - 0 < N by omega⟩
    · match a with
      | ⟨0, _⟩ => show b.val * 1 + (W.rowMajor.symm k 0).val - 0 = b.val; omega
      | ⟨1, _⟩ => show n.val * 1 + (W.rowMajor.symm k 1).val - 0 = n.val; omega
      | ⟨2, _⟩ => show t.val * 1 + (W.rowMajor.symm k 2).val - 0 = t.val; omega
      | ⟨3, _⟩ => show s.val * 1 + (W.rowMajor.symm k 3).val - 0 = s.val + (W.rowMajor.symm k 3).val; omega
  · have g : G (W.rowMajor.symm k) = 0 := dif_neg h
    refine (dif_neg fun hin => h ?_).trans (hv.trans g.symm)
    have h3 := (hin ⟨3, by show 3 < 4; decide⟩).2
    change s.val * 1 + (W.rowMajor.symm k 3).val - 0 < N at h3
    omega

theorem cum_apply (L : FVec Ideal S4x16x4096x4096 .f32) (b : Fin 4) (n : Fin 16) (t s : Fin 4096) :
    @Eq EReal (cum L (ix4 b n t s)) (∑ w : Fin 4096, if h : s.val + w.val < 4096 then L (ix4 b n t ⟨s.val + w.val, h⟩) else 0) := by
  have hv : @Eq EReal (broadcastInDim S_ ![] bcast_S_S_ (constant (F := Ideal) S_ .f32 0x00000000#32) (Shape.Idx.first h_S_)) 0 := Ideal.ofBits_zero_f32
  unfold cum Host.reduceWindowAdd
  rw [Ideal.hostReduceWindowAdd_def]
  unfold Ideal.hostReduceWindowAdd
  exact window_apply L _ hv _ _ b n t s

/-- What the later keys leave, negated. -/
theorem rest_apply (z : FVec Ideal S4x16x4096x4096 .f32) (b : Fin 4) (n : Fin 16) (t : Fin 4096) {a : ℕ → ℝ} (h : ∀ s : Fin 4096, @Eq EReal (z (ix4 b n t s)) (a s.val)) (s : Fin 4096) :
    @Eq EReal (subf (cum (left z)) (left z) (ix4 b n t s)) (-Suf t.val a (s.val + 1) : ℝ) := by
  have e : @Eq EReal (subf (cum (left z)) (left z) (ix4 b n t s)) ((show EReal from cum (left z) (ix4 b n t s)) - left z (ix4 b n t s)) := rfl
  have hs := s.isLt
  have hc : @Eq EReal (cum (left z) (ix4 b n t s)) (-Suf t.val a s.val : ℝ) := by
    refine (cum_apply _ b n t s).trans ?_
    have hw : ∀ w : Fin 4096, (if h : s.val + w.val < 4096 then (show EReal from left z (ix4 b n t ⟨s.val + w.val, h⟩)) else 0) = ((if s.val + w.val < 4096 then -Lft t.val a (s.val + w.val) else 0 : ℝ) : EReal) := fun w => by
      by_cases hw : s.val + w.val < 4096
      · rw [dif_pos hw, if_pos hw]
        exact left_apply z b n t ⟨s.val + w.val, hw⟩ (h _)
      · rw [dif_neg hw, if_neg hw, EReal.coe_zero]
    refine (Finset.sum_congr rfl fun w _ => hw w).trans ((coe_sum _).trans (congrArg _ ?_))
    unfold Suf
    rw [← Finset.sum_neg_distrib, Finset.sum_Ico_eq_sum_range, ← Fin.sum_univ_eq_sum_range (fun w => -Lft t.val a (s.val + w)),
      Fin.sum_univ_eq_sum_range (fun w => -Lft t.val a (s.val + w)), ← Finset.sum_range (fun w => if s.val + w < 4096 then -Lft t.val a (s.val + w) else 0), ← Finset.sum_filter]
    refine Finset.sum_congr (Finset.ext fun w => ?_) fun _ _ => rfl
    rw [Finset.mem_filter, Finset.mem_range, Finset.mem_range]
    omega
  have hl := left_apply z b n t s (h s)
  have hsuf : Suf t.val a s.val = Lft t.val a s.val + Suf t.val a (s.val + 1) := Finset.sum_eq_sum_Ico_succ_bot hs _
  rw [e, hc, hl, ← EReal.coe_sub, hsuf]
  exact congrArg _ (by ring)

theorem wts_apply (z : FVec Ideal S4x16x4096x4096 .f32) (b : Fin 4) (n : Fin 16) (t : Fin 4096) {a : ℕ → ℝ} (h : ∀ s : Fin 4096, @Eq EReal (z (ix4 b n t s)) (a s.val)) (s : Fin 4096) :
    @Eq EReal (wts z (ix4 b n t s)) (Wgt t.val a s.val : ℝ) := by
  refine (select_before _ _ b n t s).trans ?_
  unfold Wgt
  by_cases hs : s.val < t.val
  · rw [if_pos hs, if_pos hs]
    have e : @Eq EReal (Host.exp (addf (logsig z) (subf (cum (left z)) (left z))) (ix4 b n t s)) (Ideal.exp ((show EReal from logsig z (ix4 b n t s)) + subf (cum (left z)) (left z) (ix4 b n t s))) := rfl
    refine e.trans ?_
    rw [logsig_apply z _ (h s), rest_apply z b n t h s, ← EReal.coe_add, Ideal.exp_coe, sp_neg, ← sub_eq_add_neg]
  · rw [if_neg hs, if_neg hs, zero4_apply, EReal.coe_zero]

variable (X : FVec Ideal S16384x3072 .bf16) {x : ℕ → ℕ → ℝ} (hx : ∀ (R : Fin 16384) (C : Fin 3072), @Eq EReal (X (ix2 R C)) (x R.val C.val))
include hx

theorem zs_real (b : Fin 4) (n : Fin 16) (t s : Fin 4096) :
    @Eq EReal (zs X (ix4 b n t s)) (∑ d : Fin 64, x (4096 * b.val + t.val) (64 * n.val + d.val) * (1 / 8) * x (4096 * b.val + s.val) (1024 + (64 * n.val + d.val)) : ℝ) := by
  rw [zs_apply]
  have e : ∀ d : Fin 64, (show EReal from hd X ![0, 0, 0, 0, 0] slices_S4x4096x3x16x64_S4x4096x1x16x64_0_0_0_0_0 (ix4 b n t d)) * hd X ![0, 0, 1, 0, 0] slices_S4x4096x3x16x64_S4x4096x1x16x64_0_0_1_0_0 (ix4 b n s d)
      = ((x (4096 * b.val + t.val) (64 * n.val + d.val) * x (4096 * b.val + s.val) (1024 + (64 * n.val + d.val)) : ℝ) : EReal) := fun d => by
    rw [EReal.coe_mul]
    refine congrArg₂ _ ?_ ?_
    · exact (hd_apply X _ 0 rfl _ b n t d ⟨4096 * b.val + t.val, by omega⟩ ⟨64 * n.val + d.val, by omega⟩ rfl (by show 64 * n.val + d.val = 1024 * 0 + (64 * n.val + d.val); omega)).trans (hx _ _)
    · exact (hd_apply X _ 1 rfl _ b n s d ⟨4096 * b.val + s.val, by omega⟩ ⟨1024 + (64 * n.val + d.val), by omega⟩ rfl (by show 1024 + (64 * n.val + d.val) = 1024 * 1 + (64 * n.val + d.val); omega)).trans (hx _ _)
  rw [Finset.sum_congr rfl fun d _ => e d, coe_sum, ← EReal.coe_mul, Finset.sum_mul]
  exact congrArg _ (Finset.sum_congr rfl fun d _ => by ring)

omit hx in
theorem res_entry (A : FVec Ideal S4x16x4096x4096 .f32) (B : FVec Ideal S4x16x4096x64 .f32) (R : Fin 16384) (C : Fin 1024) :
    @Eq EReal (truncf .bf16 (shapeCast S16384x1024 (transpose S4x4096x16x64 [0, 2, 1, 3]
      (Host.dotGeneral dot_S4x16x4096x4096_S4x16x4096x64_S4x16x4096x64_3_2_2_3_01_01 none A B)
      transposes_S4x16x4096x64_S4x4096x16x64_0_2_1_3) shapeCasts_S4x4096x16x64_S16384x1024) bitsLt_bf16_f32 (ix2 R C))
    (∑ s : Fin 4096, (show EReal from A (ix4 (⟨R.val / 4096, by omega⟩ : Fin 4) (⟨C.val / 64, by omega⟩ : Fin 16) (⟨R.val % 4096, by omega⟩ : Fin 4096) s))
      * B (ix4 (⟨R.val / 4096, by omega⟩ : Fin 4) (⟨C.val / 64, by omega⟩ : Fin 16) s (⟨C.val % 64, by omega⟩ : Fin 64))) := by
  pointwise

theorem res_apply (R : Fin 16384) (C : Fin 1024) : @Eq EReal (res X (ix2 R C)) (Att x R.val C.val : ℝ) := by
  unfold res
  refine (res_entry _ _ R C).trans ?_
  have hz := fun s => zs_real X hx (⟨R.val / 4096, by omega⟩ : Fin 4) (⟨C.val / 64, by omega⟩ : Fin 16) (⟨R.val % 4096, by omega⟩ : Fin 4096) s
  have e : ∀ s : Fin 4096, (show EReal from wts (zs X) (ix4 (⟨R.val / 4096, by omega⟩ : Fin 4) (⟨C.val / 64, by omega⟩ : Fin 16) (⟨R.val % 4096, by omega⟩ : Fin 4096) s))
      * hd X ![0, 0, 2, 0, 0] slices_S4x4096x3x16x64_S4x4096x1x16x64_0_0_2_0_0 (ix4 (⟨R.val / 4096, by omega⟩ : Fin 4) (⟨C.val / 64, by omega⟩ : Fin 16) s (⟨C.val % 64, by omega⟩ : Fin 64))
      = ((Wgt (R.val % 4096) (fun s => ∑ d : Fin 64, x R.val (64 * (C.val / 64) + d.val) * (1 / 8) * x (4096 * (R.val / 4096) + s) (1024 + (64 * (C.val / 64) + d.val))) s.val
          * x (4096 * (R.val / 4096) + s.val) (2048 + C.val) : ℝ) : EReal) := fun s => by
    rw [EReal.coe_mul]
    refine congrArg₂ _ (wts_apply (zs X) _ _ ⟨R.val % 4096, by omega⟩ (fun s => (hz s).trans ?_) s) ?_
    · have hR : 4096 * (R.val / 4096) + R.val % 4096 = R.val := Nat.div_add_mod _ _
      show ((∑ d : Fin 64, x (4096 * (R.val / 4096) + R.val % 4096) _ * _ * _ : ℝ) : EReal) = _
      rw [hR]
    · exact (hd_apply X _ 2 rfl _ _ _ s _ ⟨4096 * (R.val / 4096) + s.val, by omega⟩ ⟨2048 + C.val, by omega⟩ rfl (by show 2048 + C.val = 1024 * 2 + (64 * (C.val / 64) + C.val % 64); omega)).trans (hx _ _)
  refine (Finset.sum_congr rfl fun s _ => e s).trans ((coe_sum _).trans (congrArg _ ?_))
  unfold Att Out
  rw [← Finset.range_eq_Ico, Finset.sum_range]

omit hx in
/-- The run, with the result named. -/
theorem run (m : (ℓ : Loc nD τ sig) → Buf (Elt Ideal) ℓ) (ρ : Dev nD → PrngReg) : θ_run defs (onTc (τ := τ) (main (F := Ideal))) ⟨m, fun _ => 0, ρ⟩ fun r => ∀ c : Dev nD,
      r.2.mem ((c.tc : Thread nD τ).loc main_v34) = res (m ((c.tc : Thread nD τ).loc main_arg0))
      ∧ r.2.mem ((c.tc : Thread nD τ).loc main_arg0) = m ((c.tc : Thread nD τ).loc main_arg0) :=
  (θ_run defs _ _).mono (fun _ h c => ⟨(h c).1.trans (by unfold Value.res_main_v34; rfl), (h c).2⟩) (Value.run m ρ)

end Cert.Reference9Ideal.Sb

end
-- ==== Proof.SbClaim.lean ====
module

public import proofs.«01_k».proof.Defs
public import proofs.«01_k».proof.Proof.SbKernel
public import proofs.«01_k».proof.Proof.SbRef
public import proofs.«01_k».proof.Proof.SbWordsFrame
public import Idealize.ShloMosaic.Lib.Claim
public import Idealize.ShloMosaic.Adequacy
public import Idealize.ShloMosaic.Init

/-! # Stick-breaking attention: the claims -/

@[expose] public section

set_option maxRecDepth 16384

noncomputable section

namespace Cert.Pre_finite

/-- The side conditions of the precondition. -/
theorem facts : Cert.Pre_finite.Facts where
  bitsLt_bf16_f32 := by decide
  bcast_S_S16384x3072 := by decide
  reducesTo_S16384x3072_S_d0_1 := by decide
  h_S_ := by decide

end Cert.Pre_finite

namespace Cert.Proof.Sb

open Idealize.ShloMosaic Idealize.ShloMosaic.TcCoe Idealize.SL.Sem

/-! ## The precondition -/

theorem foldl_andi {ι : Type*} (l : List ι) (g : ι → BitVec 1) (v : BitVec 1) (h : l.foldl (fun r n => IntOp.andi r (g n)) v = 1#1) :
    v = 1#1 ∧ ∀ n ∈ l, g n = 1#1 := by
  have one : ∀ a b : BitVec 1, IntOp.andi a b = 1#1 → a = 1#1 ∧ b = 1#1 := by decide
  induction l generalizing v with
  | nil => exact ⟨h, fun _ hn => absurd hn List.not_mem_nil⟩
  | cons a l ih =>
    obtain ⟨h1, h2⟩ := ih _ h
    obtain ⟨h3, h4⟩ := one _ _ h1
    exact ⟨h3, fun n hn => (List.mem_cons.mp hn).elim (fun e => e ▸ h4) (h2 n)⟩

/-- Under the precondition every entry is a real number. -/
theorem finite_entry (X : FVec Ideal Cert.Pre_finite.S16384x3072 .bf16) (h : @Cert.Pre_finite.fn Cert.Pre_finite.facts Ideal _ X = fun _ => 1#1)
    (i : Cert.Pre_finite.S16384x3072.Idx) : @Eq EReal (X i) ((show EReal from X i).toReal : ℝ) := by
  have h0 := congrFun h (Shape.Idx.first Cert.Pre_finite.facts.h_S_)
  have h1 := (foldl_andi _ _ _ h0).2 (Cert.Pre_finite.S16384x3072.rowMajor i)
    (List.mem_filter.mpr ⟨List.mem_finRange _, decide_eq_true (funext fun a => a.elim0)⟩)
  rw [Equiv.symm_apply_apply] at h1
  have h2 : (show EReal from max (show EReal from X i) (-(show EReal from X i))) < FloatOps.ofBits (F := Ideal) .f32 0x7F800000#32 := by
    by_contra hn
    exact absurd (h1.symm.trans (congrArg BitVec.ofBool (decide_eq_false hn))) (by decide)
  have h3 := lt_of_lt_of_le h2 le_top
  refine (EReal.coe_toReal (fun e => ?_) (fun e => ?_)).symm
  · rw [e] at h3
    exact absurd h3 (by simp)
  · rw [e] at h3
    exact absurd h3 (by simp)

/-! ## Frames -/

/-- The kernel's frame. -/
theorem frame_kernel : Cert.quiescent_Kernel9 (hKernel9 := Cert.Kernel9.Gen.facts) :=
  fun m ρ _ => SbWords.frame_run m ρ

/-- The kernel's frame over the extended reals. -/
theorem frame_kernelIdeal : Cert.quiescent_Kernel9Ideal (hKernel9Ideal := Cert.Kernel9Ideal.Gen.facts) :=
  fun m ρ _ => frame_run m ρ

/-- The same, under the precondition. -/
theorem frame_kernelIdeal_finite : Cert.quiescent_Kernel9Ideal_pre_finite (hKernel9Ideal := Cert.Kernel9Ideal.Gen.facts) (hPre_finite := Cert.Pre_finite.facts) :=
  fun m ρ _ => frame_run m ρ

theorem frame_ref (m : (ℓ : Loc Cert.Reference9Ideal.nD Cert.Reference9Ideal.τ Cert.Reference9Ideal.sig) → Buf (Elt Ideal) ℓ) (ρ : Dev Cert.Reference9Ideal.nD → PrngReg) :
    θ_run (Cert.Reference9Ideal.defs (F := Ideal)) (onTc (τ := Cert.Reference9Ideal.τ) (Cert.Reference9Ideal.main (F := Ideal))) ⟨m, fun _ => 0, ρ⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0))
      ∧ r.2.sem = fun _ => 0) :=
  (θ_run Cert.Reference9Ideal.defs _ _).mono (fun r h => ⟨fun c => (h c).2, sem_eq_zero_of_no_sems (by decide) r.2⟩)
    (Cert.Reference9Ideal.Sb.run m ρ)

/-- The frame of the reference: it declares no semaphore. -/
theorem frame_reference : Cert.quiescent_Reference9Ideal (hReference9Ideal := Cert.Reference9Ideal.Gen.facts) := fun m ρ _ => frame_ref m ρ

/-- The same, under the precondition. -/
theorem frame_reference_finite : Cert.quiescent_Reference9Ideal_pre_finite (hReference9Ideal := Cert.Reference9Ideal.Gen.facts) (hPre_finite := Cert.Pre_finite.facts) :=
  fun m ρ _ => frame_ref m ρ

/-! ## The value -/

/-- The two named constants. -/
theorem preserves : Cert.preserves_Kernel9_Kernel9Ideal :=
  ⟨IdealRules.named_const.statement Cert.Kernel9Ideal.κ "neg_log2e" .f32 0xBFB8AA3B#32 ((-((Real.log 2)⁻¹) : ℝ) : EReal) rfl,
    IdealRules.named_const.statement Cert.Kernel9Ideal.κ "exp_zero" .f32 0x42D00000#32 ⊤ rfl⟩

/-- The fused queries, keys and values of a memory, as numbers. -/
def nums (m : (ℓ : Loc Cert.Kernel9Ideal.nD Cert.Kernel9Ideal.τ Cert.Kernel9Ideal.sig) → Buf (Elt Ideal) ℓ) (c : Dev Cert.Kernel9Ideal.nD) (a b : ℕ) : ℝ :=
  if h : a < 16384 ∧ b < 3072 then
    (show EReal from m ((c.tc : Thread Cert.Kernel9Ideal.nD Cert.Kernel9Ideal.τ).loc Cert.Kernel9Ideal.main_arg0) (ix2 (⟨a, h.1⟩ : Fin 16384) (⟨b, h.2⟩ : Fin 3072))).toReal
  else 0

/-- The attention and its reference, from the same finite argument, leave the same result. -/
theorem algebraic : Cert.algebraic_Kernel9Ideal_Reference9Ideal_pre_finite (hKernel9Ideal := Cert.Kernel9Ideal.Gen.facts)
    (hReference9Ideal := Cert.Reference9Ideal.Gen.facts) (hPre_finite := Cert.Pre_finite.facts) := by
  intro m ρ m' ρ' hpre hagree
  have hx : ∀ (c : Dev Cert.Kernel9Ideal.nD) (R : Fin 16384) (C : Fin 3072),
      @Eq EReal (m ((c.tc : Thread Cert.Kernel9Ideal.nD Cert.Kernel9Ideal.τ).loc Cert.Kernel9Ideal.main_arg0) (ix2 R C)) (nums m c R.val C.val) := fun c R C => by
    unfold nums
    rw [dif_pos ⟨R.isLt, C.isLt⟩]
    exact finite_entry _ (hpre c) (ix2 R C)
  refine ⟨fun c => GA (nums m c),
    (θ_run Cert.Kernel9Ideal.defs _ _).mono (fun r h c => ⟨((h.1 c).1 3).trans (final m c (hx c)),
      ((h.1 c).1 2).trans (((dats m 0 c).arrAt_in 2 rfl _).trans ((A_eq m c 2).trans rfl))⟩) (run_quiescent m ρ),
    (θ_run Cert.Reference9Ideal.defs _ _).mono (fun r h c => ⟨(h c).1.trans ?_, (h c).2⟩) (Cert.Reference9Ideal.Sb.run m' ρ')⟩
  funext i
  obtain ⟨R, C, rfl⟩ : ∃ (R : Fin 16384) (C : Fin 1024), i = ix2 R C := ⟨_, _, eq_ix2 i⟩
  exact Cert.Reference9Ideal.Sb.res_apply _ (fun R C => (congrFun (hagree c) (ix2 R C)).trans (hx c R C)) R C

end Cert.Proof.Sb

end
-- ==== Proof.lean ====
module

public import proofs.«01_k».proof.Proof.RetClaim
public import proofs.«01_k».proof.Proof.TailLastClaim
public import proofs.«01_k».proof.Proof.TailSwaClaim
public import proofs.«01_k».proof.Proof.TailRetClaim
public import proofs.«01_k».proof.Proof.TailSbClaim
public import proofs.«01_k».proof.Proof.ProjRetClaim
public import proofs.«01_k».proof.Proof.ProjSbClaim
public import proofs.«01_k».proof.Proof.ProjSwaClaim
public import proofs.«01_k».proof.Proof.SbClaim
public import Idealize.ShloMosaic.Adequacy
public import Idealize.ShloMosaic.Init

/-! # The claims, assembled

Of retention, of the four layer tails, of the three kinds of input projection and of stick-breaking attention: the kernel's
frame, its frame over the extended reals, the reference's frame, and that over the extended reals the kernel and the
reference leave the same results (of stick-breaking attention, from a finite argument). -/

@[expose] public section

noncomputable section

namespace Cert.Proof

/-- Everything claimed. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts, Cert.Pre_finite.facts,
    Ret.frame_kernel, Ret.frame_kernelIdeal, Ret.frame_reference,
    TailLast.frame_kernel, TailLast.frame_kernelIdeal, TailLast.frame_reference,
    TailSwa.frame_kernel, TailSwa.frame_kernelIdeal, TailSwa.frame_reference,
    TailRet.frame_kernel, TailRet.frame_kernelIdeal, TailRet.frame_reference,
    TailSb.frame_kernel, TailSb.frame_kernelIdeal, TailSb.frame_reference,
    ProjRet.frame_kernel, ProjRet.frame_kernelIdeal, ProjRet.frame_reference,
    ProjSb.frame_kernel, ProjSb.frame_kernelIdeal, ProjSb.frame_reference,
    ProjSwa.frame_kernel, ProjSwa.frame_kernelIdeal, ProjSwa.frame_reference,
    Sb.frame_kernel, Sb.frame_kernelIdeal, Sb.frame_kernelIdeal_finite, Sb.frame_reference, Sb.frame_reference_finite,
    trivial, Ret.algebraic, trivial, TailLast.algebraic, trivial, TailSwa.algebraic, trivial, TailRet.algebraic,
    trivial, TailSb.algebraic, trivial, ProjRet.algebraic, trivial, ProjSb.algebraic, trivial, ProjSwa.algebraic,
    Sb.preserves, Sb.algebraic⟩

end Cert.Proof

end
